-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_name_rows_KernelIdeal [hPre_ids_name_rows_KernelIdeal : Cert.Pre_ids_name_rows_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_name_rows_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_name_rows_ReferenceIdeal [hPre_ids_name_rows_ReferenceIdeal : Cert.Pre_ids_name_rows_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_name_rows_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_name_rows_KernelIdeal [hKernelIdeal : Cert.KernelIdeal.Facts] [hPre_ids_name_rows_KernelIdeal : Cert.Pre_ids_name_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_name_rows_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_name_rows_ReferenceIdeal [hReferenceIdeal : Cert.ReferenceIdeal.Facts] [hPre_ids_name_rows_ReferenceIdeal : Cert.Pre_ids_name_rows_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_name_rows_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_name_rows_KernelIdeal [hKernelIdeal : Cert.KernelIdeal.Facts] [hReferenceIdeal : Cert.ReferenceIdeal.Facts] [hPre_ids_name_rows_KernelIdeal : Cert.Pre_ids_name_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_name_rows_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![16384, 1024]⟩ ⟨2, ![65536, 1024]⟩ (Layout.meshBlock [2, 4, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_name_rows_KernelIdeal : Cert.Pre_ids_name_rows_KernelIdeal.Facts) (hPre_ids_name_rows_ReferenceIdeal : Cert.Pre_ids_name_rows_ReferenceIdeal.Facts),
    quiescent_Kernel (hKernel := hKernel)
    ∧ quiescent_KernelIdeal (hKernelIdeal := hKernelIdeal)
    ∧ quiescent_KernelIdeal_pre_ids_name_rows_KernelIdeal (hKernelIdeal := hKernelIdeal) (hPre_ids_name_rows_KernelIdeal := hPre_ids_name_rows_KernelIdeal)
    ∧ quiescent_ReferenceIdeal (hReferenceIdeal := hReferenceIdeal)
    ∧ quiescent_ReferenceIdeal_pre_ids_name_rows_ReferenceIdeal (hReferenceIdeal := hReferenceIdeal) (hPre_ids_name_rows_ReferenceIdeal := hPre_ids_name_rows_ReferenceIdeal)
    ∧ preserves_Kernel_KernelIdeal
    ∧ algebraic_KernelIdeal_ReferenceIdeal_pre_ids_name_rows_KernelIdeal (hKernelIdeal := hKernelIdeal) (hReferenceIdeal := hReferenceIdeal) (hPre_ids_name_rows_KernelIdeal := hPre_ids_name_rows_KernelIdeal)
-- ==== Pre_ids_name_rows_KernelIdeal.lean ====
abbrev S2048 : Shape := ⟨1, ![2048]⟩
abbrev S16384x1024 : Shape := ⟨2, ![16384, 1024]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S16384x1024 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 65536#32
  let main_v2 : IVec S2048 32 := broadcastInDim S2048 ![] bcast_S_S2048 main_c_0
  let main_v3 : IVec S2048 1 := cmpi .slt main_arg0 main_v2
  let main_v4 : IVec S2048 1 := andi main_v1 main_v3
  main_v4
-- ==== Pre_ids_name_rows_ReferenceIdeal.lean ====
abbrev S2048 : Shape := ⟨1, ![2048]⟩
abbrev S65536x1024 : Shape := ⟨2, ![65536, 1024]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S65536x1024 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 65536#32
  let main_v2 : IVec S2048 32 := broadcastInDim S2048 ![] bcast_S_S2048 main_c_0
  let main_v3 : IVec S2048 1 := cmpi .slt main_arg0 main_v2
  let main_v4 : IVec S2048 1 := andi main_v1 main_v3
  main_v4
-- ==== Kernel.lean ====
abbrev S2048 : Shape := ⟨1, ![2048]⟩
abbrev S16384x1024 : Shape := ⟨2, ![16384, 1024]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S6x32x1024 : Shape := ⟨3, ![6, 32, 1024]⟩
abbrev S6 : Shape := ⟨1, ![6]⟩
abbrev S16 : Shape := ⟨1, ![16]⟩
abbrev S1 : Shape := ⟨1, ![1]⟩
abbrev S1x1024 : Shape := ⟨2, ![1, 1024]⟩
abbrev S32x1 : Shape := ⟨2, ![32, 1]⟩
abbrev S32x1024 : Shape := ⟨2, ![32, 1024]⟩
abbrev S1x32x1024 : Shape := ⟨3, ![1, 32, 1024]⟩

abbrev nBuf : Space → Nat
  | .hbm => 51
  | .vmem => 6
  | .smem => 1
  | _ => 0

abbrev bufTy : (tb : Table) → Fin (tcTables nBuf tb) → BufTy
  | .hbm, ⟨0, _⟩ => ⟨S2048, .i32⟩
  | .hbm, ⟨1, _⟩ => ⟨S16384x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S256, .i32⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S_, .i32⟩
  | .hbm, ⟨38, _⟩ => ⟨S256, .i32⟩
  | .hbm, ⟨39, _⟩ => ⟨S256, .i1⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S256, .i1⟩
  | .hbm, ⟨44, _⟩ => ⟨S_, .i32⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S256x1, .i1⟩
  | .hbm, ⟨49, _⟩ => ⟨S256x1, .f32⟩
  | .hbm, ⟨50, _⟩ => ⟨S2048x1024, .f32⟩
  | .local _ .vmem, ⟨0, _⟩ => ⟨S256x1, .f32⟩
  | .local _ .vmem, ⟨1, _⟩ => ⟨S2048x1024, .f32⟩
  | .local _ .vmem, ⟨2, _⟩ => ⟨S256x1024, .f32⟩
  | .local _ .vmem, ⟨3, _⟩ => ⟨S256x1024, .f32⟩
  | .local _ .vmem, ⟨4, _⟩ => ⟨S6x32x1024, .f32⟩
  | .local _ .vmem, ⟨5, _⟩ => ⟨S6x32x1024, .f32⟩
  | .local _ .smem, ⟨0, _⟩ => ⟨S256, .i32⟩
  | _, _ => ⟨S2048, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 157 → Bool
  | ⟨i, _⟩ => dmaSemScopedAt i

abbrev sig : RefSig :=
  (ofTc nBuf bufTy 1 157 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_5 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_c_7 : Ref sig .tc := ⟨.hbm, 25, rfl⟩
abbrev main_v16 : Ref sig .tc := ⟨.hbm, 26, rfl⟩
abbrev main_c_8 : Ref sig .tc := ⟨.hbm, 27, rfl⟩
abbrev main_v17 : Ref sig .tc := ⟨.hbm, 28, rfl⟩
abbrev main_c_9 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_10 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_11 : Ref sig .tc := ⟨.hbm, 37, rfl⟩
abbrev main_v24 : Ref sig .tc := ⟨.hbm, 38, rfl⟩
abbrev main_v25 : Ref sig .tc := ⟨.hbm, 39, rfl⟩
abbrev main_c_12 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_13 : Ref sig .tc := ⟨.hbm, 44, rfl⟩
abbrev main_call1_v0 : Ref sig .tc := ⟨.hbm, 45, rfl⟩
abbrev main_call1_v1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c0_i32_55 : BitVec 32 := 0#32
  let c32_i32_56 : BitVec 32 := 32#32
  let v92 : BitVec 32 := Scalar.addi c0_i32_55 c32_i32_56
  let c1_i32_57 : BitVec 32 := 1#32
  ⟨c0_i32_55, v92, c1_i32_57⟩
def k0_off1 (d0 : Dev nD) (k0_t1 : Fin k0_t1_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_40 : BitVec 32 := 0#32
  let v67 : BitVec 32 := Scalar.addi v8 c0_i32_40
  let c4_i32_41 : BitVec 32 := 4#32
  let c0_i32_42 : BitVec 32 := 0#32
  let v68 : BitVec 1 := Scalar.cmpi .eq c4_i32_41 c0_i32_42
  let c1_i32_43 : BitVec 32 := 1#32
  let v69 : BitVec 32 := Scalar.select v68 c1_i32_43 c4_i32_41
  let v70 : BitVec 32 := Scalar.remsi v67 v69
  let c0_i32_45 : BitVec 32 := 0#32
  let v72 : BitVec 1 := Scalar.cmpi .slt v70 c0_i32_45
  let c0_i32_46 : BitVec 32 := 0#32
  let v73 : BitVec 1 := Scalar.cmpi .slt v69 c0_i32_46
  let v74 : BitVec 1 := Scalar.xori v72 v73
  let c0_i32_44 : BitVec 32 := 0#32
  let v71 : BitVec 1 := Scalar.cmpi .ne v70 c0_i32_44
  let v75 : BitVec 1 := Scalar.andi v74 v71
  let v76 : BitVec 32 := Scalar.addi v70 v69
  let v77 : BitVec 32 := Scalar.select v75 v76 v70
  let c32_i32 : BitVec 32 := 32#32
  let v78 : BitVec 32 := Scalar.muli v77 c32_i32
  let c0_i32_55 : BitVec 32 := 0#32
  let c1_i32_57 : BitVec 32 := 1#32
  let arg22 : BitVec 32 := Scf.iv c0_i32_55 c1_i32_57 k0_t1
  let v4266 : BitVec 32 := Scalar.addi v78 arg22
  let v4267 : Index := Scalar.indexCast v4266
  ![v4267.toNat]
def k0_off2 (d0 : Dev nD) (k0_t1 : Fin k0_t1_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_40 : BitVec 32 := 0#32
  let v67 : BitVec 32 := Scalar.addi v8 c0_i32_40
  let c4_i32_41 : BitVec 32 := 4#32
  let c0_i32_42 : BitVec 32 := 0#32
  let v68 : BitVec 1 := Scalar.cmpi .eq c4_i32_41 c0_i32_42
  let c1_i32_43 : BitVec 32 := 1#32
  let v69 : BitVec 32 := Scalar.select v68 c1_i32_43 c4_i32_41
  let v70 : BitVec 32 := Scalar.remsi v67 v69
  let c0_i32_45 : BitVec 32 := 0#32
  let v72 : BitVec 1 := Scalar.cmpi .slt v70 c0_i32_45
  let c0_i32_46 : BitVec 32 := 0#32
  let v73 : BitVec 1 := Scalar.cmpi .slt v69 c0_i32_46
  let v74 : BitVec 1 := Scalar.xori v72 v73
  let c0_i32_44 : BitVec 32 := 0#32
  let v71 : BitVec 1 := Scalar.cmpi .ne v70 c0_i32_44
  let v75 : BitVec 1 := Scalar.andi v74 v71
  let v76 : BitVec 32 := Scalar.addi v70 v69
  let v77 : BitVec 32 := Scalar.select v75 v76 v70
  let c32_i32 : BitVec 32 := 32#32
  let v78 : BitVec 32 := Scalar.muli v77 c32_i32
  let c0_i32_55 : BitVec 32 := 0#32
  let c1_i32_57 : BitVec 32 := 1#32
  let arg22 : BitVec 32 := Scf.iv c0_i32_55 c1_i32_57 k0_t1
  let v4269 : BitVec 32 := Scalar.addi v78 arg22
  let c0_i32_3088 : BitVec 32 := 0#32
  ![v4269.toNat, 0]
def k0_off3 (v4268 : BitVec 32) : Fin 2 → Nat :=
  let c0_i32_3089 : BitVec 32 := 0#32
  ![v4268.toNat, 0]

def k0_chk1 (v4268 : BitVec 32) : Prop :=
  (∀ a, (k0_off3 v4268) a + S1x1024.size a ≤ S16384x1024.size a)
theorem k0_off3_inb : ∀ (v4268 : BitVec 32) (k0_hw1 : k0_chk1 v4268), ∀ a, (k0_off3 v4268) a + S1x1024.size a ≤ S16384x1024.size a := fun v4268 k0_hw1 => k0_hw1

@[reducible] def k0_t2_loop : Scf.Loop 32 :=
  let c0_i32_59 : BitVec 32 := 0#32
  let c32_i32_60 : BitVec 32 := 32#32
  let v93 : BitVec 32 := Scalar.addi c0_i32_59 c32_i32_60
  let c1_i32_61 : BitVec 32 := 1#32
  ⟨c0_i32_59, v93, c1_i32_61⟩
def k0_off4 (d0 : Dev nD) (k0_t2 : Fin k0_t2_loop.trips) : Fin 1 → Nat :=
  let c128_i32 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_47 : BitVec 32 := 0#32
  let v79 : BitVec 32 := Scalar.addi v8 c0_i32_47
  let c4_i32_48 : BitVec 32 := 4#32
  let c0_i32_49 : BitVec 32 := 0#32
  let v80 : BitVec 1 := Scalar.cmpi .eq c4_i32_48 c0_i32_49
  let c1_i32_50 : BitVec 32 := 1#32
  let v81 : BitVec 32 := Scalar.select v80 c1_i32_50 c4_i32_48
  let v82 : BitVec 32 := Scalar.remsi v79 v81
  let c0_i32_52 : BitVec 32 := 0#32
  let v84 : BitVec 1 := Scalar.cmpi .slt v82 c0_i32_52
  let c0_i32_53 : BitVec 32 := 0#32
  let v85 : BitVec 1 := Scalar.cmpi .slt v81 c0_i32_53
  let v86 : BitVec 1 := Scalar.xori v84 v85
  let c0_i32_51 : BitVec 32 := 0#32
  let v83 : BitVec 1 := Scalar.cmpi .ne v82 c0_i32_51
  let v87 : BitVec 1 := Scalar.andi v86 v83
  let v88 : BitVec 32 := Scalar.addi v82 v81
  let v89 : BitVec 32 := Scalar.select v87 v88 v82
  let c32_i32_54 : BitVec 32 := 32#32
  let v90 : BitVec 32 := Scalar.muli v89 c32_i32_54
  let v91 : BitVec 32 := Scalar.addi c128_i32 v90
  let c0_i32_59 : BitVec 32 := 0#32
  let c1_i32_61 : BitVec 32 := 1#32
  let arg22 : BitVec 32 := Scf.iv c0_i32_59 c1_i32_61 k0_t2
  let v4266 : BitVec 32 := Scalar.addi v91 arg22
  let v4267 : Index := Scalar.indexCast v4266
  ![v4267.toNat]
def k0_off5 (d0 : Dev nD) (k0_t2 : Fin k0_t2_loop.trips) : Fin 2 → Nat :=
  let c128_i32 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_47 : BitVec 32 := 0#32
  let v79 : BitVec 32 := Scalar.addi v8 c0_i32_47
  let c4_i32_48 : BitVec 32 := 4#32
  let c0_i32_49 : BitVec 32 := 0#32
  let v80 : BitVec 1 := Scalar.cmpi .eq c4_i32_48 c0_i32_49
  let c1_i32_50 : BitVec 32 := 1#32
  let v81 : BitVec 32 := Scalar.select v80 c1_i32_50 c4_i32_48
  let v82 : BitVec 32 := Scalar.remsi v79 v81
  let c0_i32_52 : BitVec 32 := 0#32
  let v84 : BitVec 1 := Scalar.cmpi .slt v82 c0_i32_52
  let c0_i32_53 : BitVec 32 := 0#32
  let v85 : BitVec 1 := Scalar.cmpi .slt v81 c0_i32_53
  let v86 : BitVec 1 := Scalar.xori v84 v85
  let c0_i32_51 : BitVec 32 := 0#32
  let v83 : BitVec 1 := Scalar.cmpi .ne v82 c0_i32_51
  let v87 : BitVec 1 := Scalar.andi v86 v83
  let v88 : BitVec 32 := Scalar.addi v82 v81
  let v89 : BitVec 32 := Scalar.select v87 v88 v82
  let c32_i32_54 : BitVec 32 := 32#32
  let v90 : BitVec 32 := Scalar.muli v89 c32_i32_54
  let v91 : BitVec 32 := Scalar.addi c128_i32 v90
  let c0_i32_59 : BitVec 32 := 0#32
  let c1_i32_61 : BitVec 32 := 1#32
  let arg22 : BitVec 32 := Scf.iv c0_i32_59 c1_i32_61 k0_t2
  let v4269 : BitVec 32 := Scalar.addi v91 arg22
  let c0_i32_3088 : BitVec 32 := 0#32
  ![v4269.toNat, 0]
def k0_off6 (v4268 : BitVec 32) : Fin 2 → Nat :=
  let c0_i32_3089 : BitVec 32 := 0#32
  ![v4268.toNat, 0]

def k0_chk2 (v4268 : BitVec 32) : Prop :=
  (∀ a, (k0_off6 v4268) a + S1x1024.size a ≤ S16384x1024.size a)
theorem k0_off6_inb : ∀ (v4268 : BitVec 32) (k0_hw2 : k0_chk2 v4268), ∀ a, (k0_off6 v4268) a + S1x1024.size a ≤ S16384x1024.size a := fun v4268 k0_hw2 => k0_hw2

@[reducible] def k0_t3_loop : Scf.Loop 32 :=
  let c0_i32_113 : BitVec 32 := 0#32
  let c32_i32_114 : BitVec 32 := 32#32
  let v169 : BitVec 32 := Scalar.addi c0_i32_113 c32_i32_114
  let c1_i32_115 : BitVec 32 := 1#32
  ⟨c0_i32_113, v169, c1_i32_115⟩
def k0_off7 (d0 : Dev nD) (k0_t3 : Fin k0_t3_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v94 : BitVec 32 := Scalar.addi v8 c1_i32_63
  let c4_i32_64 : BitVec 32 := 4#32
  let c0_i32_65 : BitVec 32 := 0#32
  let v95 : BitVec 1 := Scalar.cmpi .eq c4_i32_64 c0_i32_65
  let c1_i32_66 : BitVec 32 := 1#32
  let v96 : BitVec 32 := Scalar.select v95 c1_i32_66 c4_i32_64
  let v97 : BitVec 32 := Scalar.remsi v94 v96
  let c0_i32_68 : BitVec 32 := 0#32
  let v99 : BitVec 1 := Scalar.cmpi .slt v97 c0_i32_68
  let c0_i32_69 : BitVec 32 := 0#32
  let v100 : BitVec 1 := Scalar.cmpi .slt v96 c0_i32_69
  let v101 : BitVec 1 := Scalar.xori v99 v100
  let c0_i32_67 : BitVec 32 := 0#32
  let v98 : BitVec 1 := Scalar.cmpi .ne v97 c0_i32_67
  let v102 : BitVec 1 := Scalar.andi v101 v98
  let v103 : BitVec 32 := Scalar.addi v97 v96
  let v104 : BitVec 32 := Scalar.select v102 v103 v97
  let c32_i32_70 : BitVec 32 := 32#32
  let v105 : BitVec 32 := Scalar.muli v104 c32_i32_70
  let c0_i32_113 : BitVec 32 := 0#32
  let c1_i32_115 : BitVec 32 := 1#32
  let arg22 : BitVec 32 := Scf.iv c0_i32_113 c1_i32_115 k0_t3
  let v4266 : BitVec 32 := Scalar.addi v105 arg22
  let v4267 : Index := Scalar.indexCast v4266
  ![v4267.toNat]
def k0_off8 (d0 : Dev nD) (k0_t3 : Fin k0_t3_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v94 : BitVec 32 := Scalar.addi v8 c1_i32_63
  let c4_i32_64 : BitVec 32 := 4#32
  let c0_i32_65 : BitVec 32 := 0#32
  let v95 : BitVec 1 := Scalar.cmpi .eq c4_i32_64 c0_i32_65
  let c1_i32_66 : BitVec 32 := 1#32
  let v96 : BitVec 32 := Scalar.select v95 c1_i32_66 c4_i32_64
  let v97 : BitVec 32 := Scalar.remsi v94 v96
  let c0_i32_68 : BitVec 32 := 0#32
  let v99 : BitVec 1 := Scalar.cmpi .slt v97 c0_i32_68
  let c0_i32_69 : BitVec 32 := 0#32
  let v100 : BitVec 1 := Scalar.cmpi .slt v96 c0_i32_69
  let v101 : BitVec 1 := Scalar.xori v99 v100
  let c0_i32_67 : BitVec 32 := 0#32
  let v98 : BitVec 1 := Scalar.cmpi .ne v97 c0_i32_67
  let v102 : BitVec 1 := Scalar.andi v101 v98
  let v103 : BitVec 32 := Scalar.addi v97 v96
  let v104 : BitVec 32 := Scalar.select v102 v103 v97
  let c32_i32_70 : BitVec 32 := 32#32
  let v105 : BitVec 32 := Scalar.muli v104 c32_i32_70
  let c0_i32_113 : BitVec 32 := 0#32
  let c1_i32_115 : BitVec 32 := 1#32
  let arg22 : BitVec 32 := Scf.iv c0_i32_113 c1_i32_115 k0_t3
  let v4269 : BitVec 32 := Scalar.addi v105 arg22
  let c0_i32_3088 : BitVec 32 := 0#32
  ![v4269.toNat, 0]
def k0_off9 (v4268 : BitVec 32) : Fin 2 → Nat :=
  let c0_i32_3089 : BitVec 32 := 0#32
  ![v4268.toNat, 0]

def k0_chk3 (v4268 : BitVec 32) : Prop :=
  (∀ a, (k0_off9 v4268) a + S1x1024.size a ≤ S16384x1024.size a)
theorem k0_off9_inb : ∀ (v4268 : BitVec 32) (k0_hw3 : k0_chk3 v4268), ∀ a, (k0_off9 v4268) a + S1x1024.size a ≤ S16384x1024.size a := fun v4268 k0_hw3 => k0_hw3

@[reducible] def k0_t4_loop : Scf.Loop 32 :=
  let c0_i32_117 : BitVec 32 := 0#32
  let c32_i32_118 : BitVec 32 := 32#32
  let v170 : BitVec 32 := Scalar.addi c0_i32_117 c32_i32_118
  let c1_i32_119 : BitVec 32 := 1#32
  ⟨c0_i32_117, v170, c1_i32_119⟩
def k0_off10 (d0 : Dev nD) (k0_t4 : Fin k0_t4_loop.trips) : Fin 1 → Nat :=
  let c128_i32_79 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v106 : BitVec 32 := Scalar.addi v8 c1_i32_71
  let c4_i32_72 : BitVec 32 := 4#32
  let c0_i32_73 : BitVec 32 := 0#32
  let v107 : BitVec 1 := Scalar.cmpi .eq c4_i32_72 c0_i32_73
  let c1_i32_74 : BitVec 32 := 1#32
  let v108 : BitVec 32 := Scalar.select v107 c1_i32_74 c4_i32_72
  let v109 : BitVec 32 := Scalar.remsi v106 v108
  let c0_i32_76 : BitVec 32 := 0#32
  let v111 : BitVec 1 := Scalar.cmpi .slt v109 c0_i32_76
  let c0_i32_77 : BitVec 32 := 0#32
  let v112 : BitVec 1 := Scalar.cmpi .slt v108 c0_i32_77
  let v113 : BitVec 1 := Scalar.xori v111 v112
  let c0_i32_75 : BitVec 32 := 0#32
  let v110 : BitVec 1 := Scalar.cmpi .ne v109 c0_i32_75
  let v114 : BitVec 1 := Scalar.andi v113 v110
  let v115 : BitVec 32 := Scalar.addi v109 v108
  let v116 : BitVec 32 := Scalar.select v114 v115 v109
  let c32_i32_78 : BitVec 32 := 32#32
  let v117 : BitVec 32 := Scalar.muli v116 c32_i32_78
  let v118 : BitVec 32 := Scalar.addi c128_i32_79 v117
  let c0_i32_117 : BitVec 32 := 0#32
  let c1_i32_119 : BitVec 32 := 1#32
  let arg22 : BitVec 32 := Scf.iv c0_i32_117 c1_i32_119 k0_t4
  let v4266 : BitVec 32 := Scalar.addi v118 arg22
  let v4267 : Index := Scalar.indexCast v4266
  ![v4267.toNat]
def k0_off11 (d0 : Dev nD) (k0_t4 : Fin k0_t4_loop.trips) : Fin 2 → Nat :=
  let c128_i32_79 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v106 : BitVec 32 := Scalar.addi v8 c1_i32_71
  let c4_i32_72 : BitVec 32 := 4#32
  let c0_i32_73 : BitVec 32 := 0#32
  let v107 : BitVec 1 := Scalar.cmpi .eq c4_i32_72 c0_i32_73
  let c1_i32_74 : BitVec 32 := 1#32
  let v108 : BitVec 32 := Scalar.select v107 c1_i32_74 c4_i32_72
  let v109 : BitVec 32 := Scalar.remsi v106 v108
  let c0_i32_76 : BitVec 32 := 0#32
  let v111 : BitVec 1 := Scalar.cmpi .slt v109 c0_i32_76
  let c0_i32_77 : BitVec 32 := 0#32
  let v112 : BitVec 1 := Scalar.cmpi .slt v108 c0_i32_77
  let v113 : BitVec 1 := Scalar.xori v111 v112
  let c0_i32_75 : BitVec 32 := 0#32
  let v110 : BitVec 1 := Scalar.cmpi .ne v109 c0_i32_75
  let v114 : BitVec 1 := Scalar.andi v113 v110
  let v115 : BitVec 32 := Scalar.addi v109 v108
  let v116 : BitVec 32 := Scalar.select v114 v115 v109
  let c32_i32_78 : BitVec 32 := 32#32
  let v117 : BitVec 32 := Scalar.muli v116 c32_i32_78
  let v118 : BitVec 32 := Scalar.addi c128_i32_79 v117
  let c0_i32_117 : BitVec 32 := 0#32
  let c1_i32_119 : BitVec 32 := 1#32
  let arg22 : BitVec 32 := Scf.iv c0_i32_117 c1_i32_119 k0_t4
  let v4269 : BitVec 32 := Scalar.addi v118 arg22
  let c0_i32_3088 : BitVec 32 := 0#32
  ![v4269.toNat, 0]
def k0_off12 (v4268 : BitVec 32) : Fin 2 → Nat :=
  let c0_i32_3089 : BitVec 32 := 0#32
  ![v4268.toNat, 0]

def k0_chk4 (v4268 : BitVec 32) : Prop :=
  (∀ a, (k0_off12 v4268) a + S1x1024.size a ≤ S16384x1024.size a)
theorem k0_off12_inb : ∀ (v4268 : BitVec 32) (k0_hw4 : k0_chk4 v4268), ∀ a, (k0_off12 v4268) a + S1x1024.size a ≤ S16384x1024.size a := fun v4268 k0_hw4 => k0_hw4

@[reducible] def k0_t5_loop : Scf.Loop 32 :=
  let c0_i32_121 : BitVec 32 := 0#32
  let c32_i32_122 : BitVec 32 := 32#32
  let v171 : BitVec 32 := Scalar.addi c0_i32_121 c32_i32_122
  let c1_i32_123 : BitVec 32 := 1#32
  ⟨c0_i32_121, v171, c1_i32_123⟩
def k0_off13 (d0 : Dev nD) (k0_t5 : Fin k0_t5_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_80 : BitVec 32 := 2#32
  let v119 : BitVec 32 := Scalar.addi v8 c2_i32_80
  let c4_i32_81 : BitVec 32 := 4#32
  let c0_i32_82 : BitVec 32 := 0#32
  let v120 : BitVec 1 := Scalar.cmpi .eq c4_i32_81 c0_i32_82
  let c1_i32_83 : BitVec 32 := 1#32
  let v121 : BitVec 32 := Scalar.select v120 c1_i32_83 c4_i32_81
  let v122 : BitVec 32 := Scalar.remsi v119 v121
  let c0_i32_85 : BitVec 32 := 0#32
  let v124 : BitVec 1 := Scalar.cmpi .slt v122 c0_i32_85
  let c0_i32_86 : BitVec 32 := 0#32
  let v125 : BitVec 1 := Scalar.cmpi .slt v121 c0_i32_86
  let v126 : BitVec 1 := Scalar.xori v124 v125
  let c0_i32_84 : BitVec 32 := 0#32
  let v123 : BitVec 1 := Scalar.cmpi .ne v122 c0_i32_84
  let v127 : BitVec 1 := Scalar.andi v126 v123
  let v128 : BitVec 32 := Scalar.addi v122 v121
  let v129 : BitVec 32 := Scalar.select v127 v128 v122
  let c32_i32_87 : BitVec 32 := 32#32
  let v130 : BitVec 32 := Scalar.muli v129 c32_i32_87
  let c0_i32_121 : BitVec 32 := 0#32
  let c1_i32_123 : BitVec 32 := 1#32
  let arg22 : BitVec 32 := Scf.iv c0_i32_121 c1_i32_123 k0_t5
  let v4266 : BitVec 32 := Scalar.addi v130 arg22
  let v4267 : Index := Scalar.indexCast v4266
  ![v4267.toNat]
def k0_off14 (d0 : Dev nD) (k0_t5 : Fin k0_t5_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_80 : BitVec 32 := 2#32
  let v119 : BitVec 32 := Scalar.addi v8 c2_i32_80
  let c4_i32_81 : BitVec 32 := 4#32
  let c0_i32_82 : BitVec 32 := 0#32
  let v120 : BitVec 1 := Scalar.cmpi .eq c4_i32_81 c0_i32_82
  let c1_i32_83 : BitVec 32 := 1#32
  let v121 : BitVec 32 := Scalar.select v120 c1_i32_83 c4_i32_81
  let v122 : BitVec 32 := Scalar.remsi v119 v121
  let c0_i32_85 : BitVec 32 := 0#32
  let v124 : BitVec 1 := Scalar.cmpi .slt v122 c0_i32_85
  let c0_i32_86 : BitVec 32 := 0#32
  let v125 : BitVec 1 := Scalar.cmpi .slt v121 c0_i32_86
  let v126 : BitVec 1 := Scalar.xori v124 v125
  let c0_i32_84 : BitVec 32 := 0#32
  let v123 : BitVec 1 := Scalar.cmpi .ne v122 c0_i32_84
  let v127 : BitVec 1 := Scalar.andi v126 v123
  let v128 : BitVec 32 := Scalar.addi v122 v121
  let v129 : BitVec 32 := Scalar.select v127 v128 v122
  let c32_i32_87 : BitVec 32 := 32#32
  let v130 : BitVec 32 := Scalar.muli v129 c32_i32_87
  let c0_i32_121 : BitVec 32 := 0#32
  let c1_i32_123 : BitVec 32 := 1#32
  let arg22 : BitVec 32 := Scf.iv c0_i32_121 c1_i32_123 k0_t5
  let v4269 : BitVec 32 := Scalar.addi v130 arg22
  let c0_i32_3088 : BitVec 32 := 0#32
  ![v4269.toNat, 0]
def k0_off15 (v4268 : BitVec 32) : Fin 2 → Nat :=
  let c0_i32_3089 : BitVec 32 := 0#32
  ![v4268.toNat, 0]

def k0_chk5 (v4268 : BitVec 32) : Prop :=
  (∀ a, (k0_off15 v4268) a + S1x1024.size a ≤ S16384x1024.size a)
theorem k0_off15_inb : ∀ (v4268 : BitVec 32) (k0_hw5 : k0_chk5 v4268), ∀ a, (k0_off15 v4268) a + S1x1024.size a ≤ S16384x1024.size a := fun v4268 k0_hw5 => k0_hw5

@[reducible] def k0_t6_loop : Scf.Loop 32 :=
  let c0_i32_125 : BitVec 32 := 0#32
  let c32_i32_126 : BitVec 32 := 32#32
  let v172 : BitVec 32 := Scalar.addi c0_i32_125 c32_i32_126
  let c1_i32_127 : BitVec 32 := 1#32
  ⟨c0_i32_125, v172, c1_i32_127⟩
def k0_off16 (d0 : Dev nD) (k0_t6 : Fin k0_t6_loop.trips) : Fin 1 → Nat :=
  let c128_i32_96 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_88 : BitVec 32 := 2#32
  let v131 : BitVec 32 := Scalar.addi v8 c2_i32_88
  let c4_i32_89 : BitVec 32 := 4#32
  let c0_i32_90 : BitVec 32 := 0#32
  let v132 : BitVec 1 := Scalar.cmpi .eq c4_i32_89 c0_i32_90
  let c1_i32_91 : BitVec 32 := 1#32
  let v133 : BitVec 32 := Scalar.select v132 c1_i32_91 c4_i32_89
  let v134 : BitVec 32 := Scalar.remsi v131 v133
  let c0_i32_93 : BitVec 32 := 0#32
  let v136 : BitVec 1 := Scalar.cmpi .slt v134 c0_i32_93
  let c0_i32_94 : BitVec 32 := 0#32
  let v137 : BitVec 1 := Scalar.cmpi .slt v133 c0_i32_94
  let v138 : BitVec 1 := Scalar.xori v136 v137
  let c0_i32_92 : BitVec 32 := 0#32
  let v135 : BitVec 1 := Scalar.cmpi .ne v134 c0_i32_92
  let v139 : BitVec 1 := Scalar.andi v138 v135
  let v140 : BitVec 32 := Scalar.addi v134 v133
  let v141 : BitVec 32 := Scalar.select v139 v140 v134
  let c32_i32_95 : BitVec 32 := 32#32
  let v142 : BitVec 32 := Scalar.muli v141 c32_i32_95
  let v143 : BitVec 32 := Scalar.addi c128_i32_96 v142
  let c0_i32_125 : BitVec 32 := 0#32
  let c1_i32_127 : BitVec 32 := 1#32
  let arg22 : BitVec 32 := Scf.iv c0_i32_125 c1_i32_127 k0_t6
  let v4266 : BitVec 32 := Scalar.addi v143 arg22
  let v4267 : Index := Scalar.indexCast v4266
  ![v4267.toNat]
def k0_off17 (d0 : Dev nD) (k0_t6 : Fin k0_t6_loop.trips) : Fin 2 → Nat :=
  let c128_i32_96 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_88 : BitVec 32 := 2#32
  let v131 : BitVec 32 := Scalar.addi v8 c2_i32_88
  let c4_i32_89 : BitVec 32 := 4#32
  let c0_i32_90 : BitVec 32 := 0#32
  let v132 : BitVec 1 := Scalar.cmpi .eq c4_i32_89 c0_i32_90
  let c1_i32_91 : BitVec 32 := 1#32
  let v133 : BitVec 32 := Scalar.select v132 c1_i32_91 c4_i32_89
  let v134 : BitVec 32 := Scalar.remsi v131 v133
  let c0_i32_93 : BitVec 32 := 0#32
  let v136 : BitVec 1 := Scalar.cmpi .slt v134 c0_i32_93
  let c0_i32_94 : BitVec 32 := 0#32
  let v137 : BitVec 1 := Scalar.cmpi .slt v133 c0_i32_94
  let v138 : BitVec 1 := Scalar.xori v136 v137
  let c0_i32_92 : BitVec 32 := 0#32
  let v135 : BitVec 1 := Scalar.cmpi .ne v134 c0_i32_92
  let v139 : BitVec 1 := Scalar.andi v138 v135
  let v140 : BitVec 32 := Scalar.addi v134 v133
  let v141 : BitVec 32 := Scalar.select v139 v140 v134
  let c32_i32_95 : BitVec 32 := 32#32
  let v142 : BitVec 32 := Scalar.muli v141 c32_i32_95
  let v143 : BitVec 32 := Scalar.addi c128_i32_96 v142
  let c0_i32_125 : BitVec 32 := 0#32
  let c1_i32_127 : BitVec 32 := 1#32
  let arg22 : BitVec 32 := Scf.iv c0_i32_125 c1_i32_127 k0_t6
  let v4269 : BitVec 32 := Scalar.addi v143 arg22
  let c0_i32_3088 : BitVec 32 := 0#32
  ![v4269.toNat, 0]
def k0_off18 (v4268 : BitVec 32) : Fin 2 → Nat :=
  let c0_i32_3089 : BitVec 32 := 0#32
  ![v4268.toNat, 0]

def k0_chk6 (v4268 : BitVec 32) : Prop :=
  (∀ a, (k0_off18 v4268) a + S1x1024.size a ≤ S16384x1024.size a)
theorem k0_off18_inb : ∀ (v4268 : BitVec 32) (k0_hw6 : k0_chk6 v4268), ∀ a, (k0_off18 v4268) a + S1x1024.size a ≤ S16384x1024.size a := fun v4268 k0_hw6 => k0_hw6

@[reducible] def k0_t7_loop : Scf.Loop 32 :=
  let c0_i32_129 : BitVec 32 := 0#32
  let c32_i32_130 : BitVec 32 := 32#32
  let v173 : BitVec 32 := Scalar.addi c0_i32_129 c32_i32_130
  let c1_i32_131 : BitVec 32 := 1#32
  ⟨c0_i32_129, v173, c1_i32_131⟩
def k0_off19 (d0 : Dev nD) (k0_t7 : Fin k0_t7_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v144 : BitVec 32 := Scalar.addi v8 c3_i32
  let c4_i32_97 : BitVec 32 := 4#32
  let c0_i32_98 : BitVec 32 := 0#32
  let v145 : BitVec 1 := Scalar.cmpi .eq c4_i32_97 c0_i32_98
  let c1_i32_99 : BitVec 32 := 1#32
  let v146 : BitVec 32 := Scalar.select v145 c1_i32_99 c4_i32_97
  let v147 : BitVec 32 := Scalar.remsi v144 v146
  let c0_i32_101 : BitVec 32 := 0#32
  let v149 : BitVec 1 := Scalar.cmpi .slt v147 c0_i32_101
  let c0_i32_102 : BitVec 32 := 0#32
  let v150 : BitVec 1 := Scalar.cmpi .slt v146 c0_i32_102
  let v151 : BitVec 1 := Scalar.xori v149 v150
  let c0_i32_100 : BitVec 32 := 0#32
  let v148 : BitVec 1 := Scalar.cmpi .ne v147 c0_i32_100
  let v152 : BitVec 1 := Scalar.andi v151 v148
  let v153 : BitVec 32 := Scalar.addi v147 v146
  let v154 : BitVec 32 := Scalar.select v152 v153 v147
  let c32_i32_103 : BitVec 32 := 32#32
  let v155 : BitVec 32 := Scalar.muli v154 c32_i32_103
  let c0_i32_129 : BitVec 32 := 0#32
  let c1_i32_131 : BitVec 32 := 1#32
  let arg22 : BitVec 32 := Scf.iv c0_i32_129 c1_i32_131 k0_t7
  let v4266 : BitVec 32 := Scalar.addi v155 arg22
  let v4267 : Index := Scalar.indexCast v4266
  ![v4267.toNat]
def k0_off20 (d0 : Dev nD) (k0_t7 : Fin k0_t7_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v144 : BitVec 32 := Scalar.addi v8 c3_i32
  let c4_i32_97 : BitVec 32 := 4#32
  let c0_i32_98 : BitVec 32 := 0#32
  let v145 : BitVec 1 := Scalar.cmpi .eq c4_i32_97 c0_i32_98
  let c1_i32_99 : BitVec 32 := 1#32
  let v146 : BitVec 32 := Scalar.select v145 c1_i32_99 c4_i32_97
  let v147 : BitVec 32 := Scalar.remsi v144 v146
  let c0_i32_101 : BitVec 32 := 0#32
  let v149 : BitVec 1 := Scalar.cmpi .slt v147 c0_i32_101
  let c0_i32_102 : BitVec 32 := 0#32
  let v150 : BitVec 1 := Scalar.cmpi .slt v146 c0_i32_102
  let v151 : BitVec 1 := Scalar.xori v149 v150
  let c0_i32_100 : BitVec 32 := 0#32
  let v148 : BitVec 1 := Scalar.cmpi .ne v147 c0_i32_100
  let v152 : BitVec 1 := Scalar.andi v151 v148
  let v153 : BitVec 32 := Scalar.addi v147 v146
  let v154 : BitVec 32 := Scalar.select v152 v153 v147
  let c32_i32_103 : BitVec 32 := 32#32
  let v155 : BitVec 32 := Scalar.muli v154 c32_i32_103
  let c0_i32_129 : BitVec 32 := 0#32
  let c1_i32_131 : BitVec 32 := 1#32
  let arg22 : BitVec 32 := Scf.iv c0_i32_129 c1_i32_131 k0_t7
  let v4269 : BitVec 32 := Scalar.addi v155 arg22
  let c0_i32_3088 : BitVec 32 := 0#32
  ![v4269.toNat, 0]
def k0_off21 (v4268 : BitVec 32) : Fin 2 → Nat :=
  let c0_i32_3089 : BitVec 32 := 0#32
  ![v4268.toNat, 0]

def k0_chk7 (v4268 : BitVec 32) : Prop :=
  (∀ a, (k0_off21 v4268) a + S1x1024.size a ≤ S16384x1024.size a)
theorem k0_off21_inb : ∀ (v4268 : BitVec 32) (k0_hw7 : k0_chk7 v4268), ∀ a, (k0_off21 v4268) a + S1x1024.size a ≤ S16384x1024.size a := fun v4268 k0_hw7 => k0_hw7

@[reducible] def k0_t8_loop : Scf.Loop 32 :=
  let c0_i32_133 : BitVec 32 := 0#32
  let c32_i32_134 : BitVec 32 := 32#32
  let v174 : BitVec 32 := Scalar.addi c0_i32_133 c32_i32_134
  let c1_i32_135 : BitVec 32 := 1#32
  ⟨c0_i32_133, v174, c1_i32_135⟩
def k0_off22 (d0 : Dev nD) (k0_t8 : Fin k0_t8_loop.trips) : Fin 1 → Nat :=
  let c128_i32_112 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_104 : BitVec 32 := 3#32
  let v156 : BitVec 32 := Scalar.addi v8 c3_i32_104
  let c4_i32_105 : BitVec 32 := 4#32
  let c0_i32_106 : BitVec 32 := 0#32
  let v157 : BitVec 1 := Scalar.cmpi .eq c4_i32_105 c0_i32_106
  let c1_i32_107 : BitVec 32 := 1#32
  let v158 : BitVec 32 := Scalar.select v157 c1_i32_107 c4_i32_105
  let v159 : BitVec 32 := Scalar.remsi v156 v158
  let c0_i32_109 : BitVec 32 := 0#32
  let v161 : BitVec 1 := Scalar.cmpi .slt v159 c0_i32_109
  let c0_i32_110 : BitVec 32 := 0#32
  let v162 : BitVec 1 := Scalar.cmpi .slt v158 c0_i32_110
  let v163 : BitVec 1 := Scalar.xori v161 v162
  let c0_i32_108 : BitVec 32 := 0#32
  let v160 : BitVec 1 := Scalar.cmpi .ne v159 c0_i32_108
  let v164 : BitVec 1 := Scalar.andi v163 v160
  let v165 : BitVec 32 := Scalar.addi v159 v158
  let v166 : BitVec 32 := Scalar.select v164 v165 v159
  let c32_i32_111 : BitVec 32 := 32#32
  let v167 : BitVec 32 := Scalar.muli v166 c32_i32_111
  let v168 : BitVec 32 := Scalar.addi c128_i32_112 v167
  let c0_i32_133 : BitVec 32 := 0#32
  let c1_i32_135 : BitVec 32 := 1#32
  let arg22 : BitVec 32 := Scf.iv c0_i32_133 c1_i32_135 k0_t8
  let v4266 : BitVec 32 := Scalar.addi v168 arg22
  let v4267 : Index := Scalar.indexCast v4266
  ![v4267.toNat]
def k0_off23 (d0 : Dev nD) (k0_t8 : Fin k0_t8_loop.trips) : Fin 2 → Nat :=
  let c128_i32_112 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_104 : BitVec 32 := 3#32
  let v156 : BitVec 32 := Scalar.addi v8 c3_i32_104
  let c4_i32_105 : BitVec 32 := 4#32
  let c0_i32_106 : BitVec 32 := 0#32
  let v157 : BitVec 1 := Scalar.cmpi .eq c4_i32_105 c0_i32_106
  let c1_i32_107 : BitVec 32 := 1#32
  let v158 : BitVec 32 := Scalar.select v157 c1_i32_107 c4_i32_105
  let v159 : BitVec 32 := Scalar.remsi v156 v158
  let c0_i32_109 : BitVec 32 := 0#32
  let v161 : BitVec 1 := Scalar.cmpi .slt v159 c0_i32_109
  let c0_i32_110 : BitVec 32 := 0#32
  let v162 : BitVec 1 := Scalar.cmpi .slt v158 c0_i32_110
  let v163 : BitVec 1 := Scalar.xori v161 v162
  let c0_i32_108 : BitVec 32 := 0#32
  let v160 : BitVec 1 := Scalar.cmpi .ne v159 c0_i32_108
  let v164 : BitVec 1 := Scalar.andi v163 v160
  let v165 : BitVec 32 := Scalar.addi v159 v158
  let v166 : BitVec 32 := Scalar.select v164 v165 v159
  let c32_i32_111 : BitVec 32 := 32#32
  let v167 : BitVec 32 := Scalar.muli v166 c32_i32_111
  let v168 : BitVec 32 := Scalar.addi c128_i32_112 v167
  let c0_i32_133 : BitVec 32 := 0#32
  let c1_i32_135 : BitVec 32 := 1#32
  let arg22 : BitVec 32 := Scf.iv c0_i32_133 c1_i32_135 k0_t8
  let v4269 : BitVec 32 := Scalar.addi v168 arg22
  let c0_i32_3088 : BitVec 32 := 0#32
  ![v4269.toNat, 0]
def k0_off24 (v4268 : BitVec 32) : Fin 2 → Nat :=
  let c0_i32_3089 : BitVec 32 := 0#32
  ![v4268.toNat, 0]

def k0_chk8 (v4268 : BitVec 32) : Prop :=
  (∀ a, (k0_off24 v4268) a + S1x1024.size a ≤ S16384x1024.size a)
theorem k0_off24_inb : ∀ (v4268 : BitVec 32) (k0_hw8 : k0_chk8 v4268), ∀ a, (k0_off24 v4268) a + S1x1024.size a ≤ S16384x1024.size a := fun v4268 k0_hw8 => k0_hw8

def k0_dev1 (d0 : Dev nD) : Nat :=
  let c0_i32_139 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_138 : BitVec 32 := 16#32
  let v176 : BitVec 32 := Scalar.muli v2 c16_i32_138
  let v177 : BitVec 32 := Scalar.addi c0_i32_139 v176
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_140 : BitVec 32 := 4#32
  let v178 : BitVec 32 := Scalar.muli v5 c4_i32_140
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_141 : BitVec 32 := 1#32
  let v180 : BitVec 32 := Scalar.muli v30 c1_i32_141
  let v181 : BitVec 32 := Scalar.addi v179 v180
  v181.toNat
def k0_dev2 (d0 : Dev nD) : Nat :=
  let c0_i32_144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_143 : BitVec 32 := 16#32
  let v182 : BitVec 32 := Scalar.muli v2 c16_i32_143
  let v183 : BitVec 32 := Scalar.addi c0_i32_144 v182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_145 : BitVec 32 := 4#32
  let v184 : BitVec 32 := Scalar.muli v5 c4_i32_145
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_146 : BitVec 32 := 1#32
  let v186 : BitVec 32 := Scalar.muli v19 c1_i32_146
  let v187 : BitVec 32 := Scalar.addi v185 v186
  v187.toNat
def k0_dev3 (d0 : Dev nD) : Nat :=
  let c0_i32_149 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_148 : BitVec 32 := 16#32
  let v188 : BitVec 32 := Scalar.muli v63 c16_i32_148
  let v189 : BitVec 32 := Scalar.addi c0_i32_149 v188
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_150 : BitVec 32 := 4#32
  let v190 : BitVec 32 := Scalar.muli v66 c4_i32_150
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v192 : BitVec 32 := Scalar.muli v8 c1_i32_151
  let v193 : BitVec 32 := Scalar.addi v191 v192
  v193.toNat
def k0_dev4 (d0 : Dev nD) : Nat :=
  let c0_i32_154 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_153 : BitVec 32 := 16#32
  let v194 : BitVec 32 := Scalar.muli v46 c16_i32_153
  let v195 : BitVec 32 := Scalar.addi c0_i32_154 v194
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_155 : BitVec 32 := 4#32
  let v196 : BitVec 32 := Scalar.muli v49 c4_i32_155
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v198 : BitVec 32 := Scalar.muli v8 c1_i32_156
  let v199 : BitVec 32 := Scalar.addi v197 v198
  v199.toNat
@[reducible] def k0_t9_loop : Scf.Loop 32 :=
  let c0_i32_158 : BitVec 32 := 0#32
  let c64_i32 : BitVec 32 := 64#32
  let v200 : BitVec 32 := Scalar.addi c0_i32_158 c64_i32
  let c1_i32_159 : BitVec 32 := 1#32
  ⟨c0_i32_158, v200, c1_i32_159⟩
def k0_off25 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_160 : BitVec 32 := 32#32
  let v201 : BitVec 32 := Scalar.muli v8 c32_i32_160
  let v202 : Index := Scalar.indexCast v201
  let c0 : Index := 0#32
  ![v202.toNat, 0]
def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_160 : BitVec 32 := 32#32
  let v201 : BitVec 32 := Scalar.muli v8 c32_i32_160
  let v207 : Index := Scalar.indexCast v201
  let c0_161 : Index := 0#32
  ![v207.toNat, 0]
def k0_off27 (d0 : Dev nD) : Fin 2 → Nat :=
  let c128_i32_165 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_164 : BitVec 32 := 32#32
  let v217 : BitVec 32 := Scalar.muli v8 c32_i32_164
  let v218 : BitVec 32 := Scalar.addi c128_i32_165 v217
  let v219 : Index := Scalar.indexCast v218
  let c0_166 : Index := 0#32
  ![v219.toNat, 0]
def k0_off28 (d0 : Dev nD) : Fin 2 → Nat :=
  let c128_i32_165 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_164 : BitVec 32 := 32#32
  let v217 : BitVec 32 := Scalar.muli v8 c32_i32_164
  let v218 : BitVec 32 := Scalar.addi c128_i32_165 v217
  let v224 : Index := Scalar.indexCast v218
  let c0_168 : Index := 0#32
  ![v224.toNat, 0]
def k0_off29 (d0 : Dev nD) (c0_i32_171 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v234 : BitVec 32 := Scalar.subi v8 c0_i32_171
  let c4_i32_172 : BitVec 32 := 4#32
  let c0_i32_173 : BitVec 32 := 0#32
  let v235 : BitVec 1 := Scalar.cmpi .eq c4_i32_172 c0_i32_173
  let c1_i32_174 : BitVec 32 := 1#32
  let v236 : BitVec 32 := Scalar.select v235 c1_i32_174 c4_i32_172
  let v237 : BitVec 32 := Scalar.remsi v234 v236
  let c0_i32_176 : BitVec 32 := 0#32
  let v239 : BitVec 1 := Scalar.cmpi .slt v237 c0_i32_176
  let c0_i32_177 : BitVec 32 := 0#32
  let v240 : BitVec 1 := Scalar.cmpi .slt v236 c0_i32_177
  let v241 : BitVec 1 := Scalar.xori v239 v240
  let c0_i32_175 : BitVec 32 := 0#32
  let v238 : BitVec 1 := Scalar.cmpi .ne v237 c0_i32_175
  let v242 : BitVec 1 := Scalar.andi v241 v238
  let v243 : BitVec 32 := Scalar.addi v237 v236
  let v244 : BitVec 32 := Scalar.select v242 v243 v237
  let c32_i32_178 : BitVec 32 := 32#32
  let v245 : BitVec 32 := Scalar.muli v244 c32_i32_178
  let c0_i32_197 : BitVec 32 := 0#32
  ![v245.toNat, 0]
def k0_off29_at (r : Fin 4) : BitVec 32 :=
  if r.val < 2 then
    if r.val < 1 then
      0#32
    else
      1#32
  else
    if r.val < 3 then
      2#32
    else
      4294967295#32
def k0_dev5 (d0 : Dev nD) : Nat :=
  let c0_i32_192 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_191 : BitVec 32 := 16#32
  let v259 : BitVec 32 := Scalar.muli v2 c16_i32_191
  let v260 : BitVec 32 := Scalar.addi c0_i32_192 v259
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_193 : BitVec 32 := 4#32
  let v261 : BitVec 32 := Scalar.muli v5 c4_i32_193
  let v262 : BitVec 32 := Scalar.addi v260 v261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_194 : BitVec 32 := 1#32
  let v263 : BitVec 32 := Scalar.muli v19 c1_i32_194
  let v264 : BitVec 32 := Scalar.addi v262 v263
  v264.toNat
def k0_off30 (d0 : Dev nD) (c0_i32_179 : BitVec 32) : Fin 2 → Nat :=
  let c128_i32_187 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v246 : BitVec 32 := Scalar.addi v8 c0_i32_179
  let c4_i32_180 : BitVec 32 := 4#32
  let c0_i32_181 : BitVec 32 := 0#32
  let v247 : BitVec 1 := Scalar.cmpi .eq c4_i32_180 c0_i32_181
  let c1_i32_182 : BitVec 32 := 1#32
  let v248 : BitVec 32 := Scalar.select v247 c1_i32_182 c4_i32_180
  let v249 : BitVec 32 := Scalar.remsi v246 v248
  let c0_i32_184 : BitVec 32 := 0#32
  let v251 : BitVec 1 := Scalar.cmpi .slt v249 c0_i32_184
  let c0_i32_185 : BitVec 32 := 0#32
  let v252 : BitVec 1 := Scalar.cmpi .slt v248 c0_i32_185
  let v253 : BitVec 1 := Scalar.xori v251 v252
  let c0_i32_183 : BitVec 32 := 0#32
  let v250 : BitVec 1 := Scalar.cmpi .ne v249 c0_i32_183
  let v254 : BitVec 1 := Scalar.andi v253 v250
  let v255 : BitVec 32 := Scalar.addi v249 v248
  let v256 : BitVec 32 := Scalar.select v254 v255 v249
  let c32_i32_186 : BitVec 32 := 32#32
  let v257 : BitVec 32 := Scalar.muli v256 c32_i32_186
  let v258 : BitVec 32 := Scalar.addi c128_i32_187 v257
  let c0_i32_207 : BitVec 32 := 0#32
  ![v258.toNat, 0]
def k0_off30_at (r : Fin 4) : BitVec 32 :=
  if r.val < 2 then
    if r.val < 1 then
      0#32
    else
      1#32
  else
    if r.val < 3 then
      2#32
    else
      4294967295#32
def k0_dev6 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v272 : BitVec 32 := Scalar.muli v2 c16_i32_201
  let v273 : BitVec 32 := Scalar.addi c0_i32_202 v272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_203 : BitVec 32 := 4#32
  let v274 : BitVec 32 := Scalar.muli v5 c4_i32_203
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_204 : BitVec 32 := 1#32
  let v276 : BitVec 32 := Scalar.muli v30 c1_i32_204
  let v277 : BitVec 32 := Scalar.addi v275 v276
  v277.toNat
@[reducible] def k0_t10_loop : Scf.Loop 32 :=
  let c0_i32_208 : BitVec 32 := 0#32
  let c192_i32 : BitVec 32 := 192#32
  let v285 : BitVec 32 := Scalar.addi c0_i32_208 c192_i32
  let c1_i32_209 : BitVec 32 := 1#32
  ⟨c0_i32_208, v285, c1_i32_209⟩
def k0_off31 (d0 : Dev nD) (c1_i32_63 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v94 : BitVec 32 := Scalar.addi v8 c1_i32_63
  let c4_i32_64 : BitVec 32 := 4#32
  let c0_i32_65 : BitVec 32 := 0#32
  let v95 : BitVec 1 := Scalar.cmpi .eq c4_i32_64 c0_i32_65
  let c1_i32_66 : BitVec 32 := 1#32
  let v96 : BitVec 32 := Scalar.select v95 c1_i32_66 c4_i32_64
  let v97 : BitVec 32 := Scalar.remsi v94 v96
  let c0_i32_68 : BitVec 32 := 0#32
  let v99 : BitVec 1 := Scalar.cmpi .slt v97 c0_i32_68
  let c0_i32_69 : BitVec 32 := 0#32
  let v100 : BitVec 1 := Scalar.cmpi .slt v96 c0_i32_69
  let v101 : BitVec 1 := Scalar.xori v99 v100
  let c0_i32_67 : BitVec 32 := 0#32
  let v98 : BitVec 1 := Scalar.cmpi .ne v97 c0_i32_67
  let v102 : BitVec 1 := Scalar.andi v101 v98
  let v103 : BitVec 32 := Scalar.addi v97 v96
  let v104 : BitVec 32 := Scalar.select v102 v103 v97
  let c32_i32_70 : BitVec 32 := 32#32
  let v105 : BitVec 32 := Scalar.muli v104 c32_i32_70
  let v286 : Index := Scalar.indexCast v105
  let c0_210 : Index := 0#32
  ![v286.toNat, 0]
def k0_off32 (d0 : Dev nD) (c1_i32_63 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v94 : BitVec 32 := Scalar.addi v8 c1_i32_63
  let c4_i32_64 : BitVec 32 := 4#32
  let c0_i32_65 : BitVec 32 := 0#32
  let v95 : BitVec 1 := Scalar.cmpi .eq c4_i32_64 c0_i32_65
  let c1_i32_66 : BitVec 32 := 1#32
  let v96 : BitVec 32 := Scalar.select v95 c1_i32_66 c4_i32_64
  let v97 : BitVec 32 := Scalar.remsi v94 v96
  let c0_i32_68 : BitVec 32 := 0#32
  let v99 : BitVec 1 := Scalar.cmpi .slt v97 c0_i32_68
  let c0_i32_69 : BitVec 32 := 0#32
  let v100 : BitVec 1 := Scalar.cmpi .slt v96 c0_i32_69
  let v101 : BitVec 1 := Scalar.xori v99 v100
  let c0_i32_67 : BitVec 32 := 0#32
  let v98 : BitVec 1 := Scalar.cmpi .ne v97 c0_i32_67
  let v102 : BitVec 1 := Scalar.andi v101 v98
  let v103 : BitVec 32 := Scalar.addi v97 v96
  let v104 : BitVec 32 := Scalar.select v102 v103 v97
  let c32_i32_70 : BitVec 32 := 32#32
  let v105 : BitVec 32 := Scalar.muli v104 c32_i32_70
  let v291 : Index := Scalar.indexCast v105
  let c0_212 : Index := 0#32
  ![v291.toNat, 0]
def k0_off33 (d0 : Dev nD) (c1_i32_71 : BitVec 32) : Fin 2 → Nat :=
  let c128_i32_79 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v106 : BitVec 32 := Scalar.addi v8 c1_i32_71
  let c4_i32_72 : BitVec 32 := 4#32
  let c0_i32_73 : BitVec 32 := 0#32
  let v107 : BitVec 1 := Scalar.cmpi .eq c4_i32_72 c0_i32_73
  let c1_i32_74 : BitVec 32 := 1#32
  let v108 : BitVec 32 := Scalar.select v107 c1_i32_74 c4_i32_72
  let v109 : BitVec 32 := Scalar.remsi v106 v108
  let c0_i32_76 : BitVec 32 := 0#32
  let v111 : BitVec 1 := Scalar.cmpi .slt v109 c0_i32_76
  let c0_i32_77 : BitVec 32 := 0#32
  let v112 : BitVec 1 := Scalar.cmpi .slt v108 c0_i32_77
  let v113 : BitVec 1 := Scalar.xori v111 v112
  let c0_i32_75 : BitVec 32 := 0#32
  let v110 : BitVec 1 := Scalar.cmpi .ne v109 c0_i32_75
  let v114 : BitVec 1 := Scalar.andi v113 v110
  let v115 : BitVec 32 := Scalar.addi v109 v108
  let v116 : BitVec 32 := Scalar.select v114 v115 v109
  let c32_i32_78 : BitVec 32 := 32#32
  let v117 : BitVec 32 := Scalar.muli v116 c32_i32_78
  let v118 : BitVec 32 := Scalar.addi c128_i32_79 v117
  let v301 : Index := Scalar.indexCast v118
  let c0_215 : Index := 0#32
  ![v301.toNat, 0]
def k0_off34 (d0 : Dev nD) (c1_i32_71 : BitVec 32) : Fin 2 → Nat :=
  let c128_i32_79 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v106 : BitVec 32 := Scalar.addi v8 c1_i32_71
  let c4_i32_72 : BitVec 32 := 4#32
  let c0_i32_73 : BitVec 32 := 0#32
  let v107 : BitVec 1 := Scalar.cmpi .eq c4_i32_72 c0_i32_73
  let c1_i32_74 : BitVec 32 := 1#32
  let v108 : BitVec 32 := Scalar.select v107 c1_i32_74 c4_i32_72
  let v109 : BitVec 32 := Scalar.remsi v106 v108
  let c0_i32_76 : BitVec 32 := 0#32
  let v111 : BitVec 1 := Scalar.cmpi .slt v109 c0_i32_76
  let c0_i32_77 : BitVec 32 := 0#32
  let v112 : BitVec 1 := Scalar.cmpi .slt v108 c0_i32_77
  let v113 : BitVec 1 := Scalar.xori v111 v112
  let c0_i32_75 : BitVec 32 := 0#32
  let v110 : BitVec 1 := Scalar.cmpi .ne v109 c0_i32_75
  let v114 : BitVec 1 := Scalar.andi v113 v110
  let v115 : BitVec 32 := Scalar.addi v109 v108
  let v116 : BitVec 32 := Scalar.select v114 v115 v109
  let c32_i32_78 : BitVec 32 := 32#32
  let v117 : BitVec 32 := Scalar.muli v116 c32_i32_78
  let v118 : BitVec 32 := Scalar.addi c128_i32_79 v117
  let v306 : Index := Scalar.indexCast v118
  let c0_217 : Index := 0#32
  ![v306.toNat, 0]
def k0_off35 (d0 : Dev nD) (c1_i32_274 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v408 : BitVec 32 := Scalar.subi v8 c1_i32_274
  let c4_i32_275 : BitVec 32 := 4#32
  let c0_i32_276 : BitVec 32 := 0#32
  let v409 : BitVec 1 := Scalar.cmpi .eq c4_i32_275 c0_i32_276
  let c1_i32_277 : BitVec 32 := 1#32
  let v410 : BitVec 32 := Scalar.select v409 c1_i32_277 c4_i32_275
  let v411 : BitVec 32 := Scalar.remsi v408 v410
  let c0_i32_279 : BitVec 32 := 0#32
  let v413 : BitVec 1 := Scalar.cmpi .slt v411 c0_i32_279
  let c0_i32_280 : BitVec 32 := 0#32
  let v414 : BitVec 1 := Scalar.cmpi .slt v410 c0_i32_280
  let v415 : BitVec 1 := Scalar.xori v413 v414
  let c0_i32_278 : BitVec 32 := 0#32
  let v412 : BitVec 1 := Scalar.cmpi .ne v411 c0_i32_278
  let v416 : BitVec 1 := Scalar.andi v415 v412
  let v417 : BitVec 32 := Scalar.addi v411 v410
  let v418 : BitVec 32 := Scalar.select v416 v417 v411
  let c32_i32_281 : BitVec 32 := 32#32
  let v419 : BitVec 32 := Scalar.muli v418 c32_i32_281
  let v433 : Index := Scalar.indexCast v419
  let c0_291 : Index := 0#32
  ![v433.toNat, 0]
def k0_dev7 (d0 : Dev nD) : Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_321 : BitVec 32 := 16#32
  let v476 : BitVec 32 := Scalar.muli v2 c16_i32_321
  let v477 : BitVec 32 := Scalar.addi c0_i32_322 v476
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_323 : BitVec 32 := 4#32
  let v478 : BitVec 32 := Scalar.muli v5 c4_i32_323
  let v479 : BitVec 32 := Scalar.addi v477 v478
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_324 : BitVec 32 := 1#32
  let v480 : BitVec 32 := Scalar.muli v19 c1_i32_324
  let v481 : BitVec 32 := Scalar.addi v479 v480
  v481.toNat
def k0_dev8 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v489 : BitVec 32 := Scalar.muli v2 c16_i32_331
  let v490 : BitVec 32 := Scalar.addi c0_i32_332 v489
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v491 : BitVec 32 := Scalar.muli v5 c4_i32_333
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_334 : BitVec 32 := 1#32
  let v493 : BitVec 32 := Scalar.muli v30 c1_i32_334
  let v494 : BitVec 32 := Scalar.addi v492 v493
  v494.toNat
def k0_dev9 (d0 : Dev nD) : Nat :=
  let c0_i32_419 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_418 : BitVec 32 := 16#32
  let v602 : BitVec 32 := Scalar.muli v2 c16_i32_418
  let v603 : BitVec 32 := Scalar.addi c0_i32_419 v602
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_420 : BitVec 32 := 4#32
  let v604 : BitVec 32 := Scalar.muli v5 c4_i32_420
  let v605 : BitVec 32 := Scalar.addi v603 v604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_421 : BitVec 32 := 1#32
  let v606 : BitVec 32 := Scalar.muli v19 c1_i32_421
  let v607 : BitVec 32 := Scalar.addi v605 v606
  v607.toNat
def k0_dev10 (d0 : Dev nD) : Nat :=
  let c0_i32_429 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_428 : BitVec 32 := 16#32
  let v615 : BitVec 32 := Scalar.muli v2 c16_i32_428
  let v616 : BitVec 32 := Scalar.addi c0_i32_429 v615
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_430 : BitVec 32 := 4#32
  let v617 : BitVec 32 := Scalar.muli v5 c4_i32_430
  let v618 : BitVec 32 := Scalar.addi v616 v617
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_431 : BitVec 32 := 1#32
  let v619 : BitVec 32 := Scalar.muli v30 c1_i32_431
  let v620 : BitVec 32 := Scalar.addi v618 v619
  v620.toNat
def k0_off36 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c256_i32 : BitVec 32 := 256#32
  let v725 : BitVec 32 := Scalar.muli v33 c256_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_495 : BitVec 32 := 1#32
  let v703 : BitVec 32 := Scalar.addi v8 c1_i32_495
  let c4_i32_496 : BitVec 32 := 4#32
  let c0_i32_497 : BitVec 32 := 0#32
  let v704 : BitVec 1 := Scalar.cmpi .eq c4_i32_496 c0_i32_497
  let c1_i32_498 : BitVec 32 := 1#32
  let v705 : BitVec 32 := Scalar.select v704 c1_i32_498 c4_i32_496
  let v706 : BitVec 32 := Scalar.remsi v703 v705
  let c0_i32_500 : BitVec 32 := 0#32
  let v708 : BitVec 1 := Scalar.cmpi .slt v706 c0_i32_500
  let c0_i32_501 : BitVec 32 := 0#32
  let v709 : BitVec 1 := Scalar.cmpi .slt v705 c0_i32_501
  let v710 : BitVec 1 := Scalar.xori v708 v709
  let c0_i32_499 : BitVec 32 := 0#32
  let v707 : BitVec 1 := Scalar.cmpi .ne v706 c0_i32_499
  let v711 : BitVec 1 := Scalar.andi v710 v707
  let v712 : BitVec 32 := Scalar.addi v706 v705
  let v713 : BitVec 32 := Scalar.select v711 v712 v706
  let c32_i32_511 : BitVec 32 := 32#32
  let v729 : BitVec 32 := Scalar.muli v713 c32_i32_511
  let v730 : BitVec 32 := Scalar.addi v725 v729
  let v731 : Index := Scalar.indexCast v730
  let c0_512 : Index := 0#32
  ![v731.toNat, 0]
def k0_off37 (d0 : Dev nD) : Fin 2 → Nat :=
  let c128_i32_514 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_502 : BitVec 32 := 1#32
  let v714 : BitVec 32 := Scalar.subi v8 c1_i32_502
  let c4_i32_503 : BitVec 32 := 4#32
  let c0_i32_504 : BitVec 32 := 0#32
  let v715 : BitVec 1 := Scalar.cmpi .eq c4_i32_503 c0_i32_504
  let c1_i32_505 : BitVec 32 := 1#32
  let v716 : BitVec 32 := Scalar.select v715 c1_i32_505 c4_i32_503
  let v717 : BitVec 32 := Scalar.remsi v714 v716
  let c0_i32_507 : BitVec 32 := 0#32
  let v719 : BitVec 1 := Scalar.cmpi .slt v717 c0_i32_507
  let c0_i32_508 : BitVec 32 := 0#32
  let v720 : BitVec 1 := Scalar.cmpi .slt v716 c0_i32_508
  let v721 : BitVec 1 := Scalar.xori v719 v720
  let c0_i32_506 : BitVec 32 := 0#32
  let v718 : BitVec 1 := Scalar.cmpi .ne v717 c0_i32_506
  let v722 : BitVec 1 := Scalar.andi v721 v718
  let v723 : BitVec 32 := Scalar.addi v717 v716
  let v724 : BitVec 32 := Scalar.select v722 v723 v717
  let c32_i32_513 : BitVec 32 := 32#32
  let v733 : BitVec 32 := Scalar.muli v724 c32_i32_513
  let v734 : BitVec 32 := Scalar.addi c128_i32_514 v733
  let v735 : Index := Scalar.indexCast v734
  let c0_515 : Index := 0#32
  ![v735.toNat, 0]
def k0_off38 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c256_i32 : BitVec 32 := 256#32
  let v725 : BitVec 32 := Scalar.muli v33 c256_i32
  let c128_i32_516 : BitVec 32 := 128#32
  let v737 : BitVec 32 := Scalar.addi v725 c128_i32_516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_502 : BitVec 32 := 1#32
  let v714 : BitVec 32 := Scalar.subi v8 c1_i32_502
  let c4_i32_503 : BitVec 32 := 4#32
  let c0_i32_504 : BitVec 32 := 0#32
  let v715 : BitVec 1 := Scalar.cmpi .eq c4_i32_503 c0_i32_504
  let c1_i32_505 : BitVec 32 := 1#32
  let v716 : BitVec 32 := Scalar.select v715 c1_i32_505 c4_i32_503
  let v717 : BitVec 32 := Scalar.remsi v714 v716
  let c0_i32_507 : BitVec 32 := 0#32
  let v719 : BitVec 1 := Scalar.cmpi .slt v717 c0_i32_507
  let c0_i32_508 : BitVec 32 := 0#32
  let v720 : BitVec 1 := Scalar.cmpi .slt v716 c0_i32_508
  let v721 : BitVec 1 := Scalar.xori v719 v720
  let c0_i32_506 : BitVec 32 := 0#32
  let v718 : BitVec 1 := Scalar.cmpi .ne v717 c0_i32_506
  let v722 : BitVec 1 := Scalar.andi v721 v718
  let v723 : BitVec 32 := Scalar.addi v717 v716
  let v724 : BitVec 32 := Scalar.select v722 v723 v717
  let c32_i32_517 : BitVec 32 := 32#32
  let v738 : BitVec 32 := Scalar.muli v724 c32_i32_517
  let v739 : BitVec 32 := Scalar.addi v737 v738
  let v740 : Index := Scalar.indexCast v739
  let c0_518 : Index := 0#32
  ![v740.toNat, 0]
def k0_off39 (d0 : Dev nD) (c0_i32_533 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let v764 : BitVec 32 := Scalar.subi v33 c0_i32_533
  let c8_i32_534 : BitVec 32 := 8#32
  let c0_i32_535 : BitVec 32 := 0#32
  let v765 : BitVec 1 := Scalar.cmpi .eq c8_i32_534 c0_i32_535
  let c1_i32_536 : BitVec 32 := 1#32
  let v766 : BitVec 32 := Scalar.select v765 c1_i32_536 c8_i32_534
  let v767 : BitVec 32 := Scalar.remsi v764 v766
  let c0_i32_538 : BitVec 32 := 0#32
  let v769 : BitVec 1 := Scalar.cmpi .slt v767 c0_i32_538
  let c0_i32_539 : BitVec 32 := 0#32
  let v770 : BitVec 1 := Scalar.cmpi .slt v766 c0_i32_539
  let v771 : BitVec 1 := Scalar.xori v769 v770
  let c0_i32_537 : BitVec 32 := 0#32
  let v768 : BitVec 1 := Scalar.cmpi .ne v767 c0_i32_537
  let v772 : BitVec 1 := Scalar.andi v771 v768
  let v773 : BitVec 32 := Scalar.addi v767 v766
  let v774 : BitVec 32 := Scalar.select v772 v773 v767
  let c256_i32_540 : BitVec 32 := 256#32
  let v775 : BitVec 32 := Scalar.muli v774 c256_i32_540
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_519 : BitVec 32 := 1#32
  let v742 : BitVec 32 := Scalar.addi v8 c1_i32_519
  let c4_i32_520 : BitVec 32 := 4#32
  let c0_i32_521 : BitVec 32 := 0#32
  let v743 : BitVec 1 := Scalar.cmpi .eq c4_i32_520 c0_i32_521
  let c1_i32_522 : BitVec 32 := 1#32
  let v744 : BitVec 32 := Scalar.select v743 c1_i32_522 c4_i32_520
  let v745 : BitVec 32 := Scalar.remsi v742 v744
  let c0_i32_524 : BitVec 32 := 0#32
  let v747 : BitVec 1 := Scalar.cmpi .slt v745 c0_i32_524
  let c0_i32_525 : BitVec 32 := 0#32
  let v748 : BitVec 1 := Scalar.cmpi .slt v744 c0_i32_525
  let v749 : BitVec 1 := Scalar.xori v747 v748
  let c0_i32_523 : BitVec 32 := 0#32
  let v746 : BitVec 1 := Scalar.cmpi .ne v745 c0_i32_523
  let v750 : BitVec 1 := Scalar.andi v749 v746
  let v751 : BitVec 32 := Scalar.addi v745 v744
  let v752 : BitVec 32 := Scalar.select v750 v751 v745
  let c32_i32_549 : BitVec 32 := 32#32
  let v788 : BitVec 32 := Scalar.muli v752 c32_i32_549
  let v789 : BitVec 32 := Scalar.addi v775 v788
  let c0_i32_561 : BitVec 32 := 0#32
  ![v789.toNat, 0]
def k0_dev11 (d0 : Dev nD) : Nat :=
  let c0_i32_558 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_557 : BitVec 32 := 16#32
  let v798 : BitVec 32 := Scalar.muli v46 c16_i32_557
  let v799 : BitVec 32 := Scalar.addi c0_i32_558 v798
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_559 : BitVec 32 := 4#32
  let v800 : BitVec 32 := Scalar.muli v49 c4_i32_559
  let v801 : BitVec 32 := Scalar.addi v799 v800
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_560 : BitVec 32 := 1#32
  let v802 : BitVec 32 := Scalar.muli v8 c1_i32_560
  let v803 : BitVec 32 := Scalar.addi v801 v802
  v803.toNat
def k0_off40 (d0 : Dev nD) (c0_i32_541 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let v776 : BitVec 32 := Scalar.addi v33 c0_i32_541
  let c8_i32_542 : BitVec 32 := 8#32
  let c0_i32_543 : BitVec 32 := 0#32
  let v777 : BitVec 1 := Scalar.cmpi .eq c8_i32_542 c0_i32_543
  let c1_i32_544 : BitVec 32 := 1#32
  let v778 : BitVec 32 := Scalar.select v777 c1_i32_544 c8_i32_542
  let v779 : BitVec 32 := Scalar.remsi v776 v778
  let c0_i32_546 : BitVec 32 := 0#32
  let v781 : BitVec 1 := Scalar.cmpi .slt v779 c0_i32_546
  let c0_i32_547 : BitVec 32 := 0#32
  let v782 : BitVec 1 := Scalar.cmpi .slt v778 c0_i32_547
  let v783 : BitVec 1 := Scalar.xori v781 v782
  let c0_i32_545 : BitVec 32 := 0#32
  let v780 : BitVec 1 := Scalar.cmpi .ne v779 c0_i32_545
  let v784 : BitVec 1 := Scalar.andi v783 v780
  let v785 : BitVec 32 := Scalar.addi v779 v778
  let v786 : BitVec 32 := Scalar.select v784 v785 v779
  let c256_i32_548 : BitVec 32 := 256#32
  let v787 : BitVec 32 := Scalar.muli v786 c256_i32_548
  let c128_i32_553 : BitVec 32 := 128#32
  let v795 : BitVec 32 := Scalar.addi v787 c128_i32_553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_526 : BitVec 32 := 1#32
  let v753 : BitVec 32 := Scalar.subi v8 c1_i32_526
  let c4_i32_527 : BitVec 32 := 4#32
  let c0_i32_528 : BitVec 32 := 0#32
  let v754 : BitVec 1 := Scalar.cmpi .eq c4_i32_527 c0_i32_528
  let c1_i32_529 : BitVec 32 := 1#32
  let v755 : BitVec 32 := Scalar.select v754 c1_i32_529 c4_i32_527
  let v756 : BitVec 32 := Scalar.remsi v753 v755
  let c0_i32_531 : BitVec 32 := 0#32
  let v758 : BitVec 1 := Scalar.cmpi .slt v756 c0_i32_531
  let c0_i32_532 : BitVec 32 := 0#32
  let v759 : BitVec 1 := Scalar.cmpi .slt v755 c0_i32_532
  let v760 : BitVec 1 := Scalar.xori v758 v759
  let c0_i32_530 : BitVec 32 := 0#32
  let v757 : BitVec 1 := Scalar.cmpi .ne v756 c0_i32_530
  let v761 : BitVec 1 := Scalar.andi v760 v757
  let v762 : BitVec 32 := Scalar.addi v756 v755
  let v763 : BitVec 32 := Scalar.select v761 v762 v756
  let c32_i32_554 : BitVec 32 := 32#32
  let v796 : BitVec 32 := Scalar.muli v763 c32_i32_554
  let v797 : BitVec 32 := Scalar.addi v795 v796
  let c0_i32_569 : BitVec 32 := 0#32
  ![v797.toNat, 0]
def k0_dev12 (d0 : Dev nD) : Nat :=
  let c0_i32_566 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_565 : BitVec 32 := 16#32
  let v810 : BitVec 32 := Scalar.muli v63 c16_i32_565
  let v811 : BitVec 32 := Scalar.addi c0_i32_566 v810
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_567 : BitVec 32 := 4#32
  let v812 : BitVec 32 := Scalar.muli v66 c4_i32_567
  let v813 : BitVec 32 := Scalar.addi v811 v812
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_568 : BitVec 32 := 1#32
  let v814 : BitVec 32 := Scalar.muli v8 c1_i32_568
  let v815 : BitVec 32 := Scalar.addi v813 v814
  v815.toNat
def k0_off41 (d0 : Dev nD) (c0_i32_533 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let v764 : BitVec 32 := Scalar.subi v33 c0_i32_533
  let c8_i32_534 : BitVec 32 := 8#32
  let c0_i32_535 : BitVec 32 := 0#32
  let v765 : BitVec 1 := Scalar.cmpi .eq c8_i32_534 c0_i32_535
  let c1_i32_536 : BitVec 32 := 1#32
  let v766 : BitVec 32 := Scalar.select v765 c1_i32_536 c8_i32_534
  let v767 : BitVec 32 := Scalar.remsi v764 v766
  let c0_i32_538 : BitVec 32 := 0#32
  let v769 : BitVec 1 := Scalar.cmpi .slt v767 c0_i32_538
  let c0_i32_539 : BitVec 32 := 0#32
  let v770 : BitVec 1 := Scalar.cmpi .slt v766 c0_i32_539
  let v771 : BitVec 1 := Scalar.xori v769 v770
  let c0_i32_537 : BitVec 32 := 0#32
  let v768 : BitVec 1 := Scalar.cmpi .ne v767 c0_i32_537
  let v772 : BitVec 1 := Scalar.andi v771 v768
  let v773 : BitVec 32 := Scalar.addi v767 v766
  let v774 : BitVec 32 := Scalar.select v772 v773 v767
  let c256_i32_540 : BitVec 32 := 256#32
  let v775 : BitVec 32 := Scalar.muli v774 c256_i32_540
  let c128_i32_550 : BitVec 32 := 128#32
  let v790 : BitVec 32 := Scalar.addi v775 c128_i32_550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_526 : BitVec 32 := 1#32
  let v753 : BitVec 32 := Scalar.subi v8 c1_i32_526
  let c4_i32_527 : BitVec 32 := 4#32
  let c0_i32_528 : BitVec 32 := 0#32
  let v754 : BitVec 1 := Scalar.cmpi .eq c4_i32_527 c0_i32_528
  let c1_i32_529 : BitVec 32 := 1#32
  let v755 : BitVec 32 := Scalar.select v754 c1_i32_529 c4_i32_527
  let v756 : BitVec 32 := Scalar.remsi v753 v755
  let c0_i32_531 : BitVec 32 := 0#32
  let v758 : BitVec 1 := Scalar.cmpi .slt v756 c0_i32_531
  let c0_i32_532 : BitVec 32 := 0#32
  let v759 : BitVec 1 := Scalar.cmpi .slt v755 c0_i32_532
  let v760 : BitVec 1 := Scalar.xori v758 v759
  let c0_i32_530 : BitVec 32 := 0#32
  let v757 : BitVec 1 := Scalar.cmpi .ne v756 c0_i32_530
  let v761 : BitVec 1 := Scalar.andi v760 v757
  let v762 : BitVec 32 := Scalar.addi v756 v755
  let v763 : BitVec 32 := Scalar.select v761 v762 v756
  let c32_i32_551 : BitVec 32 := 32#32
  let v791 : BitVec 32 := Scalar.muli v763 c32_i32_551
  let v792 : BitVec 32 := Scalar.addi v790 v791
  let c0_i32_577 : BitVec 32 := 0#32
  ![v792.toNat, 0]
def k0_dev13 (d0 : Dev nD) : Nat :=
  let c0_i32_574 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_573 : BitVec 32 := 16#32
  let v822 : BitVec 32 := Scalar.muli v46 c16_i32_573
  let v823 : BitVec 32 := Scalar.addi c0_i32_574 v822
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_575 : BitVec 32 := 4#32
  let v824 : BitVec 32 := Scalar.muli v49 c4_i32_575
  let v825 : BitVec 32 := Scalar.addi v823 v824
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_576 : BitVec 32 := 1#32
  let v826 : BitVec 32 := Scalar.muli v8 c1_i32_576
  let v827 : BitVec 32 := Scalar.addi v825 v826
  v827.toNat
def k0_off42 (d0 : Dev nD) (c0_i32_541 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let v776 : BitVec 32 := Scalar.addi v33 c0_i32_541
  let c8_i32_542 : BitVec 32 := 8#32
  let c0_i32_543 : BitVec 32 := 0#32
  let v777 : BitVec 1 := Scalar.cmpi .eq c8_i32_542 c0_i32_543
  let c1_i32_544 : BitVec 32 := 1#32
  let v778 : BitVec 32 := Scalar.select v777 c1_i32_544 c8_i32_542
  let v779 : BitVec 32 := Scalar.remsi v776 v778
  let c0_i32_546 : BitVec 32 := 0#32
  let v781 : BitVec 1 := Scalar.cmpi .slt v779 c0_i32_546
  let c0_i32_547 : BitVec 32 := 0#32
  let v782 : BitVec 1 := Scalar.cmpi .slt v778 c0_i32_547
  let v783 : BitVec 1 := Scalar.xori v781 v782
  let c0_i32_545 : BitVec 32 := 0#32
  let v780 : BitVec 1 := Scalar.cmpi .ne v779 c0_i32_545
  let v784 : BitVec 1 := Scalar.andi v783 v780
  let v785 : BitVec 32 := Scalar.addi v779 v778
  let v786 : BitVec 32 := Scalar.select v784 v785 v779
  let c256_i32_548 : BitVec 32 := 256#32
  let v787 : BitVec 32 := Scalar.muli v786 c256_i32_548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_519 : BitVec 32 := 1#32
  let v742 : BitVec 32 := Scalar.addi v8 c1_i32_519
  let c4_i32_520 : BitVec 32 := 4#32
  let c0_i32_521 : BitVec 32 := 0#32
  let v743 : BitVec 1 := Scalar.cmpi .eq c4_i32_520 c0_i32_521
  let c1_i32_522 : BitVec 32 := 1#32
  let v744 : BitVec 32 := Scalar.select v743 c1_i32_522 c4_i32_520
  let v745 : BitVec 32 := Scalar.remsi v742 v744
  let c0_i32_524 : BitVec 32 := 0#32
  let v747 : BitVec 1 := Scalar.cmpi .slt v745 c0_i32_524
  let c0_i32_525 : BitVec 32 := 0#32
  let v748 : BitVec 1 := Scalar.cmpi .slt v744 c0_i32_525
  let v749 : BitVec 1 := Scalar.xori v747 v748
  let c0_i32_523 : BitVec 32 := 0#32
  let v746 : BitVec 1 := Scalar.cmpi .ne v745 c0_i32_523
  let v750 : BitVec 1 := Scalar.andi v749 v746
  let v751 : BitVec 32 := Scalar.addi v745 v744
  let v752 : BitVec 32 := Scalar.select v750 v751 v745
  let c32_i32_552 : BitVec 32 := 32#32
  let v793 : BitVec 32 := Scalar.muli v752 c32_i32_552
  let v794 : BitVec 32 := Scalar.addi v787 v793
  let c0_i32_585 : BitVec 32 := 0#32
  ![v794.toNat, 0]
def k0_dev14 (d0 : Dev nD) : Nat :=
  let c0_i32_582 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_581 : BitVec 32 := 16#32
  let v834 : BitVec 32 := Scalar.muli v63 c16_i32_581
  let v835 : BitVec 32 := Scalar.addi c0_i32_582 v834
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_583 : BitVec 32 := 4#32
  let v836 : BitVec 32 := Scalar.muli v66 c4_i32_583
  let v837 : BitVec 32 := Scalar.addi v835 v836
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_584 : BitVec 32 := 1#32
  let v838 : BitVec 32 := Scalar.muli v8 c1_i32_584
  let v839 : BitVec 32 := Scalar.addi v837 v838
  v839.toNat
def k0_dev15 (d0 : Dev nD) : Nat :=
  let c0_i32_607 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_606 : BitVec 32 := 16#32
  let v871 : BitVec 32 := Scalar.muli v2 c16_i32_606
  let v872 : BitVec 32 := Scalar.addi c0_i32_607 v871
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_608 : BitVec 32 := 4#32
  let v873 : BitVec 32 := Scalar.muli v5 c4_i32_608
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_609 : BitVec 32 := 1#32
  let v875 : BitVec 32 := Scalar.muli v19 c1_i32_609
  let v876 : BitVec 32 := Scalar.addi v874 v875
  v876.toNat
def k0_dev16 (d0 : Dev nD) : Nat :=
  let c0_i32_617 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_616 : BitVec 32 := 16#32
  let v884 : BitVec 32 := Scalar.muli v2 c16_i32_616
  let v885 : BitVec 32 := Scalar.addi c0_i32_617 v884
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_618 : BitVec 32 := 4#32
  let v886 : BitVec 32 := Scalar.muli v5 c4_i32_618
  let v887 : BitVec 32 := Scalar.addi v885 v886
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_619 : BitVec 32 := 1#32
  let v888 : BitVec 32 := Scalar.muli v30 c1_i32_619
  let v889 : BitVec 32 := Scalar.addi v887 v888
  v889.toNat
def k0_off43 (d0 : Dev nD) (c0_i32_659 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c256_i32 : BitVec 32 := 256#32
  let v725 : BitVec 32 := Scalar.muli v33 c256_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v931 : BitVec 32 := Scalar.subi v8 c0_i32_659
  let c4_i32_660 : BitVec 32 := 4#32
  let c0_i32_661 : BitVec 32 := 0#32
  let v932 : BitVec 1 := Scalar.cmpi .eq c4_i32_660 c0_i32_661
  let c1_i32_662 : BitVec 32 := 1#32
  let v933 : BitVec 32 := Scalar.select v932 c1_i32_662 c4_i32_660
  let v934 : BitVec 32 := Scalar.remsi v931 v933
  let c0_i32_664 : BitVec 32 := 0#32
  let v936 : BitVec 1 := Scalar.cmpi .slt v934 c0_i32_664
  let c0_i32_665 : BitVec 32 := 0#32
  let v937 : BitVec 1 := Scalar.cmpi .slt v933 c0_i32_665
  let v938 : BitVec 1 := Scalar.xori v936 v937
  let c0_i32_663 : BitVec 32 := 0#32
  let v935 : BitVec 1 := Scalar.cmpi .ne v934 c0_i32_663
  let v939 : BitVec 1 := Scalar.andi v938 v935
  let v940 : BitVec 32 := Scalar.addi v934 v933
  let v941 : BitVec 32 := Scalar.select v939 v940 v934
  let c32_i32_666 : BitVec 32 := 32#32
  let v942 : BitVec 32 := Scalar.muli v941 c32_i32_666
  let v943 : BitVec 32 := Scalar.addi v725 v942
  let v944 : Index := Scalar.indexCast v943
  let c0_667 : Index := 0#32
  ![v944.toNat, 0]
def k0_off44 (d0 : Dev nD) (c0_i32_671 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c256_i32 : BitVec 32 := 256#32
  let v725 : BitVec 32 := Scalar.muli v33 c256_i32
  let c128_i32_679 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v948 : BitVec 32 := Scalar.addi v8 c0_i32_671
  let c4_i32_672 : BitVec 32 := 4#32
  let c0_i32_673 : BitVec 32 := 0#32
  let v949 : BitVec 1 := Scalar.cmpi .eq c4_i32_672 c0_i32_673
  let c1_i32_674 : BitVec 32 := 1#32
  let v950 : BitVec 32 := Scalar.select v949 c1_i32_674 c4_i32_672
  let v951 : BitVec 32 := Scalar.remsi v948 v950
  let c0_i32_676 : BitVec 32 := 0#32
  let v953 : BitVec 1 := Scalar.cmpi .slt v951 c0_i32_676
  let c0_i32_677 : BitVec 32 := 0#32
  let v954 : BitVec 1 := Scalar.cmpi .slt v950 c0_i32_677
  let v955 : BitVec 1 := Scalar.xori v953 v954
  let c0_i32_675 : BitVec 32 := 0#32
  let v952 : BitVec 1 := Scalar.cmpi .ne v951 c0_i32_675
  let v956 : BitVec 1 := Scalar.andi v955 v952
  let v957 : BitVec 32 := Scalar.addi v951 v950
  let v958 : BitVec 32 := Scalar.select v956 v957 v951
  let c32_i32_678 : BitVec 32 := 32#32
  let v959 : BitVec 32 := Scalar.muli v958 c32_i32_678
  let v960 : BitVec 32 := Scalar.addi c128_i32_679 v959
  let v961 : BitVec 32 := Scalar.addi v725 v960
  let v962 : Index := Scalar.indexCast v961
  let c0_680 : Index := 0#32
  ![v962.toNat, 0]
def k0_off45 (d0 : Dev nD) (c0_i32_695 : BitVec 32) (c0_i32_681 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let v986 : BitVec 32 := Scalar.subi v33 c0_i32_695
  let c8_i32_696 : BitVec 32 := 8#32
  let c0_i32_697 : BitVec 32 := 0#32
  let v987 : BitVec 1 := Scalar.cmpi .eq c8_i32_696 c0_i32_697
  let c1_i32_698 : BitVec 32 := 1#32
  let v988 : BitVec 32 := Scalar.select v987 c1_i32_698 c8_i32_696
  let v989 : BitVec 32 := Scalar.remsi v986 v988
  let c0_i32_700 : BitVec 32 := 0#32
  let v991 : BitVec 1 := Scalar.cmpi .slt v989 c0_i32_700
  let c0_i32_701 : BitVec 32 := 0#32
  let v992 : BitVec 1 := Scalar.cmpi .slt v988 c0_i32_701
  let v993 : BitVec 1 := Scalar.xori v991 v992
  let c0_i32_699 : BitVec 32 := 0#32
  let v990 : BitVec 1 := Scalar.cmpi .ne v989 c0_i32_699
  let v994 : BitVec 1 := Scalar.andi v993 v990
  let v995 : BitVec 32 := Scalar.addi v989 v988
  let v996 : BitVec 32 := Scalar.select v994 v995 v989
  let c256_i32_702 : BitVec 32 := 256#32
  let v997 : BitVec 32 := Scalar.muli v996 c256_i32_702
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v964 : BitVec 32 := Scalar.subi v8 c0_i32_681
  let c4_i32_682 : BitVec 32 := 4#32
  let c0_i32_683 : BitVec 32 := 0#32
  let v965 : BitVec 1 := Scalar.cmpi .eq c4_i32_682 c0_i32_683
  let c1_i32_684 : BitVec 32 := 1#32
  let v966 : BitVec 32 := Scalar.select v965 c1_i32_684 c4_i32_682
  let v967 : BitVec 32 := Scalar.remsi v964 v966
  let c0_i32_686 : BitVec 32 := 0#32
  let v969 : BitVec 1 := Scalar.cmpi .slt v967 c0_i32_686
  let c0_i32_687 : BitVec 32 := 0#32
  let v970 : BitVec 1 := Scalar.cmpi .slt v966 c0_i32_687
  let v971 : BitVec 1 := Scalar.xori v969 v970
  let c0_i32_685 : BitVec 32 := 0#32
  let v968 : BitVec 1 := Scalar.cmpi .ne v967 c0_i32_685
  let v972 : BitVec 1 := Scalar.andi v971 v968
  let v973 : BitVec 32 := Scalar.addi v967 v966
  let v974 : BitVec 32 := Scalar.select v972 v973 v967
  let c32_i32_711 : BitVec 32 := 32#32
  let v1010 : BitVec 32 := Scalar.muli v974 c32_i32_711
  let v1011 : BitVec 32 := Scalar.addi v997 v1010
  let c0_i32_723 : BitVec 32 := 0#32
  ![v1011.toNat, 0]
def k0_dev17 (d0 : Dev nD) : Nat :=
  let c0_i32_720 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_719 : BitVec 32 := 16#32
  let v1020 : BitVec 32 := Scalar.muli v46 c16_i32_719
  let v1021 : BitVec 32 := Scalar.addi c0_i32_720 v1020
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_721 : BitVec 32 := 4#32
  let v1022 : BitVec 32 := Scalar.muli v49 c4_i32_721
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_722 : BitVec 32 := 1#32
  let v1024 : BitVec 32 := Scalar.muli v8 c1_i32_722
  let v1025 : BitVec 32 := Scalar.addi v1023 v1024
  v1025.toNat
def k0_off46 (d0 : Dev nD) (c0_i32_703 : BitVec 32) (c0_i32_688 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let v998 : BitVec 32 := Scalar.addi v33 c0_i32_703
  let c8_i32_704 : BitVec 32 := 8#32
  let c0_i32_705 : BitVec 32 := 0#32
  let v999 : BitVec 1 := Scalar.cmpi .eq c8_i32_704 c0_i32_705
  let c1_i32_706 : BitVec 32 := 1#32
  let v1000 : BitVec 32 := Scalar.select v999 c1_i32_706 c8_i32_704
  let v1001 : BitVec 32 := Scalar.remsi v998 v1000
  let c0_i32_708 : BitVec 32 := 0#32
  let v1003 : BitVec 1 := Scalar.cmpi .slt v1001 c0_i32_708
  let c0_i32_709 : BitVec 32 := 0#32
  let v1004 : BitVec 1 := Scalar.cmpi .slt v1000 c0_i32_709
  let v1005 : BitVec 1 := Scalar.xori v1003 v1004
  let c0_i32_707 : BitVec 32 := 0#32
  let v1002 : BitVec 1 := Scalar.cmpi .ne v1001 c0_i32_707
  let v1006 : BitVec 1 := Scalar.andi v1005 v1002
  let v1007 : BitVec 32 := Scalar.addi v1001 v1000
  let v1008 : BitVec 32 := Scalar.select v1006 v1007 v1001
  let c256_i32_710 : BitVec 32 := 256#32
  let v1009 : BitVec 32 := Scalar.muli v1008 c256_i32_710
  let c128_i32_715 : BitVec 32 := 128#32
  let v1017 : BitVec 32 := Scalar.addi v1009 c128_i32_715
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v975 : BitVec 32 := Scalar.addi v8 c0_i32_688
  let c4_i32_689 : BitVec 32 := 4#32
  let c0_i32_690 : BitVec 32 := 0#32
  let v976 : BitVec 1 := Scalar.cmpi .eq c4_i32_689 c0_i32_690
  let c1_i32_691 : BitVec 32 := 1#32
  let v977 : BitVec 32 := Scalar.select v976 c1_i32_691 c4_i32_689
  let v978 : BitVec 32 := Scalar.remsi v975 v977
  let c0_i32_693 : BitVec 32 := 0#32
  let v980 : BitVec 1 := Scalar.cmpi .slt v978 c0_i32_693
  let c0_i32_694 : BitVec 32 := 0#32
  let v981 : BitVec 1 := Scalar.cmpi .slt v977 c0_i32_694
  let v982 : BitVec 1 := Scalar.xori v980 v981
  let c0_i32_692 : BitVec 32 := 0#32
  let v979 : BitVec 1 := Scalar.cmpi .ne v978 c0_i32_692
  let v983 : BitVec 1 := Scalar.andi v982 v979
  let v984 : BitVec 32 := Scalar.addi v978 v977
  let v985 : BitVec 32 := Scalar.select v983 v984 v978
  let c32_i32_716 : BitVec 32 := 32#32
  let v1018 : BitVec 32 := Scalar.muli v985 c32_i32_716
  let v1019 : BitVec 32 := Scalar.addi v1017 v1018
  let c0_i32_731 : BitVec 32 := 0#32
  ![v1019.toNat, 0]
def k0_dev18 (d0 : Dev nD) : Nat :=
  let c0_i32_728 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_727 : BitVec 32 := 16#32
  let v1032 : BitVec 32 := Scalar.muli v63 c16_i32_727
  let v1033 : BitVec 32 := Scalar.addi c0_i32_728 v1032
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_729 : BitVec 32 := 4#32
  let v1034 : BitVec 32 := Scalar.muli v66 c4_i32_729
  let v1035 : BitVec 32 := Scalar.addi v1033 v1034
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_730 : BitVec 32 := 1#32
  let v1036 : BitVec 32 := Scalar.muli v8 c1_i32_730
  let v1037 : BitVec 32 := Scalar.addi v1035 v1036
  v1037.toNat
def k0_off47 (d0 : Dev nD) (c0_i32_695 : BitVec 32) (c0_i32_688 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let v986 : BitVec 32 := Scalar.subi v33 c0_i32_695
  let c8_i32_696 : BitVec 32 := 8#32
  let c0_i32_697 : BitVec 32 := 0#32
  let v987 : BitVec 1 := Scalar.cmpi .eq c8_i32_696 c0_i32_697
  let c1_i32_698 : BitVec 32 := 1#32
  let v988 : BitVec 32 := Scalar.select v987 c1_i32_698 c8_i32_696
  let v989 : BitVec 32 := Scalar.remsi v986 v988
  let c0_i32_700 : BitVec 32 := 0#32
  let v991 : BitVec 1 := Scalar.cmpi .slt v989 c0_i32_700
  let c0_i32_701 : BitVec 32 := 0#32
  let v992 : BitVec 1 := Scalar.cmpi .slt v988 c0_i32_701
  let v993 : BitVec 1 := Scalar.xori v991 v992
  let c0_i32_699 : BitVec 32 := 0#32
  let v990 : BitVec 1 := Scalar.cmpi .ne v989 c0_i32_699
  let v994 : BitVec 1 := Scalar.andi v993 v990
  let v995 : BitVec 32 := Scalar.addi v989 v988
  let v996 : BitVec 32 := Scalar.select v994 v995 v989
  let c256_i32_702 : BitVec 32 := 256#32
  let v997 : BitVec 32 := Scalar.muli v996 c256_i32_702
  let c128_i32_712 : BitVec 32 := 128#32
  let v1012 : BitVec 32 := Scalar.addi v997 c128_i32_712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v975 : BitVec 32 := Scalar.addi v8 c0_i32_688
  let c4_i32_689 : BitVec 32 := 4#32
  let c0_i32_690 : BitVec 32 := 0#32
  let v976 : BitVec 1 := Scalar.cmpi .eq c4_i32_689 c0_i32_690
  let c1_i32_691 : BitVec 32 := 1#32
  let v977 : BitVec 32 := Scalar.select v976 c1_i32_691 c4_i32_689
  let v978 : BitVec 32 := Scalar.remsi v975 v977
  let c0_i32_693 : BitVec 32 := 0#32
  let v980 : BitVec 1 := Scalar.cmpi .slt v978 c0_i32_693
  let c0_i32_694 : BitVec 32 := 0#32
  let v981 : BitVec 1 := Scalar.cmpi .slt v977 c0_i32_694
  let v982 : BitVec 1 := Scalar.xori v980 v981
  let c0_i32_692 : BitVec 32 := 0#32
  let v979 : BitVec 1 := Scalar.cmpi .ne v978 c0_i32_692
  let v983 : BitVec 1 := Scalar.andi v982 v979
  let v984 : BitVec 32 := Scalar.addi v978 v977
  let v985 : BitVec 32 := Scalar.select v983 v984 v978
  let c32_i32_713 : BitVec 32 := 32#32
  let v1013 : BitVec 32 := Scalar.muli v985 c32_i32_713
  let v1014 : BitVec 32 := Scalar.addi v1012 v1013
  let c0_i32_739 : BitVec 32 := 0#32
  ![v1014.toNat, 0]
def k0_dev19 (d0 : Dev nD) : Nat :=
  let c0_i32_736 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_735 : BitVec 32 := 16#32
  let v1044 : BitVec 32 := Scalar.muli v46 c16_i32_735
  let v1045 : BitVec 32 := Scalar.addi c0_i32_736 v1044
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_737 : BitVec 32 := 4#32
  let v1046 : BitVec 32 := Scalar.muli v49 c4_i32_737
  let v1047 : BitVec 32 := Scalar.addi v1045 v1046
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1048 : BitVec 32 := Scalar.muli v8 c1_i32_738
  let v1049 : BitVec 32 := Scalar.addi v1047 v1048
  v1049.toNat
def k0_off48 (d0 : Dev nD) (c0_i32_703 : BitVec 32) (c0_i32_681 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let v998 : BitVec 32 := Scalar.addi v33 c0_i32_703
  let c8_i32_704 : BitVec 32 := 8#32
  let c0_i32_705 : BitVec 32 := 0#32
  let v999 : BitVec 1 := Scalar.cmpi .eq c8_i32_704 c0_i32_705
  let c1_i32_706 : BitVec 32 := 1#32
  let v1000 : BitVec 32 := Scalar.select v999 c1_i32_706 c8_i32_704
  let v1001 : BitVec 32 := Scalar.remsi v998 v1000
  let c0_i32_708 : BitVec 32 := 0#32
  let v1003 : BitVec 1 := Scalar.cmpi .slt v1001 c0_i32_708
  let c0_i32_709 : BitVec 32 := 0#32
  let v1004 : BitVec 1 := Scalar.cmpi .slt v1000 c0_i32_709
  let v1005 : BitVec 1 := Scalar.xori v1003 v1004
  let c0_i32_707 : BitVec 32 := 0#32
  let v1002 : BitVec 1 := Scalar.cmpi .ne v1001 c0_i32_707
  let v1006 : BitVec 1 := Scalar.andi v1005 v1002
  let v1007 : BitVec 32 := Scalar.addi v1001 v1000
  let v1008 : BitVec 32 := Scalar.select v1006 v1007 v1001
  let c256_i32_710 : BitVec 32 := 256#32
  let v1009 : BitVec 32 := Scalar.muli v1008 c256_i32_710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v964 : BitVec 32 := Scalar.subi v8 c0_i32_681
  let c4_i32_682 : BitVec 32 := 4#32
  let c0_i32_683 : BitVec 32 := 0#32
  let v965 : BitVec 1 := Scalar.cmpi .eq c4_i32_682 c0_i32_683
  let c1_i32_684 : BitVec 32 := 1#32
  let v966 : BitVec 32 := Scalar.select v965 c1_i32_684 c4_i32_682
  let v967 : BitVec 32 := Scalar.remsi v964 v966
  let c0_i32_686 : BitVec 32 := 0#32
  let v969 : BitVec 1 := Scalar.cmpi .slt v967 c0_i32_686
  let c0_i32_687 : BitVec 32 := 0#32
  let v970 : BitVec 1 := Scalar.cmpi .slt v966 c0_i32_687
  let v971 : BitVec 1 := Scalar.xori v969 v970
  let c0_i32_685 : BitVec 32 := 0#32
  let v968 : BitVec 1 := Scalar.cmpi .ne v967 c0_i32_685
  let v972 : BitVec 1 := Scalar.andi v971 v968
  let v973 : BitVec 32 := Scalar.addi v967 v966
  let v974 : BitVec 32 := Scalar.select v972 v973 v967
  let c32_i32_714 : BitVec 32 := 32#32
  let v1015 : BitVec 32 := Scalar.muli v974 c32_i32_714
  let v1016 : BitVec 32 := Scalar.addi v1009 v1015
  let c0_i32_747 : BitVec 32 := 0#32
  ![v1016.toNat, 0]
def k0_dev20 (d0 : Dev nD) : Nat :=
  let c0_i32_744 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_743 : BitVec 32 := 16#32
  let v1056 : BitVec 32 := Scalar.muli v63 c16_i32_743
  let v1057 : BitVec 32 := Scalar.addi c0_i32_744 v1056
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_745 : BitVec 32 := 4#32
  let v1058 : BitVec 32 := Scalar.muli v66 c4_i32_745
  let v1059 : BitVec 32 := Scalar.addi v1057 v1058
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_746 : BitVec 32 := 1#32
  let v1060 : BitVec 32 := Scalar.muli v8 c1_i32_746
  let v1061 : BitVec 32 := Scalar.addi v1059 v1060
  v1061.toNat
def k0_dev21 (d0 : Dev nD) : Nat :=
  let c0_i32_876 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_875 : BitVec 32 := 16#32
  let v1236 : BitVec 32 := Scalar.muli v46 c16_i32_875
  let v1237 : BitVec 32 := Scalar.addi c0_i32_876 v1236
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_877 : BitVec 32 := 4#32
  let v1238 : BitVec 32 := Scalar.muli v49 c4_i32_877
  let v1239 : BitVec 32 := Scalar.addi v1237 v1238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_878 : BitVec 32 := 1#32
  let v1240 : BitVec 32 := Scalar.muli v8 c1_i32_878
  let v1241 : BitVec 32 := Scalar.addi v1239 v1240
  v1241.toNat
def k0_dev22 (d0 : Dev nD) : Nat :=
  let c0_i32_884 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_883 : BitVec 32 := 16#32
  let v1248 : BitVec 32 := Scalar.muli v63 c16_i32_883
  let v1249 : BitVec 32 := Scalar.addi c0_i32_884 v1248
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_885 : BitVec 32 := 4#32
  let v1250 : BitVec 32 := Scalar.muli v66 c4_i32_885
  let v1251 : BitVec 32 := Scalar.addi v1249 v1250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_886 : BitVec 32 := 1#32
  let v1252 : BitVec 32 := Scalar.muli v8 c1_i32_886
  let v1253 : BitVec 32 := Scalar.addi v1251 v1252
  v1253.toNat
def k0_dev23 (d0 : Dev nD) : Nat :=
  let c0_i32_892 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_891 : BitVec 32 := 16#32
  let v1260 : BitVec 32 := Scalar.muli v46 c16_i32_891
  let v1261 : BitVec 32 := Scalar.addi c0_i32_892 v1260
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_893 : BitVec 32 := 4#32
  let v1262 : BitVec 32 := Scalar.muli v49 c4_i32_893
  let v1263 : BitVec 32 := Scalar.addi v1261 v1262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_894 : BitVec 32 := 1#32
  let v1264 : BitVec 32 := Scalar.muli v8 c1_i32_894
  let v1265 : BitVec 32 := Scalar.addi v1263 v1264
  v1265.toNat
def k0_dev24 (d0 : Dev nD) : Nat :=
  let c0_i32_900 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_899 : BitVec 32 := 16#32
  let v1272 : BitVec 32 := Scalar.muli v63 c16_i32_899
  let v1273 : BitVec 32 := Scalar.addi c0_i32_900 v1272
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_901 : BitVec 32 := 4#32
  let v1274 : BitVec 32 := Scalar.muli v66 c4_i32_901
  let v1275 : BitVec 32 := Scalar.addi v1273 v1274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_902 : BitVec 32 := 1#32
  let v1276 : BitVec 32 := Scalar.muli v8 c1_i32_902
  let v1277 : BitVec 32 := Scalar.addi v1275 v1276
  v1277.toNat
def k0_dev25 (d0 : Dev nD) : Nat :=
  let c0_i32_910 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_909 : BitVec 32 := 16#32
  let v1284 : BitVec 32 := Scalar.muli v2 c16_i32_909
  let v1285 : BitVec 32 := Scalar.addi c0_i32_910 v1284
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_911 : BitVec 32 := 4#32
  let v1286 : BitVec 32 := Scalar.muli v5 c4_i32_911
  let v1287 : BitVec 32 := Scalar.addi v1285 v1286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_912 : BitVec 32 := 1#32
  let v1288 : BitVec 32 := Scalar.muli v19 c1_i32_912
  let v1289 : BitVec 32 := Scalar.addi v1287 v1288
  v1289.toNat
def k0_dev26 (d0 : Dev nD) : Nat :=
  let c0_i32_922 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_921 : BitVec 32 := 16#32
  let v1298 : BitVec 32 := Scalar.muli v2 c16_i32_921
  let v1299 : BitVec 32 := Scalar.addi c0_i32_922 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_923 : BitVec 32 := 4#32
  let v1300 : BitVec 32 := Scalar.muli v5 c4_i32_923
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_924 : BitVec 32 := 1#32
  let v1302 : BitVec 32 := Scalar.muli v30 c1_i32_924
  let v1303 : BitVec 32 := Scalar.addi v1301 v1302
  v1303.toNat
def k0_dev27 (d0 : Dev nD) : Nat :=
  let c0_i32_1034 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1033 : BitVec 32 := 16#32
  let v1439 : BitVec 32 := Scalar.muli v46 c16_i32_1033
  let v1440 : BitVec 32 := Scalar.addi c0_i32_1034 v1439
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1035 : BitVec 32 := 4#32
  let v1441 : BitVec 32 := Scalar.muli v49 c4_i32_1035
  let v1442 : BitVec 32 := Scalar.addi v1440 v1441
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1036 : BitVec 32 := 1#32
  let v1443 : BitVec 32 := Scalar.muli v8 c1_i32_1036
  let v1444 : BitVec 32 := Scalar.addi v1442 v1443
  v1444.toNat
def k0_dev28 (d0 : Dev nD) : Nat :=
  let c0_i32_1042 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1041 : BitVec 32 := 16#32
  let v1451 : BitVec 32 := Scalar.muli v63 c16_i32_1041
  let v1452 : BitVec 32 := Scalar.addi c0_i32_1042 v1451
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1043 : BitVec 32 := 4#32
  let v1453 : BitVec 32 := Scalar.muli v66 c4_i32_1043
  let v1454 : BitVec 32 := Scalar.addi v1452 v1453
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1044 : BitVec 32 := 1#32
  let v1455 : BitVec 32 := Scalar.muli v8 c1_i32_1044
  let v1456 : BitVec 32 := Scalar.addi v1454 v1455
  v1456.toNat
def k0_dev29 (d0 : Dev nD) : Nat :=
  let c0_i32_1050 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1049 : BitVec 32 := 16#32
  let v1463 : BitVec 32 := Scalar.muli v46 c16_i32_1049
  let v1464 : BitVec 32 := Scalar.addi c0_i32_1050 v1463
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1051 : BitVec 32 := 4#32
  let v1465 : BitVec 32 := Scalar.muli v49 c4_i32_1051
  let v1466 : BitVec 32 := Scalar.addi v1464 v1465
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1052 : BitVec 32 := 1#32
  let v1467 : BitVec 32 := Scalar.muli v8 c1_i32_1052
  let v1468 : BitVec 32 := Scalar.addi v1466 v1467
  v1468.toNat
def k0_dev30 (d0 : Dev nD) : Nat :=
  let c0_i32_1058 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1057 : BitVec 32 := 16#32
  let v1475 : BitVec 32 := Scalar.muli v63 c16_i32_1057
  let v1476 : BitVec 32 := Scalar.addi c0_i32_1058 v1475
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1059 : BitVec 32 := 4#32
  let v1477 : BitVec 32 := Scalar.muli v66 c4_i32_1059
  let v1478 : BitVec 32 := Scalar.addi v1476 v1477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1060 : BitVec 32 := 1#32
  let v1479 : BitVec 32 := Scalar.muli v8 c1_i32_1060
  let v1480 : BitVec 32 := Scalar.addi v1478 v1479
  v1480.toNat
def k0_dev31 (d0 : Dev nD) : Nat :=
  let c0_i32_1190 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1189 : BitVec 32 := 16#32
  let v1655 : BitVec 32 := Scalar.muli v46 c16_i32_1189
  let v1656 : BitVec 32 := Scalar.addi c0_i32_1190 v1655
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1191 : BitVec 32 := 4#32
  let v1657 : BitVec 32 := Scalar.muli v49 c4_i32_1191
  let v1658 : BitVec 32 := Scalar.addi v1656 v1657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1192 : BitVec 32 := 1#32
  let v1659 : BitVec 32 := Scalar.muli v8 c1_i32_1192
  let v1660 : BitVec 32 := Scalar.addi v1658 v1659
  v1660.toNat
def k0_dev32 (d0 : Dev nD) : Nat :=
  let c0_i32_1198 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1197 : BitVec 32 := 16#32
  let v1667 : BitVec 32 := Scalar.muli v63 c16_i32_1197
  let v1668 : BitVec 32 := Scalar.addi c0_i32_1198 v1667
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1199 : BitVec 32 := 4#32
  let v1669 : BitVec 32 := Scalar.muli v66 c4_i32_1199
  let v1670 : BitVec 32 := Scalar.addi v1668 v1669
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1200 : BitVec 32 := 1#32
  let v1671 : BitVec 32 := Scalar.muli v8 c1_i32_1200
  let v1672 : BitVec 32 := Scalar.addi v1670 v1671
  v1672.toNat
def k0_dev33 (d0 : Dev nD) : Nat :=
  let c0_i32_1206 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1205 : BitVec 32 := 16#32
  let v1679 : BitVec 32 := Scalar.muli v46 c16_i32_1205
  let v1680 : BitVec 32 := Scalar.addi c0_i32_1206 v1679
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1207 : BitVec 32 := 4#32
  let v1681 : BitVec 32 := Scalar.muli v49 c4_i32_1207
  let v1682 : BitVec 32 := Scalar.addi v1680 v1681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1208 : BitVec 32 := 1#32
  let v1683 : BitVec 32 := Scalar.muli v8 c1_i32_1208
  let v1684 : BitVec 32 := Scalar.addi v1682 v1683
  v1684.toNat
def k0_dev34 (d0 : Dev nD) : Nat :=
  let c0_i32_1214 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1213 : BitVec 32 := 16#32
  let v1691 : BitVec 32 := Scalar.muli v63 c16_i32_1213
  let v1692 : BitVec 32 := Scalar.addi c0_i32_1214 v1691
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1215 : BitVec 32 := 4#32
  let v1693 : BitVec 32 := Scalar.muli v66 c4_i32_1215
  let v1694 : BitVec 32 := Scalar.addi v1692 v1693
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1216 : BitVec 32 := 1#32
  let v1695 : BitVec 32 := Scalar.muli v8 c1_i32_1216
  let v1696 : BitVec 32 := Scalar.addi v1694 v1695
  v1696.toNat
def k0_dev35 (d0 : Dev nD) : Nat :=
  let c0_i32_1345 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1344 : BitVec 32 := 16#32
  let v1871 : BitVec 32 := Scalar.muli v46 c16_i32_1344
  let v1872 : BitVec 32 := Scalar.addi c0_i32_1345 v1871
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1346 : BitVec 32 := 4#32
  let v1873 : BitVec 32 := Scalar.muli v49 c4_i32_1346
  let v1874 : BitVec 32 := Scalar.addi v1872 v1873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1347 : BitVec 32 := 1#32
  let v1875 : BitVec 32 := Scalar.muli v8 c1_i32_1347
  let v1876 : BitVec 32 := Scalar.addi v1874 v1875
  v1876.toNat
def k0_dev36 (d0 : Dev nD) : Nat :=
  let c0_i32_1353 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1352 : BitVec 32 := 16#32
  let v1883 : BitVec 32 := Scalar.muli v63 c16_i32_1352
  let v1884 : BitVec 32 := Scalar.addi c0_i32_1353 v1883
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1354 : BitVec 32 := 4#32
  let v1885 : BitVec 32 := Scalar.muli v66 c4_i32_1354
  let v1886 : BitVec 32 := Scalar.addi v1884 v1885
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1355 : BitVec 32 := 1#32
  let v1887 : BitVec 32 := Scalar.muli v8 c1_i32_1355
  let v1888 : BitVec 32 := Scalar.addi v1886 v1887
  v1888.toNat
def k0_dev37 (d0 : Dev nD) : Nat :=
  let c0_i32_1361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1360 : BitVec 32 := 16#32
  let v1895 : BitVec 32 := Scalar.muli v46 c16_i32_1360
  let v1896 : BitVec 32 := Scalar.addi c0_i32_1361 v1895
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1362 : BitVec 32 := 4#32
  let v1897 : BitVec 32 := Scalar.muli v49 c4_i32_1362
  let v1898 : BitVec 32 := Scalar.addi v1896 v1897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1363 : BitVec 32 := 1#32
  let v1899 : BitVec 32 := Scalar.muli v8 c1_i32_1363
  let v1900 : BitVec 32 := Scalar.addi v1898 v1899
  v1900.toNat
def k0_dev38 (d0 : Dev nD) : Nat :=
  let c0_i32_1369 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1368 : BitVec 32 := 16#32
  let v1907 : BitVec 32 := Scalar.muli v63 c16_i32_1368
  let v1908 : BitVec 32 := Scalar.addi c0_i32_1369 v1907
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1370 : BitVec 32 := 4#32
  let v1909 : BitVec 32 := Scalar.muli v66 c4_i32_1370
  let v1910 : BitVec 32 := Scalar.addi v1908 v1909
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1371 : BitVec 32 := 1#32
  let v1911 : BitVec 32 := Scalar.muli v8 c1_i32_1371
  let v1912 : BitVec 32 := Scalar.addi v1910 v1911
  v1912.toNat
def k0_dev39 (d0 : Dev nD) : Nat :=
  let c0_i32_1379 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1378 : BitVec 32 := 16#32
  let v1919 : BitVec 32 := Scalar.muli v2 c16_i32_1378
  let v1920 : BitVec 32 := Scalar.addi c0_i32_1379 v1919
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1380 : BitVec 32 := 4#32
  let v1921 : BitVec 32 := Scalar.muli v5 c4_i32_1380
  let v1922 : BitVec 32 := Scalar.addi v1920 v1921
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1381 : BitVec 32 := 1#32
  let v1923 : BitVec 32 := Scalar.muli v19 c1_i32_1381
  let v1924 : BitVec 32 := Scalar.addi v1922 v1923
  v1924.toNat
def k0_dev40 (d0 : Dev nD) : Nat :=
  let c0_i32_1391 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1390 : BitVec 32 := 16#32
  let v1933 : BitVec 32 := Scalar.muli v2 c16_i32_1390
  let v1934 : BitVec 32 := Scalar.addi c0_i32_1391 v1933
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1392 : BitVec 32 := 4#32
  let v1935 : BitVec 32 := Scalar.muli v5 c4_i32_1392
  let v1936 : BitVec 32 := Scalar.addi v1934 v1935
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1393 : BitVec 32 := 1#32
  let v1937 : BitVec 32 := Scalar.muli v30 c1_i32_1393
  let v1938 : BitVec 32 := Scalar.addi v1936 v1937
  v1938.toNat
def k0_dev41 (d0 : Dev nD) : Nat :=
  let c0_i32_1502 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1501 : BitVec 32 := 16#32
  let v2074 : BitVec 32 := Scalar.muli v46 c16_i32_1501
  let v2075 : BitVec 32 := Scalar.addi c0_i32_1502 v2074
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1503 : BitVec 32 := 4#32
  let v2076 : BitVec 32 := Scalar.muli v49 c4_i32_1503
  let v2077 : BitVec 32 := Scalar.addi v2075 v2076
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1504 : BitVec 32 := 1#32
  let v2078 : BitVec 32 := Scalar.muli v8 c1_i32_1504
  let v2079 : BitVec 32 := Scalar.addi v2077 v2078
  v2079.toNat
def k0_dev42 (d0 : Dev nD) : Nat :=
  let c0_i32_1510 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1509 : BitVec 32 := 16#32
  let v2086 : BitVec 32 := Scalar.muli v63 c16_i32_1509
  let v2087 : BitVec 32 := Scalar.addi c0_i32_1510 v2086
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1511 : BitVec 32 := 4#32
  let v2088 : BitVec 32 := Scalar.muli v66 c4_i32_1511
  let v2089 : BitVec 32 := Scalar.addi v2087 v2088
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1512 : BitVec 32 := 1#32
  let v2090 : BitVec 32 := Scalar.muli v8 c1_i32_1512
  let v2091 : BitVec 32 := Scalar.addi v2089 v2090
  v2091.toNat
def k0_dev43 (d0 : Dev nD) : Nat :=
  let c0_i32_1518 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1517 : BitVec 32 := 16#32
  let v2098 : BitVec 32 := Scalar.muli v46 c16_i32_1517
  let v2099 : BitVec 32 := Scalar.addi c0_i32_1518 v2098
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1519 : BitVec 32 := 4#32
  let v2100 : BitVec 32 := Scalar.muli v49 c4_i32_1519
  let v2101 : BitVec 32 := Scalar.addi v2099 v2100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1520 : BitVec 32 := 1#32
  let v2102 : BitVec 32 := Scalar.muli v8 c1_i32_1520
  let v2103 : BitVec 32 := Scalar.addi v2101 v2102
  v2103.toNat
def k0_dev44 (d0 : Dev nD) : Nat :=
  let c0_i32_1526 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1525 : BitVec 32 := 16#32
  let v2110 : BitVec 32 := Scalar.muli v63 c16_i32_1525
  let v2111 : BitVec 32 := Scalar.addi c0_i32_1526 v2110
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1527 : BitVec 32 := 4#32
  let v2112 : BitVec 32 := Scalar.muli v66 c4_i32_1527
  let v2113 : BitVec 32 := Scalar.addi v2111 v2112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1528 : BitVec 32 := 1#32
  let v2114 : BitVec 32 := Scalar.muli v8 c1_i32_1528
  let v2115 : BitVec 32 := Scalar.addi v2113 v2114
  v2115.toNat
def k0_dev45 (d0 : Dev nD) : Nat :=
  let c0_i32_1655 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1654 : BitVec 32 := 16#32
  let v2285 : BitVec 32 := Scalar.muli v46 c16_i32_1654
  let v2286 : BitVec 32 := Scalar.addi c0_i32_1655 v2285
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1656 : BitVec 32 := 4#32
  let v2287 : BitVec 32 := Scalar.muli v49 c4_i32_1656
  let v2288 : BitVec 32 := Scalar.addi v2286 v2287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1657 : BitVec 32 := 1#32
  let v2289 : BitVec 32 := Scalar.muli v8 c1_i32_1657
  let v2290 : BitVec 32 := Scalar.addi v2288 v2289
  v2290.toNat
def k0_dev46 (d0 : Dev nD) : Nat :=
  let c0_i32_1663 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1662 : BitVec 32 := 16#32
  let v2297 : BitVec 32 := Scalar.muli v63 c16_i32_1662
  let v2298 : BitVec 32 := Scalar.addi c0_i32_1663 v2297
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1664 : BitVec 32 := 4#32
  let v2299 : BitVec 32 := Scalar.muli v66 c4_i32_1664
  let v2300 : BitVec 32 := Scalar.addi v2298 v2299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1665 : BitVec 32 := 1#32
  let v2301 : BitVec 32 := Scalar.muli v8 c1_i32_1665
  let v2302 : BitVec 32 := Scalar.addi v2300 v2301
  v2302.toNat
def k0_dev47 (d0 : Dev nD) : Nat :=
  let c0_i32_1794 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1793 : BitVec 32 := 16#32
  let v2477 : BitVec 32 := Scalar.muli v46 c16_i32_1793
  let v2478 : BitVec 32 := Scalar.addi c0_i32_1794 v2477
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1795 : BitVec 32 := 4#32
  let v2479 : BitVec 32 := Scalar.muli v49 c4_i32_1795
  let v2480 : BitVec 32 := Scalar.addi v2478 v2479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1796 : BitVec 32 := 1#32
  let v2481 : BitVec 32 := Scalar.muli v8 c1_i32_1796
  let v2482 : BitVec 32 := Scalar.addi v2480 v2481
  v2482.toNat
def k0_dev48 (d0 : Dev nD) : Nat :=
  let c0_i32_1802 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1801 : BitVec 32 := 16#32
  let v2489 : BitVec 32 := Scalar.muli v63 c16_i32_1801
  let v2490 : BitVec 32 := Scalar.addi c0_i32_1802 v2489
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1803 : BitVec 32 := 4#32
  let v2491 : BitVec 32 := Scalar.muli v66 c4_i32_1803
  let v2492 : BitVec 32 := Scalar.addi v2490 v2491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1804 : BitVec 32 := 1#32
  let v2493 : BitVec 32 := Scalar.muli v8 c1_i32_1804
  let v2494 : BitVec 32 := Scalar.addi v2492 v2493
  v2494.toNat
def k0_dev49 (d0 : Dev nD) : Nat :=
  let c0_i32_1810 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1809 : BitVec 32 := 16#32
  let v2501 : BitVec 32 := Scalar.muli v46 c16_i32_1809
  let v2502 : BitVec 32 := Scalar.addi c0_i32_1810 v2501
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1811 : BitVec 32 := 4#32
  let v2503 : BitVec 32 := Scalar.muli v49 c4_i32_1811
  let v2504 : BitVec 32 := Scalar.addi v2502 v2503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1812 : BitVec 32 := 1#32
  let v2505 : BitVec 32 := Scalar.muli v8 c1_i32_1812
  let v2506 : BitVec 32 := Scalar.addi v2504 v2505
  v2506.toNat
def k0_dev50 (d0 : Dev nD) : Nat :=
  let c0_i32_1818 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1817 : BitVec 32 := 16#32
  let v2513 : BitVec 32 := Scalar.muli v63 c16_i32_1817
  let v2514 : BitVec 32 := Scalar.addi c0_i32_1818 v2513
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1819 : BitVec 32 := 4#32
  let v2515 : BitVec 32 := Scalar.muli v66 c4_i32_1819
  let v2516 : BitVec 32 := Scalar.addi v2514 v2515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1820 : BitVec 32 := 1#32
  let v2517 : BitVec 32 := Scalar.muli v8 c1_i32_1820
  let v2518 : BitVec 32 := Scalar.addi v2516 v2517
  v2518.toNat
def k0_dev51 (d0 : Dev nD) : Nat :=
  let c0_i32_1949 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1948 : BitVec 32 := 16#32
  let v2693 : BitVec 32 := Scalar.muli v46 c16_i32_1948
  let v2694 : BitVec 32 := Scalar.addi c0_i32_1949 v2693
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1950 : BitVec 32 := 4#32
  let v2695 : BitVec 32 := Scalar.muli v49 c4_i32_1950
  let v2696 : BitVec 32 := Scalar.addi v2694 v2695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1951 : BitVec 32 := 1#32
  let v2697 : BitVec 32 := Scalar.muli v8 c1_i32_1951
  let v2698 : BitVec 32 := Scalar.addi v2696 v2697
  v2698.toNat
def k0_dev52 (d0 : Dev nD) : Nat :=
  let c0_i32_1957 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1956 : BitVec 32 := 16#32
  let v2705 : BitVec 32 := Scalar.muli v63 c16_i32_1956
  let v2706 : BitVec 32 := Scalar.addi c0_i32_1957 v2705
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1958 : BitVec 32 := 4#32
  let v2707 : BitVec 32 := Scalar.muli v66 c4_i32_1958
  let v2708 : BitVec 32 := Scalar.addi v2706 v2707
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1959 : BitVec 32 := 1#32
  let v2709 : BitVec 32 := Scalar.muli v8 c1_i32_1959
  let v2710 : BitVec 32 := Scalar.addi v2708 v2709
  v2710.toNat
def k0_dev53 (d0 : Dev nD) : Nat :=
  let c0_i32_1965 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_1964 : BitVec 32 := 16#32
  let v2717 : BitVec 32 := Scalar.muli v46 c16_i32_1964
  let v2718 : BitVec 32 := Scalar.addi c0_i32_1965 v2717
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_1966 : BitVec 32 := 4#32
  let v2719 : BitVec 32 := Scalar.muli v49 c4_i32_1966
  let v2720 : BitVec 32 := Scalar.addi v2718 v2719
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1967 : BitVec 32 := 1#32
  let v2721 : BitVec 32 := Scalar.muli v8 c1_i32_1967
  let v2722 : BitVec 32 := Scalar.addi v2720 v2721
  v2722.toNat
def k0_dev54 (d0 : Dev nD) : Nat :=
  let c0_i32_1973 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_1972 : BitVec 32 := 16#32
  let v2729 : BitVec 32 := Scalar.muli v63 c16_i32_1972
  let v2730 : BitVec 32 := Scalar.addi c0_i32_1973 v2729
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_1974 : BitVec 32 := 4#32
  let v2731 : BitVec 32 := Scalar.muli v66 c4_i32_1974
  let v2732 : BitVec 32 := Scalar.addi v2730 v2731
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1975 : BitVec 32 := 1#32
  let v2733 : BitVec 32 := Scalar.muli v8 c1_i32_1975
  let v2734 : BitVec 32 := Scalar.addi v2732 v2733
  v2734.toNat
def k0_dev55 (d0 : Dev nD) : Nat :=
  let c0_i32_2102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_2101 : BitVec 32 := 16#32
  let v2904 : BitVec 32 := Scalar.muli v46 c16_i32_2101
  let v2905 : BitVec 32 := Scalar.addi c0_i32_2102 v2904
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_2103 : BitVec 32 := 4#32
  let v2906 : BitVec 32 := Scalar.muli v49 c4_i32_2103
  let v2907 : BitVec 32 := Scalar.addi v2905 v2906
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2104 : BitVec 32 := 1#32
  let v2908 : BitVec 32 := Scalar.muli v8 c1_i32_2104
  let v2909 : BitVec 32 := Scalar.addi v2907 v2908
  v2909.toNat
def k0_dev56 (d0 : Dev nD) : Nat :=
  let c0_i32_2110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_2109 : BitVec 32 := 16#32
  let v2916 : BitVec 32 := Scalar.muli v63 c16_i32_2109
  let v2917 : BitVec 32 := Scalar.addi c0_i32_2110 v2916
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_2111 : BitVec 32 := 4#32
  let v2918 : BitVec 32 := Scalar.muli v66 c4_i32_2111
  let v2919 : BitVec 32 := Scalar.addi v2917 v2918
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2112 : BitVec 32 := 1#32
  let v2920 : BitVec 32 := Scalar.muli v8 c1_i32_2112
  let v2921 : BitVec 32 := Scalar.addi v2919 v2920
  v2921.toNat
def k0_dev57 (d0 : Dev nD) : Nat :=
  let c0_i32_2241 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_2240 : BitVec 32 := 16#32
  let v3096 : BitVec 32 := Scalar.muli v46 c16_i32_2240
  let v3097 : BitVec 32 := Scalar.addi c0_i32_2241 v3096
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_2242 : BitVec 32 := 4#32
  let v3098 : BitVec 32 := Scalar.muli v49 c4_i32_2242
  let v3099 : BitVec 32 := Scalar.addi v3097 v3098
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2243 : BitVec 32 := 1#32
  let v3100 : BitVec 32 := Scalar.muli v8 c1_i32_2243
  let v3101 : BitVec 32 := Scalar.addi v3099 v3100
  v3101.toNat
def k0_dev58 (d0 : Dev nD) : Nat :=
  let c0_i32_2249 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_2248 : BitVec 32 := 16#32
  let v3108 : BitVec 32 := Scalar.muli v63 c16_i32_2248
  let v3109 : BitVec 32 := Scalar.addi c0_i32_2249 v3108
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_2250 : BitVec 32 := 4#32
  let v3110 : BitVec 32 := Scalar.muli v66 c4_i32_2250
  let v3111 : BitVec 32 := Scalar.addi v3109 v3110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2251 : BitVec 32 := 1#32
  let v3112 : BitVec 32 := Scalar.muli v8 c1_i32_2251
  let v3113 : BitVec 32 := Scalar.addi v3111 v3112
  v3113.toNat
def k0_dev59 (d0 : Dev nD) : Nat :=
  let c0_i32_2257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_2256 : BitVec 32 := 16#32
  let v3120 : BitVec 32 := Scalar.muli v46 c16_i32_2256
  let v3121 : BitVec 32 := Scalar.addi c0_i32_2257 v3120
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_2258 : BitVec 32 := 4#32
  let v3122 : BitVec 32 := Scalar.muli v49 c4_i32_2258
  let v3123 : BitVec 32 := Scalar.addi v3121 v3122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2259 : BitVec 32 := 1#32
  let v3124 : BitVec 32 := Scalar.muli v8 c1_i32_2259
  let v3125 : BitVec 32 := Scalar.addi v3123 v3124
  v3125.toNat
def k0_dev60 (d0 : Dev nD) : Nat :=
  let c0_i32_2265 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_2264 : BitVec 32 := 16#32
  let v3132 : BitVec 32 := Scalar.muli v63 c16_i32_2264
  let v3133 : BitVec 32 := Scalar.addi c0_i32_2265 v3132
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_2266 : BitVec 32 := 4#32
  let v3134 : BitVec 32 := Scalar.muli v66 c4_i32_2266
  let v3135 : BitVec 32 := Scalar.addi v3133 v3134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2267 : BitVec 32 := 1#32
  let v3136 : BitVec 32 := Scalar.muli v8 c1_i32_2267
  let v3137 : BitVec 32 := Scalar.addi v3135 v3136
  v3137.toNat
def k0_dev61 (d0 : Dev nD) : Nat :=
  let c0_i32_2396 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_2395 : BitVec 32 := 16#32
  let v3312 : BitVec 32 := Scalar.muli v46 c16_i32_2395
  let v3313 : BitVec 32 := Scalar.addi c0_i32_2396 v3312
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_2397 : BitVec 32 := 4#32
  let v3314 : BitVec 32 := Scalar.muli v49 c4_i32_2397
  let v3315 : BitVec 32 := Scalar.addi v3313 v3314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2398 : BitVec 32 := 1#32
  let v3316 : BitVec 32 := Scalar.muli v8 c1_i32_2398
  let v3317 : BitVec 32 := Scalar.addi v3315 v3316
  v3317.toNat
def k0_dev62 (d0 : Dev nD) : Nat :=
  let c0_i32_2404 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_2403 : BitVec 32 := 16#32
  let v3324 : BitVec 32 := Scalar.muli v63 c16_i32_2403
  let v3325 : BitVec 32 := Scalar.addi c0_i32_2404 v3324
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_2405 : BitVec 32 := 4#32
  let v3326 : BitVec 32 := Scalar.muli v66 c4_i32_2405
  let v3327 : BitVec 32 := Scalar.addi v3325 v3326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2406 : BitVec 32 := 1#32
  let v3328 : BitVec 32 := Scalar.muli v8 c1_i32_2406
  let v3329 : BitVec 32 := Scalar.addi v3327 v3328
  v3329.toNat
def k0_dev63 (d0 : Dev nD) : Nat :=
  let c0_i32_2412 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_2411 : BitVec 32 := 16#32
  let v3336 : BitVec 32 := Scalar.muli v46 c16_i32_2411
  let v3337 : BitVec 32 := Scalar.addi c0_i32_2412 v3336
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_2413 : BitVec 32 := 4#32
  let v3338 : BitVec 32 := Scalar.muli v49 c4_i32_2413
  let v3339 : BitVec 32 := Scalar.addi v3337 v3338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2414 : BitVec 32 := 1#32
  let v3340 : BitVec 32 := Scalar.muli v8 c1_i32_2414
  let v3341 : BitVec 32 := Scalar.addi v3339 v3340
  v3341.toNat
def k0_dev64 (d0 : Dev nD) : Nat :=
  let c0_i32_2420 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_2419 : BitVec 32 := 16#32
  let v3348 : BitVec 32 := Scalar.muli v63 c16_i32_2419
  let v3349 : BitVec 32 := Scalar.addi c0_i32_2420 v3348
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_2421 : BitVec 32 := 4#32
  let v3350 : BitVec 32 := Scalar.muli v66 c4_i32_2421
  let v3351 : BitVec 32 := Scalar.addi v3349 v3350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2422 : BitVec 32 := 1#32
  let v3352 : BitVec 32 := Scalar.muli v8 c1_i32_2422
  let v3353 : BitVec 32 := Scalar.addi v3351 v3352
  v3353.toNat
def k0_dev65 (d0 : Dev nD) : Nat :=
  let c0_i32_2548 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_2547 : BitVec 32 := 16#32
  let v3523 : BitVec 32 := Scalar.muli v46 c16_i32_2547
  let v3524 : BitVec 32 := Scalar.addi c0_i32_2548 v3523
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_2549 : BitVec 32 := 4#32
  let v3525 : BitVec 32 := Scalar.muli v49 c4_i32_2549
  let v3526 : BitVec 32 := Scalar.addi v3524 v3525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2550 : BitVec 32 := 1#32
  let v3527 : BitVec 32 := Scalar.muli v8 c1_i32_2550
  let v3528 : BitVec 32 := Scalar.addi v3526 v3527
  v3528.toNat
def k0_dev66 (d0 : Dev nD) : Nat :=
  let c0_i32_2556 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_2555 : BitVec 32 := 16#32
  let v3535 : BitVec 32 := Scalar.muli v63 c16_i32_2555
  let v3536 : BitVec 32 := Scalar.addi c0_i32_2556 v3535
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_2557 : BitVec 32 := 4#32
  let v3537 : BitVec 32 := Scalar.muli v66 c4_i32_2557
  let v3538 : BitVec 32 := Scalar.addi v3536 v3537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2558 : BitVec 32 := 1#32
  let v3539 : BitVec 32 := Scalar.muli v8 c1_i32_2558
  let v3540 : BitVec 32 := Scalar.addi v3538 v3539
  v3540.toNat
def k0_dev67 (d0 : Dev nD) : Nat :=
  let c0_i32_2687 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_2686 : BitVec 32 := 16#32
  let v3715 : BitVec 32 := Scalar.muli v46 c16_i32_2686
  let v3716 : BitVec 32 := Scalar.addi c0_i32_2687 v3715
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_2688 : BitVec 32 := 4#32
  let v3717 : BitVec 32 := Scalar.muli v49 c4_i32_2688
  let v3718 : BitVec 32 := Scalar.addi v3716 v3717
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2689 : BitVec 32 := 1#32
  let v3719 : BitVec 32 := Scalar.muli v8 c1_i32_2689
  let v3720 : BitVec 32 := Scalar.addi v3718 v3719
  v3720.toNat
def k0_dev68 (d0 : Dev nD) : Nat :=
  let c0_i32_2695 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_2694 : BitVec 32 := 16#32
  let v3727 : BitVec 32 := Scalar.muli v63 c16_i32_2694
  let v3728 : BitVec 32 := Scalar.addi c0_i32_2695 v3727
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_2696 : BitVec 32 := 4#32
  let v3729 : BitVec 32 := Scalar.muli v66 c4_i32_2696
  let v3730 : BitVec 32 := Scalar.addi v3728 v3729
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2697 : BitVec 32 := 1#32
  let v3731 : BitVec 32 := Scalar.muli v8 c1_i32_2697
  let v3732 : BitVec 32 := Scalar.addi v3730 v3731
  v3732.toNat
def k0_dev69 (d0 : Dev nD) : Nat :=
  let c0_i32_2703 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_2702 : BitVec 32 := 16#32
  let v3739 : BitVec 32 := Scalar.muli v46 c16_i32_2702
  let v3740 : BitVec 32 := Scalar.addi c0_i32_2703 v3739
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_2704 : BitVec 32 := 4#32
  let v3741 : BitVec 32 := Scalar.muli v49 c4_i32_2704
  let v3742 : BitVec 32 := Scalar.addi v3740 v3741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2705 : BitVec 32 := 1#32
  let v3743 : BitVec 32 := Scalar.muli v8 c1_i32_2705
  let v3744 : BitVec 32 := Scalar.addi v3742 v3743
  v3744.toNat
def k0_dev70 (d0 : Dev nD) : Nat :=
  let c0_i32_2711 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_2710 : BitVec 32 := 16#32
  let v3751 : BitVec 32 := Scalar.muli v63 c16_i32_2710
  let v3752 : BitVec 32 := Scalar.addi c0_i32_2711 v3751
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_2712 : BitVec 32 := 4#32
  let v3753 : BitVec 32 := Scalar.muli v66 c4_i32_2712
  let v3754 : BitVec 32 := Scalar.addi v3752 v3753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2713 : BitVec 32 := 1#32
  let v3755 : BitVec 32 := Scalar.muli v8 c1_i32_2713
  let v3756 : BitVec 32 := Scalar.addi v3754 v3755
  v3756.toNat
def k0_dev71 (d0 : Dev nD) : Nat :=
  let c0_i32_2839 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c1_i32_16 : BitVec 32 := 1#32
  let v34 : BitVec 32 := Scalar.addi v33 c1_i32_16
  let c8_i32 : BitVec 32 := 8#32
  let c0_i32_17 : BitVec 32 := 0#32
  let v35 : BitVec 1 := Scalar.cmpi .eq c8_i32 c0_i32_17
  let c1_i32_18 : BitVec 32 := 1#32
  let v36 : BitVec 32 := Scalar.select v35 c1_i32_18 c8_i32
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c4_i32_22 : BitVec 32 := 4#32
  let v45 : BitVec 1 := Scalar.cmpi .slt v44 c4_i32_22
  let c0_i32_23 : BitVec 32 := 0#32
  let c1_i32_24 : BitVec 32 := 1#32
  let v46 : BitVec 32 := Scalar.select v45 c0_i32_23 c1_i32_24
  let c16_i32_2838 : BitVec 32 := 16#32
  let v3926 : BitVec 32 := Scalar.muli v46 c16_i32_2838
  let v3927 : BitVec 32 := Scalar.addi c0_i32_2839 v3926
  let c4_i32_25 : BitVec 32 := 4#32
  let v47 : BitVec 1 := Scalar.cmpi .slt v44 c4_i32_25
  let c7_i32_26 : BitVec 32 := 7#32
  let v48 : BitVec 32 := Scalar.subi c7_i32_26 v44
  let v49 : BitVec 32 := Scalar.select v47 v44 v48
  let c4_i32_2840 : BitVec 32 := 4#32
  let v3928 : BitVec 32 := Scalar.muli v49 c4_i32_2840
  let v3929 : BitVec 32 := Scalar.addi v3927 v3928
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2841 : BitVec 32 := 1#32
  let v3930 : BitVec 32 := Scalar.muli v8 c1_i32_2841
  let v3931 : BitVec 32 := Scalar.addi v3929 v3930
  v3931.toNat
def k0_dev72 (d0 : Dev nD) : Nat :=
  let c0_i32_2847 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let v31 : BitVec 1 := Scalar.cmpi .eq v2 c0_i32_15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v32 : BitVec 32 := Scalar.subi c7_i32 v5
  let v33 : BitVec 32 := Scalar.select v31 v5 v32
  let c8_i32_27 : BitVec 32 := 8#32
  let v50 : BitVec 32 := Scalar.addi v33 c8_i32_27
  let c1_i32_28 : BitVec 32 := 1#32
  let v51 : BitVec 32 := Scalar.subi v50 c1_i32_28
  let c8_i32_29 : BitVec 32 := 8#32
  let c0_i32_30 : BitVec 32 := 0#32
  let v52 : BitVec 1 := Scalar.cmpi .eq c8_i32_29 c0_i32_30
  let c1_i32_31 : BitVec 32 := 1#32
  let v53 : BitVec 32 := Scalar.select v52 c1_i32_31 c8_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c4_i32_35 : BitVec 32 := 4#32
  let v62 : BitVec 1 := Scalar.cmpi .slt v61 c4_i32_35
  let c0_i32_36 : BitVec 32 := 0#32
  let c1_i32_37 : BitVec 32 := 1#32
  let v63 : BitVec 32 := Scalar.select v62 c0_i32_36 c1_i32_37
  let c16_i32_2846 : BitVec 32 := 16#32
  let v3938 : BitVec 32 := Scalar.muli v63 c16_i32_2846
  let v3939 : BitVec 32 := Scalar.addi c0_i32_2847 v3938
  let c4_i32_38 : BitVec 32 := 4#32
  let v64 : BitVec 1 := Scalar.cmpi .slt v61 c4_i32_38
  let c7_i32_39 : BitVec 32 := 7#32
  let v65 : BitVec 32 := Scalar.subi c7_i32_39 v61
  let v66 : BitVec 32 := Scalar.select v64 v61 v65
  let c4_i32_2848 : BitVec 32 := 4#32
  let v3940 : BitVec 32 := Scalar.muli v66 c4_i32_2848
  let v3941 : BitVec 32 := Scalar.addi v3939 v3940
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2849 : BitVec 32 := 1#32
  let v3942 : BitVec 32 := Scalar.muli v8 c1_i32_2849
  let v3943 : BitVec 32 := Scalar.addi v3941 v3942
  v3943.toNat
abbrev stage0_0 : Fin 1 → Memref sig .tc .smem S256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048 : Shape := ⟨1, ![2048]⟩
abbrev S65536x1024 : Shape := ⟨2, ![65536, 1024]⟩
abbrev S_ : Shape := ⟨0, ![]⟩
abbrev S2048x1 : Shape := ⟨2, ![2048, 1]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048, .i32⟩
  | .hbm, ⟨1, _⟩ => ⟨S65536x1024, .f32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Table.lean ====
/-
  The kernel's communication as TABLES. 32 devices; device `c` stands at `z = c % 4` of a ring of four (the "z ring")
  and at a place of a ring of eight that a snake through the other two mesh axes makes (the "xy ring").

  * `Tr`: the transfers a device starts. `zT b h` is hop `h` of half `b` (`false` the first half of the device's rows,
    `true` the second) around the z ring, to the right neighbour for the first half and to the left one for the second.
    `lT r b L t` is hop `t` of lane `L` of half `b` around the xy ring, to the right (`r = true`) or to the left.
  * `Ck`: the pieces of 32 rows of a device's buffers: of the gathered rows, of the running sums, of the landing slots of
    the z ring, and of the result, the last named by how far round the xy ring its owner stands.
  * `dstD`, `srcK`, `dstK`: to which device a transfer goes, from which piece it reads, and which piece it writes there.
  * `sendS`, `recvS`: its two semaphores, and `kindOf` back from a semaphore to what it counts.
  * `starts` and `waits`: the transfers in the order of their starts and of the waits for them; `ord` and `wrd` are the
    places there.
-/
module

public import proofs.«01_k».proof.Proof.Gen.KernelIdeal

@[expose] public section

namespace Cert.Proof

open Cert.KernelIdeal Cert.KernelIdeal.Gen
open Idealize.ShloMosaic Idealize.SL.Sem

/-! ## Devices -/

/-- The right neighbour on the z ring, -/
def zR (c : Dev nD) : Dev nD := ⟨c.val / 4 * 4 + (c.val + 1) % 4, by have := c.isLt; simp only [nD] at *; omega⟩
/-- and the left one. -/
def zL (c : Dev nD) : Dev nD := ⟨c.val / 4 * 4 + (c.val + 3) % 4, by have := c.isLt; simp only [nD] at *; omega⟩
/-- The place on the xy ring, counted along the snake. -/
def ring (c : Dev nD) : ℕ := if c.val < 16 then c.val / 4 else 7 - (c.val - 16) / 4
/-- The device at a place of the xy ring with `c`'s z. -/
def atRing (c : Dev nD) (r : ℕ) : Dev nD :=
  ⟨(if r % 8 < 4 then 4 * (r % 8) else 16 + 4 * (7 - r % 8)) + c.val % 4, by
    simp only [nD]; split <;> omega⟩
/-- `d` places further round the xy ring. -/
def turn (c : Dev nD) (d : ℕ) : Dev nD := atRing c (ring c + d)
abbrev xyR (c : Dev nD) : Dev nD := turn c 1
abbrev xyL (c : Dev nD) : Dev nD := turn c 7

theorem zL_zR : ∀ c, zL (zR c) = c := by decide
theorem zR_zL : ∀ c, zR (zL c) = c := by decide
theorem xyL_xyR : ∀ c, xyL (xyR c) = c := by decide +kernel
theorem xyR_xyL : ∀ c, xyR (xyL c) = c := by decide +kernel

/-! ## Transfers and pieces -/

/-- The transfers one device starts. -/
abbrev Tr : Type := (Bool × Fin 6) ⊕ (Bool × Bool × Fin 4 × Fin 4)
abbrev zT (b : Bool) (h : Fin 6) : Tr := .inl (b, h)
abbrev lT (r b : Bool) (L t : Fin 4) : Tr := .inr (r, b, L, t)

/-- The transfers of both halves in one hop of the z ring, -/
def hopZ (h : Fin 6) : List Tr := [zT false h, zT true h]
/-- and of a lane in one hop of the xy ring: the last hop of a lane goes one way round only, the first half's to the right,
    the second half's to the left. -/
def hopL (L t : Fin 4) : List Tr :=
  [lT true false L t, lT false true L t] ++ if t = 3 then [] else [lT true true L t, lT false false L t]
/-- The transfers in the order of their starts, -/
def starts : List Tr :=
  hopZ 0 ++ hopZ 1 ++ hopZ 2 ++ hopL 0 0
  ++ hopZ 3 ++ hopL 1 0 ++ hopL 0 1
  ++ hopZ 4 ++ hopL 2 0 ++ hopL 0 2 ++ hopL 1 1
  ++ hopZ 5 ++ hopL 3 0 ++ hopL 0 3 ++ hopL 1 2 ++ hopL 2 1
  ++ hopL 1 3 ++ hopL 2 2 ++ hopL 3 1
  ++ hopL 2 3 ++ hopL 3 2
  ++ hopL 3 3
/-- and in the order in which they are waited for, first for the reading and then for the like transfer's landing. -/
def waits : List Tr :=
  hopZ 0 ++ hopZ 1 ++ hopZ 2
  ++ hopZ 3 ++ hopL 0 0
  ++ hopZ 4 ++ hopL 0 1 ++ hopL 1 0
  ++ hopZ 5 ++ hopL 0 2 ++ hopL 1 1 ++ hopL 2 0
  ++ hopL 1 2 ++ hopL 2 1 ++ hopL 3 0
  ++ hopL 2 2 ++ hopL 3 1
  ++ hopL 3 2
  ++ hopL 0 3 ++ hopL 1 3 ++ hopL 2 3 ++ hopL 3 3
/-- The transfers the kernel makes. -/
def trs : Finset Tr := starts.toFinset
/-- A transfer's place in an order. -/
def place (l : List Tr) (j : Tr) : ℕ := l.findIdx fun i => decide (i = j)
theorem place_lt {l : List Tr} {j : Tr} (h : j ∈ l.toFinset) : place l j < l.length :=
  List.findIdx_lt_length_of_exists ⟨j, List.mem_toFinset.mp h, decide_eq_true rfl⟩
theorem get_place {l : List Tr} {j : Tr} (h : j ∈ l.toFinset) : l[place l j]? = some j := by
  have h' := List.findIdx_getElem (w := place_lt h)
  rw [List.getElem?_eq_getElem (place_lt h)]
  exact congrArg some (of_decide_eq_true h')
theorem place_inj {l : List Tr} {i j : Tr} (hi : i ∈ l.toFinset) (hj : j ∈ l.toFinset) (h : place l i = place l j) : i = j := by
  have h1 := get_place hi; rw [h, get_place hj] at h1; exact (Option.some.inj h1).symm
def ord (j : Tr) : ℕ := place starts j
def wrd (j : Tr) : ℕ := place waits j
theorem waits_eq : waits.toFinset = trs := by decide +kernel
theorem ord_inj {i j : Tr} (hi : i ∈ trs) (hj : j ∈ trs) (h : ord i = ord j) : i = j := place_inj hi hj h
theorem wrd_inj {i j : Tr} (hi : i ∈ trs) (hj : j ∈ trs) (h : wrd i = wrd j) : i = j :=
  place_inj (waits_eq ▸ hi) (waits_eq ▸ hj) h
theorem ord_lt {j : Tr} (h : j ∈ trs) : ord j < 68 := place_lt h
theorem wrd_lt {j : Tr} (h : j ∈ trs) : wrd j < 68 := place_lt (l := waits) (waits_eq ▸ h)

/-- Pieces of 32 rows: gathered rows, running sums, landing slots, result rows. -/
abbrev Ck : Type := ((Bool × Fin 4) ⊕ (Bool × Fin 4)) ⊕ ((Bool × Fin 6) ⊕ (Bool × Fin 4 × Fin 8))
abbrev kG (b : Bool) (n : Fin 4) : Ck := .inl (.inl (b, n))
abbrev kS (b : Bool) (n : Fin 4) : Ck := .inl (.inr (b, n))
abbrev kC (b : Bool) (h : Fin 6) : Ck := .inr (.inl (b, h))
abbrev kO (b : Bool) (L : Fin 4) (d : Fin 8) : Ck := .inr (.inr (b, L, d))

/-- The z neighbour a half is sent to, -/
def nxt (b : Bool) (c : Dev nD) : Dev nD := if b then zL c else zR c
/-- and the one it comes from. -/
def prv (b : Bool) (c : Dev nD) : Dev nD := if b then zR c else zL c

/-- To which device a transfer goes, -/
def dstD (c : Dev nD) : Tr → Dev nD
  | .inl (b, _) => nxt b c
  | .inr (r, _, _, _) => if r then xyR c else xyL c
/-- and from which device the like transfer comes. -/
def srcD (c : Dev nD) : Tr → Dev nD
  | .inl (b, _) => prv b c
  | .inr (r, _, _, _) => if r then xyL c else xyR c

/-- The piece a transfer reads, -/
def srcK : Tr → Ck
  | .inl (b, h) => match h with
    | 0 => kS b 0 | 1 => kS b 1 | 2 => kS b 2 | 3 => kS b 3 | 4 => kC b 3 | 5 => kC b 4
  | .inr (r, b, L, t) => kO b L (if r then -(t.castLE (by decide)) else t.castLE (by decide))
/-- and the piece it writes. -/
def dstK : Tr → Ck
  | .inl (b, h) => kC b h
  | .inr (r, b, L, t) => kO b L (if r then -(t.castLE (by decide)) - 1 else t.castLE (by decide) + 1)

theorem dst_src : ∀ c j, dstD (srcD c j) j = c := by decide +kernel
theorem src_dst : ∀ c j, srcD (dstD c j) j = c := by decide +kernel

/-- The four ways a transfer can go. -/
def cls : Tr → ℕ
  | .inl (b, _) => if b then 1 else 0
  | .inr (r, _, _, _) => if r then 2 else 3
/-- The neighbour each way. -/
def nbr (c : Dev nD) (i : ℕ) : Dev nD := match i with | 0 => zR c | 1 => zL c | 2 => xyR c | _ => xyL c
/-- The neighbour the other way: whom a device signals that its own pieces may be written. -/
def rbn (c : Dev nD) (i : ℕ) : Dev nD := match i with | 0 => zL c | 1 => zR c | 2 => xyL c | _ => xyR c

theorem dstD_eq : ∀ c j, dstD c j = nbr c (cls j) := by decide +kernel
theorem cls_lt : ∀ j, cls j < 4 := by decide
theorem nbr_rbn : ∀ c, ∀ i < 4, nbr (rbn c i) i = c := by decide +kernel
theorem rbn_nbr : ∀ c, ∀ i < 4, rbn (nbr c i) i = c := by decide +kernel
theorem rbn_inj : ∀ c, ∀ i < 4, ∀ i' < 4, rbn c i = rbn c i' → i = i' := by decide +kernel

/-! ## Semaphores -/

/-- The semaphore a transfer's reading counts on, at its sender, -/
def sendN : Tr → ℕ
  | .inl (b, h) => (if b then 17 else 5) + h
  | .inr (r, b, L, t) => (if r then (if b then 61 else 29) else (if b then 125 else 93)) + 4 * L + t
/-- and the one its landing counts on, at its receiver. -/
def recvN : Tr → ℕ
  | .inl (b, h) => (if b then 23 else 11) + h
  | .inr (r, b, L, t) => (if r then (if b then 77 else 45) else (if b then 141 else 109)) + 4 * L + t

theorem sendN_lt : ∀ j, sendN j < 157 := by decide
theorem recvN_lt : ∀ j, recvN j < 157 := by decide
/-- The semaphores themselves. -/
def sendS (j : Tr) : DmaSem sig := ⟨sendN j, sendN_lt j⟩
def recvS (j : Tr) : DmaSem sig := ⟨recvN j, recvN_lt j⟩
/-- The two semaphores of the row gathers: the first chunk's and the other chunks'. -/
abbrev gSem (g : Bool) : DmaSem sig := if g then 4 else 3

/-- What a semaphore counts. -/
inductive Kd where
  | bar | gat (g : Bool) | snd (j : Tr) | rcv (j : Tr) | no
  deriving DecidableEq

/-- What a DMA semaphore counts, by its number. -/
def kindN (n : ℕ) : Kd :=
  if n < 3 then .no else if n = 3 then .gat false else if n = 4 then .gat true
  else if n < 29 then
    let h : Fin 6 := ⟨(n - 5) % 6, Nat.mod_lt _ (by decide)⟩
    if n < 11 then .snd (zT false h) else if n < 17 then .rcv (zT false h)
    else if n < 23 then .snd (zT true h) else .rcv (zT true h)
  else
    let L : Fin 4 := ⟨(n - 29) % 16 / 4, by omega⟩
    let t : Fin 4 := ⟨(n - 29) % 4, Nat.mod_lt _ (by decide)⟩
    match (n - 29) / 16 with
    | 0 => .snd (lT true false L t) | 1 => .rcv (lT true false L t)
    | 2 => .snd (lT true true L t) | 3 => .rcv (lT true true L t)
    | 4 => .snd (lT false false L t) | 5 => .rcv (lT false false L t)
    | 6 => .snd (lT false true L t) | 7 => .rcv (lT false true L t)
    | _ => .no
/-- What a semaphore counts. -/
def kindOf : SemLoc sig → Kd
  | .reg _ => .bar
  | .dma s => kindN s.val

theorem kindOf_bar : kindOf (.reg barrier0) = .bar := rfl
theorem kindOf_gat : ∀ g, kindOf (.dma (gSem g)) = .gat g := by decide
theorem kindOf_send : ∀ j, kindOf (.dma (sendS j)) = .snd j := by decide +kernel
theorem kindOf_recv : ∀ j, kindOf (.dma (recvS j)) = .rcv j := by decide +kernel

/-! ## The state of one device's transfers and pieces -/

/-- What a device holds of a piece: nothing, the piece with contents that don't matter, with its first value, with its
    last value, or only the left or the right half of the last. -/
inductive Stt where
  | none | junk | part | val | valL | valR
  deriving DecidableEq

/-- What a transfer takes of its piece: all of it, or half when the piece goes both ways round. -/
inductive Tk where
  | all | left | right
  deriving DecidableEq

def takes : Tr → Tk
  | .inl _ => .all
  | .inr (r, _, _, t) => if t.val = 0 then (if r then .left else .right) else .all

/-- The piece once the transfer has taken its part, if it is there to take, -/
def take : Tk → Stt → Option Stt
  | .all, .val => some .none
  | .left, .val => some .valR
  | .left, .valL => some .none
  | .right, .val => some .valL
  | .right, .valR => some .none
  | _, _ => none
/-- and once it has given it back. -/
def give : Tk → Stt → Option Stt
  | .all, .none => some .val
  | .left, .none => some .valL
  | .left, .valR => some .val
  | .right, .none => some .valR
  | .right, .valL => some .val
  | _, _ => none

/-- The state: how many transfers are started, how many waits are over, and the pieces. -/
structure St where
  n : ℕ
  m : ℕ
  ch : Ck → Stt

/-- A piece set. -/
def St.setc (σ : St) (k : Ck) (s : Stt) : St := { σ with ch := Function.update σ.ch k s }
/-- After a transfer's start, -/
def St.start (σ : St) (j : Tr) : St :=
  { n := σ.n + 1, m := σ.m, ch := Function.update σ.ch (srcK j) ((take (takes j) (σ.ch (srcK j))).getD .none) }
/-- after the wait for its reading, -/
def St.sent (σ : St) (j : Tr) : St :=
  { n := σ.n, m := σ.m + 1, ch := Function.update σ.ch (srcK j) ((give (takes j) (σ.ch (srcK j))).getD .none) }
/-- and after the wait for the like transfer's landing here. -/
def St.recd (σ : St) (j : Tr) : St :=
  { n := σ.n, m := σ.m + 1, ch := Function.update σ.ch (dstK j) .val }

/-- The gathered pieces of a semaphore's rows there, -/
def St.fill (σ : St) (g : Bool) : St where
  n := σ.n
  m := σ.m
  ch
    | .inl (.inl (b, n)) => if (n != 0) = g then .val else σ.ch (kG b n)
    | .inl (.inr p) => σ.ch (.inl (.inr p))
    | .inr p => σ.ch (.inr p)

/-- The state before any gather is waited for: no transfer started, the landing pieces handed to the neighbours. -/
def stB : St where
  n := 0
  m := 0
  ch
    | .inl (.inl _) => .none
    | .inl (.inr _) => .junk
    | .inr (.inl _) => .none
    | .inr (.inr (_, _, d)) => if d = 0 then .junk else .none

end Cert.Proof

end
-- ==== Proof.Common.lean ====
/-
  What the proof threads through the kernel: the contents of every piece, the pieces as memrefs, the schedule of the
  semaphores with what each landing hands over, and what a device holds in a state of `Table.lean`.
-/
module

public import proofs.«01_k».proof.Proof.Table
public import proofs.«01_k».proof.Proof.Gen.KernelIdeal.Skeleton
public import proofs.«01_k».proof.Proof.Gen.KernelIdeal.Points
public import Idealize.ShloMosaic.Lib.Pipeline.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Memref
public import Idealize.ShloMosaic.Lib.Scf
public import Idealize.ShloMosaic.Lib.Tactic
public import Idealize.ShloMosaic.Lib.Pointwise.Index
public import Idealize.ShloMosaic.Lib.ShareLeaves

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

/-- The protocol's ghost state beside the pipeline's. -/
abbrev UP : Type := URounds (GSem nD τ sig) ℕ
abbrev UQ : Type := URounds (GSem nD τ sig) Unit
abbrev UU : Type := UQ × UP

variable {F : FTy → Type} [FloatOps F]

local notation "𝕄" => MT nD τ sig Unit (Elt F) ℕ UU ℕ

abbrev EP : Emb UQ (MT nD τ sig Unit (Elt F) ℕ UU ℕ) := embL
abbrev ER : Emb UP (MT nD τ sig Unit (Elt F) ℕ UU ℕ) := embR

/-! ## Contents -/

/-- What every device reads: the row numbers, the mask, its block of the table. -/
structure Inp (F : FTy → Type) where
  ids : Dev nD → S256.Idx → Elt F .i32
  mask : Dev nD → S256x1.Idx → Elt F .f32
  emb : Dev nD → S16384x1024.Idx → Elt F .f32

/-- Every row number names a row of the block. -/
def Inp.Ok (I : Inp F) : Prop := ∀ c i, (I.ids c i).toNat < 16384

/-- The block a device works on in a step, counted from its own place. -/
def blk (c : Dev nD) (b : Bool) (n : ℕ) : ℕ := if b then (c.val + n) % 4 else (c.val + (4 - n % 4)) % 4
theorem blk_lt (c : Dev nD) (b : Bool) (n : ℕ) : blk c b n < 4 := by unfold blk; split <;> omega
/-- The first row of that block among the device's 256, -/
def rowG (c : Dev nD) (b : Bool) (n : ℕ) : ℕ := (if b then 128 else 0) + 32 * blk c b n
theorem rowG_le (c : Dev nD) (b : Bool) (n : ℕ) : rowG c b n + 32 ≤ 256 := by
  have := blk_lt c b n; unfold rowG; split <;> omega
/-- and of a lane's block among the result's 2048, `d` places further round. -/
def rowO (c : Dev nD) (b : Bool) (L d : ℕ) : ℕ := 256 * ((ring c + d) % 8) + rowG c b (3 + L)
theorem rowO_le (c : Dev nD) (b : Bool) (L d : ℕ) : rowO c b L d + 32 ≤ 2048 := by
  have := rowG_le c b (3 + L); unfold rowO; omega

/-- The row `i` of the device's 256 as the row numbers pick it: row `ids i` of the block. -/
def gath (I : Inp F) (c : Dev nD) : S256x1024.Idx → Elt F .f32 := fun x =>
  I.emb c (ix2 (n0 := 16384) (n1 := 1024) ⟨(I.ids c (ix1 (n0 := 256) (x 0))).toNat % 16384, Nat.mod_lt _ (by decide)⟩ (x 1))

/-- The rectangle of 32 rows from a row on, of 256 and of 2048 rows, and of the mask. -/
theorem inb2 {r n w : ℕ} (h : r + 32 ≤ n) : ∀ a, (![r, 0] : Fin 2 → ℕ) a + (⟨2, ![32, w]⟩ : Shape).size a ≤ (⟨2, ![n, w]⟩ : Shape).size a := by
  intro a; fin_cases a
  · exact h
  · show 0 + w ≤ w; omega
abbrev rG (c : Dev nD) (b : Bool) (n : ℕ) : Rect S256x1024 := Rect.unit (s := S256x1024) ![rowG c b n, 0] S32x1024.size (inb2 (rowG_le c b n))
abbrev rM (c : Dev nD) (b : Bool) (n : ℕ) : Rect S256x1 := Rect.unit (s := S256x1) ![rowG c b n, 0] S32x1.size (inb2 (rowG_le c b n))
abbrev rO (c : Dev nD) (b : Bool) (L d : ℕ) : Rect S2048x1024 := Rect.unit (s := S2048x1024) ![rowO c b L d, 0] S32x1024.size (inb2 (rowO_le c b L d))
theorem inb3 (h : Fin 6) : ∀ a, (![h.val, 0, 0] : Fin 3 → ℕ) a + S1x32x1024.size a ≤ S6x32x1024.size a := by
  revert h; decide
abbrev rC (h : Fin 6) : Rect S6x32x1024 := Rect.unit (s := S6x32x1024) ![h.val, 0, 0] S1x32x1024.size (inb3 h)

/-- 32 rows of values. -/
abbrev V32 (F : FTy → Type) : Type := S32x1024.Idx → Elt F .f32

/-- The gathered rows of a block, -/
def vG (I : Inp F) (c : Dev nD) (b : Bool) (n : ℕ) : V32 F := fun j => gath I c ((rG c b n).emb j)
/-- the mask's, -/
def vM (I : Inp F) (c : Dev nD) (b : Bool) (n : ℕ) : S32x1.Idx → Elt F .f32 := fun j => I.mask c ((rM c b n).emb j)
/-- the gathered rows where the mask is not 0, -/
def vP (I : Inp F) (c : Dev nD) (b : Bool) (n : ℕ) : V32 F := k0_pay1 (vM I c b n) (vG I c b n)
/-- and the running sum after `n` steps round the z ring: of the first four the device adds its own rows, the others only
    pass the sums on. -/
def vS (I : Inp F) (c : Dev nD) (b : Bool) : ℕ → V32 F
  | 0 => vP I c b 0
  | n + 1 => if n < 3 then addf (vP I c b (n + 1)) (vS I (prv b c) b n) else vS I (prv b c) b n
termination_by n => n
decreasing_by all_goals omega

theorem vS_zero (I : Inp F) (c : Dev nD) (b : Bool) : vS I c b 0 = vP I c b 0 := by rw [vS]
theorem vS_add (I : Inp F) (c : Dev nD) (b : Bool) {n : ℕ} (h : n < 3) :
    vS I c b (n + 1) = addf (vP I c b (n + 1)) (vS I (prv b c) b n) := by rw [vS, if_pos h]
theorem vS_pass (I : Inp F) (c : Dev nD) (b : Bool) {n : ℕ} (h : ¬n < 3) :
    vS I c b (n + 1) = vS I (prv b c) b n := by rw [vS, if_neg h]

/-! ## The pieces as memrefs -/

abbrev A0 : Memref sig .tc .smem S256 .i32 := win0_0.stage (0 : Fin 1)
abbrev A1 : Memref sig .tc .vmem S256x1 .f32 := win0_1.stage (0 : Fin 1)
abbrev A2 : Memref sig .tc .hbm S16384x1024 .f32 := Memref.whole main_arg1
abbrev A3 : Memref sig .tc .vmem S2048x1024 .f32 := win0_2.stage (0 : Fin 1)
abbrev A4 : Memref sig .tc .vmem S256x1024 .f32 := Memref.whole cc0_scratch0
abbrev A5 : Memref sig .tc .vmem S256x1024 .f32 := Memref.whole cc0_scratch1
abbrev A6 : Memref sig .tc .vmem S6x32x1024 .f32 := Memref.whole cc0_scratch2
abbrev A7 : Memref sig .tc .vmem S6x32x1024 .f32 := Memref.whole cc0_scratch3

/-- Which landing array a half uses. -/
abbrev AC (b : Bool) : Memref sig .tc .vmem S6x32x1024 .f32 := if b then A7 else A6

/-- A piece. -/
def mem (c : Dev nD) : Ck → Memref sig .tc .vmem S32x1024 .f32
  | .inl (.inl (b, n)) => A4.slice (rG c b n) (fun _ => rfl)
  | .inl (.inr (b, n)) => A5.slice (rG c b n) (fun _ => rfl)
  | .inr (.inl (false, h)) => (A6.slice (rC h) (fun _ => rfl)).squeeze S32x1024 squeezes_S1x32x1024_S32x1024
  | .inr (.inl (true, h)) => (A7.slice (rC h) (fun _ => rfl)).squeeze S32x1024 squeezes_S1x32x1024_S32x1024
  | .inr (.inr (b, L, d)) => A3.slice (rO c b L d) (fun _ => rfl)

/-- What a piece holds in the end, -/
def vL (I : Inp F) (c : Dev nD) : Ck → V32 F
  | .inl (.inl (b, n)) => vG I c b n
  | .inl (.inr (b, n)) => vS I c b n
  | .inr (.inl (b, h)) => vS I (prv b c) b h
  | .inr (.inr (b, L, d)) => vS I (turn c d) b (3 + L)
/-- and the running sums' pieces at first. -/
def vF (I : Inp F) (c : Dev nD) : Ck → V32 F
  | .inl (.inr (b, n)) => vP I c b n
  | k => vL I c k

/-- The credit of 32 rows, and of one. -/
abbrev N32 : ℕ := (A5.slice (Rect.unit (s := S256x1024) ![0, 0] S32x1024.size (inb2 (by decide))) (fun _ => rfl)).view.dmaCredit
theorem inb1 {r n : ℕ} (h : r + 1 ≤ n) : ∀ a, (![r, 0] : Fin 2 → ℕ) a + S1x1024.size a ≤ (⟨2, ![n, 1024]⟩ : Shape).size a := by
  intro a; fin_cases a
  · exact h
  · show 0 + 1024 ≤ 1024; omega
abbrev N1 : ℕ := (A4.slice (Rect.unit (s := S256x1024) ![0, 0] S1x1024.size (inb1 (by decide))) (fun _ => rfl)).view.dmaCredit
theorem N32_pos : 0 < N32 := View.dmaCredit_pos _ (by decide)
theorem N1_pos : 0 < N1 := View.dmaCredit_pos _ (by decide)
theorem credit_mem (c : Dev nD) (k : Ck) : (mem c k).view.dmaCredit = N32 := by
  rcases k with (⟨b, n⟩ | ⟨b, n⟩) | (⟨b, h⟩ | ⟨b, L, d⟩)
  · rfl
  · rfl
  · cases b <;> rfl
  · rfl

/-! ## The row gathers -/

/-- Row `i` of a device's 256 rows, and row `i` of its block of the table. -/
abbrev gRow (i : ℕ) (h : i + 1 ≤ 256) : Memref sig .tc .vmem S1x1024 .f32 := A4.slice (Rect.unit (s := S256x1024) ![i, 0] S1x1024.size (inb1 h)) (fun _ => rfl)
abbrev eRow (i : ℕ) (h : i + 1 ≤ 16384) : Memref sig .tc .hbm S1x1024 .f32 := A2.slice (Rect.unit (s := S16384x1024) ![i, 0] S1x1024.size (inb1 h)) (fun _ => rfl)

/-- The place of a gathered row: which half and block, and the row in the block. -/
abbrev Rw : Type := Bool × Fin 4 × Fin 32
/-- The row itself. -/
def rwN (c : Dev nD) (i : Rw) : ℕ := rowG c i.1 i.2.1 + i.2.2
theorem rwN_le (c : Dev nD) (i : Rw) : rwN c i + 1 ≤ 256 := by
  have := rowG_le c i.1 i.2.1; have := i.2.2.isLt; unfold rwN; omega
/-- Which of the two semaphores counts it, and as the how manieth. -/
def rwS (i : Rw) : Bool := i.2.1 != 0
def rwD (i : Rw) : ℕ := 64 * (i.2.1.val - 1) + (if i.1 then 32 else 0) + i.2.2
/-- The row a number of a semaphore's counts stands for. -/
def rwOf (g : Bool) (d : ℕ) : Rw :=
  (decide (d % 64 ≥ 32), ⟨if g then (d / 64 + 1) % 4 else 0, by split <;> omega⟩, ⟨d % 32, Nat.mod_lt _ (by decide)⟩)
theorem rwOf_rw : ∀ i, rwOf (rwS i) (rwD i) = i := by decide +kernel
/-- How many rows a semaphore counts. -/
def gCount (g : Bool) : ℕ := if g then 192 else 64
theorem rwD_lt : ∀ i, rwD i < gCount (rwS i) := by decide +kernel
theorem rw_rwOf : ∀ g, ∀ d < gCount g, rwS (rwOf g d) = g ∧ rwD (rwOf g d) = d := by decide +kernel

/-- The table row that a gathered row comes from. -/
def rwE (I : Inp F) (c : Dev nD) (i : Rw) : ℕ := (I.ids c (ix1 (n0 := 256) ⟨rwN c i, rwN_le c i⟩)).toNat % 16384
theorem rwE_le (I : Inp F) (c : Dev nD) (i : Rw) : rwE I c i + 1 ≤ 16384 := by
  have := Nat.mod_lt (I.ids c (ix1 (n0 := 256) ⟨rwN c i, rwN_le c i⟩)).toNat (show 0 < 16384 by decide); unfold rwE; omega

/-- The part of the table's ownership lent to a row's copy: one of 256 shares. -/
def rwX (i : Rw) : Fin (2 ^ 8) := ⟨(if i.1 then 128 else 0) + 32 * i.2.1.val + i.2.2.val, by
  have := i.2.1.isLt; have := i.2.2.isLt; split <;> omega⟩
theorem rwX_bij : Function.Bijective rwX := by
  refine (Fintype.bijective_iff_injective_and_card rwX).mpr ⟨?_, by decide⟩
  rintro ⟨b, n, r⟩ ⟨b', n', r'⟩ h
  have h := congrArg Fin.val h
  have := n.isLt; have := n'.isLt; have := r.isLt; have := r'.isLt
  simp only [rwX] at h
  cases b <;> cases b' <;> simp only [Prod.mk.injEq, true_and, Fin.ext_iff, reduceCtorEq, false_and, if_true, Bool.false_eq_true, if_false] at h ⊢ <;> omega
def shE (i : Rw) : PosShare TreeShare := ShareLeaves.leaf 8 fullShare (rwX i)

end Cert.Proof

end
-- ==== Proof.State.lean ====
/-
  The schedule of the semaphores, and what a device holds in a state of `Table.lean`.

  Every semaphore is waited for in one round. The barrier's round is four units, one from each neighbour, and a
  neighbour's unit hands over the pieces of its own that this device may write there. A row gather hands over the row, and
  the share of the table row it read. A transfer's send semaphore hands back the piece read, its receive semaphore the
  piece written, at its last value.

  Levels: a wait for a reading or for a gather is at 0, for the barrier at 1, and for a landing above all landings that are
  started before it: at the wait for a transfer's landing a device still owes only transfers of later starts.
-/
module

public import proofs.«01_k».proof.Proof.Common

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev 𝒱₀ : Variants := Variants.none

/-! ## Cells -/

abbrev barC (c : Dev nD) : GSem nD τ sig := (c.tc, .reg barrier0)
abbrev dmaC (c : Dev nD) (s : DmaSem sig) : GSem nD τ sig := (c.tc, .dma s)
abbrev sendC (c : Dev nD) (j : Tr) : GSem nD τ sig := dmaC c (sendS j)
abbrev recvC (c : Dev nD) (j : Tr) : GSem nD τ sig := dmaC c (recvS j)
abbrev gatC (c : Dev nD) (g : Bool) : GSem nD τ sig := dmaC c (gSem g)

/-! ## Schedule -/

/-- The share a transfer takes of its piece. -/
def shT : Tk → PosShare TreeShare
  | .all => fullShare
  | .left => fullShare.left
  | .right => fullShare.right

/-- Some contents in the piece a transfer writes. -/
def landing (c : Dev nD) (j : Tr) : sProp 𝕄 :=
  iprop((∃ X, owns (dstD c j).tc (mem (dstD c j) (dstK j)) fullShare X) ∗ reached ER (recvC (dstD c j) j) 0)
/-- What a neighbour's unit on the barrier hands over. -/
def barPay (c : Dev nD) (d : ℕ) : sProp 𝕄 := bigSep (trs.filter fun j => cls j = d) (landing c)
/-- What the gather of a row hands over. -/
def rowPay (I : Inp F) (c : Dev nD) (i : Rw) : sProp 𝕄 :=
  iprop((A4.view.loc c.tc ↦[(gRow (rwN c i) (rwN_le c i)).view.set]{fullShare} gath I c)
    ∗ (A2.view.loc c.tc ↦[(eRow (rwE I c i) (rwE_le I c i)).view.set]{shE i} I.emb c))
/-- What a transfer's reading hands back, -/
def sndPay (I : Inp F) (c : Dev nD) (j : Tr) : sProp 𝕄 := owns c.tc (mem c (srcK j)) (shT (takes j)) (vL I c (srcK j))
/-- and what its landing hands over. -/
def rcvPay (I : Inp F) (c : Dev nD) (j : Tr) : sProp 𝕄 := owns c.tc (mem c (dstK j)) fullShare (vL I c (dstK j))

/-- One round everywhere. -/
def dutiesOf : Kd → Finset ℕ
  | .bar => Finset.range 4
  | .gat g => Finset.range (gCount g)
  | .snd j => if j ∈ trs then {0} else ∅
  | .rcv j => if j ∈ trs then {0} else ∅
  | .no => ∅
def amountK : Kd → ℕ
  | .bar => 1
  | .gat _ => N1
  | _ => N32
def payK (I : Inp F) (c : Dev nD) (d : ℕ) : Kd → sProp 𝕄
  | .bar => barPay c d
  | .gat g => rowPay I c (rwOf g d)
  | .snd j => sndPay I c j
  | .rcv j => rcvPay I c j
  | .no => iprop(emp)

def rd (I : Inp F) : Rounds.Schedule (GSem nD τ sig) ℕ 𝕄 where
  duties g r := if r = 0 ∧ g.1.2 = .tc then dutiesOf (kindOf g.2) else ∅
  unitless _ := False
  amount g _ _ := amountK (kindOf g.2)
  payload g _ d := payK I g.1.1 d (kindOf g.2)
  amount_pos g _ _ _ := by
    rcases kindOf g.2 with _ | _ | _ | _ | _
    · exact Nat.one_pos
    · exact N1_pos
    all_goals exact N32_pos

instance rd_storable (I : Inp F) (g : GSem nD τ sig) (r : ℕ) (d : ℕ) :
    BI.Storable (upEmb : UEmb _ 𝕄) ((rd I).payload g r d) := by
  show BI.Storable upEmb (payK I g.1.1 d (kindOf g.2))
  rcases kindOf g.2 with _ | _ | _ | _ | _
  · dsimp only [payK]; unfold barPay landing; infer_instance
  · dsimp only [payK]; unfold rowPay; infer_instance
  · dsimp only [payK]; unfold sndPay; infer_instance
  · dsimp only [payK]; unfold rcvPay; infer_instance
  · dsimp only [payK]; infer_instance

section Sched
variable (I : Inp F) (c : Dev nD)

theorem duties_bar : (rd I).duties (barC c) 0 = Finset.range 4 := by
  show (if (0 : ℕ) = 0 ∧ (c.tc : Thread nD τ).2 = .tc then dutiesOf (kindOf (.reg barrier0)) else ∅) = _
  rw [if_pos ⟨rfl, rfl⟩]; rfl
theorem duties_gat (g : Bool) : (rd I).duties (gatC c g) 0 = Finset.range (gCount g) := by
  show (if (0 : ℕ) = 0 ∧ (c.tc : Thread nD τ).2 = .tc then dutiesOf (kindOf (.dma (gSem g))) else ∅) = _
  rw [if_pos ⟨rfl, rfl⟩, kindOf_gat]; rfl
theorem duties_send {j : Tr} (hj : j ∈ trs) : (rd I).duties (sendC c j) 0 = {0} := by
  show (if (0 : ℕ) = 0 ∧ (c.tc : Thread nD τ).2 = .tc then dutiesOf (kindOf (.dma (sendS j))) else ∅) = _
  rw [if_pos ⟨rfl, rfl⟩, kindOf_send]; exact if_pos hj
theorem duties_recv {j : Tr} (hj : j ∈ trs) : (rd I).duties (recvC c j) 0 = {0} := by
  show (if (0 : ℕ) = 0 ∧ (c.tc : Thread nD τ).2 = .tc then dutiesOf (kindOf (.dma (recvS j))) else ∅) = _
  rw [if_pos ⟨rfl, rfl⟩, kindOf_recv]; exact if_pos hj
theorem duties_later (g : GSem nD τ sig) : ∀ r, 1 ≤ r → (rd I).duties g r = ∅ := fun r hr => by
  dsimp only [rd]; rw [if_neg (fun h => by omega)]
theorem duties_none (g : GSem nD τ sig) (h : dutiesOf (kindOf g.2) = ∅) : ∀ r, 0 ≤ r → (rd I).duties g r = ∅ := fun r _ => by
  dsimp only [rd]; rw [h, ite_self]

theorem amount_bar (d : ℕ) : (rd I).amount (barC c) 0 d = 1 := rfl
theorem amount_gat (g : Bool) (d : ℕ) : (rd I).amount (gatC c g) 0 d = N1 := by
  show amountK (kindOf (.dma (gSem g))) = _; rw [kindOf_gat]; rfl
theorem amount_send (j : Tr) (d : ℕ) : (rd I).amount (sendC c j) 0 d = N32 := by
  show amountK (kindOf (.dma (sendS j))) = _; rw [kindOf_send]; rfl
theorem amount_recv (j : Tr) (d : ℕ) : (rd I).amount (recvC c j) 0 d = N32 := by
  show amountK (kindOf (.dma (recvS j))) = _; rw [kindOf_recv]; rfl

theorem expect_bar : (rd I).expect (barC c) 0 = 4 := by
  unfold Schedule.expect Schedule.amountOf; rw [duties_bar]
  simp only [amount_bar, Finset.sum_const, Finset.card_range, smul_eq_mul, mul_one]
theorem expect_gat (g : Bool) : (rd I).expect (gatC c g) 0 = gCount g * N1 := by
  unfold Schedule.expect Schedule.amountOf; rw [duties_gat]
  simp only [amount_gat, Finset.sum_const, Finset.card_range, smul_eq_mul]
theorem expect_send {j : Tr} (hj : j ∈ trs) : (rd I).expect (sendC c j) 0 = N32 := by
  unfold Schedule.expect Schedule.amountOf; rw [duties_send I c hj, Finset.sum_singleton, amount_send]
theorem expect_recv {j : Tr} (hj : j ∈ trs) : (rd I).expect (recvC c j) 0 = N32 := by
  unfold Schedule.expect Schedule.amountOf; rw [duties_recv I c hj, Finset.sum_singleton, amount_recv]

theorem payload_bar (d : ℕ) : (rd I).payload (barC c) 0 d = barPay c d := rfl
theorem payload_gat (g : Bool) (d : ℕ) : (rd I).payload (gatC c g) 0 d = rowPay I c (rwOf g d) := by
  show payK I c d (kindOf (.dma (gSem g))) = _; rw [kindOf_gat]; rfl
theorem payload_send (j : Tr) (d : ℕ) : (rd I).payload (sendC c j) 0 d = sndPay I c j := by
  show payK I c d (kindOf (.dma (sendS j))) = _; rw [kindOf_send]; rfl
theorem payload_recv (j : Tr) (d : ℕ) : (rd I).payload (recvC c j) 0 d = rcvPay I c j := by
  show payK I c d (kindOf (.dma (recvS j))) = _; rw [kindOf_recv]; rfl

theorem rest_bar : bigSep ((rd I).duties (barC c) 0 \ ∅) (fun d => (rd I).payload (barC c) 0 d) = bigSep (Finset.range 4) (barPay (F := F) c) := by
  rw [Finset.sdiff_empty, duties_bar]; rfl
theorem rest_send {j : Tr} (hj : j ∈ trs) :
    bigSep ((rd I).duties (sendC c j) 0 \ ∅) (fun d => (rd I).payload (sendC c j) 0 d) = sndPay I c j := by
  rw [Finset.sdiff_empty, duties_send I c hj, bigSep_singleton, payload_send]
theorem rest_recv {j : Tr} (hj : j ∈ trs) :
    bigSep ((rd I).duties (recvC c j) 0 \ ∅) (fun d => (rd I).payload (recvC c j) 0 d) = rcvPay I c j := by
  rw [Finset.sdiff_empty, duties_recv I c hj, bigSep_singleton, payload_recv]

end Sched

/-! ## Levels, and what a device owes -/

def L (g : GSem nD τ sig) : Finset Unit := if g.1.2 = .tc then {()} else ∅
def levK : Kd → ℕ
  | .bar => 1
  | .rcv j => 2 + ord j
  | _ => 0
def lv (g : GSem nD τ sig) (_ : Unit) : ℕ := levK (kindOf g.2)

theorem L_of_ne (g : GSem nD τ sig) (h : g.1.2 ≠ .tc) : L g = ∅ := if_neg h
theorem L_tc (c : Dev nD) (sm : SemLoc sig) : L (c.tc, sm) = {()} := if_pos rfl
theorem lv_recv (c : Dev nD) (j : Tr) : lv (recvC c j) () = 2 + ord j := by
  show levK (kindOf (.dma (recvS j))) = _; rw [kindOf_recv]; rfl
theorem lv_send (c : Dev nD) (j : Tr) : lv (sendC c j) () = 0 := by
  show levK (kindOf (.dma (sendS j))) = _; rw [kindOf_send]; rfl
theorem lv_gat (c : Dev nD) (g : Bool) : lv (gatC c g) () = 0 := by
  show levK (kindOf (.dma (gSem g))) = _; rw [kindOf_gat]; rfl

/-- What a device owes once `n` transfers are started: the landings of the others. -/
def Owe (c : Dev nD) (n : ℕ) : CellTallies nD τ sig Unit :=
  ∑ j ∈ trs.filter (fun j => n ≤ ord j), tallyAt (recvC (dstD c j) j) () N32

theorem Owe_start (c : Dev nD) {n : ℕ} {j : Tr} (hj : j ∈ trs) (hn : n = ord j) :
    Owe c n = Owe c (n + 1) + tallyAt (recvC (dstD c j) j) () N32 := by
  unfold Owe
  have hf : trs.filter (fun i => n ≤ ord i) = insert j (trs.filter fun i => n + 1 ≤ ord i) := by
    ext i
    simp only [Finset.mem_filter, Finset.mem_insert]
    constructor
    · rintro ⟨hi, h⟩
      by_cases e : ord i = n
      · exact Or.inl (ord_inj hi hj (e.trans hn))
      · exact Or.inr ⟨hi, by omega⟩
    · rintro (rfl | ⟨hi, h⟩)
      · exact ⟨hj, hn.le⟩
      · exact ⟨hi, by omega⟩
  rw [hf, Finset.sum_insert (by simp only [Finset.mem_filter, not_and]; omega), add_comm]

theorem Owe_pos {c : Dev nD} {n : ℕ} {g : GSem nD τ sig} {u : Unit} (h : 0 < Owe c n g u) :
    ∃ j ∈ trs, n ≤ ord j ∧ g = recvC (dstD c j) j := by
  unfold Owe at h
  rw [Finset.sum_apply, Finsupp.finset_sum_apply] at h
  obtain ⟨j, hj, hp⟩ := Finset.exists_ne_zero_of_sum_ne_zero h.ne'
  rw [tallyAt_apply] at hp
  split at hp
  · next hg => exact ⟨j, (Finset.mem_filter.mp hj).1, (Finset.mem_filter.mp hj).2, hg.1⟩
  · exact absurd rfl hp

theorem Owe_end (c : Dev nD) : Owe c 68 = 0 := by
  unfold Owe
  rw [Finset.filter_eq_empty_iff.mpr (fun j hj => by have := ord_lt hj; omega), Finset.sum_empty]

/-- A wait below all that a device owes. -/
theorem mayWait (c : Dev nD) (n : ℕ) (sm : SemLoc sig) (h : lv (c.tc, sm) () < 2 + n) :
    (levAts L lv : sProp 𝕄) ⊢ MayWait (c.tc : Thread nD τ) sm () (Owe c n) :=
  MayOwe.of_cut (L := L) (lev := lv) (1 + n) (fun p hp => by rw [Finset.mem_singleton.mp hp, L_tc]; exact Finset.mem_singleton_self _)
    (fun g u hg => by
      obtain ⟨j, -, -, rfl⟩ := Owe_pos hg
      rw [L_tc]; exact Finset.mem_singleton_self _)
    (fun p hp => by rw [Finset.mem_singleton.mp hp]; show lv (c.tc, sm) () ≤ 1 + n; omega)
    (fun g u hg => by
      obtain ⟨j, -, hj, rfl⟩ := Owe_pos hg
      rw [lv_recv]; omega)

/-! ## What a device holds -/

/-- The semaphores of the kernel's own, by number. -/
abbrev osem (k : Fin 154) : SemLoc sig := .dma ⟨3 + k, by show 3 + k.val < 157; omega⟩
theorem osem_inj : Function.Injective osem := fun a b h => by
  have := congrArg (fun s : SemLoc sig => match s with | .dma x => x.val | .reg _ => 0) h
  exact Fin.ext (by simpa using this)
def barEmb : Dev nD ↪ GSem nD τ sig := ⟨fun c => barC c, fun _ _ h => congrArg (fun g : GSem nD τ sig => g.1.1) h⟩
def scEmb : Dev nD × Fin 154 ↪ GSem nD τ sig :=
  ⟨fun ck => (ck.1.tc, osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem osem_of (s : DmaSem sig) (h : 3 ≤ s.val) : ∃ k, osem k = .dma s :=
  ⟨⟨s.val - 3, by have : s.val < 157 := s.isLt; omega⟩, by show SemLoc.dma _ = _; congr 1; apply Fin.ext; show 3 + (s.val - 3) = s.val; omega⟩
theorem dma_mem (c : Dev nD) (s : DmaSem sig) (h : 3 ≤ s.val) : dmaC c s ∈ (barCells ∪ scCells : Finset (GSem nD τ sig)) := by
  obtain ⟨k, hk⟩ := osem_of s h
  refine Finset.mem_union_right _ ?_
  have := Finset.mem_map_of_mem scEmb (Finset.mem_univ (c, k))
  exact (show scEmb (c, k) = dmaC c s from Prod.ext rfl hk) ▸ this
theorem sendS_ge : ∀ j, 3 ≤ (sendS j).val := by decide +kernel
theorem recvS_ge : ∀ j, 3 ≤ (recvS j).val := by decide +kernel
theorem gSem_ge : ∀ g, 3 ≤ (gSem g).val := by decide

/-- What every device may consult: all cells' invariants, and the levels. -/
def Ctx (I : Inp F) (K : GSem nD τ sig → ℕ) : sProp 𝕄 :=
  iprop((bigSep (barCells ∪ scCells) fun g => cellInv ER (rd I) (K g) g) ∗ levAts L lv)
instance Ctx_persistent (I : Inp F) (K : GSem nD τ sig → ℕ) : BI.Persistent (Ctx I K) := by unfold Ctx; infer_instance
theorem Ctx_inv (I : Inp F) (K : GSem nD τ sig → ℕ) {g : GSem nD τ sig} (h : g ∈ (barCells ∪ scCells : Finset (GSem nD τ sig))) :
    Ctx I K ⊢ cellInv ER (rd I) (K g) g := by
  have h' : (bigSep (barCells ∪ scCells) fun g => (cellInv ER (rd I) (K g) g : sProp 𝕄)) ⊢ cellInv ER (rd I) (K g) g := bigSep_elim h
  unfold Ctx; iintro ⟨H, -⟩; iapply h'; iexact H
theorem Ctx_lev (I : Inp F) (K : GSem nD τ sig → ℕ) : Ctx I K ⊢ levAts L lv := by
  unfold Ctx; iintro ⟨-, H⟩; iexact H

/-- Of a transfer: before its start the tokens it pays with and the piece it writes; until the wait for its reading is
    over the credit for that wait. -/
def trRes (c : Dev nD) (n m : ℕ) (j : Tr) : sProp 𝕄 :=
  if n ≤ ord j then
    iprop(dutyTok ER (sendC c j) 0 0 ∗ dutyTok ER (recvC (dstD c j) j) 0 0 ∗ landing c j ∗ reached ER (sendC c j) 0 ∗ atPos ER (sendC c j) 0 ∅ 0)
  else if m ≤ 2 * wrd j then iprop(cred (tallyAt (sendC c j) () N32) ∗ atPos ER (sendC c j) 0 ∅ 0)
  else atPos ER (sendC c j) 1 ∅ 0
/-- Of the like transfer's landing here: the credit for the wait. -/
def rxRes (c : Dev nD) (m : ℕ) (j : Tr) : sProp 𝕄 :=
  if m ≤ 2 * wrd j + 1 then iprop(cred (tallyAt (recvC c j) () N32) ∗ atPos ER (recvC c j) 0 ∅ 0)
  else atPos ER (recvC c j) 1 ∅ 0
/-- Of a piece. -/
def chRes (I : Inp F) (c : Dev nD) (k : Ck) : Stt → sProp 𝕄
  | .none => iprop(emp)
  | .junk => iprop(∃ X, owns c.tc (mem c k) fullShare X)
  | .part => owns c.tc (mem c k) fullShare (vF I c k)
  | .val => owns c.tc (mem c k) fullShare (vL I c k)
  | .valL => owns c.tc (mem c k) fullShare.left (vL I c k)
  | .valR => owns c.tc (mem c k) fullShare.right (vL I c k)

/-- What a device holds in a state, beside `R`. -/
def At (I : Inp F) (K : GSem nD τ sig → ℕ) (c : Dev nD) (R : sProp 𝕄) (σ : St) : sProp 𝕄 :=
  iprop(Ctx I K ∗ (∃ W, owes (c.tc : Thread nD τ) (Owe c σ.n) W) ∗ bigSep trs (trRes c σ.n σ.m) ∗ bigSep trs (rxRes c σ.m)
    ∗ (bigSep Finset.univ fun k => chRes I c k (σ.ch k)) ∗ owns c.tc A1 fullShare (I.mask c) ∗ R)

end Cert.Proof

end
-- ==== Proof.Steps.lean ====
/-
  One step of the kernel at a time: each operation takes a state of `Table.lean` to the next.
-/
module

public import proofs.«01_k».proof.Proof.State
public import Idealize.ShloMosaic.Lib.MemrefSat
public import Idealize.ShloMosaic.Lib.ViewIndex

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The weakest precondition of device `c`'s run. -/
abbrev WP (c : Dev nD) {α : Type} (p : Prog (TpuEff nD τ sig (Elt F) Λ₀ .tc) α) (Q : α → sProp 𝕄) : sProp 𝕄 :=
  wp frame (wpE (defs₀ (F := F)) 𝒱₀ c.tc none) Set.univ p Q

/-! ## Contents across a transfer -/

theorem prv_nxt : ∀ b c, prv b (nxt b c) = c := by decide +kernel
/-- How far round the xy ring a piece of the result belongs. -/
def dOf : Ck → ℕ
  | .inr (.inr (_, _, d)) => d
  | _ => 0
theorem turn_dst : ∀ c r b L t, turn (dstD c (lT r b L t)) (dOf (dstK (lT r b L t))) = turn c (dOf (srcK (lT r b L t)))
    ∧ rowO (dstD c (lT r b L t)) b L (dOf (dstK (lT r b L t))) = rowO c b L (dOf (srcK (lT r b L t))) := by decide +kernel

/-- A transfer's destination holds in the end what its source does. -/
theorem vL_send (I : Inp F) (c : Dev nD) (j : Tr) : vL I (dstD c j) (dstK j) = vL I c (srcK j) := by
  rcases j with ⟨b, h⟩ | ⟨r, b, L, t⟩
  · show vS I (prv b (nxt b c)) b h = _
    rw [prv_nxt]
    fin_cases h
    · rfl
    · rfl
    · rfl
    · rfl
    · show vS I c b (3 + 1) = vS I (prv b c) b 3; exact vS_pass I c b (by decide)
    · show vS I c b (4 + 1) = vS I (prv b c) b 4; exact vS_pass I c b (by decide)
  · have h := turn_dst c r b L t
    exact congrArg (fun d => vS I d b (3 + L)) h.1

/-! ## Pieces -/

theorem take_split (I : Inp F) (c : Dev nD) (k : Ck) {t : Tk} {s s' : Stt} (h : take t s = some s') :
    chRes I c k s ⊢ iprop(owns c.tc (mem c k) (shT t) (vL I c k) ∗ chRes I c k s') := by
  rcases t <;> rcases s <;> simp only [take, reduceCtorEq, Option.some.injEq] at h <;> subst h <;> dsimp only [chRes, shT]
  · iintro H; isplitl [H]; · iexact H
    iempintro
  · exact (owns_halves c.tc (mem c k) fullShare _).1
  · iintro H; isplitl [H]; · iexact H
    iempintro
  · exact (owns_halves c.tc (mem c k) fullShare _).1.trans sep_comm.1
  · iintro H; isplitl [H]; · iexact H
    iempintro

theorem give_join (I : Inp F) (c : Dev nD) (k : Ck) {t : Tk} {s s' : Stt} (h : give t s = some s') :
    iprop(owns c.tc (mem c k) (shT t) (vL I c k) ∗ chRes I c k s) ⊢ chRes I c k s' := by
  rcases t <;> rcases s <;> simp only [give, reduceCtorEq, Option.some.injEq] at h <;> subst h <;> dsimp only [chRes, shT]
  · iintro ⟨H, -⟩; iexact H
  · iintro ⟨H, -⟩; iexact H
  · exact (owns_halves c.tc (mem c k) fullShare _).2
  · iintro ⟨H, -⟩; iexact H
  · exact sep_comm.1.trans (owns_halves c.tc (mem c k) fullShare _).2

/-- One piece out of all, -/
theorem ch_take (I : Inp F) (c : Dev nD) (ch : Ck → Stt) (k : Ck) :
    (bigSep Finset.univ fun i => chRes I c i (ch i)) = iprop(chRes I c k (ch k) ∗ bigSep (Finset.univ.erase k) fun i => chRes I c i (ch i)) :=
  BI.bigSep_erase (Finset.mem_univ k)
/-- and back in another state. -/
theorem ch_put (I : Inp F) (c : Dev nD) (ch : Ck → Stt) (k : Ck) (s : Stt) :
    iprop(chRes I c k s ∗ bigSep (Finset.univ.erase k) fun i => chRes I c i (ch i))
      = bigSep Finset.univ fun i => chRes I c i (Function.update ch k s i) := by
  rw [ch_take I c _ k, Function.update_self]
  congr 1
  exact bigSep_congr fun i hi => by rw [Function.update_of_ne (Finset.ne_of_mem_erase hi)]

/-- A piece's ownership as its points-to. -/
theorem owns_open (c : Dev nD) (m : Memref sig .tc .vmem S32x1024 .f32) (q : PosShare TreeShare) (X : V32 F) :
    owns c.tc m q X ⊢ (iprop(∃ f, ⌜m.view.read (Elt F) f = X⌝ ∗ (m.view.loc c.tc ↦[m.view.set]{q} f)) : sProp 𝕄) := by
  unfold owns; exact BI.Entails.refl _

set_option maxRecDepth 100000 in
/-- A wait below all that a device owes. -/
theorem mayWaitC (I : Inp F) (K : GSem nD τ sig → ℕ) (c : Dev nD) (n : ℕ) (sm : SemLoc sig) (h : lv (c.tc, sm) () < 2 + n) :
    Ctx I K ⊢ MayWait (c.tc : Thread nD τ) sm () (Owe c n) := by
  have h1 := Ctx_lev I K
  have h2 := mayWait (F := F) c n sm h
  exact BI.Entails.trans h1 h2

/-! ## Transfers' resources -/

theorem tr_start (c : Dev nD) {n m : ℕ} {j : Tr} (hj : j ∈ trs) (hn : n = ord j) (hm : m ≤ 2 * wrd j) :
    (bigSep trs (trRes (F := F) c n m) : sProp 𝕄)
      = iprop((dutyTok ER (sendC c j) 0 0 ∗ dutyTok ER (recvC (dstD c j) j) 0 0 ∗ landing c j ∗ reached ER (sendC c j) 0
          ∗ atPos ER (sendC c j) 0 ∅ 0) ∗ bigSep (trs.erase j) (trRes c (n + 1) m)) := by
  rw [BI.bigSep_erase hj]
  congr 1
  · unfold trRes; rw [if_pos hn.le]
  · refine bigSep_congr fun i hi => ?_
    have hne : ord i ≠ n := fun e => Finset.ne_of_mem_erase hi (ord_inj (Finset.mem_of_mem_erase hi) hj (e.trans hn))
    unfold trRes
    by_cases h : n ≤ ord i
    · rw [if_pos h, if_pos (show n + 1 ≤ ord i by omega)]
    · rw [if_neg h, if_neg (show ¬(n + 1 ≤ ord i) by omega)]
theorem tr_started (c : Dev nD) {n m : ℕ} {j : Tr} (hj : j ∈ trs) (hn : n = ord j) (hm : m ≤ 2 * wrd j) :
    (bigSep trs (trRes (F := F) c (n + 1) m) : sProp 𝕄)
      = iprop((cred (tallyAt (sendC c j) () N32) ∗ atPos ER (sendC c j) 0 ∅ 0) ∗ bigSep (trs.erase j) (trRes c (n + 1) m)) := by
  rw [BI.bigSep_erase hj]
  congr 1
  unfold trRes; rw [if_neg (by omega), if_pos hm]
theorem tr_wait (c : Dev nD) {n m : ℕ} {j : Tr} (hj : j ∈ trs) (hn : ord j < n) (hm : m = 2 * wrd j) :
    (bigSep trs (trRes (F := F) c n m) : sProp 𝕄)
      = iprop((cred (tallyAt (sendC c j) () N32) ∗ atPos ER (sendC c j) 0 ∅ 0) ∗ bigSep (trs.erase j) (trRes c n (m + 1))) := by
  rw [BI.bigSep_erase hj]
  congr 1
  · unfold trRes; rw [if_neg (by omega), if_pos hm.le]
  · refine bigSep_congr fun i hi => ?_
    have hne : wrd i ≠ wrd j := fun e => Finset.ne_of_mem_erase hi (wrd_inj (Finset.mem_of_mem_erase hi) hj e)
    unfold trRes
    by_cases h : m ≤ 2 * wrd i
    · rw [if_pos h, if_pos (show m + 1 ≤ 2 * wrd i by omega)]
    · rw [if_neg h, if_neg (show ¬(m + 1 ≤ 2 * wrd i) by omega)]
theorem tr_waited (c : Dev nD) {n m : ℕ} {j : Tr} (hj : j ∈ trs) (hn : ord j < n) (hm : m = 2 * wrd j) :
    (bigSep trs (trRes (F := F) c n (m + 1)) : sProp 𝕄)
      = iprop(atPos ER (sendC c j) 1 ∅ 0 ∗ bigSep (trs.erase j) (trRes c n (m + 1))) := by
  rw [BI.bigSep_erase hj]
  congr 1
  unfold trRes; rw [if_neg (by omega), if_neg (by omega)]
theorem tr_other (c : Dev nD) {n m : ℕ} {j : Tr} (hm : m = 2 * wrd j + 1) :
    (bigSep trs (trRes (F := F) c n m) : sProp 𝕄) = bigSep trs (trRes c n (m + 1)) := by
  refine bigSep_congr fun i hi => ?_
  unfold trRes
  by_cases h : m ≤ 2 * wrd i
  · rw [if_pos h, if_pos (show m + 1 ≤ 2 * wrd i by omega)]
  · rw [if_neg h, if_neg (show ¬(m + 1 ≤ 2 * wrd i) by omega)]
theorem rx_other (c : Dev nD) {m : ℕ} {j : Tr} (hm : m = 2 * wrd j) :
    (bigSep trs (rxRes (F := F) c m) : sProp 𝕄) = bigSep trs (rxRes c (m + 1)) := by
  refine bigSep_congr fun i hi => ?_
  unfold rxRes
  by_cases h : m ≤ 2 * wrd i + 1
  · rw [if_pos h, if_pos (by omega)]
  · rw [if_neg h, if_neg (by omega)]
theorem rx_wait (c : Dev nD) {m : ℕ} {j : Tr} (hj : j ∈ trs) (hm : m = 2 * wrd j + 1) :
    (bigSep trs (rxRes (F := F) c m) : sProp 𝕄)
      = iprop((cred (tallyAt (recvC c j) () N32) ∗ atPos ER (recvC c j) 0 ∅ 0) ∗ bigSep (trs.erase j) (rxRes c (m + 1))) := by
  rw [BI.bigSep_erase hj]
  congr 1
  · unfold rxRes; rw [if_pos hm.le]
  · refine bigSep_congr fun i hi => ?_
    have hne : wrd i ≠ wrd j := fun e => Finset.ne_of_mem_erase hi (wrd_inj (Finset.mem_of_mem_erase hi) hj e)
    unfold rxRes
    by_cases h : m ≤ 2 * wrd i + 1
    · rw [if_pos h, if_pos (by omega)]
    · rw [if_neg h, if_neg (by omega)]
theorem rx_waited (c : Dev nD) {m : ℕ} {j : Tr} (hj : j ∈ trs) (hm : m = 2 * wrd j + 1) :
    (bigSep trs (rxRes (F := F) c (m + 1)) : sProp 𝕄)
      = iprop(atPos ER (recvC c j) 1 ∅ 0 ∗ bigSep (trs.erase j) (rxRes c (m + 1))) := by
  rw [BI.bigSep_erase hj]
  congr 1
  unfold rxRes; rw [if_neg (by omega)]

/-! ## Transfers -/

section Steps

variable (I : Inp F) (K : GSem nD τ sig → ℕ) (c : Dev nD) (R : sProp (MT nD τ sig Unit (Elt F) ℕ UU ℕ)) {σ : St} {α : Type}
  {Q : α → sProp (MT nD τ sig Unit (Elt F) ℕ UU ℕ)}

/-- What the destination's landing leaves. -/
theorem pay_recv {j : Tr} {f : (mem c (srcK j)).view.ty.Contents (Elt F)} (hf : (mem c (srcK j)).view.read (Elt F) f = vL I c (srcK j))
    (g : (mem (dstD c j) (dstK j)).view.ty.Contents (Elt F)) :
    ((mem (dstD c j) (dstK j)).view.loc (dstD c j).tc ↦[(mem (dstD c j) (dstK j)).view.set]{fullShare}
      ((mem (dstD c j) (dstK j)).view.write (Elt F) g ((mem c (srcK j)).view.read (Elt F) f) Finset.univ) : sProp 𝕄)
      ⊢ (rd I).payload (recvC (dstD c j) j) 0 0 := by
  rw [payload_recv, hf]
  unfold rcvPay owns
  iintro H
  iexists _
  isplitr
  swap
  · iexact H
  · ipureintro
    rw [View.read_write_univ, vL_send]

/-- The start of a transfer. -/
theorem st_start {j : Tr} {d' : Dev nD} {src dst : Memref sig .tc .vmem S32x1024 .f32} {s1 s2 : DmaSem sig} {hsc : dst.view.ref.isScScratch = false}
    {hsrc : src.view.WordExact} {hdst : dst.view.WordExact} {hsem : DmaTarget.Typed .vmem (.dma s2) (.remote (Dev.tc d') dst (.dma s1) hsc)}
    {k : PUnit → Prog (TpuEff nD τ sig (Elt F) Λ₀ .tc) α}
    (hj : j ∈ trs) (hn : σ.n = ord j) (hm : σ.m ≤ 2 * wrd j) (ht : (take (takes j) (σ.ch (srcK j))).isSome)
    (hs : src = mem c (srcK j)) (hD : d' = dstD c j) (hd : dst = mem (dstD c j) (dstK j)) (h1 : s1 = sendS j) (h2 : s2 = recvS j)
    (H : At I K c R (σ.start j) ⊢ WP c (k ⟨⟩) Q) :
    At I K c R σ ⊢ WP c (Prog.lift (.enqueueDma src (.remote (Dev.tc d') dst (.dma s1) hsc) (.dma s2) hsrc hdst hsem) >>= k) Q := by
  subst hs hD hd h1 h2
  obtain ⟨s', hs'⟩ := Option.isSome_iff_exists.mp ht
  show _ ⊢ wp _ _ _ (.op _ _) Q
  unfold At
  rw [tr_start c hj hn hm, ch_take I c σ.ch (srcK j)]
  iintro ⟨#HC, ⟨%W, HO⟩, ⟨⟨HtS, HtR, Hl, #HrS, HaS⟩, Htr⟩, Hrx, ⟨Hk, Hch⟩, Hm, HR⟩
  ihave Hk2 := (take_split I c (srcK j) hs') $$ Hk
  icases Hk2 with ⟨Hk, Hk'⟩
  ihave Hk := (owns_open c (mem c (srcK j)) _ _) $$ Hk
  icases Hk with ⟨%f, %hf, Hk⟩
  unfold landing
  icases Hl with ⟨⟨%X, Hl⟩, #HrR⟩
  ihave Hl := (owns_open (dstD c j) (mem (dstD c j) (dstK j)) _ _) $$ Hl
  icases Hl with ⟨%g, -, Hl⟩
  ihave #HIs := (Ctx_inv I K (dma_mem c (sendS j) (sendS_ge j))) $$ HC
  ihave #HIr := (Ctx_inv I K (dma_mem (dstD c j) (recvS j) (recvS_ge j))) $$ HC
  iapply (Rounds.wp_send_pointsTo 𝒱₀ ER (rd I) c.tc none (c' := (dstD c j).tc) (src := mem c (srcK j)) (dst := mem (dstD c j) (dstK j))
      (sS := .dma (sendS j)) (sem := .dma (recvS j)) (q := shT (takes j)) (fs := f) (κ₁ := K (sendC c j)) (κ₂ := K (recvC (dstD c j) j))
      (r₁ := 0) (r₂ := 0) (d₁ := 0) (d₂ := 0) (fd := g)
      (by rw [duties_send I c hj]; exact Finset.mem_singleton_self _) (by rw [duties_recv I _ hj]; exact Finset.mem_singleton_self _)
      () () N32 (credit_mem _ _) (amount_send I c j 0) (amount_recv I (dstD c j) j 0) (Owe c (σ.n + 1)) (Owe_start c hj hn) (W := W)
      (by rw [payload_send]; unfold sndPay; rw [← hf]; exact owns_intro c.tc (mem c (srcK j)) _ f)
      (pay_recv I c hf g)) $$ [Hk Hl HO HtS HtR]
  · isplitr; · iexact HIs
    isplitr; · iexact HIr
    isplitl [Hk]; · iexact Hk
    isplitl [Hl]; · iexact Hl
    isplitl [HO]; · iexact HO
    isplitl [HtS]; · iexact HtS
    isplitr; · iexact HrS
    isplitl [HtR]; · iexact HtR
    iexact HrR
  iintro ⟨HcS, HO⟩
  iapply H
  unfold At
  isplitr; · iexact HC
  isplitl [HO]; · iexists W; iexact HO
  isplitl [HcS HaS Htr]
  · iapply (Entails.of_eq (tr_started c hj hn hm).symm)
    isplitl [HcS HaS]
    · isplitl [HcS]; · iexact HcS
      iexact HaS
    · iexact Htr
  isplitl [Hrx]; · iexact Hrx
  isplitl [Hk' Hch]
  · iapply (Entails.of_eq (ch_put I c σ.ch (srcK j) ((take (takes j) (σ.ch (srcK j))).getD .none)))
    rw [hs', Option.getD_some]
    isplitl [Hk']; · iexact Hk'
    iexact Hch
  isplitl [Hm]; · iexact Hm
  iexact HR

/-- The wait for a transfer's reading. -/
theorem st_sent {j : Tr} {sp sp' : Space} {s s' : Shape} {e e' : EltTy} {κ' : Kind} {src : Memref sig .tc sp' s' e'} {dst : Memref sig κ' sp s e}
    {s1 : DmaSem sig} {hsrc : src.view.WordExact} {hdst : dst.view.WordExact}
    {k : PUnit → Prog (TpuEff nD τ sig (Elt F) Λ₀ .tc) α}
    (hj : j ∈ trs) (hn : ord j < σ.n) (hm : σ.m = 2 * wrd j) (ht : (give (takes j) (σ.ch (srcK j))).isSome)
    (h1 : s1 = sendS j) (hN : dst.view.dmaCredit = N32)
    (H : At I K c R (σ.sent j) ⊢ WP c (k ⟨⟩) Q) :
    At I K c R σ ⊢ WP c (Prog.lift (.waitDma2 s1 src dst hsrc hdst) >>= k) Q := by
  subst h1
  obtain ⟨s', hs'⟩ := Option.isSome_iff_exists.mp ht
  show _ ⊢ wp _ _ _ (.op _ _) Q
  unfold At
  rw [tr_wait c hj hn hm, ch_take I c σ.ch (srcK j), rx_other c hm]
  iintro ⟨#HC, ⟨%W, HO⟩, ⟨⟨HcS, HaS⟩, Htr⟩, Hrx, ⟨Hk, Hch⟩, Hm, HR⟩
  ihave #HIs := (Ctx_inv I K (dma_mem c (sendS j) (sendS_ge j))) $$ HC
  iapply (Rounds.wp_wait_rest_token 𝒱₀ ER (rd I) c.tc none (κ := K (sendC c j))
      (show ∀ K' : PUnit → sProp 𝕄, wpE (defs₀ (F := F)) 𝒱₀ c.tc none Set.univ (.waitDma2 (sendS j) src dst hsrc hdst) K' = waitSpec c.tc Set.univ (.dma (sendS j)) N32 K' from
        fun K' => (wpE_waitDma2_eq 𝒱₀ c.tc none Set.univ K').trans (by rw [hN]))
      (Set.mem_univ _) () (O := Owe c σ.n) (W := W) (R := 0) (m := 0) (T := ∅)
      ((Nat.zero_add _).trans (expect_send I c hj).symm)) $$ [HcS HO HaS]
  · isplitr; · iexact HIs
    isplitl [HcS]; · iexact HcS
    isplitl [HO]; · iexact HO
    isplitr; · iapply (mayWaitC I K c σ.n (.dma (sendS j)) (by have := lv_send c j; unfold sendC dmaC at this; omega)); iexact HC
    iexact HaS
  iintro ⟨HO, HaS, -, Hpay⟩
  iapply H
  unfold At
  isplitr; · iexact HC
  isplitl [HO]; · iexists _; iexact HO
  isplitl [HaS Htr]
  · iapply (Entails.of_eq (tr_waited c hj hn hm).symm)
    isplitl [HaS]
    · iexact HaS
    · iexact Htr
  isplitl [Hrx]; · iexact Hrx
  isplitl [Hk Hch Hpay]
  · iapply (Entails.of_eq (ch_put I c σ.ch (srcK j) ((give (takes j) (σ.ch (srcK j))).getD .none)))
    ihave Hpay := (Entails.of_eq (rest_send I c hj)) $$ Hpay
    rw [hs', Option.getD_some]
    isplitl [Hk Hpay]
    · iapply (give_join I c (srcK j) hs')
      unfold sndPay
      isplitl [Hpay]; · iexact Hpay
      iexact Hk
    iexact Hch
  isplitl [Hm]; · iexact Hm
  iexact HR

/-- The wait for the like transfer's landing here. -/
theorem st_recd {j : Tr} {sp sp' : Space} {s s' : Shape} {e e' : EltTy} {κ' : Kind} {src : Memref sig .tc sp' s' e'} {dst : Memref sig κ' sp s e}
    {s1 : DmaSem sig} {hsrc : src.view.WordExact} {hdst : dst.view.WordExact}
    {k : PUnit → Prog (TpuEff nD τ sig (Elt F) Λ₀ .tc) α}
    (hj : j ∈ trs) (hn : ord j < σ.n) (hm : σ.m = 2 * wrd j + 1)
    (h1 : s1 = recvS j) (hN : dst.view.dmaCredit = N32)
    (H : At I K c R (σ.recd j) ⊢ WP c (k ⟨⟩) Q) :
    At I K c R σ ⊢ WP c (Prog.lift (.waitDma2 s1 src dst hsrc hdst) >>= k) Q := by
  subst h1
  show _ ⊢ wp _ _ _ (.op _ _) Q
  unfold At
  rw [rx_wait c hj hm, ch_take I c σ.ch (dstK j), tr_other c hm]
  iintro ⟨#HC, ⟨%W, HO⟩, Htr, ⟨⟨HcS, HaS⟩, Hrx⟩, ⟨-, Hch⟩, Hm, HR⟩
  ihave #HIs := (Ctx_inv I K (dma_mem c (recvS j) (recvS_ge j))) $$ HC
  iapply (Rounds.wp_wait_rest_token 𝒱₀ ER (rd I) c.tc none (κ := K (recvC c j))
      (show ∀ K' : PUnit → sProp 𝕄, wpE (defs₀ (F := F)) 𝒱₀ c.tc none Set.univ (.waitDma2 (recvS j) src dst hsrc hdst) K' = waitSpec c.tc Set.univ (.dma (recvS j)) N32 K' from
        fun K' => (wpE_waitDma2_eq 𝒱₀ c.tc none Set.univ K').trans (by rw [hN]))
      (Set.mem_univ _) () (O := Owe c σ.n) (W := W) (R := 0) (m := 0) (T := ∅)
      ((Nat.zero_add _).trans (expect_recv I c hj).symm)) $$ [HcS HO HaS]
  · isplitr; · iexact HIs
    isplitl [HcS]; · iexact HcS
    isplitl [HO]; · iexact HO
    isplitr; · iapply (mayWaitC I K c σ.n (.dma (recvS j)) (by have := lv_recv c j; unfold recvC dmaC at this; omega)); iexact HC
    iexact HaS
  iintro ⟨HO, HaS, -, Hpay⟩
  iapply H
  unfold At
  isplitr; · iexact HC
  isplitl [HO]; · iexists _; iexact HO
  isplitl [Htr]; · iexact Htr
  isplitl [HaS Hrx]
  · iapply (Entails.of_eq (rx_waited c hj hm).symm)
    isplitl [HaS]
    · iexact HaS
    · iexact Hrx
  isplitl [Hch Hpay]
  · iapply (Entails.of_eq (ch_put I c σ.ch (dstK j) .val))
    ihave Hpay := (Entails.of_eq (rest_recv I c hj)) $$ Hpay
    unfold rcvPay chRes
    isplitl [Hpay]; · iexact Hpay
    iexact Hch
  isplitl [Hm]; · iexact Hm
  iexact HR

/-! ## Loads and stores -/

/-- A piece out of the state, at what is known of it. -/
theorem At_open {k : Ck} {P : sProp 𝕄} (hP : chRes I c k (σ.ch k) = P) :
    At I K c R σ ⊢ iprop(P ∗ (P -∗ At I K c R σ)) := by
  subst hP
  unfold At
  rw [ch_take I c σ.ch k]
  iintro ⟨HC, HO, Htr, Hrx, ⟨Hk, Hch⟩, Hm, HR⟩
  isplitl [Hk]; · iexact Hk
  iintro Hk
  isplitl [HC]; · iexact HC
  isplitl [HO]; · iexact HO
  isplitl [Htr]; · iexact Htr
  isplitl [Hrx]; · iexact Hrx
  isplitl [Hk Hch]
  · isplitl [Hk]; · iexact Hk
    iexact Hch
  isplitl [Hm]; · iexact Hm
  iexact HR
/-- A piece out of the state, to come back otherwise. -/
theorem At_set {k : Ck} (s : Stt) :
    At I K c R σ ⊢ iprop(chRes I c k (σ.ch k) ∗ (chRes I c k s -∗ At I K c R (σ.setc k s))) := by
  unfold At
  rw [ch_take I c σ.ch k]
  iintro ⟨HC, HO, Htr, Hrx, ⟨Hk, Hch⟩, Hm, HR⟩
  isplitl [Hk]; · iexact Hk
  iintro Hk
  isplitl [HC]; · iexact HC
  isplitl [HO]; · iexact HO
  isplitl [Htr]; · iexact Htr
  isplitl [Hrx]; · iexact Hrx
  isplitl [Hk Hch]
  · iapply (Entails.of_eq (ch_put I c σ.ch k s))
    isplitl [Hk]; · iexact Hk
    iexact Hch
  isplitl [Hm]; · iexact Hm
  iexact HR

section Rect
variable {n : ℕ} {A : Memref sig .tc .vmem (⟨2, ![n, 1024]⟩ : Shape) .f32} {off : Fin 2 → ℕ}
  {inb : ∀ a, off a + S32x1024.size a ≤ (⟨2, ![n, 1024]⟩ : Shape).size a}

/-- A load of a piece that holds known values. -/
theorem ld {P : S32x1024.Idx → Elt F .f32} {q : PosShare TreeShare} {p : Ck} {hl : A.view.LoadsAt (Rect.unit (s := (⟨2, ![n, 1024]⟩ : Shape)) off S32x1024.size inb).toLoadRect}
    {k : (S32x1024.Idx → Elt F .f32) → Prog (TpuEff nD τ sig (Elt F) Λ₀ .tc) α}
    (hp : A.slice (Rect.unit (s := (⟨2, ![n, 1024]⟩ : Shape)) off S32x1024.size inb) (fun _ => rfl) = mem c p)
    (hP : chRes I c p (σ.ch p) = owns c.tc (mem c p) q P)
    (H : At I K c R σ ⊢ WP c (k P) Q) :
    At I K c R σ ⊢ WP c (Prog.lift (.load A (Rect.unit (s := (⟨2, ![n, 1024]⟩ : Shape)) off S32x1024.size inb).toLoadRect hl) >>= k) Q := by
  show _ ⊢ wp _ _ _ (.op _ _) Q
  iintro HA
  ihave HA2 := (At_open I K c R hP) $$ HA
  icases HA2 with ⟨Hk, Hb⟩
  rw [← hp]
  unfold owns
  icases Hk with ⟨%f, %hf, Hk⟩
  iapply (wp_load_rect 𝒱₀ (c.tc : Thread nD τ) none Set.univ (m := A) (r := Rect.unit (s := (⟨2, ![n, 1024]⟩ : Shape)) off S32x1024.size inb) (S := (A.access (Rect.unit (s := (⟨2, ![n, 1024]⟩ : Shape)) off S32x1024.size inb)).set) (q := q) (f := f) (fun _ h => h)) $$ [Hk]
  · iexact Hk
  iintro Hk
  have hf' : (A.access (Rect.unit (s := (⟨2, ![n, 1024]⟩ : Shape)) off S32x1024.size inb)).read (Elt F) f = P := hf
  rw [hf']
  iapply H
  iapply Hb
  iexists f
  isplitr; · ipureintro; exact hf
  iexact Hk

/-- A load of a piece of whatever contents, -/
theorem ld_any {p : Ck} {hl : A.view.LoadsAt (Rect.unit (s := (⟨2, ![n, 1024]⟩ : Shape)) off S32x1024.size inb).toLoadRect}
    {k : (S32x1024.Idx → Elt F .f32) → Prog (TpuEff nD τ sig (Elt F) Λ₀ .tc) α}
    (hp : A.slice (Rect.unit (s := (⟨2, ![n, 1024]⟩ : Shape)) off S32x1024.size inb) (fun _ => rfl) = mem c p)
    (hs : σ.ch p = .junk)
    (H : ∀ X, At I K c R σ ⊢ WP c (k X) Q) :
    At I K c R σ ⊢ WP c (Prog.lift (.load A (Rect.unit (s := (⟨2, ![n, 1024]⟩ : Shape)) off S32x1024.size inb).toLoadRect hl) >>= k) Q := by
  show _ ⊢ wp _ _ _ (.op _ _) Q
  iintro HA
  ihave HA2 := (At_open I K c R (k := p) (P := iprop(∃ X, owns c.tc (mem c p) fullShare X)) (by rw [hs]; rfl)) $$ HA
  icases HA2 with ⟨Hk, Hb⟩
  unfold owns
  rw [← hp]
  icases Hk with ⟨%X, %f, %hf, Hk⟩
  iapply (wp_load_rect 𝒱₀ (c.tc : Thread nD τ) none Set.univ (m := A) (r := Rect.unit (s := (⟨2, ![n, 1024]⟩ : Shape)) off S32x1024.size inb) (S := (A.access (Rect.unit (s := (⟨2, ![n, 1024]⟩ : Shape)) off S32x1024.size inb)).set) (q := fullShare) (f := f) (fun _ h => h)) $$ [Hk]
  · iexact Hk
  iintro Hk
  iapply (H _)
  iapply Hb
  iexists X
  iexists f
  isplitr; · ipureintro; exact hf
  iexact Hk
theorem ld_val {p : Ck} {hl : A.view.LoadsAt (Rect.unit (s := (⟨2, ![n, 1024]⟩ : Shape)) off S32x1024.size inb).toLoadRect}
    {k : (S32x1024.Idx → Elt F .f32) → Prog (TpuEff nD τ sig (Elt F) Λ₀ .tc) α}
    (hp : A.slice (Rect.unit (s := (⟨2, ![n, 1024]⟩ : Shape)) off S32x1024.size inb) (fun _ => rfl) = mem c p)
    (hs : σ.ch p = .val)
    (H : At I K c R σ ⊢ WP c (k (vL I c p)) Q) :
    At I K c R σ ⊢ WP c (Prog.lift (.load A (Rect.unit (s := (⟨2, ![n, 1024]⟩ : Shape)) off S32x1024.size inb).toLoadRect hl) >>= k) Q :=
  ld I K c R hp (by rw [hs]; rfl) H
theorem ld_part {p : Ck} {hl : A.view.LoadsAt (Rect.unit (s := (⟨2, ![n, 1024]⟩ : Shape)) off S32x1024.size inb).toLoadRect}
    {k : (S32x1024.Idx → Elt F .f32) → Prog (TpuEff nD τ sig (Elt F) Λ₀ .tc) α}
    (hp : A.slice (Rect.unit (s := (⟨2, ![n, 1024]⟩ : Shape)) off S32x1024.size inb) (fun _ => rfl) = mem c p)
    (hs : σ.ch p = .part)
    (H : At I K c R σ ⊢ WP c (k (vF I c p)) Q) :
    At I K c R σ ⊢ WP c (Prog.lift (.load A (Rect.unit (s := (⟨2, ![n, 1024]⟩ : Shape)) off S32x1024.size inb).toLoadRect hl) >>= k) Q :=
  ld I K c R hp (by rw [hs]; rfl) H

/-- Whether a piece is there to be written. -/
def whole : Stt → Bool
  | .junk | .part | .val => true
  | _ => false
theorem whole_owns {p : Ck} {s : Stt} (h : whole s) : chRes I c p s ⊢ iprop(∃ X, owns c.tc (mem c p) fullShare X) := by
  rcases s <;> simp only [whole, Bool.false_eq_true] at h <;> dsimp only [chRes]
  · exact BI.Entails.refl _
  · iintro H; iexists _; iexact H
  · iintro H; iexists _; iexact H

/-- A store to a piece. -/
theorem sto {p : Ck} {s : Stt} {w : S32x1024.Idx → Elt F .f32}
    {hx : (A.access (Rect.unit (s := (⟨2, ![n, 1024]⟩ : Shape)) off S32x1024.size inb)).Stores Finset.univ}
    {hm : (Finset.univ : Finset S32x1024.Idx) = Finset.univ ∨ ∀ a, (Rect.unit (s := (⟨2, ![n, 1024]⟩ : Shape)) off S32x1024.size inb).stride a = 1}
    {k : PUnit → Prog (TpuEff nD τ sig (Elt F) Λ₀ .tc) α}
    (hp : A.slice (Rect.unit (s := (⟨2, ![n, 1024]⟩ : Shape)) off S32x1024.size inb) (fun _ => rfl) = mem c p)
    (hs : whole (σ.ch p)) (hw : chRes I c p s = owns c.tc (mem c p) fullShare w)
    (H : At I K c R (σ.setc p s) ⊢ WP c (k ⟨⟩) Q) :
    At I K c R σ ⊢ WP c (Prog.lift (.store A (Rect.unit (s := (⟨2, ![n, 1024]⟩ : Shape)) off S32x1024.size inb) w Finset.univ hx hm) >>= k) Q := by
  show _ ⊢ wp _ _ _ (.op _ _) Q
  iintro HA
  ihave HA2 := (At_set I K c R (k := p) s) $$ HA
  icases HA2 with ⟨Hk, Hb⟩
  ihave Hk := (whole_owns I c hs) $$ Hk
  rw [hw]
  unfold owns
  rw [← hp]
  icases Hk with ⟨%X, %f, %hf, Hk⟩
  iapply (wp_store 𝒱₀ (c.tc : Thread nD τ) none Set.univ (m := A) (r := Rect.unit (s := (⟨2, ![n, 1024]⟩ : Shape)) off S32x1024.size inb) (w := w) (Mk := Finset.univ) (S := (A.access (Rect.unit (s := (⟨2, ![n, 1024]⟩ : Shape)) off S32x1024.size inb)).set) (f := f)
    (by rw [View.setOn_univ])) $$ [Hk]
  · iexact Hk
  iintro Hk
  iapply H
  iapply Hb
  iexists _
  isplitr
  swap
  · iexact Hk
  · ipureintro
    exact View.read_write_univ (v := A.access (Rect.unit (s := (⟨2, ![n, 1024]⟩ : Shape)) off S32x1024.size inb)) f w
theorem st_part {p : Ck} {w : S32x1024.Idx → Elt F .f32}
    {hx : (A.access (Rect.unit (s := (⟨2, ![n, 1024]⟩ : Shape)) off S32x1024.size inb)).Stores Finset.univ}
    {hm : (Finset.univ : Finset S32x1024.Idx) = Finset.univ ∨ ∀ a, (Rect.unit (s := (⟨2, ![n, 1024]⟩ : Shape)) off S32x1024.size inb).stride a = 1}
    {k : PUnit → Prog (TpuEff nD τ sig (Elt F) Λ₀ .tc) α}
    (hp : A.slice (Rect.unit (s := (⟨2, ![n, 1024]⟩ : Shape)) off S32x1024.size inb) (fun _ => rfl) = mem c p)
    (hs : whole (σ.ch p)) (hw : w = vF I c p)
    (H : At I K c R (σ.setc p .part) ⊢ WP c (k ⟨⟩) Q) :
    At I K c R σ ⊢ WP c (Prog.lift (.store A (Rect.unit (s := (⟨2, ![n, 1024]⟩ : Shape)) off S32x1024.size inb) w Finset.univ hx hm) >>= k) Q :=
  sto I K c R hp hs (by rw [hw]; rfl) H
theorem st_val {p : Ck} {w : S32x1024.Idx → Elt F .f32}
    {hx : (A.access (Rect.unit (s := (⟨2, ![n, 1024]⟩ : Shape)) off S32x1024.size inb)).Stores Finset.univ}
    {hm : (Finset.univ : Finset S32x1024.Idx) = Finset.univ ∨ ∀ a, (Rect.unit (s := (⟨2, ![n, 1024]⟩ : Shape)) off S32x1024.size inb).stride a = 1}
    {k : PUnit → Prog (TpuEff nD τ sig (Elt F) Λ₀ .tc) α}
    (hp : A.slice (Rect.unit (s := (⟨2, ![n, 1024]⟩ : Shape)) off S32x1024.size inb) (fun _ => rfl) = mem c p)
    (hs : whole (σ.ch p)) (hw : w = vL I c p)
    (H : At I K c R (σ.setc p .val) ⊢ WP c (k ⟨⟩) Q) :
    At I K c R σ ⊢ WP c (Prog.lift (.store A (Rect.unit (s := (⟨2, ![n, 1024]⟩ : Shape)) off S32x1024.size inb) w Finset.univ hx hm) >>= k) Q :=
  sto I K c R hp hs (by rw [hw]; rfl) H
end Rect

section Slot
variable {A : Memref sig .tc .vmem S6x32x1024 .f32} {off : Fin 3 → ℕ} {inb : ∀ a, off a + S1x32x1024.size a ≤ S6x32x1024.size a}

theorem slot_set : ((A.slice (Rect.unit (s := S6x32x1024) off S1x32x1024.size inb) (fun _ => rfl)).squeeze S32x1024 squeezes_S1x32x1024_S32x1024).view.set
    = (A.access (Rect.unit (s := S6x32x1024) off S1x32x1024.size inb)).set := View.set_reshape _ _
theorem slot_open (X : V32 F) :
    owns c.tc ((A.slice (Rect.unit (s := S6x32x1024) off S1x32x1024.size inb) (fun _ => rfl)).squeeze S32x1024 squeezes_S1x32x1024_S32x1024) fullShare X
      ⊢ (iprop(∃ f, ⌜∀ hc, shapeCast S32x1024 ((A.access (Rect.unit (s := S6x32x1024) off S1x32x1024.size inb)).read (Elt F) f) hc = X⌝
        ∗ ((A.access (Rect.unit (s := S6x32x1024) off S1x32x1024.size inb)).loc c.tc ↦[(A.access (Rect.unit (s := S6x32x1024) off S1x32x1024.size inb)).set]{fullShare} f)) : sProp 𝕄) := by
  unfold owns
  rw [slot_set]
  iintro ⟨%f, %hf, H⟩
  iexists f
  isplitr; · ipureintro; exact fun _ => hf
  iexact H
theorem slot_close (X : V32 F) :
    (iprop(∃ f, ⌜∀ hc, shapeCast S32x1024 ((A.access (Rect.unit (s := S6x32x1024) off S1x32x1024.size inb)).read (Elt F) f) hc = X⌝
        ∗ ((A.access (Rect.unit (s := S6x32x1024) off S1x32x1024.size inb)).loc c.tc ↦[(A.access (Rect.unit (s := S6x32x1024) off S1x32x1024.size inb)).set]{fullShare} f)) : sProp 𝕄)
      ⊢ owns c.tc ((A.slice (Rect.unit (s := S6x32x1024) off S1x32x1024.size inb) (fun _ => rfl)).squeeze S32x1024 squeezes_S1x32x1024_S32x1024) fullShare X := by
  unfold owns
  rw [slot_set]
  iintro ⟨%f, %hf, H⟩
  iexists f
  isplitr; · ipureintro; exact hf squeezes_S1x32x1024_S32x1024.numel_eq
  iexact H
end Slot

/-- A load of a landing slot: the piece is the slot without its axis of extent 1. -/
theorem ld_slot {b : Bool} {h : Fin 6} {A : Memref sig .tc .vmem S6x32x1024 .f32} {off : Fin 3 → ℕ} {inb : ∀ a, off a + S1x32x1024.size a ≤ S6x32x1024.size a}
    {hl : A.view.LoadsAt (Rect.unit (s := S6x32x1024) off S1x32x1024.size inb).toLoadRect}
    {k : (S1x32x1024.Idx → Elt F .f32) → Prog (TpuEff nD τ sig (Elt F) Λ₀ .tc) α}
    (hp : (A.slice (Rect.unit (s := S6x32x1024) off S1x32x1024.size inb) (fun _ => rfl)).squeeze S32x1024 squeezes_S1x32x1024_S32x1024 = mem c (kC b h))
    (hs : σ.ch (kC b h) = .val)
    (H : ∀ Y, (∀ hc, shapeCast S32x1024 Y hc = vL I c (kC b h)) → At I K c R σ ⊢ WP c (k Y) Q) :
    At I K c R σ ⊢ WP c (Prog.lift (.load A (Rect.unit (s := S6x32x1024) off S1x32x1024.size inb).toLoadRect hl) >>= k) Q := by
  show _ ⊢ wp _ _ _ (.op _ _) Q
  iintro HA
  ihave HA2 := (At_open I K c R (k := kC b h) (P := owns c.tc (mem c (kC b h)) fullShare (vL I c (kC b h))) (by rw [hs]; rfl)) $$ HA
  icases HA2 with ⟨Hk, Hb⟩
  rw [← hp]
  ihave Hk := (slot_open c _) $$ Hk
  icases Hk with ⟨%f, %hf, Hk⟩
  iapply (wp_load_rect 𝒱₀ (c.tc : Thread nD τ) none Set.univ (m := A) (r := Rect.unit (s := S6x32x1024) off S1x32x1024.size inb) (S := (A.access (Rect.unit (s := S6x32x1024) off S1x32x1024.size inb)).set) (q := fullShare) (f := f)
    (fun _ h => h)) $$ [Hk]
  · iexact Hk
  iintro Hk
  iapply (H _ hf)
  iapply Hb
  iapply (slot_close c _)
  iexists f
  isplitr; · ipureintro; exact hf
  iexact Hk

/-- A load of the mask's rows of a block. -/
theorem ld_mask {b : Bool} {n : ℕ} {off : Fin 2 → ℕ} {inb : ∀ a, off a + S32x1.size a ≤ S256x1.size a}
    {hl : A1.view.LoadsAt (Rect.unit (s := S256x1) off S32x1.size inb).toLoadRect}
    {k : (S32x1.Idx → Elt F .f32) → Prog (TpuEff nD τ sig (Elt F) Λ₀ .tc) α}
    (ho : off = ![rowG c b n, 0])
    (H : At I K c R σ ⊢ WP c (k (vM I c b n)) Q) :
    At I K c R σ ⊢ WP c (Prog.lift (.load A1 (Rect.unit (s := S256x1) off S32x1.size inb).toLoadRect hl) >>= k) Q := by
  subst ho
  show _ ⊢ wp _ _ _ (.op _ _) Q
  unfold At
  iintro ⟨HC, HO, Htr, Hrx, Hch, Hm, HR⟩
  unfold owns
  icases Hm with ⟨%f, %hf, Hm⟩
  iapply (wp_load_rect 𝒱₀ (c.tc : Thread nD τ) none Set.univ (m := A1) (r := Rect.unit (s := S256x1) ![rowG c b n, 0] S32x1.size inb) (S := A1.view.set) (q := fullShare) (f := f)
    (by rw [View.set_slice]; exact Finset.map_subset_map.mpr (Finset.subset_univ _))) $$ [Hm]
  · iexact Hm
  iintro Hm
  have hv : (A1.access (Rect.unit (s := S256x1) ![rowG c b n, 0] S32x1.size inb)).read (Elt F) f = vM I c b n := by
    unfold vM; rw [← hf]; rfl
  rw [hv]
  iapply H
  unfold At
  isplitl [HC]; · iexact HC
  isplitl [HO]; · iexact HO
  isplitl [Htr]; · iexact Htr
  isplitl [Hrx]; · iexact Hrx
  isplitl [Hch]; · iexact Hch
  isplitl [Hm]
  · unfold owns
    iexists f
    isplitr; · ipureintro; exact hf
    iexact Hm
  iexact HR

/-- The end of a part. -/
theorem st_ret {a : α} (H : At I K c R σ ⊢ Q a) : At I K c R σ ⊢ WP c (pure a) Q := by
  show _ ⊢ wp _ _ _ (.ret a) Q
  rw [wp_ret]
  iintro H'
  imodintro
  iapply H
  iexact H'

end Steps

/-! ## Pieces by their printed rectangles -/

section Mem
variable (c : Dev nD) {off : Fin 2 → ℕ}

theorem mem_G {inb : ∀ a, off a + S32x1024.size a ≤ S256x1024.size a} {b : Bool} {n : Fin 4} (h : off = ![rowG c b n, 0]) :
    A4.slice (Rect.unit (s := S256x1024) off S32x1024.size inb) (fun _ => rfl) = mem c (kG b n) := by subst h; rfl
theorem mem_S {inb : ∀ a, off a + S32x1024.size a ≤ S256x1024.size a} {b : Bool} {n : Fin 4} (h : off = ![rowG c b n, 0]) :
    A5.slice (Rect.unit (s := S256x1024) off S32x1024.size inb) (fun _ => rfl) = mem c (kS b n) := by subst h; rfl
theorem mem_O {inb : ∀ a, off a + S32x1024.size a ≤ S2048x1024.size a} {b : Bool} {L : Fin 4} {d : Fin 8} (h : off = ![rowO c b L d, 0]) :
    A3.slice (Rect.unit (s := S2048x1024) off S32x1024.size inb) (fun _ => rfl) = mem c (kO b L d) := by subst h; rfl
theorem mem_eq_O {c' : Dev nD} {b : Bool} {L : Fin 4} {d d' : Fin 8} (h : rowO c' b L d' = rowO c b L d) : mem c' (kO b L d') = mem c (kO b L d) :=
  mem_O c (congrArg (fun x => ![x, 0]) h)
/-- Both ends of a transfer round the xy ring are the same rows. -/
theorem mem_dst {r b : Bool} {L t : Fin 4} : mem (dstD c (lT r b L t)) (dstK (lT r b L t)) = mem c (srcK (lT r b L t)) :=
  mem_eq_O c (turn_dst c r b L t).2

end Mem

end Cert.Proof

end
-- ==== Proof.Offs.lean ====
/-
  The printed rectangles and devices in closed form, each decided over all devices.
-/
module

public import proofs.«01_k».proof.Proof.Steps

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

/-! ## Rectangles -/

theorem off25 : ∀ c, k0_off25 c = ![rowG c false 0, 0] := by decide +kernel
theorem off26 : ∀ c, k0_off26 c = ![rowG c false 0, 0] := by decide +kernel
theorem off27 : ∀ c, k0_off27 c = ![rowG c true 0, 0] := by decide +kernel
theorem off28 : ∀ c, k0_off28 c = ![rowG c true 0, 0] := by decide +kernel
theorem off29_0 : ∀ c, k0_off29 c 0#32 = ![rowG c false 0, 0] := by decide +kernel
theorem off29_1 : ∀ c, k0_off29 c 1#32 = ![rowG c false 1, 0] := by decide +kernel
theorem off29_2 : ∀ c, k0_off29 c 2#32 = ![rowG c false 2, 0] := by decide +kernel
theorem off29_9 : ∀ c, k0_off29 c 4294967295#32 = ![rowG c false 3, 0] := by decide +kernel
theorem off30_0 : ∀ c, k0_off30 c 0#32 = ![rowG c true 0, 0] := by decide +kernel
theorem off30_1 : ∀ c, k0_off30 c 1#32 = ![rowG c true 1, 0] := by decide +kernel
theorem off30_2 : ∀ c, k0_off30 c 2#32 = ![rowG c true 2, 0] := by decide +kernel
theorem off30_9 : ∀ c, k0_off30 c 4294967295#32 = ![rowG c true 3, 0] := by decide +kernel
theorem off31_1 : ∀ c, k0_off31 c 1#32 = ![rowG c false 3, 0] := by decide +kernel
theorem off31_2 : ∀ c, k0_off31 c 2#32 = ![rowG c false 2, 0] := by decide +kernel
theorem off31_3 : ∀ c, k0_off31 c 3#32 = ![rowG c false 1, 0] := by decide +kernel
theorem off32_1 : ∀ c, k0_off32 c 1#32 = ![rowG c false 3, 0] := by decide +kernel
theorem off32_2 : ∀ c, k0_off32 c 2#32 = ![rowG c false 2, 0] := by decide +kernel
theorem off32_3 : ∀ c, k0_off32 c 3#32 = ![rowG c false 1, 0] := by decide +kernel
theorem off33_1 : ∀ c, k0_off33 c 1#32 = ![rowG c true 1, 0] := by decide +kernel
theorem off33_2 : ∀ c, k0_off33 c 2#32 = ![rowG c true 2, 0] := by decide +kernel
theorem off33_3 : ∀ c, k0_off33 c 3#32 = ![rowG c true 3, 0] := by decide +kernel
theorem off34_1 : ∀ c, k0_off34 c 1#32 = ![rowG c true 1, 0] := by decide +kernel
theorem off34_2 : ∀ c, k0_off34 c 2#32 = ![rowG c true 2, 0] := by decide +kernel
theorem off34_3 : ∀ c, k0_off34 c 3#32 = ![rowG c true 3, 0] := by decide +kernel
theorem off35_1 : ∀ c, k0_off35 c 1#32 = ![rowG c false 1, 0] := by decide +kernel
theorem off35_2 : ∀ c, k0_off35 c 2#32 = ![rowG c false 2, 0] := by decide +kernel
theorem off35_3 : ∀ c, k0_off35 c 3#32 = ![rowG c false 3, 0] := by decide +kernel
theorem off36 : ∀ c, k0_off36 c = ![rowO c false 0 0, 0] := by decide +kernel
theorem off37 : ∀ c, k0_off37 c = ![rowG c true 3, 0] := by decide +kernel
theorem off38 : ∀ c, k0_off38 c = ![rowO c true 0 0, 0] := by decide +kernel
theorem off39_0 : ∀ c, k0_off39 c 0#32 = ![rowO c false 0 0, 0] := by decide +kernel
theorem off39_1 : ∀ c, k0_off39 c 1#32 = ![rowO c false 0 7, 0] := by decide +kernel
theorem off39_2 : ∀ c, k0_off39 c 2#32 = ![rowO c false 0 6, 0] := by decide +kernel
theorem off39_3 : ∀ c, k0_off39 c 3#32 = ![rowO c false 0 5, 0] := by decide +kernel
theorem off40_0 : ∀ c, k0_off40 c 0#32 = ![rowO c true 0 0, 0] := by decide +kernel
theorem off40_1 : ∀ c, k0_off40 c 1#32 = ![rowO c true 0 1, 0] := by decide +kernel
theorem off40_2 : ∀ c, k0_off40 c 2#32 = ![rowO c true 0 2, 0] := by decide +kernel
theorem off40_3 : ∀ c, k0_off40 c 3#32 = ![rowO c true 0 3, 0] := by decide +kernel
theorem off41_0 : ∀ c, k0_off41 c 0#32 = ![rowO c true 0 0, 0] := by decide +kernel
theorem off41_1 : ∀ c, k0_off41 c 1#32 = ![rowO c true 0 7, 0] := by decide +kernel
theorem off41_2 : ∀ c, k0_off41 c 2#32 = ![rowO c true 0 6, 0] := by decide +kernel
theorem off42_0 : ∀ c, k0_off42 c 0#32 = ![rowO c false 0 0, 0] := by decide +kernel
theorem off42_1 : ∀ c, k0_off42 c 1#32 = ![rowO c false 0 1, 0] := by decide +kernel
theorem off42_2 : ∀ c, k0_off42 c 2#32 = ![rowO c false 0 2, 0] := by decide +kernel
theorem off43_0 : ∀ c, k0_off43 c 0#32 = ![rowO c false 1 0, 0] := by decide +kernel
theorem off43_1 : ∀ c, k0_off43 c 1#32 = ![rowO c false 2 0, 0] := by decide +kernel
theorem off43_2 : ∀ c, k0_off43 c 2#32 = ![rowO c false 3 0, 0] := by decide +kernel
theorem off44_0 : ∀ c, k0_off44 c 0#32 = ![rowO c true 1 0, 0] := by decide +kernel
theorem off44_1 : ∀ c, k0_off44 c 1#32 = ![rowO c true 2 0, 0] := by decide +kernel
theorem off44_2 : ∀ c, k0_off44 c 2#32 = ![rowO c true 3 0, 0] := by decide +kernel
theorem off45_0_0 : ∀ c, k0_off45 c 0#32 0#32 = ![rowO c false 1 0, 0] := by decide +kernel
theorem off45_0_1 : ∀ c, k0_off45 c 0#32 1#32 = ![rowO c false 2 0, 0] := by decide +kernel
theorem off45_0_2 : ∀ c, k0_off45 c 0#32 2#32 = ![rowO c false 3 0, 0] := by decide +kernel
theorem off45_1_0 : ∀ c, k0_off45 c 1#32 0#32 = ![rowO c false 1 7, 0] := by decide +kernel
theorem off45_1_1 : ∀ c, k0_off45 c 1#32 1#32 = ![rowO c false 2 7, 0] := by decide +kernel
theorem off45_1_2 : ∀ c, k0_off45 c 1#32 2#32 = ![rowO c false 3 7, 0] := by decide +kernel
theorem off45_2_0 : ∀ c, k0_off45 c 2#32 0#32 = ![rowO c false 1 6, 0] := by decide +kernel
theorem off45_2_1 : ∀ c, k0_off45 c 2#32 1#32 = ![rowO c false 2 6, 0] := by decide +kernel
theorem off45_2_2 : ∀ c, k0_off45 c 2#32 2#32 = ![rowO c false 3 6, 0] := by decide +kernel
theorem off45_3_0 : ∀ c, k0_off45 c 3#32 0#32 = ![rowO c false 1 5, 0] := by decide +kernel
theorem off45_3_1 : ∀ c, k0_off45 c 3#32 1#32 = ![rowO c false 2 5, 0] := by decide +kernel
theorem off45_3_2 : ∀ c, k0_off45 c 3#32 2#32 = ![rowO c false 3 5, 0] := by decide +kernel
theorem off46_0_0 : ∀ c, k0_off46 c 0#32 0#32 = ![rowO c true 1 0, 0] := by decide +kernel
theorem off46_0_1 : ∀ c, k0_off46 c 0#32 1#32 = ![rowO c true 2 0, 0] := by decide +kernel
theorem off46_0_2 : ∀ c, k0_off46 c 0#32 2#32 = ![rowO c true 3 0, 0] := by decide +kernel
theorem off46_1_0 : ∀ c, k0_off46 c 1#32 0#32 = ![rowO c true 1 1, 0] := by decide +kernel
theorem off46_1_1 : ∀ c, k0_off46 c 1#32 1#32 = ![rowO c true 2 1, 0] := by decide +kernel
theorem off46_1_2 : ∀ c, k0_off46 c 1#32 2#32 = ![rowO c true 3 1, 0] := by decide +kernel
theorem off46_2_0 : ∀ c, k0_off46 c 2#32 0#32 = ![rowO c true 1 2, 0] := by decide +kernel
theorem off46_2_1 : ∀ c, k0_off46 c 2#32 1#32 = ![rowO c true 2 2, 0] := by decide +kernel
theorem off46_2_2 : ∀ c, k0_off46 c 2#32 2#32 = ![rowO c true 3 2, 0] := by decide +kernel
theorem off46_3_0 : ∀ c, k0_off46 c 3#32 0#32 = ![rowO c true 1 3, 0] := by decide +kernel
theorem off46_3_1 : ∀ c, k0_off46 c 3#32 1#32 = ![rowO c true 2 3, 0] := by decide +kernel
theorem off46_3_2 : ∀ c, k0_off46 c 3#32 2#32 = ![rowO c true 3 3, 0] := by decide +kernel
theorem off47_0_0 : ∀ c, k0_off47 c 0#32 0#32 = ![rowO c true 1 0, 0] := by decide +kernel
theorem off47_0_1 : ∀ c, k0_off47 c 0#32 1#32 = ![rowO c true 2 0, 0] := by decide +kernel
theorem off47_0_2 : ∀ c, k0_off47 c 0#32 2#32 = ![rowO c true 3 0, 0] := by decide +kernel
theorem off47_1_0 : ∀ c, k0_off47 c 1#32 0#32 = ![rowO c true 1 7, 0] := by decide +kernel
theorem off47_1_1 : ∀ c, k0_off47 c 1#32 1#32 = ![rowO c true 2 7, 0] := by decide +kernel
theorem off47_1_2 : ∀ c, k0_off47 c 1#32 2#32 = ![rowO c true 3 7, 0] := by decide +kernel
theorem off47_2_0 : ∀ c, k0_off47 c 2#32 0#32 = ![rowO c true 1 6, 0] := by decide +kernel
theorem off47_2_1 : ∀ c, k0_off47 c 2#32 1#32 = ![rowO c true 2 6, 0] := by decide +kernel
theorem off47_2_2 : ∀ c, k0_off47 c 2#32 2#32 = ![rowO c true 3 6, 0] := by decide +kernel
theorem off48_0_0 : ∀ c, k0_off48 c 0#32 0#32 = ![rowO c false 1 0, 0] := by decide +kernel
theorem off48_0_1 : ∀ c, k0_off48 c 0#32 1#32 = ![rowO c false 2 0, 0] := by decide +kernel
theorem off48_0_2 : ∀ c, k0_off48 c 0#32 2#32 = ![rowO c false 3 0, 0] := by decide +kernel
theorem off48_1_0 : ∀ c, k0_off48 c 1#32 0#32 = ![rowO c false 1 1, 0] := by decide +kernel
theorem off48_1_1 : ∀ c, k0_off48 c 1#32 1#32 = ![rowO c false 2 1, 0] := by decide +kernel
theorem off48_1_2 : ∀ c, k0_off48 c 1#32 2#32 = ![rowO c false 3 1, 0] := by decide +kernel
theorem off48_2_0 : ∀ c, k0_off48 c 2#32 0#32 = ![rowO c false 1 2, 0] := by decide +kernel
theorem off48_2_1 : ∀ c, k0_off48 c 2#32 1#32 = ![rowO c false 2 2, 0] := by decide +kernel
theorem off48_2_2 : ∀ c, k0_off48 c 2#32 2#32 = ![rowO c false 3 2, 0] := by decide +kernel

/-! ## Devices -/

theorem dev5 : ∀ c, (⟨k0_dev5 c, k0_dev5_lt c⟩ : Dev nD) = nxt false c := by decide +kernel
theorem dev6 : ∀ c, (⟨k0_dev6 c, k0_dev6_lt c⟩ : Dev nD) = nxt true c := by decide +kernel
theorem dev7 : ∀ c, (⟨k0_dev7 c, k0_dev7_lt c⟩ : Dev nD) = nxt false c := by decide +kernel
theorem dev8 : ∀ c, (⟨k0_dev8 c, k0_dev8_lt c⟩ : Dev nD) = nxt true c := by decide +kernel
theorem dev9 : ∀ c, (⟨k0_dev9 c, k0_dev9_lt c⟩ : Dev nD) = nxt false c := by decide +kernel
theorem dev10 : ∀ c, (⟨k0_dev10 c, k0_dev10_lt c⟩ : Dev nD) = nxt true c := by decide +kernel
theorem dev11 : ∀ c, (⟨k0_dev11 c, k0_dev11_lt c⟩ : Dev nD) = xyR c := by decide +kernel
theorem dev12 : ∀ c, (⟨k0_dev12 c, k0_dev12_lt c⟩ : Dev nD) = xyL c := by decide +kernel
theorem dev13 : ∀ c, (⟨k0_dev13 c, k0_dev13_lt c⟩ : Dev nD) = xyR c := by decide +kernel
theorem dev14 : ∀ c, (⟨k0_dev14 c, k0_dev14_lt c⟩ : Dev nD) = xyL c := by decide +kernel
theorem dev15 : ∀ c, (⟨k0_dev15 c, k0_dev15_lt c⟩ : Dev nD) = nxt false c := by decide +kernel
theorem dev16 : ∀ c, (⟨k0_dev16 c, k0_dev16_lt c⟩ : Dev nD) = nxt true c := by decide +kernel
theorem dev17 : ∀ c, (⟨k0_dev17 c, k0_dev17_lt c⟩ : Dev nD) = xyR c := by decide +kernel
theorem dev18 : ∀ c, (⟨k0_dev18 c, k0_dev18_lt c⟩ : Dev nD) = xyL c := by decide +kernel
theorem dev19 : ∀ c, (⟨k0_dev19 c, k0_dev19_lt c⟩ : Dev nD) = xyR c := by decide +kernel
theorem dev20 : ∀ c, (⟨k0_dev20 c, k0_dev20_lt c⟩ : Dev nD) = xyL c := by decide +kernel
theorem dev21 : ∀ c, (⟨k0_dev21 c, k0_dev21_lt c⟩ : Dev nD) = xyR c := by decide +kernel
theorem dev22 : ∀ c, (⟨k0_dev22 c, k0_dev22_lt c⟩ : Dev nD) = xyL c := by decide +kernel
theorem dev23 : ∀ c, (⟨k0_dev23 c, k0_dev23_lt c⟩ : Dev nD) = xyR c := by decide +kernel
theorem dev24 : ∀ c, (⟨k0_dev24 c, k0_dev24_lt c⟩ : Dev nD) = xyL c := by decide +kernel
theorem dev25 : ∀ c, (⟨k0_dev25 c, k0_dev25_lt c⟩ : Dev nD) = nxt false c := by decide +kernel
theorem dev26 : ∀ c, (⟨k0_dev26 c, k0_dev26_lt c⟩ : Dev nD) = nxt true c := by decide +kernel
theorem dev27 : ∀ c, (⟨k0_dev27 c, k0_dev27_lt c⟩ : Dev nD) = xyR c := by decide +kernel
theorem dev28 : ∀ c, (⟨k0_dev28 c, k0_dev28_lt c⟩ : Dev nD) = xyL c := by decide +kernel
theorem dev29 : ∀ c, (⟨k0_dev29 c, k0_dev29_lt c⟩ : Dev nD) = xyR c := by decide +kernel
theorem dev30 : ∀ c, (⟨k0_dev30 c, k0_dev30_lt c⟩ : Dev nD) = xyL c := by decide +kernel
theorem dev31 : ∀ c, (⟨k0_dev31 c, k0_dev31_lt c⟩ : Dev nD) = xyR c := by decide +kernel
theorem dev32 : ∀ c, (⟨k0_dev32 c, k0_dev32_lt c⟩ : Dev nD) = xyL c := by decide +kernel
theorem dev33 : ∀ c, (⟨k0_dev33 c, k0_dev33_lt c⟩ : Dev nD) = xyR c := by decide +kernel
theorem dev34 : ∀ c, (⟨k0_dev34 c, k0_dev34_lt c⟩ : Dev nD) = xyL c := by decide +kernel
theorem dev35 : ∀ c, (⟨k0_dev35 c, k0_dev35_lt c⟩ : Dev nD) = xyR c := by decide +kernel
theorem dev36 : ∀ c, (⟨k0_dev36 c, k0_dev36_lt c⟩ : Dev nD) = xyL c := by decide +kernel
theorem dev37 : ∀ c, (⟨k0_dev37 c, k0_dev37_lt c⟩ : Dev nD) = xyR c := by decide +kernel
theorem dev38 : ∀ c, (⟨k0_dev38 c, k0_dev38_lt c⟩ : Dev nD) = xyL c := by decide +kernel
theorem dev39 : ∀ c, (⟨k0_dev39 c, k0_dev39_lt c⟩ : Dev nD) = nxt false c := by decide +kernel
theorem dev40 : ∀ c, (⟨k0_dev40 c, k0_dev40_lt c⟩ : Dev nD) = nxt true c := by decide +kernel
theorem dev41 : ∀ c, (⟨k0_dev41 c, k0_dev41_lt c⟩ : Dev nD) = xyR c := by decide +kernel
theorem dev42 : ∀ c, (⟨k0_dev42 c, k0_dev42_lt c⟩ : Dev nD) = xyL c := by decide +kernel
theorem dev43 : ∀ c, (⟨k0_dev43 c, k0_dev43_lt c⟩ : Dev nD) = xyR c := by decide +kernel
theorem dev44 : ∀ c, (⟨k0_dev44 c, k0_dev44_lt c⟩ : Dev nD) = xyL c := by decide +kernel
theorem dev45 : ∀ c, (⟨k0_dev45 c, k0_dev45_lt c⟩ : Dev nD) = xyR c := by decide +kernel
theorem dev46 : ∀ c, (⟨k0_dev46 c, k0_dev46_lt c⟩ : Dev nD) = xyL c := by decide +kernel
theorem dev47 : ∀ c, (⟨k0_dev47 c, k0_dev47_lt c⟩ : Dev nD) = xyR c := by decide +kernel
theorem dev48 : ∀ c, (⟨k0_dev48 c, k0_dev48_lt c⟩ : Dev nD) = xyL c := by decide +kernel
theorem dev49 : ∀ c, (⟨k0_dev49 c, k0_dev49_lt c⟩ : Dev nD) = xyR c := by decide +kernel
theorem dev50 : ∀ c, (⟨k0_dev50 c, k0_dev50_lt c⟩ : Dev nD) = xyL c := by decide +kernel
theorem dev51 : ∀ c, (⟨k0_dev51 c, k0_dev51_lt c⟩ : Dev nD) = xyR c := by decide +kernel
theorem dev52 : ∀ c, (⟨k0_dev52 c, k0_dev52_lt c⟩ : Dev nD) = xyL c := by decide +kernel
theorem dev53 : ∀ c, (⟨k0_dev53 c, k0_dev53_lt c⟩ : Dev nD) = xyR c := by decide +kernel
theorem dev54 : ∀ c, (⟨k0_dev54 c, k0_dev54_lt c⟩ : Dev nD) = xyL c := by decide +kernel
theorem dev55 : ∀ c, (⟨k0_dev55 c, k0_dev55_lt c⟩ : Dev nD) = xyR c := by decide +kernel
theorem dev56 : ∀ c, (⟨k0_dev56 c, k0_dev56_lt c⟩ : Dev nD) = xyL c := by decide +kernel
theorem dev57 : ∀ c, (⟨k0_dev57 c, k0_dev57_lt c⟩ : Dev nD) = xyR c := by decide +kernel
theorem dev58 : ∀ c, (⟨k0_dev58 c, k0_dev58_lt c⟩ : Dev nD) = xyL c := by decide +kernel
theorem dev59 : ∀ c, (⟨k0_dev59 c, k0_dev59_lt c⟩ : Dev nD) = xyR c := by decide +kernel
theorem dev60 : ∀ c, (⟨k0_dev60 c, k0_dev60_lt c⟩ : Dev nD) = xyL c := by decide +kernel
theorem dev61 : ∀ c, (⟨k0_dev61 c, k0_dev61_lt c⟩ : Dev nD) = xyR c := by decide +kernel
theorem dev62 : ∀ c, (⟨k0_dev62 c, k0_dev62_lt c⟩ : Dev nD) = xyL c := by decide +kernel
theorem dev63 : ∀ c, (⟨k0_dev63 c, k0_dev63_lt c⟩ : Dev nD) = xyR c := by decide +kernel
theorem dev64 : ∀ c, (⟨k0_dev64 c, k0_dev64_lt c⟩ : Dev nD) = xyL c := by decide +kernel
theorem dev65 : ∀ c, (⟨k0_dev65 c, k0_dev65_lt c⟩ : Dev nD) = xyR c := by decide +kernel
theorem dev66 : ∀ c, (⟨k0_dev66 c, k0_dev66_lt c⟩ : Dev nD) = xyL c := by decide +kernel
theorem dev67 : ∀ c, (⟨k0_dev67 c, k0_dev67_lt c⟩ : Dev nD) = xyR c := by decide +kernel
theorem dev68 : ∀ c, (⟨k0_dev68 c, k0_dev68_lt c⟩ : Dev nD) = xyL c := by decide +kernel
theorem dev69 : ∀ c, (⟨k0_dev69 c, k0_dev69_lt c⟩ : Dev nD) = xyR c := by decide +kernel
theorem dev70 : ∀ c, (⟨k0_dev70 c, k0_dev70_lt c⟩ : Dev nD) = xyL c := by decide +kernel
theorem dev71 : ∀ c, (⟨k0_dev71 c, k0_dev71_lt c⟩ : Dev nD) = xyR c := by decide +kernel
theorem dev72 : ∀ c, (⟨k0_dev72 c, k0_dev72_lt c⟩ : Dev nD) = xyL c := by decide +kernel

end Cert.Proof

end
-- ==== Proof.Vals.lean ====
/-
  The values that the kernel computes between its transfers, as the values of its pieces.
-/
module

public import proofs.«01_k».proof.Proof.Offs
public import Idealize.ShloMosaic.Lib.Pointwise.Reshape

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Two programs one after the other. -/
theorem bnd {c : Dev nD} {α β : Type} {P : sProp (MT nD τ sig Unit (Elt F) ℕ UU ℕ)} {p : Prog (TpuEff nD τ sig (Elt F) Λ₀ .tc) α}
    {k : α → Prog (TpuEff nD τ sig (Elt F) Λ₀ .tc) β} {Q : β → sProp (MT nD τ sig Unit (Elt F) ℕ UU ℕ)}
    (h : P ⊢ WP c p (fun r => WP c (k r) Q)) : P ⊢ WP c (p >>= k) Q := by
  show _ ⊢ wp _ _ _ (p >>= k) Q
  rw [wp_bind]; exact h

variable (I : Inp F) (c : Dev nD)

/-- The landed sum added to the device's own rows is its next sum. -/
theorem add_val {b : Bool} {n : ℕ} (hn : n < 3) {Y : S1x32x1024.Idx → Elt F .f32}
    (hY : ∀ hc, shapeCast S32x1024 Y hc = vS I (prv b c) b n) :
    addf (vP I c b (n + 1)) (shapeCast S32x1024 Y shapeCasts_S1x32x1024_S32x1024) = vS I c b (n + 1) := by
  rw [hY, vS_add I c b hn]
theorem pay13 {Y : S1x32x1024.Idx → Elt F .f32} (hY : ∀ hc, shapeCast S32x1024 Y hc = vL I c (kC false 0)) :
    k0_pay13 (vF I c (kS false 1)) Y = vL I c (kS false 1) := add_val I c (b := false) (n := 0) (by decide) hY
theorem pay19 {Y : S1x32x1024.Idx → Elt F .f32} (hY : ∀ hc, shapeCast S32x1024 Y hc = vL I c (kC true 2)) :
    k0_pay19 (vF I c (kS true 3)) Y = vL I c (kS true 3) := add_val I c (b := true) (n := 2) (by decide) hY
theorem slotv {k : Ck} {Y : S1x32x1024.Idx → Elt F .f32} (hY : ∀ hc, shapeCast S32x1024 Y hc = vL I c k) :
    shapeCast S32x1024 Y shapeCasts_S1x32x1024_S32x1024 = vL I c k := hY _
theorem turn_zero : ∀ c, turn c 0 = c := by decide +kernel
/-- The device's own sum is its first block of the result, -/
theorem own_val (b : Bool) : vL I c (kS b 3) = vL I c (kO b 0 0) := by
  show vS I c b 3 = vS I (turn c 0) b 3; rw [turn_zero]
/-- and a sum passed on is a later one. -/
theorem pass_val (b : Bool) {h : Fin 6} {L : Fin 4} (e : h.val = 2 + L.val) (h3 : 3 ≤ h.val) : vL I c (kC b h) = vL I c (kO b L 0) := by
  show vS I (prv b c) b h = vS I (turn c 0) b (3 + L)
  rw [turn_zero, show 3 + L.val = h.val + 1 by omega, vS_pass I c b (by omega)]

end Cert.Proof

end
-- ==== Proof.Gather.lean ====
/-
  The row gathers: a loop that starts 32 of them, the barrier's signals and its wait, and a loop that waits for the rows
  of a semaphore.
-/
module

public import proofs.«01_k».proof.Proof.Vals
public import Idealize.ShloMosaic.Lib.Exec.Context

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem sep_assoc_eq {M : Type _} [RA M] (P Q R : sProp M) : iprop((P ∗ Q) ∗ R) = iprop(P ∗ Q ∗ R) :=
  equiv_iff.mp ⟨Idealize.SL.BI.sep_assoc, Idealize.SL.BI.sep_assoc'⟩

theorem bigSep_insert_eq {M : Type _} [URA M] {J : Type} [DecidableEq J] {s : Finset J} {i : J} (hi : i ∉ s) (Φ : J → sProp M) :
    bigSep (insert i s) Φ = iprop(Φ i ∗ bigSep s Φ) := BI.bigSep_insert hi

/-! ## A row -/

/-- Of a row before its gather is started: the row's place, a share of the table, and the token; -/
def rowBefore (I : Inp F) (c : Dev nD) (i : Rw) : sProp 𝕄 :=
  iprop((∃ X, (A4.view.loc c.tc ↦[(gRow (rwN c i) (rwN_le c i)).view.set]{fullShare} X))
    ∗ (A2.view.loc c.tc ↦[Finset.univ]{shE i} I.emb c)
    ∗ dutyTok ER (gatC c (rwS i)) 0 (rwD i) ∗ reached ER (gatC c (rwS i)) 0)
/-- and after: the credit, and the share of the rest of the table. -/
def rowAfter (I : Inp F) (c : Dev nD) (i : Rw) : sProp 𝕄 :=
  iprop(cred (tallyAt (gatC c (rwS i)) () N1)
    ∗ (A2.view.loc c.tc ↦[Finset.univ \ (eRow (rwE I c i) (rwE_le I c i)).view.set]{shE i} I.emb c))

/-- The copied row is the gathered one. -/
theorem row_val (I : Inp F) (c : Dev nD) (i : Rw) (g : S256x1024.Idx → Elt F .f32) :
    ∀ x ∈ (gRow (rwN c i) (rwN_le c i)).view.set,
      (gRow (rwN c i) (rwN_le c i)).view.write (Elt F) g ((eRow (rwE I c i) (rwE_le I c i)).view.read (Elt F) (I.emb c)) Finset.univ x = gath I c x := by
  intro x hx
  obtain ⟨y, -, rfl⟩ := Finset.mem_map.mp hx
  rw [View.write_emb_of_mem _ _ (Finset.mem_univ y)]
  show I.emb c ((eRow (rwE I c i) (rwE_le I c i)).view.emb y) = gath I c ((gRow (rwN c i) (rwN_le c i)).view.emb y)
  have hy0 : (y (0 : Fin 2)).val < 1 := (y (0 : Fin 2)).isLt
  have e0 : ((gRow (rwN c i) (rwN_le c i)).view.emb y) 0 = (⟨rwN c i, rwN_le c i⟩ : Fin 256) := by
    apply Fin.ext; show rwN c i + 1 * (y (0 : Fin 2)).val = rwN c i; omega
  have e1 : ((gRow (rwN c i) (rwN_le c i)).view.emb y) 1 = (y 1 : Fin 1024) := by
    apply Fin.ext; show 0 + 1 * (y 1 : Fin 1024).val = (y 1 : Fin 1024).val; omega
  unfold gath
  refine congrArg (I.emb c) ?_
  funext a
  fin_cases a
  · apply Fin.ext
    show rwE I c i + 1 * (y (0 : Fin 2)).val = (I.ids c (ix1 (n0 := 256) (((gRow (rwN c i) (rwN_le c i)).view.emb y) 0))).toNat % 16384
    rw [e0]; unfold rwE; omega
  · apply Fin.ext
    show 0 + 1 * (y 1 : Fin 1024).val = (((gRow (rwN c i) (rwN_le c i)).view.emb y) 1 : Fin 1024).val
    rw [e1]; omega

/-- The row numbers' ownership as its points-to. -/
theorem ids_open (c : Dev nD) (X : S256.Idx → Elt F .i32) :
    owns c.tc A0 fullShare X ⊣⊢ (iprop(∃ f, ⌜A0.view.read (Elt F) f = X⌝ ∗ (A0.view.loc c.tc ↦[A0.view.set]{fullShare} f)) : sProp 𝕄) := by
  unfold owns; exact ⟨BI.Entails.refl _, BI.Entails.refl _⟩

section Issue

variable (I : Inp F) (K : GSem nD τ sig → ℕ) (c : Dev nD) (R : sProp (MT nD τ sig Unit (Elt F) ℕ UU ℕ))

/-- The copy of a row. -/
theorem issue_dma {o3 o2 : Fin 2 → ℕ} {h3 : ∀ a, o3 a + S1x1024.size a ≤ S16384x1024.size a} {h2 : ∀ a, o2 a + S1x1024.size a ≤ S256x1024.size a} {s : DmaSem sig}
    {hs : (A2.slice (Rect.unit (s := S16384x1024) o3 S1x1024.size h3) (fun _ => rfl)).view.WordExact}
    {hd : (A4.slice (Rect.unit (s := S256x1024) o2 S1x1024.size h2) (fun _ => rfl)).view.WordExact}
    {hw : DmaTarget.Typed (nD := nD) (τ := τ) (p := .tc) Space.hbm (SemLoc.dma s) (DmaTarget.here (A4.slice (Rect.unit (s := S256x1024) o2 S1x1024.size h2) (fun _ => rfl)))}
    (i : Rw) {Q : PUnit → sProp (MT nD τ sig Unit (Elt F) ℕ UU ℕ)} (e3 : o3 = ![rwE I c i, 0]) (e2 : o2 = ![rwN c i, 0]) (hsem : s = gSem (rwS i))
    (H : iprop(Ctx I K ∗ rowAfter I c i ∗ R) ⊢ Q ⟨⟩) :
    iprop(Ctx I K ∗ rowBefore I c i ∗ R)
      ⊢ WP c (Prog.lift (.enqueueDma (A2.slice (Rect.unit (s := S16384x1024) o3 S1x1024.size h3) (fun _ => rfl))
            (.here (A4.slice (Rect.unit (s := S256x1024) o2 S1x1024.size h2) (fun _ => rfl))) (.dma s) hs hd hw) >>= fun _ => pure PUnit.unit)
        Q := by
  subst e3 e2 hsem
  show _ ⊢ wp _ _ _ (.op _ _) _
  unfold rowBefore
  iintro ⟨#HC, ⟨⟨%X, HX⟩, HE, Hd, Hr⟩, HR⟩
  ihave #HI := (Ctx_inv I K (dma_mem c (gSem (rwS i)) (gSem_ge (rwS i)))) $$ HC
  ihave HE := (pointsTo_split_subset (Finset.subset_univ (eRow (rwE I c i) (rwE_le I c i)).view.set)).1 $$ HE
  icases HE with ⟨HE, HE'⟩
  iapply (Rounds.wp_copy_pointsTo 𝒱₀ ER (rd I) c.tc none (src := eRow (rwE I c i) (rwE_le I c i)) (dst := gRow (rwN c i) (rwN_le c i))
      (q := shE i) (fs := I.emb c) (fd := X) (r := 0) (d := rwD i) (κ := K (gatC c (rwS i)))
      (by rw [duties_gat]; exact Finset.mem_range.mpr (rwD_lt i)) () N1 (by rfl) (by rw [amount_gat])
      (by
        rw [payload_gat, rwOf_rw]; unfold rowPay
        rw [pointsTo_congr (row_val I c i X)])) $$ [HE HX Hd Hr]
  · isplitr; · iexact HI
    isplitl [HE]; · iexact HE
    isplitl [HX]; · iexact HX
    isplitl [Hd]; · iexact Hd
    iexact Hr
  iintro Hc
  iapply (show Q ⟨⟩ ⊢ wp frame (wpE (defs₀ (F := F)) 𝒱₀ c.tc none) Set.univ (.ret ⟨⟩) Q from by rw [wp_ret]; iintro H'; imodintro; iexact H')
  iapply H
  isplitr; · iexact HC
  unfold rowAfter
  isplitl [Hc HE']
  · isplitl [Hc]
    · iexact Hc
    · iexact HE'
  iexact HR

/-- One gather. -/
theorem issue_row {off1 : Fin 1 → ℕ} {h1 : ∀ a, off1 a + S1.size a ≤ S256.size a} {off2 : Fin 2 → ℕ} {h2 : ∀ a, off2 a + S1x1024.size a ≤ S256x1024.size a}
    {chk : BitVec 32 → Prop} {dec : ∀ v, Decidable (chk v)} {off3 : BitVec 32 → Fin 2 → ℕ}
    {h3 : ∀ v, PLift (chk v) → ∀ a, off3 v a + S1x1024.size a ≤ S16384x1024.size a} {s : DmaSem sig}
    {hs : ∀ v h, (A2.slice (Rect.unit (s := S16384x1024) (off3 v) S1x1024.size (h3 v h)) (fun _ => rfl)).view.WordExact}
    {hd : (A4.slice (Rect.unit (s := S256x1024) off2 S1x1024.size h2) (fun _ => rfl)).view.WordExact}
    {hw : DmaTarget.Typed (nD := nD) (τ := τ) (p := .tc) Space.hbm (SemLoc.dma s) (DmaTarget.here (A4.slice (Rect.unit (s := S256x1024) off2 S1x1024.size h2) (fun _ => rfl)))} {hl1 hl2}
    (i : Rw) (ho1 : off1 = ![rwN c i]) (ho2 : off2 = ![rwN c i, 0]) (hchk : ∀ v : BitVec 32, v.toNat < 16384 → chk v)
    (ho3 : ∀ v, off3 v = ![v.toNat, 0]) (hsem : s = gSem (rwS i)) (hI : I.Ok) :
    iprop(Ctx I K ∗ owns c.tc A0 fullShare (I.ids c) ∗ rowBefore I c i ∗ R)
      ⊢ WP c (smemLoad A0 (Rect.unit (s := S256) off1 S1.size h1) hl1 hl2 >>= fun v => Prog.lift (TpuEff.assume (chk v) (dec v)) >>= fun h =>
          Prog.lift (.enqueueDma (A2.slice (Rect.unit (s := S16384x1024) (off3 v) S1x1024.size (h3 v h)) (fun _ => rfl))
            (.here (A4.slice (Rect.unit (s := S256x1024) off2 S1x1024.size h2) (fun _ => rfl))) (.dma s) (hs v h) hd hw) >>= fun _ => pure PUnit.unit)
        (fun _ => iprop(Ctx I K ∗ owns c.tc A0 fullShare (I.ids c) ∗ rowAfter I c i ∗ R)) := by
  subst ho1 ho2 hsem
  unfold smemLoad
  rw [smemLoadElt_bind]
  iintro ⟨#HC, Hids, Hrow, HR⟩
  ihave Hids := (ids_open c (I.ids c)).1 $$ Hids
  icases Hids with ⟨%f, %hf, Hids⟩
  iapply (wp_smemLoadElt 𝒱₀ (c.tc : Thread nD τ) none Set.univ (m := A0) (r := Rect.unit (s := S256) ![rwN c i] S1.size h1) (S := A0.view.set) (q := fullShare) (f := f)
    (by rw [View.set_slice]; exact Finset.map_subset_map.mpr (Finset.subset_univ _))) $$ [Hids]
  · iexact Hids
  iintro Hids
  have hv : ∀ x, (A0.access (Rect.unit (s := S256) ![rwN c i] S1.size h1)).read (Elt F) f x = I.ids c (ix1 (n0 := 256) ⟨rwN c i, rwN_le c i⟩) := by
    intro x
    rw [← hf]
    show A0.view.read (Elt F) f _ = A0.view.read (Elt F) f _
    refine congrArg (A0.view.read (Elt F) f) ?_
    funext a
    fin_cases a
    apply Fin.ext
    have hx : (x (0 : Fin 1)).val < 1 := (x (0 : Fin 1)).isLt
    show rwN c i + 1 * (x (0 : Fin 1)).val = rwN c i
    omega
  rw [hv]
  generalize hvv : I.ids c (ix1 (n0 := 256) ⟨rwN c i, rwN_le c i⟩) = v
  have hlt : v.toNat < 16384 := hvv ▸ hI c _
  iapply (wp_assume 𝒱₀ (c.tc : Thread nD τ) none Set.univ (hchk v hlt))
  have hE : off3 v = ![rwE I c i, 0] := by rw [ho3, rwE, hvv, Nat.mod_eq_of_lt hlt]
  iapply (issue_dma I K c (R := iprop(owns c.tc A0 fullShare (I.ids c) ∗ R)) i hE rfl rfl (by
    iintro ⟨#HC, Hrow, Hids, HR⟩
    isplitr; · iexact HC
    isplitl [Hids]; · iexact Hids
    isplitl [Hrow]; · iexact Hrow
    iexact HR))
  isplitr; · iexact HC
  isplitl [Hrow]; · iexact Hrow
  isplitl [Hids]
  · iapply (ids_open c (I.ids c)).2
    iexists f
    isplitr; · ipureintro; exact hf
    iexact Hids
  iexact HR

/-- The loop that starts the gathers of a block. -/
theorem issue {α : Type} {Q : α → sProp (MT nD τ sig Unit (Elt F) ℕ UU ℕ)} {l : Scf.Loop 32} {hok : l.OK} {off1 : Fin l.trips → Fin 1 → ℕ} {h1 : ∀ t, ∀ a, off1 t a + S1.size a ≤ S256.size a}
    {off2 : Fin l.trips → Fin 2 → ℕ} {h2 : ∀ t, ∀ a, off2 t a + S1x1024.size a ≤ S256x1024.size a}
    {chk : BitVec 32 → Prop} {dec : ∀ v, Decidable (chk v)} {off3 : BitVec 32 → Fin 2 → ℕ}
    {h3 : ∀ v, PLift (chk v) → ∀ a, off3 v a + S1x1024.size a ≤ S16384x1024.size a} {s : DmaSem sig}
    {hs : ∀ v h, (A2.slice (Rect.unit (s := S16384x1024) (off3 v) S1x1024.size (h3 v h)) (fun _ => rfl)).view.WordExact}
    {hd : ∀ t, (A4.slice (Rect.unit (s := S256x1024) (off2 t) S1x1024.size (h2 t)) (fun _ => rfl)).view.WordExact}
    {hw : ∀ t, DmaTarget.Typed (nD := nD) (τ := τ) (p := .tc) Space.hbm (SemLoc.dma s) (DmaTarget.here (A4.slice (Rect.unit (s := S256x1024) (off2 t) S1x1024.size (h2 t)) (fun _ => rfl)))}
    {hl1 : ∀ t, (Rect.unit (s := S256) (off1 t) S1.size (h1 t)).shape.numel = 1} {hl2}
    {k : Unit → Prog (TpuEff nD τ sig (Elt F) Λ₀ .tc) α}
    (b : Bool) (n : Fin 4) (htr : l.trips = 32) (ho1 : ∀ t, off1 t = ![rowG c b n + t.val]) (ho2 : ∀ t, off2 t = ![rowG c b n + t.val, 0])
    (hchk : ∀ v : BitVec 32, v.toNat < 16384 → chk v) (ho3 : ∀ v, off3 v = ![v.toNat, 0]) (hsem : s = gSem (n != 0)) (hI : I.Ok)
    (H : iprop(Ctx I K ∗ owns c.tc A0 fullShare (I.ids c) ∗ (bigSep Finset.univ fun r : Fin 32 => rowAfter I c (b, n, r)) ∗ R) ⊢ WP c (k ()) Q) :
    iprop(Ctx I K ∗ owns c.tc A0 fullShare (I.ids c) ∗ (bigSep Finset.univ fun r : Fin 32 => rowBefore I c (b, n, r)) ∗ R)
      ⊢ WP c (Scf.Loop.for l hok () (fun t _ => smemLoad A0 (Rect.unit (s := S256) (off1 t) S1.size (h1 t)) (hl1 t) hl2 >>= fun v => Prog.lift (TpuEff.assume (chk v) (dec v)) >>= fun h =>
          Prog.lift (.enqueueDma (A2.slice (Rect.unit (s := S16384x1024) (off3 v) S1x1024.size (h3 v h)) (fun _ => rfl))
            (.here (A4.slice (Rect.unit (s := S256x1024) (off2 t) S1x1024.size (h2 t)) (fun _ => rfl))) (.dma s) (hs v h) (hd t) (hw t)) >>= fun _ => pure PUnit.unit) >>= k) Q := by
  let J : ℕ → Unit → sProp (MT nD τ sig Unit (Elt F) ℕ UU ℕ) := fun m _ => iprop(Ctx I K ∗ owns c.tc A0 fullShare (I.ids c)
    ∗ (bigSep Finset.univ fun r : Fin 32 => if r.val < m then rowAfter I c (b, n, r) else rowBefore I c (b, n, r)) ∗ R)
  have hJ : ∀ (t : Fin l.trips) (acc : Unit), J t.val acc ⊢ WP c (smemLoad A0 (Rect.unit (s := S256) (off1 t) S1.size (h1 t)) (hl1 t) hl2 >>= fun v => Prog.lift (TpuEff.assume (chk v) (dec v)) >>= fun h =>
          Prog.lift (.enqueueDma (A2.slice (Rect.unit (s := S16384x1024) (off3 v) S1x1024.size (h3 v h)) (fun _ => rfl))
            (.here (A4.slice (Rect.unit (s := S256x1024) (off2 t) S1x1024.size (h2 t)) (fun _ => rfl))) (.dma s) (hs v h) (hd t) (hw t)) >>= fun _ => pure PUnit.unit) (J (t.val + 1)) := by
    intro t acc
    have ht : t.val < 32 := t.isLt.trans_eq htr
    let r : Fin 32 := ⟨t.val, ht⟩
    have hi : rwN c (b, n, r) = rowG c b n + t.val := rfl
    have e1 : (bigSep Finset.univ fun r : Fin 32 => if r.val < t.val then rowAfter I c (b, n, r) else rowBefore I c (b, n, r))
        = iprop(rowBefore I c (b, n, r) ∗ bigSep (Finset.univ.erase r) fun r : Fin 32 => if r.val < t.val then rowAfter I c (b, n, r) else rowBefore I c (b, n, r)) := by
      rw [BI.bigSep_erase (Finset.mem_univ r), if_neg (show ¬(r.val < t.val) from Nat.lt_irrefl _)]; rfl
    have e2 : (bigSep Finset.univ fun r : Fin 32 => if r.val < t.val + 1 then rowAfter I c (b, n, r) else rowBefore I c (b, n, r))
        = iprop(rowAfter I c (b, n, r) ∗ bigSep (Finset.univ.erase r) fun r : Fin 32 => if r.val < t.val then rowAfter I c (b, n, r) else rowBefore I c (b, n, r)) := by
      rw [BI.bigSep_erase (Finset.mem_univ r), if_pos (show r.val < t.val + 1 from Nat.lt_succ_self _)]
      congr 1
      refine bigSep_congr fun i hi => ?_
      have hne : i.val ≠ t.val := fun e => Finset.ne_of_mem_erase hi (Fin.ext e)
      by_cases h : i.val < t.val
      · rw [if_pos h, if_pos (show i.val < t.val + 1 by omega)]
      · rw [if_neg h, if_neg (show ¬(i.val < t.val + 1) by omega)]
    have hrow := issue_row I K c (R := iprop((bigSep (Finset.univ.erase r) fun r : Fin 32 => if r.val < t.val then rowAfter I c (b, n, r) else rowBefore I c (b, n, r)) ∗ R))
      (h1 := h1 t) (h2 := h2 t) (dec := dec) (h3 := h3) (hs := hs) (hd := hd t) (hw := hw t) (hl1 := hl1 t) (hl2 := hl2)
      (b, n, r) (ho1 t) (ho2 t) hchk ho3 hsem hI
    have eJ1 : J t.val acc = iprop(Ctx I K ∗ owns c.tc A0 fullShare (I.ids c) ∗ rowBefore I c (b, n, r)
        ∗ ((bigSep (Finset.univ.erase r) fun r : Fin 32 => if r.val < t.val then rowAfter I c (b, n, r) else rowBefore I c (b, n, r)) ∗ R)) := by
      show iprop(_ ∗ _ ∗ _ ∗ _) = _
      rw [e1, sep_assoc_eq]
    have eJ2 : J (t.val + 1) = fun _ => iprop(Ctx I K ∗ owns c.tc A0 fullShare (I.ids c) ∗ rowAfter I c (b, n, r)
        ∗ ((bigSep (Finset.univ.erase r) fun r : Fin 32 => if r.val < t.val then rowAfter I c (b, n, r) else rowBefore I c (b, n, r)) ∗ R)) := by
      funext _
      show iprop(_ ∗ _ ∗ _ ∗ _) = _
      rw [e2, sep_assoc_eq]
    rw [eJ1, eJ2]
    exact hrow
  have hfor := Scf.wp_for_bind (frame (Val := Elt F)) (wpE (defs₀ (F := F)) 𝒱₀ c.tc none) Set.univ l.lb l.ub l.st hok () _ J hJ (kk := k) (Q := Q)
  have hE : (bigSep Finset.univ fun r : Fin 32 => if r.val < l.trips then rowAfter I c (b, n, r) else rowBefore I c (b, n, r))
      = bigSep Finset.univ fun r : Fin 32 => rowAfter I c (b, n, r) :=
    bigSep_congr fun r _ => if_pos (r.isLt.trans_eq htr.symm)
  have hS : (bigSep Finset.univ fun r : Fin 32 => if r.val < 0 then rowAfter I c (b, n, r) else rowBefore I c (b, n, r))
      = bigSep Finset.univ fun r : Fin 32 => rowBefore I c (b, n, r) :=
    bigSep_congr fun r _ => if_neg (Nat.not_lt_zero _)
  rw [← hS]
  iintro HJ
  iapply hfor $$ [HJ]
  · iexact HJ
  iintro %acc HJ
  iapply H
  rw [← hE]
  iexact HJ

end Issue

end Cert.Proof

end
-- ==== Proof.Rows.lean ====
/-
  The rows of the gathers, and the devices the barrier signals, in closed form, each decided over all devices.
-/
module

public import proofs.«01_k».proof.Proof.State

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

theorem trips1 : k0_t1_loop.trips = 32 := by decide
set_option maxRecDepth 100000 in
theorem off1 : ∀ c, ∀ t : Fin k0_t1_loop.trips, k0_off1 c t = ![rowG c false 0 + t.val] := by decide +kernel
theorem off2 (c : Dev nD) (t : Fin k0_t1_loop.trips) : k0_off2 c t = ![rowG c false 0 + t.val, 0] :=
  congrArg (fun f : Fin 1 → ℕ => (![f 0, 0] : Fin 2 → ℕ)) (off1 c t)
theorem chk1 (v : BitVec 32) (h : v.toNat < 16384) : k0_chk1 v := inb1 (n := 16384) h
theorem trips2 : k0_t2_loop.trips = 32 := by decide
set_option maxRecDepth 100000 in
theorem off4 : ∀ c, ∀ t : Fin k0_t2_loop.trips, k0_off4 c t = ![rowG c true 0 + t.val] := by decide +kernel
theorem off5 (c : Dev nD) (t : Fin k0_t2_loop.trips) : k0_off5 c t = ![rowG c true 0 + t.val, 0] :=
  congrArg (fun f : Fin 1 → ℕ => (![f 0, 0] : Fin 2 → ℕ)) (off4 c t)
theorem chk2 (v : BitVec 32) (h : v.toNat < 16384) : k0_chk2 v := inb1 (n := 16384) h
theorem trips3 : k0_t3_loop.trips = 32 := by decide
set_option maxRecDepth 100000 in
theorem off7 : ∀ c, ∀ t : Fin k0_t3_loop.trips, k0_off7 c t = ![rowG c false 3 + t.val] := by decide +kernel
theorem off8 (c : Dev nD) (t : Fin k0_t3_loop.trips) : k0_off8 c t = ![rowG c false 3 + t.val, 0] :=
  congrArg (fun f : Fin 1 → ℕ => (![f 0, 0] : Fin 2 → ℕ)) (off7 c t)
theorem chk3 (v : BitVec 32) (h : v.toNat < 16384) : k0_chk3 v := inb1 (n := 16384) h
theorem trips4 : k0_t4_loop.trips = 32 := by decide
set_option maxRecDepth 100000 in
theorem off10 : ∀ c, ∀ t : Fin k0_t4_loop.trips, k0_off10 c t = ![rowG c true 1 + t.val] := by decide +kernel
theorem off11 (c : Dev nD) (t : Fin k0_t4_loop.trips) : k0_off11 c t = ![rowG c true 1 + t.val, 0] :=
  congrArg (fun f : Fin 1 → ℕ => (![f 0, 0] : Fin 2 → ℕ)) (off10 c t)
theorem chk4 (v : BitVec 32) (h : v.toNat < 16384) : k0_chk4 v := inb1 (n := 16384) h
theorem trips5 : k0_t5_loop.trips = 32 := by decide
set_option maxRecDepth 100000 in
theorem off13 : ∀ c, ∀ t : Fin k0_t5_loop.trips, k0_off13 c t = ![rowG c false 2 + t.val] := by decide +kernel
theorem off14 (c : Dev nD) (t : Fin k0_t5_loop.trips) : k0_off14 c t = ![rowG c false 2 + t.val, 0] :=
  congrArg (fun f : Fin 1 → ℕ => (![f 0, 0] : Fin 2 → ℕ)) (off13 c t)
theorem chk5 (v : BitVec 32) (h : v.toNat < 16384) : k0_chk5 v := inb1 (n := 16384) h
theorem trips6 : k0_t6_loop.trips = 32 := by decide
set_option maxRecDepth 100000 in
theorem off16 : ∀ c, ∀ t : Fin k0_t6_loop.trips, k0_off16 c t = ![rowG c true 2 + t.val] := by decide +kernel
theorem off17 (c : Dev nD) (t : Fin k0_t6_loop.trips) : k0_off17 c t = ![rowG c true 2 + t.val, 0] :=
  congrArg (fun f : Fin 1 → ℕ => (![f 0, 0] : Fin 2 → ℕ)) (off16 c t)
theorem chk6 (v : BitVec 32) (h : v.toNat < 16384) : k0_chk6 v := inb1 (n := 16384) h
theorem trips7 : k0_t7_loop.trips = 32 := by decide
set_option maxRecDepth 100000 in
theorem off19 : ∀ c, ∀ t : Fin k0_t7_loop.trips, k0_off19 c t = ![rowG c false 1 + t.val] := by decide +kernel
theorem off20 (c : Dev nD) (t : Fin k0_t7_loop.trips) : k0_off20 c t = ![rowG c false 1 + t.val, 0] :=
  congrArg (fun f : Fin 1 → ℕ => (![f 0, 0] : Fin 2 → ℕ)) (off19 c t)
theorem chk7 (v : BitVec 32) (h : v.toNat < 16384) : k0_chk7 v := inb1 (n := 16384) h
theorem trips8 : k0_t8_loop.trips = 32 := by decide
set_option maxRecDepth 100000 in
theorem off22 : ∀ c, ∀ t : Fin k0_t8_loop.trips, k0_off22 c t = ![rowG c true 3 + t.val] := by decide +kernel
theorem off23 (c : Dev nD) (t : Fin k0_t8_loop.trips) : k0_off23 c t = ![rowG c true 3 + t.val, 0] :=
  congrArg (fun f : Fin 1 → ℕ => (![f 0, 0] : Fin 2 → ℕ)) (off22 c t)
theorem chk8 (v : BitVec 32) (h : v.toNat < 16384) : k0_chk8 v := inb1 (n := 16384) h
theorem trips9 : k0_t9_loop.trips = 64 := by decide
theorem trips10 : k0_t10_loop.trips = 192 := by decide
theorem dev1 : ∀ c, (⟨k0_dev1 c, k0_dev1_lt c⟩ : Dev nD) = rbn c 0 := by decide +kernel
theorem dev2 : ∀ c, (⟨k0_dev2 c, k0_dev2_lt c⟩ : Dev nD) = rbn c 1 := by decide +kernel
theorem dev3 : ∀ c, (⟨k0_dev3 c, k0_dev3_lt c⟩ : Dev nD) = rbn c 2 := by decide +kernel
theorem dev4 : ∀ c, (⟨k0_dev4 c, k0_dev4_lt c⟩ : Dev nD) = rbn c 3 := by decide +kernel

end Cert.Proof

end
-- ==== Proof.Barrier.lean ====
/-
  Up to the barrier: what a device holds while it starts its gathers and signals its neighbours, and the wait that
  hands it its neighbours' pieces. After that: the loops that wait for the gathered rows.
-/
module

public import proofs.«01_k».proof.Proof.Gather
public import proofs.«01_k».proof.Proof.Rows

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Of a transfer before the barrier: all but the piece it writes. -/
def trPre (c : Dev nD) (j : Tr) : sProp 𝕄 :=
  iprop(dutyTok ER (sendC c j) 0 0 ∗ dutyTok ER (recvC (dstD c j) j) 0 0 ∗ reached ER (sendC c j) 0 ∗ atPos ER (sendC c j) 0 ∅ 0)
/-- What lies still until the barrier. -/
def Start (I : Inp F) (c : Dev nD) : sProp 𝕄 :=
  iprop((cred (tallyAt (barC c) () 4) ∗ atPos ER (barC c) 0 ∅ 0) ∗ bigSep trs (trPre c) ∗ bigSep trs (rxRes c 0)
    ∗ (bigSep Finset.univ fun k => chRes I c k (stB.ch k)) ∗ owns c.tc A1 fullShare (I.mask c)
    ∗ atPos ER (gatC c false) 0 ∅ 0 ∗ atPos ER (gatC c true) 0 ∅ 0)
/-- The gathers, by block: started or not. -/
def Gat (I : Inp F) (c : Dev nD) (D : Bool × Fin 4 → Bool) : sProp 𝕄 :=
  bigSep Finset.univ fun p : Bool × Fin 4 => bigSep Finset.univ fun r : Fin 32 =>
    if D p then rowAfter I c (p.1, p.2, r) else rowBefore I c (p.1, p.2, r)
/-- The signals that are still to come, -/
abbrev sgs (i : ℕ) : Finset ℕ := (Finset.range 4).filter fun i' => i ≤ i'
/-- and what a device owes and holds for them. -/
def Sig (c : Dev nD) (i : ℕ) : sProp 𝕄 :=
  iprop((∃ W, owes (c.tc : Thread nD τ) (Owe c 0 + ∑ i' ∈ sgs i, tallyAt (barC (rbn c i')) () 1) W)
    ∗ bigSep (sgs i) fun i' => iprop(dutyTok ER (barC (rbn c i')) 0 i' ∗ reached ER (barC (rbn c i')) 0 ∗ barPay (rbn c i') i'))
/-- What a device holds up to the barrier. -/
def Pre (I : Inp F) (K : GSem nD τ sig → ℕ) (c : Dev nD) (R : sProp 𝕄) (D : Bool × Fin 4 → Bool) (i : ℕ) : sProp 𝕄 :=
  iprop(Ctx I K ∗ owns c.tc A0 fullShare (I.ids c) ∗ Gat I c D ∗ Sig c i ∗ Start I c ∗ R)

/-- Of a semaphore's gathers before the loop that waits for them, -/
def gIn (I : Inp F) (c : Dev nD) (g : Bool) : sProp 𝕄 :=
  iprop(atPos ER (gatC c g) 0 ∅ 0 ∗ bigSep (Finset.univ.filter fun i : Rw => rwS i = g) (rowAfter I c))
/-- and after. -/
def gOut (I : Inp F) (c : Dev nD) (g : Bool) : sProp 𝕄 :=
  iprop(atPos ER (gatC c g) 1 ∅ 0 ∗ bigSep (Finset.univ.filter fun i : Rw => rwS i = g) fun i => (A2.view.loc c.tc ↦[Finset.univ]{shE i} I.emb c))

section Pre

variable (I : Inp F) (K : GSem nD τ sig → ℕ) (c : Dev nD) (R : sProp (MT nD τ sig Unit (Elt F) ℕ UU ℕ)) {α : Type}
  {Q : α → sProp (MT nD τ sig Unit (Elt F) ℕ UU ℕ)} {D : Bool × Fin 4 → Bool} {i : ℕ}

/-- A loop of gathers. -/
theorem pre_issue {l : Scf.Loop 32} {hok : l.OK} {off1 : Fin l.trips → Fin 1 → ℕ} {h1 : ∀ t, ∀ a, off1 t a + S1.size a ≤ S256.size a}
    {off2 : Fin l.trips → Fin 2 → ℕ} {h2 : ∀ t, ∀ a, off2 t a + S1x1024.size a ≤ S256x1024.size a}
    {chk : BitVec 32 → Prop} {dec : ∀ v, Decidable (chk v)} {off3 : BitVec 32 → Fin 2 → ℕ}
    {h3 : ∀ v, PLift (chk v) → ∀ a, off3 v a + S1x1024.size a ≤ S16384x1024.size a} {s : DmaSem sig}
    {hs : ∀ v h, (A2.slice (Rect.unit (s := S16384x1024) (off3 v) S1x1024.size (h3 v h)) (fun _ => rfl)).view.WordExact}
    {hd : ∀ t, (A4.slice (Rect.unit (s := S256x1024) (off2 t) S1x1024.size (h2 t)) (fun _ => rfl)).view.WordExact}
    {hw : ∀ t, DmaTarget.Typed (nD := nD) (τ := τ) (p := .tc) Space.hbm (SemLoc.dma s) (DmaTarget.here (A4.slice (Rect.unit (s := S256x1024) (off2 t) S1x1024.size (h2 t)) (fun _ => rfl)))}
    {hl1 : ∀ t, (Rect.unit (s := S256) (off1 t) S1.size (h1 t)).shape.numel = 1} {hl2}
    {k : Unit → Prog (TpuEff nD τ sig (Elt F) Λ₀ .tc) α}
    (b : Bool) (n : Fin 4) (hD : D (b, n) = false) (htr : l.trips = 32) (ho1 : ∀ t, off1 t = ![rowG c b n + t.val]) (ho2 : ∀ t, off2 t = ![rowG c b n + t.val, 0])
    (hchk : ∀ v : BitVec 32, v.toNat < 16384 → chk v) (ho3 : ∀ v, off3 v = ![v.toNat, 0]) (hsem : s = gSem (n != 0)) (hI : I.Ok)
    (H : Pre I K c R (Function.update D (b, n) true) i ⊢ WP c (k ()) Q) :
    Pre I K c R D i
      ⊢ WP c (Scf.Loop.for l hok () (fun t _ => smemLoad A0 (Rect.unit (s := S256) (off1 t) S1.size (h1 t)) (hl1 t) hl2 >>= fun v => Prog.lift (TpuEff.assume (chk v) (dec v)) >>= fun h =>
          Prog.lift (.enqueueDma (A2.slice (Rect.unit (s := S16384x1024) (off3 v) S1x1024.size (h3 v h)) (fun _ => rfl))
            (.here (A4.slice (Rect.unit (s := S256x1024) (off2 t) S1x1024.size (h2 t)) (fun _ => rfl))) (.dma s) (hs v h) (hd t) (hw t)) >>= fun _ => pure PUnit.unit) >>= k) Q := by
  have e1 : Gat I c D = iprop((bigSep Finset.univ fun r : Fin 32 => rowBefore I c (b, n, r))
      ∗ bigSep (Finset.univ.erase (b, n)) fun p : Bool × Fin 4 => bigSep Finset.univ fun r : Fin 32 =>
        if D p then rowAfter I c (p.1, p.2, r) else rowBefore I c (p.1, p.2, r)) := by
    unfold Gat
    rw [BI.bigSep_erase (Finset.mem_univ (b, n)), hD]; rfl
  have e2 : Gat I c (Function.update D (b, n) true) = iprop((bigSep Finset.univ fun r : Fin 32 => rowAfter I c (b, n, r))
      ∗ bigSep (Finset.univ.erase (b, n)) fun p : Bool × Fin 4 => bigSep Finset.univ fun r : Fin 32 =>
        if D p then rowAfter I c (p.1, p.2, r) else rowBefore I c (p.1, p.2, r)) := by
    unfold Gat
    rw [BI.bigSep_erase (Finset.mem_univ (b, n)), Function.update_self]
    congr 1
    exact bigSep_congr fun p hp => by rw [Function.update_of_ne (Finset.ne_of_mem_erase hp)]
  have h := issue I K c (R := iprop((bigSep (Finset.univ.erase (b, n)) fun p : Bool × Fin 4 => bigSep Finset.univ fun r : Fin 32 =>
        if D p then rowAfter I c (p.1, p.2, r) else rowBefore I c (p.1, p.2, r)) ∗ Sig c i ∗ Start I c ∗ R))
      (Q := Q) (hok := hok) (h1 := h1) (h2 := h2) (dec := dec) (h3 := h3) (hs := hs) (hd := hd) (hw := hw) (hl1 := hl1) (hl2 := hl2) (k := k)
      b n htr ho1 ho2 hchk ho3 hsem hI
      (by
        unfold Pre at H
        rw [e2, sep_assoc_eq] at H
        exact H)
  unfold Pre
  rw [e1, sep_assoc_eq]
  exact h

theorem sgs_step {i : ℕ} (hi : i < 4) : sgs i = insert i (sgs (i + 1)) := by
  ext x; simp only [sgs, Finset.mem_filter, Finset.mem_range, Finset.mem_insert]; omega
theorem sgs_not {i : ℕ} : i ∉ sgs (i + 1) := by
  simp only [sgs, Finset.mem_filter, Finset.mem_range]; omega
theorem sgs_end : sgs 4 = ∅ := by decide

/-- A signal to a neighbour. -/
theorem pre_sig {d : Dev nD} {s : Sem sig} {k : PUnit → Prog (TpuEff nD τ sig (Elt F) Λ₀ .tc) α} (hi : i < 4) (hd : d = rbn c i) (hs : s = barrier0)
    (H : Pre I K c R D (i + 1) ⊢ WP c (k ⟨⟩) Q) :
    Pre I K c R D i ⊢ WP c (semSignalWord d s 1#32 >>= k) Q := by
  subst hd hs
  show _ ⊢ wp _ _ _ (.op (TpuEff.semSignal ((rbn c i).tc) barrier0 1) _) Q
  unfold Pre Sig
  rw [sgs_step hi, bigSep_insert_eq sgs_not, Finset.sum_insert sgs_not]
  iintro ⟨#HC, Hids, HG, ⟨⟨%W, HO⟩, ⟨Hd, Hr, Hp⟩, HS⟩, HSt, HR⟩
  ihave #HI := (Ctx_inv I K (bar_mem (rbn c i))) $$ HC
  iapply (Rounds.wp_signal 𝒱₀ ER (rd I) (c.tc : Thread nD τ) none (dst := (rbn c i).tc) (sem := barrier0) (r := 0) (d := i) (k' := 1)
      (κ := K (barC (rbn c i))) (by rw [duties_bar]; exact Finset.mem_range.mpr hi) (amount_bar I (rbn c i) i) ()
      (Owe c 0 + ∑ i' ∈ sgs (i + 1), tallyAt (barC (rbn c i')) () 1) ((congrArg (Owe c 0 + ·) (add_comm _ _)).trans (add_assoc _ _ _).symm) (W := W)) $$ [HO Hd Hr Hp]
  · isplitr; · iexact HI
    isplitl [HO]; · iexact HO
    isplitl [Hd]; · iexact Hd
    isplitl [Hp]; · iapply (Entails.of_eq (payload_bar I (rbn c i) i).symm); iexact Hp
    iexact Hr
  iintro HO
  iapply H
  unfold Pre Sig
  isplitr; · iexact HC
  isplitl [Hids]; · iexact Hids
  isplitl [HG]; · iexact HG
  isplitl [HO HS]
  · isplitl [HO]
    · iexists W; iexact HO
    iexact HS
  isplitl [HSt]; · iexact HSt
  iexact HR

theorem trs_bar : trs = (Finset.range 4).biUnion fun d => trs.filter fun j => cls j = d := by
  ext j
  simp only [Finset.mem_biUnion, Finset.mem_range, Finset.mem_filter]
  exact ⟨fun h => ⟨cls j, cls_lt j, h, rfl⟩, fun ⟨_, _, h, _⟩ => h⟩
/-- The four units hand over all pieces that this device writes. -/
theorem bar_all : bigSep (Finset.range 4) (barPay (F := F) c) ⊢ bigSep trs (landing c) := by
  conv_rhs => rw [trs_bar]
  exact bigSep_biUnion _ _

/-- The rows of all blocks are those of the two semaphores. -/
theorem gat_all (hD : ∀ p, D p = true) : Gat I c D = iprop((bigSep (Finset.univ.filter fun i : Rw => rwS i = false) (rowAfter I c))
    ∗ bigSep (Finset.univ.filter fun i : Rw => rwS i = true) (rowAfter I c)) := by
  have h1 : Gat I c D = bigSep (Finset.univ : Finset Rw) (rowAfter I c) := by
    unfold Gat
    simp only [hD, if_true]
    rw [BI.bigSep_univ_prod, BI.bigSep_univ_prod]
    refine bigSep_congr fun b _ => ?_
    rw [BI.bigSep_univ_prod]
  rw [h1]
  refine Eq.trans ?_ (BI.bigSep_union (by rw [Finset.disjoint_left]; intro i h h'; simp only [Finset.mem_filter, Finset.mem_univ, true_and] at h h'; rw [h] at h'; exact absurd h' (by decide)))
  congr 1
  ext i
  simp only [Finset.mem_union, Finset.mem_filter, Finset.mem_univ, true_and, true_iff]
  cases rwS i <;> simp

/-- The wait for the four units. -/
theorem pre_wait {s : Sem sig} {k : PUnit → Prog (TpuEff nD τ sig (Elt F) Λ₀ .tc) α} (hs : s = barrier0) (hD : ∀ p, D p = true)
    (H : At I K c (iprop(gIn I c false ∗ gIn I c true ∗ owns c.tc A0 fullShare (I.ids c) ∗ atPos ER (barC c) 1 ∅ 0 ∗ R)) stB ⊢ WP c (k ⟨⟩) Q) :
    Pre I K c R D 4 ⊢ WP c (semWaitWord s 4#32 >>= k) Q := by
  subst hs
  show _ ⊢ wp _ _ _ (.op (TpuEff.semWait barrier0 4) _) Q
  unfold Pre Sig Start
  rw [sgs_end, gat_all I c hD, Finset.sum_empty, add_zero]
  iintro ⟨#HC, Hids, ⟨HG1, HG2⟩, ⟨⟨%W, HO⟩, -⟩, ⟨⟨Hc, Ha⟩, Htr, Hrx, Hch, Hm, Hg1, Hg2⟩, HR⟩
  ihave #HI := (Ctx_inv I K (bar_mem c)) $$ HC
  iapply (Rounds.wp_wait_rest_token 𝒱₀ ER (rd I) c.tc none (κ := K (barC c))
      (show ∀ K' : PUnit → sProp 𝕄, wpE (defs₀ (F := F)) 𝒱₀ c.tc none Set.univ (.semWait barrier0 4) K' = waitSpec c.tc Set.univ (.reg barrier0) 4 K' from
        wpE_semWait_eq 𝒱₀ c.tc none Set.univ)
      (Set.mem_univ _) () (O := Owe c 0) (W := W) (R := 0) (m := 0) (T := ∅)
      ((Nat.zero_add _).trans (expect_bar I c).symm)) $$ [Hc HO Ha]
  · isplitr; · iexact HI
    isplitl [Hc]; · iexact Hc
    isplitl [HO]; · iexact HO
    isplitr; · iapply (mayWaitC I K c 0 (.reg barrier0) (show 1 < 2 + 0 by omega)); iexact HC
    iexact Ha
  iintro ⟨HO, Ha, -, Hpay⟩
  ihave Hpay := (Entails.of_eq (rest_bar I c)) $$ Hpay
  ihave Hpay := (bar_all c) $$ Hpay
  iapply H
  unfold At gIn
  isplitr; · iexact HC
  isplitl [HO]; · iexists _; iexact HO
  isplitl [Htr Hpay]
  · have e : iprop(bigSep trs (trPre c) ∗ bigSep trs (landing c)) ⊢ (bigSep trs (trRes c stB.n stB.m) : sProp 𝕄) := by
      refine BI.Entails.trans (Entails.of_eq (BI.bigSep_sep _ _ _).symm) (bigSep_mono fun j _ => ?_)
      show iprop(trPre c j ∗ landing c j) ⊢ trRes c stB.n stB.m j
      unfold trRes trPre
      rw [if_pos (show stB.n ≤ ord j from Nat.zero_le _)]
      iintro ⟨⟨H1, H2, H4, H5⟩, H3⟩
      isplitl [H1]; · iexact H1
      isplitl [H2]; · iexact H2
      isplitl [H3]; · iexact H3
      isplitl [H4]; · iexact H4
      iexact H5
    iapply e
    isplitl [Htr]
    · iexact Htr
    · iexact Hpay
  isplitl [Hrx]; · iexact Hrx
  isplitl [Hch]; · iexact Hch
  isplitl [Hm]; · iexact Hm
  isplitl [HG1 Hg1]
  · isplitl [Hg1]
    · iexact Hg1
    · iexact HG1
  isplitl [HG2 Hg2]
  · isplitl [Hg2]
    · iexact Hg2
    · iexact HG2
  isplitl [Hids]; · iexact Hids
  isplitl [Ha]; · iexact Ha
  iexact HR

end Pre

end Cert.Proof

end
-- ==== Proof.Drain.lean ====
/-
  The loops that wait for the gathered rows of a semaphore.
-/
module

public import proofs.«01_k».proof.Proof.Barrier

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD) (R : sProp (MT nD τ sig Unit (Elt F) ℕ UU ℕ)) {α : Type}
  {Q : α → sProp (MT nD τ sig Unit (Elt F) ℕ UU ℕ)} {σ : St}

/-- A gathered row. -/
def rowHas (i : Rw) : sProp 𝕄 := (A4.view.loc c.tc ↦[(gRow (rwN c i) (rwN_le c i)).view.set]{fullShare} gath I c)

/-- The rows of a block are the block's piece. -/
theorem rows_set (b : Bool) (n : Fin 4) :
    (mem c (kG b n)).view.set = (Finset.univ : Finset (Fin 32)).biUnion fun r => (gRow (rwN c (b, n, r)) (rwN_le c (b, n, r))).view.set := by
  have e1 : (mem c (kG b n)).view.set = (rG c b n).set.map A4.view.emb := View.set_slice _ _
  have e2 : ∀ r : Fin 32, (gRow (rwN c (b, n, r)) (rwN_le c (b, n, r))).view.set
      = (Rect.unit (s := S256x1024) ![rwN c (b, n, r), 0] S1x1024.size (inb1 (rwN_le c (b, n, r)))).set.map A4.view.emb := fun r => View.set_slice _ _
  rw [e1]
  ext x
  constructor
  · intro hx
    obtain ⟨y, hy, rfl⟩ := Finset.mem_map.mp hx
    have h0 := (Rect.mem_set_unit.mp hy) 0
    have h1 := (Rect.mem_set_unit.mp hy) 1
    have h0' : rowG c b n ≤ (y 0).val ∧ (y 0).val < rowG c b n + 32 := h0
    refine Finset.mem_biUnion.mpr ⟨⟨(y 0).val - rowG c b n, by omega⟩, Finset.mem_univ _, ?_⟩
    rw [e2]
    refine Finset.mem_map_of_mem _ (Rect.mem_set_unit.mpr fun a => ?_)
    fin_cases a
    · show rowG c b n + ((y 0).val - rowG c b n) ≤ (y 0).val ∧ (y 0).val < rowG c b n + ((y 0).val - rowG c b n) + 1
      omega
    · exact h1
  · intro hx
    obtain ⟨r, -, hr⟩ := Finset.mem_biUnion.mp hx
    rw [e2] at hr
    obtain ⟨y, hy, rfl⟩ := Finset.mem_map.mp hr
    have h0 := (Rect.mem_set_unit.mp hy) 0
    have h1 := (Rect.mem_set_unit.mp hy) 1
    have h0' : rowG c b n + r.val ≤ (y 0).val ∧ (y 0).val < rowG c b n + r.val + 1 := h0
    have := r.isLt
    refine Finset.mem_map_of_mem _ (Rect.mem_set_unit.mpr fun a => ?_)
    fin_cases a
    · show rowG c b n ≤ (y 0).val ∧ (y 0).val < rowG c b n + 32
      omega
    · exact h1

theorem rows_disj (b : Bool) (n : Fin 4) : ∀ r ∈ (Finset.univ : Finset (Fin 32)), ∀ r' ∈ (Finset.univ : Finset (Fin 32)), r ≠ r' →
    Disjoint (gRow (rwN c (b, n, r)) (rwN_le c (b, n, r))).view.set (gRow (rwN c (b, n, r')) (rwN_le c (b, n, r'))).view.set := by
  intro r _ r' _ h
  have e2 : ∀ r : Fin 32, (gRow (rwN c (b, n, r)) (rwN_le c (b, n, r))).view.set
      = (Rect.unit (s := S256x1024) ![rwN c (b, n, r), 0] S1x1024.size (inb1 (rwN_le c (b, n, r)))).set.map A4.view.emb := fun r => View.set_slice _ _
  rw [e2, e2, Finset.disjoint_map]
  refine Rect.unit_disjoint 0 ?_
  show rowG c b n + r.val + 1 ≤ rowG c b n + r'.val ∨ rowG c b n + r'.val + 1 ≤ rowG c b n + r.val
  have : r.val ≠ r'.val := fun e => h (Fin.ext e)
  omega

theorem rows_piece (b : Bool) (n : Fin 4) :
    (bigSep Finset.univ fun r : Fin 32 => rowHas I c (b, n, r)) ⊢ chRes I c (kG b n) .val := by
  have e : (bigSep Finset.univ fun r : Fin 32 => rowHas I c (b, n, r))
      = (A4.view.loc c.tc ↦[(mem c (kG b n)).view.set]{fullShare} gath I c : sProp 𝕄) :=
    (pointsTo_biUnion Finset.univ _ (rows_disj c b n)).symm.trans
      (congrArg (fun S => (A4.view.loc c.tc ↦[S]{fullShare} gath I c : sProp 𝕄)) (rows_set c b n).symm)
  rw [e]
  show _ ⊢ owns c.tc (mem c (kG b n)) fullShare (vL I c (kG b n))
  unfold owns
  iintro H
  iexists gath I c
  isplitr
  · ipureintro; rfl
  iexact H

/-- The gathered rows of a semaphore put in place. -/
theorem rows_fill (g : Bool) : iprop((bigSep (Finset.univ.filter fun i : Rw => rwS i = g) (rowHas I c)) ∗ (bigSep Finset.univ fun k => chRes I c k (σ.ch k)))
    ⊢ bigSep Finset.univ fun k => chRes I c k ((σ.fill g).ch k) := by
  have e : (bigSep (Finset.univ.filter fun i : Rw => rwS i = g) (rowHas I c))
      = bigSep Finset.univ fun p : Bool × Fin 4 => bigSep Finset.univ fun r : Fin 32 => if (p.2 != 0) = g then rowHas I c (p.1, p.2, r) else iprop(emp) := by
    rw [BI.bigSep_filter, BI.bigSep_univ_prod, BI.bigSep_univ_prod]
    refine bigSep_congr fun b _ => ?_
    rw [BI.bigSep_univ_prod]
    rfl
  have hs : ∀ τ : St, (bigSep Finset.univ fun k => chRes I c k (τ.ch k))
      = iprop(((bigSep Finset.univ fun p : Bool × Fin 4 => chRes I c (.inl (.inl p)) (τ.ch (.inl (.inl p))))
        ∗ bigSep Finset.univ fun p : Bool × Fin 4 => chRes I c (.inl (.inr p)) (τ.ch (.inl (.inr p))))
        ∗ bigSep Finset.univ fun p => chRes I c (.inr p) (τ.ch (.inr p))) := fun τ => by
    rw [BI.bigSep_univ_sum, BI.bigSep_univ_sum]; rfl
  rw [e, hs, hs]
  iintro ⟨HX, ⟨HG, HS⟩, HC⟩
  isplitl [HX HG HS]
  · isplitl [HX HG]
    · have h : iprop((bigSep Finset.univ fun p : Bool × Fin 4 => bigSep Finset.univ fun r : Fin 32 => if (p.2 != 0) = g then rowHas I c (p.1, p.2, r) else iprop(emp))
          ∗ bigSep Finset.univ fun p : Bool × Fin 4 => chRes I c (.inl (.inl p)) (σ.ch (.inl (.inl p))))
          ⊢ bigSep Finset.univ fun p : Bool × Fin 4 => chRes I c (.inl (.inl p)) ((σ.fill g).ch (.inl (.inl p))) := by
        refine BI.Entails.trans (Entails.of_eq (BI.bigSep_sep _ _ _).symm) ?_
        refine bigSep_mono fun p _ => ?_
        show iprop((bigSep Finset.univ fun r : Fin 32 => if (p.2 != 0) = g then rowHas I c (p.1, p.2, r) else iprop(emp)) ∗ chRes I c (kG p.1 p.2) (σ.ch (kG p.1 p.2)))
          ⊢ chRes I c (kG p.1 p.2) (if (p.2 != 0) = g then .val else σ.ch (kG p.1 p.2))
        by_cases hp : (p.2 != 0) = g
        · simp only [hp, if_true]
          iintro ⟨H, -⟩
          iapply (rows_piece I c p.1 p.2)
          iexact H
        · simp only [hp, if_false]
          iintro ⟨-, H⟩
          iexact H
      iapply h
      isplitl [HX]
      · iexact HX
      · iexact HG
    · iexact HS
  · iexact HC

/-- The gathers of a semaphore that are still to be waited for after `t` waits. -/
abbrev gRest (g : Bool) (t : ℕ) : Finset Rw := Finset.univ.filter fun i => rwS i = g ∧ t ≤ rwD i
theorem gRest_step {g : Bool} {t : ℕ} (ht : t < gCount g) : gRest g t = insert (rwOf g t) (gRest g (t + 1)) := by
  obtain ⟨h1, h2⟩ := rw_rwOf g t ht
  ext i
  simp only [gRest, Finset.mem_filter, Finset.mem_univ, true_and, Finset.mem_insert]
  constructor
  · rintro ⟨h, h'⟩
    by_cases e : rwD i = t
    · left; rw [← rwOf_rw i, h, e]
    · right; exact ⟨h, by omega⟩
  · rintro (rfl | ⟨h, h'⟩)
    · exact ⟨h1, h2.ge⟩
    · exact ⟨h, by omega⟩
theorem gRest_not {g : Bool} {t : ℕ} (ht : t < gCount g) : rwOf g t ∉ gRest g (t + 1) := by
  obtain ⟨h1, h2⟩ := rw_rwOf g t ht
  simp only [gRest, Finset.mem_filter, Finset.mem_univ, true_and, h2, not_and]; omega

/-- What the waits have handed over so far. -/
def gMid (g : Bool) (t : ℕ) : sProp 𝕄 :=
  iprop((bigSep (gRest g t) fun i => cred (tallyAt (gatC c (rwS i)) () N1))
    ∗ if t < gCount g then iprop(∃ S : Finset ℕ, ⌜S ⊆ Finset.range (gCount g)⌝ ∗ atPos ER (gatC c g) 0 S (t * N1) ∗ bigSep S fun d => rowPay I c (rwOf g d))
      else iprop(atPos ER (gatC c g) 1 ∅ 0 ∗ bigSep (Finset.range (gCount g)) fun d => rowPay I c (rwOf g d)))

/-- One wait. -/
theorem drain_step {n : ℕ} {g : Bool} {t : ℕ} (ht : t < gCount g) {sp sp' : Space} {s s' : Shape} {e e' : EltTy} {κ' : Kind} {src : Memref sig .tc sp' s' e'} {dst : Memref sig κ' sp s e}
    {s1 : DmaSem sig} {hsrc : src.view.WordExact} {hdst : dst.view.WordExact} (hs : s1 = gSem g) (hN : dst.view.dmaCredit = N1) :
    iprop(Ctx I K ∗ (∃ W, owes (c.tc : Thread nD τ) (Owe c n) W) ∗ gMid I c g t)
      ⊢ WP c (Prog.lift (.waitDma2 s1 src dst hsrc hdst) >>= fun _ => pure PUnit.unit) (fun _ => iprop(Ctx I K ∗ (∃ W, owes (c.tc : Thread nD τ) (Owe c n) W) ∗ gMid I c g (t + 1))) := by
  subst hs
  show _ ⊢ wp _ _ _ (.op _ _) _
  have hsg := (rw_rwOf g t ht).1
  unfold gMid
  rw [gRest_step ht, bigSep_insert_eq (gRest_not ht), if_pos ht, hsg]
  iintro ⟨#HC, ⟨%W, HO⟩, ⟨Hc, HR⟩, %S, %hS, Ha, HP⟩
  ihave #HI := (Ctx_inv I K (dma_mem c (gSem g) (gSem_ge g))) $$ HC
  by_cases hl : t + 1 < gCount g
  · rw [if_pos hl]
    iapply (Rounds.wp_wait 𝒱₀ ER (rd I) c.tc none (κ := K (gatC c g)) (sm := .dma (gSem g)) (k' := N1)
      (show ∀ K' : PUnit → sProp 𝕄, wpE (defs₀ (F := F)) 𝒱₀ c.tc none Set.univ (.waitDma2 (gSem g) src dst hsrc hdst) K' = waitSpec c.tc Set.univ (.dma (gSem g)) N1 K' from
        fun K' => (wpE_waitDma2_eq 𝒱₀ c.tc none Set.univ K').trans (by rw [hN]))
      (Set.mem_univ _) (cr := Finsupp.single () N1) (O := Owe c n) (W := W) {((.dma (gSem g) : SemLoc sig), ())} (R := 0) (m := t * N1) (T := S)
      (Idealize.SL.Util.total_single () N1) (by rw [Finsupp.support_single_ne_zero _ N1_pos.ne', Finset.image_singleton])) $$ [Hc HO Ha]
    · isplitr; · iexact HI
      isplitl [Hc]; · iexact Hc
      isplitl [HO]; · iexact HO
      isplitr; · iapply (mayWaitC I K c n (.dma (gSem g)) (by have := lv_gat c g; unfold gatC dmaC at this; omega)); iexact HC
      iexact Ha
    iintro %S' ⟨%hS', HO, Ha, HP'⟩
    iapply (show ∀ Q' : PUnit → sProp 𝕄, Q' ⟨⟩ ⊢ wp frame (wpE (defs₀ (F := F)) 𝒱₀ c.tc none) Set.univ (.ret ⟨⟩) Q' from by intro Q'; rw [wp_ret]; iintro H'; imodintro; iexact H')
    isplitr; · iexact HC
    isplitl [HO]; · iexists _; iexact HO
    isplitl [HR]; · iexact HR
    iexists S'
    isplitr; · ipureintro; exact hS'.2.1.trans (by rw [duties_gat])
    isplitl [Ha]
    · rw [Nat.succ_mul]; iexact Ha
    have e : (bigSep S' fun d => rowPay I c (rwOf g d)) = iprop((bigSep S fun d => rowPay I c (rwOf g d)) ∗ bigSep (S' \ S) fun d => (rd I).payload (gatC c g) 0 d) := by
      refine (BI.bigSep_sdiff_split hS'.1).trans ?_
      simp only [payload_gat]
      rfl
    iapply (Entails.of_eq e.symm)
    isplitl [HP]
    · iexact HP
    · iexact HP'
  · rw [if_neg hl]
    have hT : t + 1 = gCount g := by omega
    iapply (Rounds.wp_wait_rest_token 𝒱₀ ER (rd I) c.tc none (κ := K (gatC c g))
      (show ∀ K' : PUnit → sProp 𝕄, wpE (defs₀ (F := F)) 𝒱₀ c.tc none Set.univ (.waitDma2 (gSem g) src dst hsrc hdst) K' = waitSpec c.tc Set.univ (.dma (gSem g)) N1 K' from
        fun K' => (wpE_waitDma2_eq 𝒱₀ c.tc none Set.univ K').trans (by rw [hN]))
      (Set.mem_univ _) () (O := Owe c n) (W := W) (R := 0) (m := t * N1) (T := S)
      (by rw [expect_gat, ← hT, Nat.succ_mul])) $$ [Hc HO Ha]
    · isplitr; · iexact HI
      isplitl [Hc]; · iexact Hc
      isplitl [HO]; · iexact HO
      isplitr; · iapply (mayWaitC I K c n (.dma (gSem g)) (by have := lv_gat c g; unfold gatC dmaC at this; omega)); iexact HC
      iexact Ha
    iintro ⟨HO, Ha, -, HP'⟩
    iapply (show ∀ Q' : PUnit → sProp 𝕄, Q' ⟨⟩ ⊢ wp frame (wpE (defs₀ (F := F)) 𝒱₀ c.tc none) Set.univ (.ret ⟨⟩) Q' from by intro Q'; rw [wp_ret]; iintro H'; imodintro; iexact H')
    isplitr; · iexact HC
    isplitl [HO]; · iexists _; iexact HO
    isplitl [HR]; · iexact HR
    isplitl [Ha]
    · iexact Ha
    have e : (bigSep (Finset.range (gCount g)) fun d => rowPay I c (rwOf g d))
        = iprop((bigSep S fun d => rowPay I c (rwOf g d)) ∗ bigSep ((rd I).duties (gatC c g) 0 \ S) fun d => (rd I).payload (gatC c g) 0 d) := by
      refine (BI.bigSep_sdiff_split hS).trans ?_
      rw [duties_gat]
      simp only [payload_gat]
      rfl
    iapply (Entails.of_eq e.symm)
    isplitl [HP]
    · iexact HP
    · iexact HP'

/-- The loop that waits for a semaphore's gathers. -/
theorem st_drain {g : Bool} {l : Scf.Loop 32} {hok : l.OK} {sp sp' : Space} {s s' : Shape} {e e' : EltTy} {κ' : Kind} {src : Memref sig .tc sp' s' e'} {dst : Memref sig κ' sp s e}
    {s1 : DmaSem sig} {hsrc : src.view.WordExact} {hdst : dst.view.WordExact} {k : Unit → Prog (TpuEff nD τ sig (Elt F) Λ₀ .tc) α}
    (htr : l.trips = gCount g) (hs : s1 = gSem g) (hN : dst.view.dmaCredit = N1)
    (H : At I K c iprop(gOut I c g ∗ R) (σ.fill g) ⊢ WP c (k ()) Q) :
    At I K c iprop(gIn I c g ∗ R) σ ⊢ WP c (Scf.Loop.for l hok () (fun _ _ => Prog.lift (.waitDma2 s1 src dst hsrc hdst) >>= fun _ => pure PUnit.unit) >>= k) Q := by
  have hfor := Scf.wp_for_bind (frame (Val := Elt F)) (wpE (defs₀ (F := F)) 𝒱₀ c.tc none) Set.univ l.lb l.ub l.st hok ()
    (fun _ _ => Prog.lift (.waitDma2 s1 src dst hsrc hdst) >>= fun _ => pure PUnit.unit)
    (fun t (_ : Unit) => iprop(Ctx I K ∗ (∃ W, owes (c.tc : Thread nD τ) (Owe c σ.n) W) ∗ gMid I c g t))
    (fun t _ => drain_step I K c (t.isLt.trans_eq htr) hs hN) (kk := k) (Q := Q)
  have h0 : 0 < gCount g := by cases g <;> decide
  have hr0 : gRest g 0 = Finset.univ.filter fun i : Rw => rwS i = g := by
    ext i; simp only [gRest, Finset.mem_filter, Finset.mem_univ, true_and, Nat.zero_le, and_true]
  have hsplit : (bigSep (Finset.univ.filter fun i : Rw => rwS i = g) (rowAfter I c))
      = iprop((bigSep (gRest g 0) fun i => cred (tallyAt (gatC c (rwS i)) () N1))
        ∗ bigSep (Finset.univ.filter fun i : Rw => rwS i = g) fun i => (A2.view.loc c.tc ↦[Finset.univ \ (eRow (rwE I c i) (rwE_le I c i)).view.set]{shE i} I.emb c)) := by
    rw [hr0]; exact BI.bigSep_sep _ _ _
  have hun : (Finset.univ.filter fun i : Rw => rwS i = g) = (Finset.range (gCount g)).biUnion fun d => {rwOf g d} := by
    ext i
    simp only [Finset.mem_filter, Finset.mem_univ, true_and, Finset.mem_biUnion, Finset.mem_range, Finset.mem_singleton]
    constructor
    · rintro rfl; exact ⟨rwD i, rwD_lt i, (rwOf_rw i).symm⟩
    · rintro ⟨d, hd, rfl⟩; exact (rw_rwOf g d hd).1
  have hpay : (bigSep (Finset.range (gCount g)) fun d => rowPay I c (rwOf g d))
      ⊢ iprop((bigSep (Finset.univ.filter fun i : Rw => rwS i = g) (rowHas I c))
        ∗ bigSep (Finset.univ.filter fun i : Rw => rwS i = g) fun i => (A2.view.loc c.tc ↦[(eRow (rwE I c i) (rwE_le I c i)).view.set]{shE i} I.emb c)) := by
    have h1 : (bigSep (Finset.range (gCount g)) fun d => rowPay I c (rwOf g d))
        = bigSep (Finset.range (gCount g)) fun d => bigSep {rwOf g d} (rowPay I c) := bigSep_congr fun d _ => bigSep_singleton.symm
    rw [h1]
    refine BI.Entails.trans (BI.bigSep_biUnion _ _) (Entails.of_eq (Eq.trans ?_ (BI.bigSep_sep _ _ _)))
    rw [← hun]
    rfl
  unfold At gIn
  rw [hsplit]
  iintro ⟨#HC, HO, Htr, Hrx, Hch, Hm, ⟨Ha, Hc, HE⟩, HR⟩
  iapply hfor $$ [HO Ha Hc]
  · isplitr; · iexact HC
    isplitl [HO]; · iexact HO
    unfold gMid
    rw [if_pos h0]
    isplitl [Hc]; · iexact Hc
    iexists ∅
    isplitr; · ipureintro; exact Finset.empty_subset _
    isplitl [Ha]
    · rw [Nat.zero_mul]; iexact Ha
    iempintro
  iintro %acc ⟨-, HO, HM⟩
  unfold gMid
  have htr' : Scf.trips l.lb l.ub l.st = gCount g := htr
  rw [htr', if_neg (Nat.lt_irrefl _)]
  icases HM with ⟨-, Ha, HP⟩
  ihave HP := hpay $$ HP
  icases HP with ⟨HX, HE'⟩
  iapply H
  unfold At gOut
  isplitr; · iexact HC
  isplitl [HO]; · iexact HO
  isplitl [Htr]; · iexact Htr
  isplitl [Hrx]; · iexact Hrx
  isplitl [Hch HX]
  · iapply (rows_fill I c g)
    isplitl [HX]
    · iexact HX
    · iexact Hch
  isplitl [Hm]; · iexact Hm
  isplitl [Ha HE HE']
  · isplitl [Ha]; · iexact Ha
    have hj : iprop((bigSep (Finset.univ.filter fun i : Rw => rwS i = g) fun i => (A2.view.loc c.tc ↦[(eRow (rwE I c i) (rwE_le I c i)).view.set]{shE i} I.emb c))
        ∗ bigSep (Finset.univ.filter fun i : Rw => rwS i = g) fun i => (A2.view.loc c.tc ↦[Finset.univ \ (eRow (rwE I c i) (rwE_le I c i)).view.set]{shE i} I.emb c))
        ⊢ (bigSep (Finset.univ.filter fun i : Rw => rwS i = g) fun i => (A2.view.loc c.tc ↦[Finset.univ]{shE i} I.emb c) : sProp 𝕄) := by
      refine BI.Entails.trans (Entails.of_eq (BI.bigSep_sep _ _ _).symm) (bigSep_mono fun i _ => ?_)
      exact (pointsTo_split_subset (Finset.subset_univ _)).2
    iapply hj
    isplitl [HE']
    · iexact HE'
    · iexact HE
  iexact HR

/-- Another frame. -/
theorem At_frame {R' : sProp (MT nD τ sig Unit (Elt F) ℕ UU ℕ)} (h : R ⊢ R') : At I K c R σ ⊢ At I K c R' σ := by
  unfold At
  iintro ⟨HC, HO, Htr, Hrx, Hch, Hm, HR⟩
  isplitl [HC]; · iexact HC
  isplitl [HO]; · iexact HO
  isplitl [Htr]; · iexact Htr
  isplitl [Hrx]; · iexact Hrx
  isplitl [Hch]; · iexact Hch
  isplitl [Hm]; · iexact Hm
  iapply h
  iexact HR

end Cert.Proof

end
-- ==== Proof.Pieces.lean ====
/-
  A buffer and its pieces: the pieces of each buffer are disjoint and make up the whole, so the buffer splits into them
  and is put together from them again.
-/
module

public import proofs.«01_k».proof.Proof.Drain

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Any buffer -/

section Any

variable (c : Dev nD) {sp : Space} {sh : Shape} {e : EltTy} (m : Memref sig .tc sp sh e)
  {T : Type} [Fintype T] [DecidableEq T] (r : T → Rect sh) (hr : ∀ t a, (r t).stride a = 1)
  (hd : ∀ t t', t ≠ t' → Disjoint (r t).set (r t').set)

include hd in
/-- Values of the parts are the parts of one whole. -/
theorem exists_glue {α : Type} [Nonempty α] (v : ∀ t, (r t).shape.Idx → α) :
    ∃ X : sh.Idx → α, ∀ t j, X ((r t).emb j) = v t j := by
  classical
  refine ⟨fun x => if h : ∃ t, ∃ j, (r t).emb j = x then v h.choose h.choose_spec.choose else Classical.arbitrary α, fun t j => ?_⟩
  have h : ∃ t', ∃ j', (r t').emb j' = (r t).emb j := ⟨t, j, rfl⟩
  show (if h : ∃ t', ∃ j', (r t').emb j' = (r t).emb j then v h.choose h.choose_spec.choose else Classical.arbitrary α) = v t j
  rw [dif_pos h]
  have key : ∀ t' j', (r t').emb j' = (r t).emb j → v t' j' = v t j := by
    intro t' j' hs
    have e : t' = t := by
      by_contra hne
      have hdl : ∀ x, x ∈ (r t').set → x ∉ (r t).set := fun x hx => Finset.disjoint_left.mp (hd t' t hne) hx
      refine hdl ((r t).emb j) ?_ ?_
      · rw [← hs, ← Rect.map_emb_univ]; exact Finset.mem_map_of_mem _ (Finset.mem_univ j')
      · rw [← Rect.map_emb_univ]; exact Finset.mem_map_of_mem _ (Finset.mem_univ j)
    subst e
    rw [(r t').emb.injective hs]
  exact key _ _ h.choose_spec.choose_spec

variable (hcov : ∀ x, ∃ t, x ∈ (r t).set)

theorem cover_univ (hcov : ∀ x, ∃ t, x ∈ (r t).set) : (Finset.univ : Finset T).biUnion (fun t => (r t).set) = Finset.univ := by
  refine Finset.eq_univ_of_forall fun x => ?_
  obtain ⟨t, ht⟩ := hcov x
  exact Finset.mem_biUnion.mpr ⟨t, Finset.mem_univ _, ht⟩

include hd hcov in
/-- A buffer with any contents is its pieces with any contents, -/
theorem pieces_split :
    (iprop(∃ X, owns c.tc m fullShare X) : sProp 𝕄) ⊢ bigSep Finset.univ fun t => iprop(∃ X, owns c.tc (m.slice (r t) (hr t)) fullShare X) := by
  have hx : ∀ t Y, (owns c.tc (m.slice (r t) (hr t)) fullShare Y : sProp 𝕄) ⊢ iprop(∃ X, owns c.tc (m.slice (r t) (hr t)) fullShare X) := fun t Y => by
    iintro H; iexists Y; iexact H
  have h : ∀ X, (owns c.tc m fullShare X : sProp 𝕄) ⊢ bigSep Finset.univ fun t => iprop(∃ X, owns c.tc (m.slice (r t) (hr t)) fullShare X) := fun X =>
    BI.Entails.trans (owns_rects c.tc m fullShare r hr hd (cover_univ r hcov) X) (bigSep_mono fun t _ => hx t _)
  iintro ⟨%X, H⟩
  iapply (h X)
  iexact H

include hd hcov in
/-- and its pieces with contents of their own are the buffer with contents that have these parts. -/
theorem pieces_join (v : ∀ t, (r t).shape.Idx → Elt F e) :
    (bigSep Finset.univ fun t => owns c.tc (m.slice (r t) (hr t)) fullShare (v t))
      ⊢ (iprop(∃ X, ⌜∀ t j, X ((r t).emb j) = v t j⌝ ∗ owns c.tc m fullShare X) : sProp 𝕄) := by
  obtain ⟨X, hX⟩ := exists_glue r hd v
  have e : (bigSep Finset.univ fun t => (owns c.tc (m.slice (r t) (hr t)) fullShare (v t) : sProp 𝕄))
      = bigSep Finset.univ fun t => owns c.tc (m.slice (r t) (hr t)) fullShare (fun j => X ((r t).emb j)) :=
    bigSep_congr fun t _ => by rw [show v t = fun j => X ((r t).emb j) from funext fun j => (hX t j).symm]
  rw [e]
  have h : (bigSep Finset.univ fun t => (owns c.tc (m.slice (r t) (hr t)) fullShare (fun j => X ((r t).emb j)) : sProp 𝕄)) ⊢ owns c.tc m fullShare X := owns_of_rects c.tc m fullShare r hr hd (cover_univ r hcov) X
  iintro H
  iexists X
  isplitr
  · ipureintro; exact hX
  iapply h
  iexact H

end Any

/-- A whole buffer is its points-to. -/
theorem whole_split (c : Dev nD) (b : Ref sig .tc) :
    (iprop(∃ f, c.tc.loc b ↦{fullShare} f) : sProp 𝕄) ⊣⊢ iprop(∃ X, owns c.tc (Memref.whole b) fullShare X) := by
  simp only [owns_whole]; exact ⟨BI.Entails.refl _, BI.Entails.refl _⟩

/-- A squeezed memref is the memref. -/
theorem squeeze_any (c : Dev nD) {sp : Space} {s s' : Shape} {e : EltTy} (m : Memref sig .tc sp s e) (h : s.Squeezes s') :
    (iprop(∃ X, owns c.tc (m.squeeze s' h) fullShare X) : sProp 𝕄) ⊣⊢ iprop(∃ X, owns c.tc m fullShare X) := by
  have e1 : ∀ X, (owns c.tc m fullShare X : sProp 𝕄) ⊢ iprop(∃ X, owns c.tc (m.squeeze s' h) fullShare X) := fun X => by
    unfold owns
    iintro ⟨%f, -, H⟩
    iexists _
    iexists f
    isplitr
    · ipureintro; rfl
    iapply (Entails.of_eq (congrArg (fun S => (m.view.loc c.tc ↦[S]{fullShare} f : sProp 𝕄)) (View.set_reshape m.view h.numel_eq).symm))
    iexact H
  have e2 : ∀ X, (owns c.tc (m.squeeze s' h) fullShare X : sProp 𝕄) ⊢ iprop(∃ X, owns c.tc m fullShare X) := fun X => by
    unfold owns
    iintro ⟨%f, -, H⟩
    iexists _
    iexists f
    isplitr
    · ipureintro; rfl
    iapply (Entails.of_eq (congrArg (fun S => (m.view.loc c.tc ↦[S]{fullShare} f : sProp 𝕄)) (View.set_reshape m.view h.numel_eq)))
    iexact H
  constructor
  · iintro ⟨%X, H⟩; iapply (e2 X); iexact H
  · iintro ⟨%X, H⟩; iapply (e1 X); iexact H

/-! ## The kernel's buffers -/

section Kernel

variable (c : Dev nD)

theorem blk_inj (b : Bool) {n n' : ℕ} (hn : n < 4) (hn' : n' < 4) (h : blk c b n = blk c b n') : n = n' := by
  unfold blk at h; cases b <;> simp only [Bool.false_eq_true, if_false, if_true] at h <;> omega
theorem blk_surj (b : Bool) {q : ℕ} (hq : q < 4) : ∃ n : Fin 4, blk c b n = q := by
  cases b
  · refine ⟨⟨(c.val + 4 - q) % 4, Nat.mod_lt _ (by decide)⟩, ?_⟩
    unfold blk; simp only [Bool.false_eq_true, if_false]; omega
  · refine ⟨⟨(q + 4 - c.val % 4) % 4, Nat.mod_lt _ (by decide)⟩, ?_⟩
    unfold blk; simp only [if_true]; omega
theorem blk_mod (b : Bool) (n : ℕ) : blk c b (n % 4) = blk c b n := by
  unfold blk; cases b <;> simp only [Bool.false_eq_true, if_false, if_true] <;> omega

theorem rG_disj : ∀ t t' : Bool × Fin 4, t ≠ t' → Disjoint (rG c t.1 t.2).set (rG c t'.1 t'.2).set := by
  rintro ⟨b, n⟩ ⟨b', n'⟩ h
  refine Rect.unit_disjoint 0 ?_
  show rowG c b n + 32 ≤ rowG c b' n' ∨ rowG c b' n' + 32 ≤ rowG c b n
  have h1 := blk_lt c b n; have h2 := blk_lt c b' n'
  have h3 : b = b' → blk c b n ≠ blk c b' n' := by
    rintro rfl e
    exact h (Prod.ext rfl (Fin.ext (blk_inj c b n.isLt n'.isLt e)))
  unfold rowG
  cases b <;> cases b' <;> simp only [Bool.false_eq_true, if_false, if_true, reduceCtorEq, false_imp_iff, true_imp_iff] at h3 ⊢ <;> omega
theorem rG_cov : ∀ x, ∃ t : Bool × Fin 4, x ∈ (rG c t.1 t.2).set := by
  intro x
  have hx : (x 0).val < 256 := (x 0).isLt
  have hx1 : (x 1).val < 1024 := (x 1).isLt
  obtain ⟨n, hn⟩ := blk_surj c (decide (128 ≤ (x 0).val)) (q := (x 0).val % 128 / 32) (by omega)
  refine ⟨(decide (128 ≤ (x 0).val), n), Rect.mem_set_unit.mpr fun a => ?_⟩
  fin_cases a
  · show rowG c _ n ≤ (x 0).val ∧ (x 0).val < rowG c _ n + 32
    unfold rowG; rw [hn]
    by_cases h : 128 ≤ (x 0).val <;> simp only [h, decide_true, decide_false, Bool.false_eq_true, if_false, if_true] <;> omega
  · exact ⟨Nat.zero_le _, by show (x 1).val < 0 + 1024; omega⟩

theorem rC_disj : ∀ t t' : Fin 6, t ≠ t' → Disjoint (rC t).set (rC t').set := by
  intro t t' h
  refine Rect.unit_disjoint 0 ?_
  show t.val + 1 ≤ t'.val ∨ t'.val + 1 ≤ t.val
  have : t.val ≠ t'.val := fun e => h (Fin.ext e)
  omega
theorem rC_cov : ∀ x, ∃ t : Fin 6, x ∈ (rC t).set := by
  intro x
  refine ⟨x 0, Rect.mem_set_unit.mpr fun a => ?_⟩
  fin_cases a
  · show (x 0).val ≤ (x 0).val ∧ (x 0).val < (x 0).val + 1; omega
  · exact ⟨Nat.zero_le _, by have : (x 1).val < 32 := (x 1).isLt; show (x 1).val < 0 + 32; omega⟩
  · exact ⟨Nat.zero_le _, by have : (x 2).val < 1024 := (x 2).isLt; show (x 2).val < 0 + 1024; omega⟩

theorem rO_disj : ∀ t t' : Bool × Fin 4 × Fin 8, t ≠ t' → Disjoint (rO c t.1 t.2.1 t.2.2).set (rO c t'.1 t'.2.1 t'.2.2).set := by
  rintro ⟨b, n, d⟩ ⟨b', n', d'⟩ h
  refine Rect.unit_disjoint 0 ?_
  show rowO c b n d + 32 ≤ rowO c b' n' d' ∨ rowO c b' n' d' + 32 ≤ rowO c b n d
  have h1 := blk_lt c b (3 + n); have h2 := blk_lt c b' (3 + n')
  have h0 := d.isLt; have h0' := d'.isLt
  have h3 : d = d' → b = b' → blk c b (3 + n) ≠ blk c b' (3 + n') := by
    rintro rfl rfl e
    rw [← blk_mod, ← blk_mod c b (3 + n')] at e
    have hm := blk_inj c b (Nat.mod_lt _ (by decide)) (Nat.mod_lt _ (by decide)) e
    have hn : n.val = n'.val := by have := n.isLt; have := n'.isLt; omega
    exact h (Prod.ext rfl (Prod.ext (Fin.ext hn) rfl))
  have h4 : d ≠ d' → (ring c + d) % 8 ≠ (ring c + d') % 8 := fun hd => by
    have : d.val ≠ d'.val := fun e => hd (Fin.ext e)
    omega
  unfold rowO rowG
  by_cases hd : d = d'
  · subst hd
    cases b <;> cases b' <;> simp only [Bool.false_eq_true, if_false, if_true, reduceCtorEq, false_imp_iff, true_imp_iff] at h3 ⊢ <;> omega
  · have h4 := h4 hd
    cases b <;> cases b' <;> simp only [Bool.false_eq_true, if_false, if_true] <;> omega
theorem rO_cov : ∀ x, ∃ t : Bool × Fin 4 × Fin 8, x ∈ (rO c t.1 t.2.1 t.2.2).set := by
  intro x
  have hx : (x 0).val < 2048 := (x 0).isLt
  have hx1 : (x 1).val < 1024 := (x 1).isLt
  obtain ⟨n, hn⟩ := blk_surj c (decide (128 ≤ (x 0).val % 256)) (q := (x 0).val % 128 / 32) (by omega)
  refine ⟨(decide (128 ≤ (x 0).val % 256), ⟨(n.val + 1) % 4, Nat.mod_lt _ (by decide)⟩, ⟨((x 0).val / 256 + 8 - ring c % 8) % 8, Nat.mod_lt _ (by decide)⟩),
    Rect.mem_set_unit.mpr fun a => ?_⟩
  fin_cases a
  · show rowO c _ ((n.val + 1) % 4) (((x 0).val / 256 + 8 - ring c % 8) % 8) ≤ (x 0).val ∧ (x 0).val < rowO c _ ((n.val + 1) % 4) (((x 0).val / 256 + 8 - ring c % 8) % 8) + 32
    have e : (3 + (n.val + 1) % 4) % 4 = n.val := by have := n.isLt; omega
    unfold rowO rowG
    rw [← blk_mod c _ (3 + (n.val + 1) % 4), e, hn]
    by_cases h : 128 ≤ (x 0).val % 256 <;> simp only [h, decide_true, decide_false, Bool.false_eq_true, if_false, if_true] <;> omega
  · exact ⟨Nat.zero_le _, by show (x 1).val < 0 + 1024; omega⟩

/-- A row's rectangle. -/
abbrev rR (i : Rw) : Rect S256x1024 := Rect.unit (s := S256x1024) ![rwN c i, 0] S1x1024.size (inb1 (rwN_le c i))
theorem rR_disj : ∀ t t' : Rw, t ≠ t' → Disjoint (rR c t).set (rR c t').set := by
  rintro ⟨b, n, r⟩ ⟨b', n', r'⟩ h
  refine Rect.unit_disjoint 0 ?_
  show rowG c b n + r + 1 ≤ rowG c b' n' + r' ∨ rowG c b' n' + r' + 1 ≤ rowG c b n + r
  have h1 := blk_lt c b n; have h2 := blk_lt c b' n'
  have h0 := r.isLt; have h0' := r'.isLt
  have h3 : b = b' → blk c b n = blk c b' n' → r.val ≠ r'.val := by
    rintro rfl e e'
    exact h (Prod.ext rfl (Prod.ext (Fin.ext (blk_inj c b n.isLt n'.isLt e)) (Fin.ext e')))
  unfold rowG
  cases b <;> cases b' <;> simp only [Bool.false_eq_true, if_false, if_true, reduceCtorEq, false_imp_iff, true_imp_iff] at h3 ⊢ <;> omega
theorem rR_cov : ∀ x, ∃ t : Rw, x ∈ (rR c t).set := by
  intro x
  obtain ⟨⟨b, n⟩, h⟩ := rG_cov c x
  have h0 := (Rect.mem_set_unit.mp h) 0
  have h1 := (Rect.mem_set_unit.mp h) 1
  have h0' : rowG c b n ≤ (x 0).val ∧ (x 0).val < rowG c b n + 32 := h0
  refine ⟨(b, n, ⟨(x 0).val - rowG c b n, by omega⟩), Rect.mem_set_unit.mpr fun a => ?_⟩
  fin_cases a
  · show rowG c b n + ((x 0).val - rowG c b n) ≤ (x 0).val ∧ (x 0).val < rowG c b n + ((x 0).val - rowG c b n) + 1
    omega
  · exact h1

/-- There are values. -/
theorem f32_ne : Nonempty (Elt F .f32) := inferInstanceAs (Nonempty (Elt F (id .f32)))

/-- A piece with any contents. -/
def anyK (c : Dev nD) (k : Ck) : sProp 𝕄 := iprop(∃ X, owns c.tc (mem c k) fullShare X)

/-- The buffer of the running sums and its pieces, -/
theorem split5 : (iprop(∃ f, c.tc.loc cc0_scratch1 ↦{fullShare} f) : sProp 𝕄) ⊢ bigSep Finset.univ fun p : Bool × Fin 4 => anyK c (kS p.1 p.2) :=
  BI.Entails.trans (whole_split c cc0_scratch1).1
    (pieces_split c A5 (fun t : Bool × Fin 4 => rG c t.1 t.2) (fun _ _ => rfl) (rG_disj c) (rG_cov c))
theorem join5 (v : Bool × Fin 4 → V32 F) : (bigSep Finset.univ fun p : Bool × Fin 4 => owns c.tc (mem c (kS p.1 p.2)) fullShare (v p))
    ⊢ (iprop(∃ f, c.tc.loc cc0_scratch1 ↦{fullShare} f) : sProp 𝕄) := by
  have h := pieces_join c A5 (fun t : Bool × Fin 4 => rG c t.1 t.2) (fun _ _ => rfl) (rG_disj c) (rG_cov c) v
  refine BI.Entails.trans h ?_
  refine BI.Entails.trans ?_ (whole_split c cc0_scratch1).2
  have h' : (iprop(∃ X, ⌜∀ (t : Bool × Fin 4) j, X ((rG c t.1 t.2).emb j) = v t j⌝ ∗ owns c.tc A5 fullShare X) : sProp 𝕄)
      ⊢ iprop(∃ X, owns c.tc A5 fullShare X) := by
    iintro ⟨%X, -, H⟩; iexists X; iexact H
  exact h'
/-- the gathered rows' buffer, -/
theorem join4 (v : Bool × Fin 4 → V32 F) : (bigSep Finset.univ fun p : Bool × Fin 4 => owns c.tc (mem c (kG p.1 p.2)) fullShare (v p))
    ⊢ (iprop(∃ f, c.tc.loc cc0_scratch0 ↦{fullShare} f) : sProp 𝕄) := by
  have h := pieces_join c A4 (fun t : Bool × Fin 4 => rG c t.1 t.2) (fun _ _ => rfl) (rG_disj c) (rG_cov c) v
  refine BI.Entails.trans h ?_
  refine BI.Entails.trans ?_ (whole_split c cc0_scratch0).2
  have h' : (iprop(∃ X, ⌜∀ (t : Bool × Fin 4) j, X ((rG c t.1 t.2).emb j) = v t j⌝ ∗ owns c.tc A4 fullShare X) : sProp 𝕄)
      ⊢ iprop(∃ X, owns c.tc A4 fullShare X) := by
    iintro ⟨%X, -, H⟩; iexists X; iexact H
  exact h'
/-- which splits into rows, -/
theorem split4 : (iprop(∃ f, c.tc.loc cc0_scratch0 ↦{fullShare} f) : sProp 𝕄)
    ⊢ bigSep Finset.univ fun i : Rw => iprop(∃ X, (A4.view.loc c.tc ↦[(gRow (rwN c i) (rwN_le c i)).view.set]{fullShare} X)) := by
  refine BI.Entails.trans (whole_split c cc0_scratch0).1 (BI.Entails.trans
    (pieces_split c A4 (fun t : Rw => rR c t) (fun _ _ => rfl) (rR_disj c) (rR_cov c)) (bigSep_mono fun i _ => ?_))
  have h : ∀ X, (owns c.tc (gRow (rwN c i) (rwN_le c i)) fullShare X : sProp 𝕄)
      ⊢ iprop(∃ X, (A4.view.loc c.tc ↦[(gRow (rwN c i) (rwN_le c i)).view.set]{fullShare} X)) := fun X => by
    unfold owns; iintro ⟨%f, -, H⟩; iexists f; iexact H
  have h' : (iprop(∃ X, owns c.tc (gRow (rwN c i) (rwN_le c i)) fullShare X) : sProp 𝕄)
      ⊢ iprop(∃ X, (A4.view.loc c.tc ↦[(gRow (rwN c i) (rwN_le c i)).view.set]{fullShare} X)) := by
    iintro ⟨%X, H⟩; iapply (h X); iexact H
  exact h'
/-- the landing slots' buffers, -/
theorem split6 : (iprop(∃ f, c.tc.loc cc0_scratch2 ↦{fullShare} f) : sProp 𝕄) ⊢ bigSep Finset.univ fun h : Fin 6 => anyK c (kC false h) :=
  BI.Entails.trans (whole_split c cc0_scratch2).1
    (BI.Entails.trans (pieces_split c A6 (fun t : Fin 6 => rC t) (fun _ _ => rfl) rC_disj rC_cov)
      (bigSep_mono fun h _ => (squeeze_any c (A6.slice (rC h) (fun _ => rfl)) squeezes_S1x32x1024_S32x1024).2))
theorem split7 : (iprop(∃ f, c.tc.loc cc0_scratch3 ↦{fullShare} f) : sProp 𝕄) ⊢ bigSep Finset.univ fun h : Fin 6 => anyK c (kC true h) :=
  BI.Entails.trans (whole_split c cc0_scratch3).1
    (BI.Entails.trans (pieces_split c A7 (fun t : Fin 6 => rC t) (fun _ _ => rfl) rC_disj rC_cov)
      (bigSep_mono fun h _ => (squeeze_any c (A7.slice (rC h) (fun _ => rfl)) squeezes_S1x32x1024_S32x1024).2))
theorem joinC (m : Memref sig .tc .vmem S6x32x1024 .f32) : (bigSep Finset.univ fun h : Fin 6 => (iprop(∃ X, owns c.tc (m.slice (rC h) (fun _ => rfl)) fullShare X) : sProp 𝕄))
    ⊢ (iprop(∃ X, owns c.tc m fullShare X) : sProp 𝕄) := by
  have hp : (bigSep Finset.univ fun h : Fin 6 => (iprop(∃ X, owns c.tc (m.slice (rC h) (fun _ => rfl)) fullShare X) : sProp 𝕄))
      ⊢ iprop(∃ v : ∀ h : Fin 6, (rC h).shape.Idx → Elt F .f32, bigSep Finset.univ fun h => owns c.tc (m.slice (rC h) (fun _ => rfl)) fullShare (v h)) :=
    haveI : Nonempty (Elt F .f32) := f32_ne
    Idealize.SL.BI.bigSep_exists_pi Finset.univ _
  have h1 : ∀ v : ∀ h : Fin 6, (rC h).shape.Idx → Elt F .f32, (bigSep Finset.univ fun h => (owns c.tc (m.slice (rC h) (fun _ => rfl)) fullShare (v h) : sProp 𝕄))
      ⊢ iprop(∃ X, owns c.tc m fullShare X) := fun v => by
    have h := pieces_join c m (fun t : Fin 6 => rC t) (fun _ _ => rfl) rC_disj rC_cov v
    iintro H
    ihave H := h $$ H
    icases H with ⟨%X, -, H⟩
    iexists X; iexact H
  iintro H
  ihave H := hp $$ H
  icases H with ⟨%v, H⟩
  iapply (h1 v)
  iexact H
theorem join6 : (bigSep Finset.univ fun h : Fin 6 => anyK c (kC false h)) ⊢ (iprop(∃ f, c.tc.loc cc0_scratch2 ↦{fullShare} f) : sProp 𝕄) :=
  BI.Entails.trans (bigSep_mono fun h _ => (squeeze_any c (A6.slice (rC h) (fun _ => rfl)) squeezes_S1x32x1024_S32x1024).1)
    (BI.Entails.trans (joinC c A6) (whole_split c cc0_scratch2).2)
theorem join7 : (bigSep Finset.univ fun h : Fin 6 => anyK c (kC true h)) ⊢ (iprop(∃ f, c.tc.loc cc0_scratch3 ↦{fullShare} f) : sProp 𝕄) :=
  BI.Entails.trans (bigSep_mono fun h _ => (squeeze_any c (A7.slice (rC h) (fun _ => rfl)) squeezes_S1x32x1024_S32x1024).1)
    (BI.Entails.trans (joinC c A7) (whole_split c cc0_scratch3).2)
/-- and the result's. -/
theorem split3 (X : S2048x1024.Idx → Elt F .f32) : (owns c.tc A3 fullShare X : sProp 𝕄) ⊢ bigSep Finset.univ fun p : Bool × Fin 4 × Fin 8 => anyK c (kO p.1 p.2.1 p.2.2) := by
  have h0 : (owns c.tc A3 fullShare X : sProp 𝕄) ⊢ iprop(∃ X, owns c.tc A3 fullShare X) := by iintro H; iexists X; iexact H
  exact BI.Entails.trans h0 (pieces_split c A3 (fun t : Bool × Fin 4 × Fin 8 => rO c t.1 t.2.1 t.2.2) (fun _ _ => rfl) (rO_disj c) (rO_cov c))

/-- What the result's buffer holds in the end. -/
theorem exists_outV (I : Inp F) : ∃ X : S2048x1024.Idx → Elt F .f32, ∀ (t : Bool × Fin 4 × Fin 8) j, X ((rO c t.1 t.2.1 t.2.2).emb j) = vL I c (kO t.1 t.2.1 t.2.2) j :=
  haveI : Nonempty (Elt F .f32) := f32_ne
  exists_glue (fun t : Bool × Fin 4 × Fin 8 => rO c t.1 t.2.1 t.2.2) (rO_disj c) (fun t => vL I c (kO t.1 t.2.1 t.2.2))
def outV (I : Inp F) (c : Dev nD) : S2048x1024.Idx → Elt F .f32 := (exists_outV c I).choose
theorem outV_emb (I : Inp F) (t : Bool × Fin 4 × Fin 8) (j : S32x1024.Idx) : outV I c ((rO c t.1 t.2.1 t.2.2).emb j) = vL I c (kO t.1 t.2.1 t.2.2) j :=
  (exists_outV c I).choose_spec t j
theorem join3 (I : Inp F) : (bigSep Finset.univ fun p : Bool × Fin 4 × Fin 8 => (owns c.tc (mem c (kO p.1 p.2.1 p.2.2)) fullShare (vL I c (kO p.1 p.2.1 p.2.2)) : sProp 𝕄))
    ⊢ owns c.tc A3 fullShare (outV I c) := by
  have e : (bigSep Finset.univ fun p : Bool × Fin 4 × Fin 8 => (owns c.tc (mem c (kO p.1 p.2.1 p.2.2)) fullShare (vL I c (kO p.1 p.2.1 p.2.2)) : sProp 𝕄))
      = bigSep Finset.univ fun t : Bool × Fin 4 × Fin 8 => owns c.tc (A3.slice (rO c t.1 t.2.1 t.2.2) (fun _ => rfl)) fullShare (fun j => outV I c ((rO c t.1 t.2.1 t.2.2).emb j)) :=
    bigSep_congr fun t _ => by
      rw [show vL I c (kO t.1 t.2.1 t.2.2) = fun j => outV I c ((rO c t.1 t.2.1 t.2.2).emb j) from funext fun j => (outV_emb c I t j).symm]; rfl
  rw [e]
  exact owns_of_rects c.tc A3 fullShare (fun t : Bool × Fin 4 × Fin 8 => rO c t.1 t.2.1 t.2.2) (fun _ _ => rfl) (rO_disj c) (cover_univ _ (rO_cov c)) (outV I c)

end Kernel

end Cert.Proof

end
-- ==== Proof.States.lean ====
/-
  The states of a device after each part of the kernel, by the part's number.
-/
module

public import proofs.«01_k».proof.Proof.Vals

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

def s7 : St := (stB.fill false).setc (kS false 0) .val
def s8 : St := s7.setc (kS true 0) .val
def s9 : St := ((s8.start (zT false 0)).start (zT true 0)).fill true
def s10 : St := ((s9.setc (kS false 3) .part).setc (kS true 1) .part).setc (kS false 2) .part
def s11 : St := ((s10.setc (kS true 2) .part).setc (kS false 1) .part).setc (kS true 3) .part
def s12 : St := ((s11.sent (zT false 0)).recd (zT false 0)).sent (zT true 0)
def s13 : St := s12.recd (zT true 0)
def s14 : St := (s13.setc (kS false 1) .val).setc (kS true 1) .val
def s15 : St := (s14.start (zT false 1)).start (zT true 1)
def s16 : St := (((s15.sent (zT false 1)).recd (zT false 1)).sent (zT true 1)).recd (zT true 1)
def s17 : St := s16.setc (kS false 2) .val
def s18 : St := s17.setc (kS true 2) .val
def s19 : St := ((s18.start (zT false 2)).start (zT true 2)).sent (zT false 2)
def s20 : St := ((s19.recd (zT false 2)).sent (zT true 2)).recd (zT true 2)
def s21 : St := s20.setc (kS false 3) .val
def s22 : St := (s21.setc (kS true 3) .val).setc (kO false 0 0) .val
def s23 : St := s22.setc (kO true 0 0) .val
def s25 : St := ((s23.start (lT true false 0 0)).start (lT false true 0 0)).start (lT true true 0 0)
def s26 : St := s25.start (lT false false 0 0)
def s27 : St := ((s26.start (zT false 3)).start (zT true 3)).sent (zT false 3)
def s28 : St := ((s27.recd (zT false 3)).sent (zT true 3)).recd (zT true 3)
def s29 : St := (s28.setc (kO false 1 0) .val).setc (kO true 1 0) .val
def s31 : St := s29.start (lT true false 1 0)
def s32 : St := ((s31.start (lT false true 1 0)).start (lT true true 1 0)).start (lT false false 1 0)
def s34 : St := ((s32.sent (lT true false 0 0)).recd (lT true false 0 0)).sent (lT false true 0 0)
def s35 : St := (((s34.recd (lT false true 0 0)).sent (lT true true 0 0)).recd (lT true true 0 0)).sent (lT false false 0 0)
def s36 : St := s35.recd (lT false false 0 0)
def s38 : St := ((s36.start (lT true false 0 1)).start (lT false true 0 1)).start (lT true true 0 1)
def s39 : St := (s38.start (lT false false 0 1)).start (zT false 4)
def s40 : St := (((s39.start (zT true 4)).sent (zT false 4)).recd (zT false 4)).sent (zT true 4)
def s41 : St := (s40.recd (zT true 4)).setc (kO false 2 0) .val
def s42 : St := s41.setc (kO true 2 0) .val
def s44 : St := ((s42.start (lT true false 2 0)).start (lT false true 2 0)).start (lT true true 2 0)
def s45 : St := s44.start (lT false false 2 0)
def s47 : St := (((s45.sent (lT true false 0 1)).recd (lT true false 0 1)).sent (lT false true 0 1)).recd (lT false true 0 1)
def s48 : St := (((s47.sent (lT true true 0 1)).recd (lT true true 0 1)).sent (lT false false 0 1)).recd (lT false false 0 1)
def s50 : St := s48.start (lT true false 0 2)
def s51 : St := ((s50.start (lT false true 0 2)).start (lT true true 0 2)).start (lT false false 0 2)
def s53 : St := ((s51.sent (lT true false 1 0)).recd (lT true false 1 0)).sent (lT false true 1 0)
def s54 : St := (((s53.recd (lT false true 1 0)).sent (lT true true 1 0)).recd (lT true true 1 0)).sent (lT false false 1 0)
def s55 : St := s54.recd (lT false false 1 0)
def s57 : St := ((s55.start (lT true false 1 1)).start (lT false true 1 1)).start (lT true true 1 1)
def s58 : St := (s57.start (lT false false 1 1)).start (zT false 5)
def s59 : St := (((s58.start (zT true 5)).sent (zT false 5)).recd (zT false 5)).sent (zT true 5)
def s60 : St := (s59.recd (zT true 5)).setc (kO false 3 0) .val
def s61 : St := s60.setc (kO true 3 0) .val
def s63 : St := (s61.start (lT true false 3 0)).start (lT false true 3 0)
def s64 : St := (s63.start (lT true true 3 0)).start (lT false false 3 0)
def s66 : St := (((s64.sent (lT true false 0 2)).recd (lT true false 0 2)).sent (lT false true 0 2)).recd (lT false true 0 2)
def s67 : St := (((s66.sent (lT true true 0 2)).recd (lT true true 0 2)).sent (lT false false 0 2)).recd (lT false false 0 2)
def s69 : St := (s67.start (lT true false 0 3)).start (lT false true 0 3)
def s71 : St := (s69.sent (lT true false 1 1)).recd (lT true false 1 1)
def s72 : St := (((s71.sent (lT false true 1 1)).recd (lT false true 1 1)).sent (lT true true 1 1)).recd (lT true true 1 1)
def s73 : St := (s72.sent (lT false false 1 1)).recd (lT false false 1 1)
def s75 : St := ((s73.start (lT true false 1 2)).start (lT false true 1 2)).start (lT true true 1 2)
def s76 : St := s75.start (lT false false 1 2)
def s78 : St := (((s76.sent (lT true false 2 0)).recd (lT true false 2 0)).sent (lT false true 2 0)).recd (lT false true 2 0)
def s79 : St := (((s78.sent (lT true true 2 0)).recd (lT true true 2 0)).sent (lT false false 2 0)).recd (lT false false 2 0)
def s81 : St := s79.start (lT true false 2 1)
def s82 : St := ((s81.start (lT false true 2 1)).start (lT true true 2 1)).start (lT false false 2 1)
def s84 : St := ((s82.sent (lT true false 1 2)).recd (lT true false 1 2)).sent (lT false true 1 2)
def s85 : St := (((s84.recd (lT false true 1 2)).sent (lT true true 1 2)).recd (lT true true 1 2)).sent (lT false false 1 2)
def s86 : St := s85.recd (lT false false 1 2)
def s87 : St := s86.start (lT true false 1 3)
def s88 : St := s87.start (lT false true 1 3)
def s90 : St := ((((s88.sent (lT true false 2 1)).recd (lT true false 2 1)).sent (lT false true 2 1)).recd (lT false true 2 1)).sent (lT true true 2 1)
def s91 : St := ((s90.recd (lT true true 2 1)).sent (lT false false 2 1)).recd (lT false false 2 1)
def s93 : St := s91.start (lT true false 2 2)
def s94 : St := ((s93.start (lT false true 2 2)).start (lT true true 2 2)).start (lT false false 2 2)
def s96 : St := ((s94.sent (lT true false 3 0)).recd (lT true false 3 0)).sent (lT false true 3 0)
def s97 : St := (((s96.recd (lT false true 3 0)).sent (lT true true 3 0)).recd (lT true true 3 0)).sent (lT false false 3 0)
def s98 : St := s97.recd (lT false false 3 0)
def s100 : St := ((s98.start (lT true false 3 1)).start (lT false true 3 1)).start (lT true true 3 1)
def s101 : St := s100.start (lT false false 3 1)
def s102 : St := s101.sent (lT true false 2 2)
def s103 : St := (((s102.recd (lT true false 2 2)).sent (lT false true 2 2)).recd (lT false true 2 2)).sent (lT true true 2 2)
def s104 : St := ((s103.recd (lT true true 2 2)).sent (lT false false 2 2)).recd (lT false false 2 2)
def s106 : St := (s104.start (lT true false 2 3)).start (lT false true 2 3)
def s108 : St := ((s106.sent (lT true false 3 1)).recd (lT true false 3 1)).sent (lT false true 3 1)
def s109 : St := (((s108.recd (lT false true 3 1)).sent (lT true true 3 1)).recd (lT true true 3 1)).sent (lT false false 3 1)
def s110 : St := s109.recd (lT false false 3 1)
def s112 : St := ((s110.start (lT true false 3 2)).start (lT false true 3 2)).start (lT true true 3 2)
def s113 : St := s112.start (lT false false 3 2)
def s114 : St := s113.sent (lT true false 3 2)
def s115 : St := (((s114.recd (lT true false 3 2)).sent (lT false true 3 2)).recd (lT false true 3 2)).sent (lT true true 3 2)
def s116 : St := ((s115.recd (lT true true 3 2)).sent (lT false false 3 2)).recd (lT false false 3 2)
def s118 : St := (s116.start (lT true false 3 3)).start (lT false true 3 3)
def s120 : St := ((s118.sent (lT true false 0 3)).recd (lT true false 0 3)).sent (lT false true 0 3)
def s121 : St := s120.recd (lT false true 0 3)
def s122 : St := (s121.sent (lT true false 1 3)).recd (lT true false 1 3)
def s123 : St := (s122.sent (lT false true 1 3)).recd (lT false true 1 3)
def s124 : St := s123.sent (lT true false 2 3)
def s125 : St := ((s124.recd (lT true false 2 3)).sent (lT false true 2 3)).recd (lT false true 2 3)
def s127 : St := ((s125.sent (lT true false 3 3)).recd (lT true false 3 3)).sent (lT false true 3 3)

end Cert.Proof

end
-- ==== Proof.Parts0.lean ====
/-
  The parts of the kernel up to the last loop that waits for gathered rows.
-/
module

public import proofs.«01_k».proof.Proof.Drain
public import proofs.«01_k».proof.Proof.States

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD) (R : sProp (MT nD τ sig Unit (Elt F) ℕ UU ℕ))

/-- The gathers started before the first loop, and after each. -/
def g0 : Bool × Fin 4 → Bool := fun _ => false
def g1 : Bool × Fin 4 → Bool := Function.update g0 (false, 0) true
def g2 : Bool × Fin 4 → Bool := Function.update g1 (true, 0) true
def g3 : Bool × Fin 4 → Bool := Function.update g2 (false, 3) true
def g4 : Bool × Fin 4 → Bool := Function.update g3 (true, 1) true
def g5 : Bool × Fin 4 → Bool := Function.update g4 (false, 2) true
def g6 : Bool × Fin 4 → Bool := Function.update g5 (true, 2) true
def g7 : Bool × Fin 4 → Bool := Function.update g6 (false, 1) true
def g8 : Bool × Fin 4 → Bool := Function.update g7 (true, 3) true

/-- The end of a part. -/
theorem st_ret' {α : Type} {P : sProp 𝕄} {Q : α → sProp 𝕄} {a : α} (H : P ⊢ Q a) : P ⊢ WP c (pure a) Q := by
  show _ ⊢ wp _ _ _ (.ret a) _
  rw [wp_ret]
  iintro H'
  imodintro
  iapply H
  iexact H'

theorem p1 {Q} (H : ∀ a0 a1 a2 a3 a4 a5 a6 a7, Pre I K c R g0 0 ⊢ Q ⟨c, a0, a1, a2, a3, a4, a5, a6, a7⟩) :
    Pre I K c R g0 0 ⊢ WP c (k0_part1 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17) Q := by
  rw [k0_part1_eq_skeleton]; unfold k0_part1_skel
  show _ ⊢ wp _ _ _ (.op TpuEff.deviceId _) _
  rw [wp_deviceId]
  exact st_ret' c (H _ _ _ _ _ _ _ _)

theorem p2 {Q} (v8 : BitVec 32) (v33 : BitVec 32) (v34 : BitVec 32) (c8_i32 : BitVec 32) (H : ∀ a0 a1 a2 a3 a4 a5 a6, Pre I K c R g0 0 ⊢ Q ⟨a0, a1, a2, a3, a4, a5, a6⟩) :
    Pre I K c R g0 0 ⊢ WP c (k0_part2 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v34 c8_i32) Q := by
  rw [k0_part2_eq_skeleton]; unfold k0_part2_skel
  exact st_ret' c (H _ _ _ _ _ _ _)

theorem p3 {Q} (hI : I.Ok) (v8 : BitVec 32) (v67 : BitVec 32) (c4_i32_41 : BitVec 32) (v68 : BitVec 1) (H : ∀ a0 a1 a2 a3, Pre I K c R g2 0 ⊢ Q ⟨a0, a1, a2, a3⟩) :
    Pre I K c R g0 0 ⊢ WP c (k0_part3 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v67 c4_i32_41 v68) Q := by
  rw [k0_part3_eq_skeleton]; unfold k0_part3_skel
  refine pre_issue I K c R false 0 (by decide +kernel) trips1 (off1 c) (off2 c) chk1 (fun _ => rfl) rfl hI ?_
  refine pre_issue I K c R true 0 (by decide +kernel) trips2 (off4 c) (off5 c) chk2 (fun _ => rfl) rfl hI ?_
  exact st_ret' c (H _ _ _ _)

theorem p4 {Q} (v8 : BitVec 32) (v96 : BitVec 32) (v97 : BitVec 32) (v98 : BitVec 1) (c0_i32_68 : BitVec 32) (H : ∀ a0 a1 a2 a3 a4 a5, Pre I K c R g2 0 ⊢ Q ⟨a0, a1, a2, a3, a4, a5⟩) :
    Pre I K c R g2 0 ⊢ WP c (k0_part4 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v96 v97 v98 c0_i32_68) Q := by
  rw [k0_part4_eq_skeleton]; unfold k0_part4_skel
  exact st_ret' c (H _ _ _ _ _ _)

theorem p5 {Q} (hI : I.Ok) (v8 : BitVec 32) (v105 : BitVec 32) (v133 : BitVec 32) (v134 : BitVec 32) (c0_i32_92 : BitVec 32) (H : ∀ a0 a1 a2, Pre I K c R g3 0 ⊢ Q ⟨a0, a1, a2⟩) :
    Pre I K c R g2 0 ⊢ WP c (k0_part5 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v105 v133 v134 c0_i32_92) Q := by
  rw [k0_part5_eq_skeleton]; unfold k0_part5_skel
  refine pre_issue I K c R false 3 (by decide +kernel) trips3 (off7 c) (off8 c) chk3 (fun _ => rfl) rfl hI ?_
  exact st_ret' c (H _ _ _)

theorem p6 {Q} (hI : I.Ok) (v2 : BitVec 32) (v5 : BitVec 32) (v19 : BitVec 32) (v30 : BitVec 32) (v63 : BitVec 32) (v118 : BitVec 32) (v130 : BitVec 32) (v143 : BitVec 32) (v155 : BitVec 32) (v168 : BitVec 32) (H : ∀ a0 a1, Pre I K c R g8 2 ⊢ Q ⟨(SemArray.scalar (sig.barrier 0 rfl)), a0, a1⟩) :
    Pre I K c R g3 0 ⊢ WP c (k0_part6 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v19 v30 v63 v118 v130 v143 v155 v168) Q := by
  rw [k0_part6_eq_skeleton]; unfold k0_part6_skel
  refine pre_issue I K c R true 1 (by decide +kernel) trips4 (off10 c) (off11 c) chk4 (fun _ => rfl) rfl hI ?_
  refine pre_issue I K c R false 2 (by decide +kernel) trips5 (off13 c) (off14 c) chk5 (fun _ => rfl) rfl hI ?_
  refine pre_issue I K c R true 2 (by decide +kernel) trips6 (off16 c) (off17 c) chk6 (fun _ => rfl) rfl hI ?_
  refine pre_issue I K c R false 1 (by decide +kernel) trips7 (off19 c) (off20 c) chk7 (fun _ => rfl) rfl hI ?_
  refine pre_issue I K c R true 3 (by decide +kernel) trips8 (off22 c) (off23 c) chk8 (fun _ => rfl) rfl hI ?_
  refine pre_sig I K c R (by decide) (dev1 c) rfl ?_
  refine pre_sig I K c R (by decide) (dev2 c) rfl ?_
  exact st_ret' c (H _ _)

/-- What is left beside the states after the first loop of waits, -/
abbrev R7 (I : Inp F) (c : Dev nD) (R : sProp 𝕄) : sProp 𝕄 := iprop(gOut I c false ∗ gIn I c true ∗ owns c.tc A0 fullShare (I.ids c) ∗ atPos ER (barC c) 1 ∅ 0 ∗ R)
/-- and after the second. -/
abbrev R9 (I : Inp F) (c : Dev nD) (R : sProp 𝕄) : sProp 𝕄 := iprop(gOut I c true ∗ gOut I c false ∗ owns c.tc A0 fullShare (I.ids c) ∗ atPos ER (barC c) 1 ∅ 0 ∗ R)

theorem p7 {Q} (v8 : BitVec 32) (v46 : BitVec 32) (v49 : BitVec 32) (v66 : BitVec 32) (v188 : BitVec 32) (c0_i32_149 : BitVec 32) (H : ∀ a0, At I K c (R7 I c R) s7 ⊢ Q ⟨a0, k0_pay2 (vM I c true 0), Scalar.ofBits .f32 0x00000000#32⟩) :
    Pre I K c R g8 2 ⊢ WP c (k0_part7 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v66 (SemArray.scalar (sig.barrier 0 rfl)) v188 c0_i32_149) Q := by
  rw [k0_part7_eq_skeleton]; unfold k0_part7_skel
  refine pre_sig I K c R (by decide) (dev3 c) rfl ?_
  refine pre_sig I K c R (by decide) (dev4 c) rfl ?_
  refine pre_wait I K c R rfl (by decide +kernel) ?_
  refine st_drain I K c _ (g := false) trips9 rfl rfl ?_
  refine ld_mask I K c (R7 I c R) (b := false) (n := 0) (off25 c) ?_
  refine ld_val I K c (R7 I c R) (p := (kG false 0)) (mem_G c (off26 c)) (by decide +kernel) ?_
  refine ld_any I K c (R7 I c R) (p := (kS false 0)) (mem_S c (off26 c)) (by decide +kernel) fun v214 => ?_
  refine st_val I K c (R7 I c R) (p := (kS false 0)) (mem_S c (off26 c)) (by decide +kernel) (vS_zero I c _).symm ?_
  refine ld_mask I K c (R7 I c R) (b := true) (n := 0) (off27 c) ?_
  exact st_ret' c (H _)

theorem p9 {Q} (v2 : BitVec 32) (v5 : BitVec 32) (v19 : BitVec 32) (v30 : BitVec 32) (v105 : BitVec 32) (H : At I K c (R9 I c R) s9 ⊢ Q (k0_pay4 (vM I c false 3))) :
    At I K c (R7 I c R) s8 ⊢ WP c (k0_part9 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v19 v30 v105) Q := by
  rw [k0_part9_eq_skeleton]; unfold k0_part9_skel
  refine st_start I K c (R7 I c R) (j := (zT false 0)) (by decide +kernel) (by decide +kernel) (by decide +kernel) (by decide +kernel) (mem_S c (off29_0 c)) (dev5 c) rfl rfl rfl ?_
  refine st_start I K c (R7 I c R) (j := (zT true 0)) (by decide +kernel) (by decide +kernel) (by decide +kernel) (by decide +kernel) (mem_S c (off30_0 c)) (dev6 c) rfl rfl rfl ?_
  refine BIBase.Entails.trans (At_frame I K c (R7 I c R) (R' := iprop(gIn I c true ∗ gOut I c false ∗ owns c.tc A0 fullShare (I.ids c) ∗ atPos ER (barC c) 1 ∅ 0 ∗ R)) ?_) ?_
  · iintro ⟨H1, H2, H3⟩
    isplitl [H2]; · iexact H2
    isplitl [H1]; · iexact H1
    iexact H3
  refine st_drain I K c _ (g := true) trips10 rfl rfl ?_
  refine ld_mask I K c (R9 I c R) (b := false) (n := 3) (off31_1 c) ?_
  exact st_ret' c H

end Cert.Proof

end
-- ==== Proof.Parts1.lean ====
/-
  What each part of the kernel does to the state, first of eight modules.
-/
module

public import proofs.«01_k».proof.Proof.States

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD) (R : sProp (MT nD τ sig Unit (Elt F) ℕ UU ℕ))

theorem p8 {Q} (v8 : BitVec 32) (v218 : BitVec 32) (H : At I K c R s8 ⊢ Q ⟨⟩) :
    At I K c R s7 ⊢ WP c (k0_part8 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v218 (k0_pay2 (vM I c true 0)) (Scalar.ofBits .f32 0x00000000#32)) Q := by
  rw [k0_part8_eq_skeleton]; unfold k0_part8_skel
  refine ld_val I K c R (p := (kG true 0)) (mem_G c (off28 c)) (by decide +kernel) ?_
  refine ld_any I K c R (p := (kS true 0)) (mem_S c (off28 c)) (by decide +kernel) fun v231 => ?_
  refine st_val I K c R (p := (kS true 0)) (mem_S c (off28 c)) (by decide +kernel) (vS_zero I c _).symm ?_
  exact st_ret I K c R H

theorem p10 {Q} (v105 : BitVec 32) (v118 : BitVec 32) (v130 : BitVec 32) (v143 : BitVec 32) (H : At I K c R s10 ⊢ Q ⟨k0_pay8 (vM I c true 2), k0_pay9⟩) :
    At I K c R s9 ⊢ WP c (k0_part10 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v105 v118 v130 v143 (k0_pay4 (vM I c false 3))) Q := by
  rw [k0_part10_eq_skeleton]; unfold k0_part10_skel
  refine ld_val I K c R (p := (kG false 3)) (mem_G c (off32_1 c)) (by decide +kernel) ?_
  refine ld_any I K c R (p := (kS false 3)) (mem_S c (off32_1 c)) (by decide +kernel) fun v298 => ?_
  refine st_part I K c R (p := (kS false 3)) (mem_S c (off32_1 c)) (by decide +kernel) rfl ?_
  refine ld_mask I K c R (b := true) (n := 1) (off33_1 c) ?_
  refine ld_val I K c R (p := (kG true 1)) (mem_G c (off34_1 c)) (by decide +kernel) ?_
  refine ld_any I K c R (p := (kS true 1)) (mem_S c (off34_1 c)) (by decide +kernel) fun v313 => ?_
  refine st_part I K c R (p := (kS true 1)) (mem_S c (off34_1 c)) (by decide +kernel) rfl ?_
  refine ld_mask I K c R (b := false) (n := 2) (off31_2 c) ?_
  refine ld_val I K c R (p := (kG false 2)) (mem_G c (off32_2 c)) (by decide +kernel) ?_
  refine ld_any I K c R (p := (kS false 2)) (mem_S c (off32_2 c)) (by decide +kernel) fun v328 => ?_
  refine st_part I K c R (p := (kS false 2)) (mem_S c (off32_2 c)) (by decide +kernel) rfl ?_
  refine ld_mask I K c R (b := true) (n := 2) (off33_2 c) ?_
  exact st_ret I K c R H

theorem p11 {Q} (v143 : BitVec 32) (v155 : BitVec 32) (v168 : BitVec 32) (H : At I K c R s11 ⊢ Q ⟨⟩) :
    At I K c R s10 ⊢ WP c (k0_part11 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v143 v155 v168 (k0_pay8 (vM I c true 2)) (k0_pay9 (F := F))) Q := by
  rw [k0_part11_eq_skeleton]; unfold k0_part11_skel
  refine ld_val I K c R (p := (kG true 2)) (mem_G c (off34_2 c)) (by decide +kernel) ?_
  refine ld_any I K c R (p := (kS true 2)) (mem_S c (off34_2 c)) (by decide +kernel) fun v343 => ?_
  refine st_part I K c R (p := (kS true 2)) (mem_S c (off34_2 c)) (by decide +kernel) rfl ?_
  refine ld_mask I K c R (b := false) (n := 1) (off31_3 c) ?_
  refine ld_val I K c R (p := (kG false 1)) (mem_G c (off32_3 c)) (by decide +kernel) ?_
  refine ld_any I K c R (p := (kS false 1)) (mem_S c (off32_3 c)) (by decide +kernel) fun v358 => ?_
  refine st_part I K c R (p := (kS false 1)) (mem_S c (off32_3 c)) (by decide +kernel) rfl ?_
  refine ld_mask I K c R (b := true) (n := 3) (off33_3 c) ?_
  refine ld_val I K c R (p := (kG true 3)) (mem_G c (off34_3 c)) (by decide +kernel) ?_
  refine ld_any I K c R (p := (kS true 3)) (mem_S c (off34_3 c)) (by decide +kernel) fun v373 => ?_
  refine st_part I K c R (p := (kS true 3)) (mem_S c (off34_3 c)) (by decide +kernel) rfl ?_
  exact st_ret I K c R H

theorem p12 {Q} (v2 : BitVec 32) (v5 : BitVec 32) (v19 : BitVec 32) (v30 : BitVec 32) (H : At I K c R s12 ⊢ Q ⟨⟩) :
    At I K c R s11 ⊢ WP c (k0_part12 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v19 v30) Q := by
  rw [k0_part12_eq_skeleton]; unfold k0_part12_skel
  refine st_sent I K c R (j := (zT false 0)) (by decide +kernel) (by decide +kernel) (by decide +kernel) (by decide +kernel) rfl rfl ?_
  refine st_recd I K c R (j := (zT false 0)) (by decide +kernel) (by decide +kernel) (by decide +kernel) rfl rfl ?_
  refine st_sent I K c R (j := (zT true 0)) (by decide +kernel) (by decide +kernel) (by decide +kernel) (by decide +kernel) rfl rfl ?_
  exact st_ret I K c R H

theorem p13 {Q} (v8 : BitVec 32) (H : ∀ a0, At I K c R s13 ⊢ Q ⟨a0, vL I c (kS false 1)⟩) :
    At I K c R s12 ⊢ WP c (k0_part13 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8) Q := by
  rw [k0_part13_eq_skeleton]; unfold k0_part13_skel
  refine st_recd I K c R (j := (zT true 0)) (by decide +kernel) (by decide +kernel) (by decide +kernel) rfl rfl ?_
  refine ld_part I K c R (p := (kS false 1)) (mem_S c (off35_1 c)) (by decide +kernel) ?_
  refine ld_slot I K c R (b := false) (h := 0) rfl (by decide +kernel) fun v435 hv435 => ?_
  have e := pay13 I c hv435
  exact st_ret I K c R (by rw [e]; exact H _)

theorem p14 {Q} (v8 : BitVec 32) (v432 : BitVec 32) (H : ∀ a0 a1, At I K c R s14 ⊢ Q ⟨a0, a1⟩) :
    At I K c R s13 ⊢ WP c (k0_part14 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v432 (vL I c (kS false 1))) Q := by
  rw [k0_part14_eq_skeleton]; unfold k0_part14_skel
  refine ld_part I K c R (p := (kS false 1)) (mem_S c (off35_1 c)) (by decide +kernel) ?_
  refine st_val I K c R (p := (kS false 1)) (mem_S c (off35_1 c)) (by decide +kernel) (shapeCast_id _ _) ?_
  refine ld_part I K c R (p := (kS true 1)) (mem_S c (off34_1 c)) (by decide +kernel) ?_
  refine ld_slot I K c R (b := true) (h := 0) rfl (by decide +kernel) fun v444 hv444 => ?_
  refine ld_part I K c R (p := (kS true 1)) (mem_S c (off34_1 c)) (by decide +kernel) ?_
  refine st_val I K c R (p := (kS true 1)) (mem_S c (off34_1 c)) (by decide +kernel) ((shapeCast_id _ _).trans (add_val I c (b := true) (n := 0) (by decide) hv444)) ?_
  exact st_ret I K c R (H _ _)

theorem p15 {Q} (v2 : BitVec 32) (v5 : BitVec 32) (v19 : BitVec 32) (v30 : BitVec 32) (v474 : BitVec 32) (c128_i32_317 : BitVec 32) (H : At I K c R s15 ⊢ Q ⟨⟩) :
    At I K c R s14 ⊢ WP c (k0_part15 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v19 v30 v474 c128_i32_317) Q := by
  rw [k0_part15_eq_skeleton]; unfold k0_part15_skel
  refine st_start I K c R (j := (zT false 1)) (by decide +kernel) (by decide +kernel) (by decide +kernel) (by decide +kernel) (mem_S c (off29_1 c)) (dev7 c) rfl rfl rfl ?_
  refine st_start I K c R (j := (zT true 1)) (by decide +kernel) (by decide +kernel) (by decide +kernel) (by decide +kernel) (mem_S c (off30_1 c)) (dev8 c) rfl rfl rfl ?_
  exact st_ret I K c R H

theorem p16 {Q} (v2 : BitVec 32) (v5 : BitVec 32) (v19 : BitVec 32) (v30 : BitVec 32) (H : ∀ a0, At I K c R s16 ⊢ Q a0) :
    At I K c R s15 ⊢ WP c (k0_part16 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v19 v30) Q := by
  rw [k0_part16_eq_skeleton]; unfold k0_part16_skel
  refine st_sent I K c R (j := (zT false 1)) (by decide +kernel) (by decide +kernel) (by decide +kernel) (by decide +kernel) rfl rfl ?_
  refine st_recd I K c R (j := (zT false 1)) (by decide +kernel) (by decide +kernel) (by decide +kernel) rfl rfl ?_
  refine st_sent I K c R (j := (zT true 1)) (by decide +kernel) (by decide +kernel) (by decide +kernel) (by decide +kernel) rfl rfl ?_
  refine st_recd I K c R (j := (zT true 1)) (by decide +kernel) (by decide +kernel) (by decide +kernel) rfl rfl ?_
  exact st_ret I K c R (H _)

theorem p17 {Q} (v8 : BitVec 32) (c2_i32_372 : BitVec 32) (H : ∀ a0, At I K c R s17 ⊢ Q ⟨a0, vF I c (kS true 2)⟩) :
    At I K c R s16 ⊢ WP c (k0_part17 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 c2_i32_372) Q := by
  rw [k0_part17_eq_skeleton]; unfold k0_part17_skel
  refine ld_part I K c R (p := (kS false 2)) (mem_S c (off35_2 c)) (by decide +kernel) ?_
  refine ld_slot I K c R (b := false) (h := 1) rfl (by decide +kernel) fun v561 hv561 => ?_
  refine ld_part I K c R (p := (kS false 2)) (mem_S c (off35_2 c)) (by decide +kernel) ?_
  refine st_val I K c R (p := (kS false 2)) (mem_S c (off35_2 c)) (by decide +kernel) ((shapeCast_id _ _).trans (add_val I c (b := false) (n := 1) (by decide) hv561)) ?_
  refine ld_part I K c R (p := (kS true 2)) (mem_S c (off34_2 c)) (by decide +kernel) ?_
  exact st_ret I K c R (H _)

theorem p18 {Q} (v2 : BitVec 32) (v8 : BitVec 32) (v558 : BitVec 32) (H : ∀ a0, At I K c R s18 ⊢ Q a0) :
    At I K c R s17 ⊢ WP c (k0_part18 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v8 v558 (vF I c (kS true 2))) Q := by
  rw [k0_part18_eq_skeleton]; unfold k0_part18_skel
  refine ld_slot I K c R (b := true) (h := 1) rfl (by decide +kernel) fun v570 hv570 => ?_
  refine ld_part I K c R (p := (kS true 2)) (mem_S c (off34_2 c)) (by decide +kernel) ?_
  refine st_val I K c R (p := (kS true 2)) (mem_S c (off34_2 c)) (by decide +kernel) ((shapeCast_id _ _).trans (add_val I c (b := true) (n := 1) (by decide) hv570)) ?_
  exact st_ret I K c R (H _)

theorem p19 {Q} (v2 : BitVec 32) (v5 : BitVec 32) (v19 : BitVec 32) (v30 : BitVec 32) (v603 : BitVec 32) (H : ∀ a0 a1, At I K c R s19 ⊢ Q ⟨a0, a1⟩) :
    At I K c R s18 ⊢ WP c (k0_part19 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v19 v30 v603) Q := by
  rw [k0_part19_eq_skeleton]; unfold k0_part19_skel
  refine st_start I K c R (j := (zT false 2)) (by decide +kernel) (by decide +kernel) (by decide +kernel) (by decide +kernel) (mem_S c (off29_2 c)) (dev9 c) rfl rfl rfl ?_
  refine st_start I K c R (j := (zT true 2)) (by decide +kernel) (by decide +kernel) (by decide +kernel) (by decide +kernel) (mem_S c (off30_2 c)) (dev10 c) rfl rfl rfl ?_
  refine st_sent I K c R (j := (zT false 2)) (by decide +kernel) (by decide +kernel) (by decide +kernel) (by decide +kernel) rfl rfl ?_
  exact st_ret I K c R (H _ _)

theorem p20 {Q} (v2 : BitVec 32) (v5 : BitVec 32) (v8 : BitVec 32) (v19 : BitVec 32) (v30 : BitVec 32) (v633 : BitVec 32) (c0_i32_446 : BitVec 32) (H : ∀ a0 a1 a2, At I K c R s20 ⊢ Q ⟨a0, a1, a2⟩) :
    At I K c R s19 ⊢ WP c (k0_part20 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v8 v19 v30 v633 c0_i32_446) Q := by
  rw [k0_part20_eq_skeleton]; unfold k0_part20_skel
  refine st_recd I K c R (j := (zT false 2)) (by decide +kernel) (by decide +kernel) (by decide +kernel) rfl rfl ?_
  refine st_sent I K c R (j := (zT true 2)) (by decide +kernel) (by decide +kernel) (by decide +kernel) (by decide +kernel) rfl rfl ?_
  refine st_recd I K c R (j := (zT true 2)) (by decide +kernel) (by decide +kernel) (by decide +kernel) rfl rfl ?_
  exact st_ret I K c R (H _ _ _)

theorem p21 {Q} (v8 : BitVec 32) (v662 : BitVec 32) (v663 : BitVec 32) (c0_i32_473 : BitVec 32) (H : ∀ a1, At I K c R s21 ⊢ Q ⟨vL I c (kS true 3), a1⟩) :
    At I K c R s20 ⊢ WP c (k0_part21 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v662 v663 c0_i32_473) Q := by
  rw [k0_part21_eq_skeleton]; unfold k0_part21_skel
  refine ld_part I K c R (p := (kS false 3)) (mem_S c (off35_3 c)) (by decide +kernel) ?_
  refine ld_slot I K c R (b := false) (h := 2) rfl (by decide +kernel) fun v687 hv687 => ?_
  refine ld_part I K c R (p := (kS false 3)) (mem_S c (off35_3 c)) (by decide +kernel) ?_
  refine st_val I K c R (p := (kS false 3)) (mem_S c (off35_3 c)) (by decide +kernel) ((shapeCast_id _ _).trans (add_val I c (b := false) (n := 2) (by decide) hv687)) ?_
  refine ld_part I K c R (p := (kS true 3)) (mem_S c (off34_3 c)) (by decide +kernel) ?_
  refine ld_slot I K c R (b := true) (h := 2) rfl (by decide +kernel) fun v696 hv696 => ?_
  refine ld_part I K c R (p := (kS true 3)) (mem_S c (off34_3 c)) (by decide +kernel) ?_
  have e := pay19 I c hv696
  exact st_ret I K c R (by rw [e]; exact H _)

theorem p22 {Q} (v8 : BitVec 32) (v33 : BitVec 32) (v700 : Vec F S32x1024 .f32) (H : ∀ a0 a1, At I K c R s22 ⊢ Q ⟨a0, a1, vL I c (kS true 3)⟩) :
    At I K c R s21 ⊢ WP c (k0_part22 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 (vL I c (kS true 3)) v700) Q := by
  rw [k0_part22_eq_skeleton]; unfold k0_part22_skel
  refine st_val I K c R (p := (kS true 3)) (mem_S c (off34_3 c)) (by decide +kernel) (shapeCast_id _ _) ?_
  refine ld_val I K c R (p := (kS false 3)) (mem_S c (off32_1 c)) (by decide +kernel) ?_
  refine ld_any I K c R (p := (kO false 0 0)) (mem_O c (off36 c)) (by decide +kernel) fun v732 => ?_
  refine st_val I K c R (p := (kO false 0 0)) (mem_O c (off36 c)) (by decide +kernel) (own_val I c false) ?_
  refine ld_val I K c R (p := (kS true 3)) (mem_S c (off37 c)) (by decide +kernel) ?_
  exact st_ret I K c R (H _ _)

end Cert.Proof

end
-- ==== Proof.Parts2.lean ====
/-
  What each part of the kernel does to the state, second of eight modules.
-/
module

public import proofs.«01_k».proof.Proof.States

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD) (R : sProp (MT nD τ sig Unit (Elt F) ℕ UU ℕ))

theorem p23 {Q} (v8 : BitVec 32) (v33 : BitVec 32) (v724 : BitVec 32) (v725 : BitVec 32) (H : ∀ a0 a1 a2 a3 a4 a5, At I K c R s23 ⊢ Q ⟨a0, a1, a2, a3, a4, a5⟩) :
    At I K c R s22 ⊢ WP c (k0_part23 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v724 v725 (vL I c (kS true 3))) Q := by
  rw [k0_part23_eq_skeleton]; unfold k0_part23_skel
  refine ld_any I K c R (p := (kO true 0 0)) (mem_O c (off38 c)) (by decide +kernel) fun v741 => ?_
  refine st_val I K c R (p := (kO true 0 0)) (mem_O c (off38 c)) (by decide +kernel) (own_val I c true) ?_
  exact st_ret I K c R (H _ _ _ _ _ _)

theorem p24 {Q} (v8 : BitVec 32) (v33 : BitVec 32) (v46 : BitVec 32) (v49 : BitVec 32) (v752 : BitVec 32) (v763 : BitVec 32) (v766 : BitVec 32) (v767 : BitVec 32) (v768 : BitVec 1) (v771 : BitVec 1) (H : At I K c R s23 ⊢ Q ⟨⟩) :
    At I K c R s23 ⊢ WP c (k0_part24 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v46 v49 v752 v763 v766 v767 v768 v771) Q := by
  rw [k0_part24_eq_skeleton]; unfold k0_part24_skel
  exact st_ret I K c R H

theorem p25 {Q} (v8 : BitVec 32) (v46 : BitVec 32) (v49 : BitVec 32) (v63 : BitVec 32) (v66 : BitVec 32) (H : At I K c R s25 ⊢ Q ⟨⟩) :
    At I K c R s23 ⊢ WP c (k0_part25 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part25_eq_skeleton]; unfold k0_part25_skel
  refine st_start I K c R (j := (lT true false 0 0)) (by decide +kernel) (by decide +kernel) (by decide +kernel) (by decide +kernel) (mem_O c (off39_0 c)) (dev11 c) ((mem_O c (off39_0 c)).trans (mem_dst c).symm) rfl rfl ?_
  refine st_start I K c R (j := (lT false true 0 0)) (by decide +kernel) (by decide +kernel) (by decide +kernel) (by decide +kernel) (mem_O c (off40_0 c)) (dev12 c) ((mem_O c (off40_0 c)).trans (mem_dst c).symm) rfl rfl ?_
  refine st_start I K c R (j := (lT true true 0 0)) (by decide +kernel) (by decide +kernel) (by decide +kernel) (by decide +kernel) (mem_O c (off41_0 c)) (dev13 c) ((mem_O c (off41_0 c)).trans (mem_dst c).symm) rfl rfl ?_
  exact st_ret I K c R H

theorem p26 {Q} (v2 : BitVec 32) (v5 : BitVec 32) (v8 : BitVec 32) (v19 : BitVec 32) (H : At I K c R s26 ⊢ Q ⟨⟩) :
    At I K c R s25 ⊢ WP c (k0_part26 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v8 v19) Q := by
  rw [k0_part26_eq_skeleton]; unfold k0_part26_skel
  refine st_start I K c R (j := (lT false false 0 0)) (by decide +kernel) (by decide +kernel) (by decide +kernel) (by decide +kernel) (mem_O c (off42_0 c)) (dev14 c) ((mem_O c (off42_0 c)).trans (mem_dst c).symm) rfl rfl ?_
  exact st_ret I K c R H

theorem p27 {Q} (v2 : BitVec 32) (v5 : BitVec 32) (v19 : BitVec 32) (v30 : BitVec 32) (H : ∀ a0 a1, At I K c R s27 ⊢ Q ⟨a0, a1⟩) :
    At I K c R s26 ⊢ WP c (k0_part27 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v19 v30) Q := by
  rw [k0_part27_eq_skeleton]; unfold k0_part27_skel
  refine st_start I K c R (j := (zT false 3)) (by decide +kernel) (by decide +kernel) (by decide +kernel) (by decide +kernel) (mem_S c (off29_9 c)) (dev15 c) rfl rfl rfl ?_
  refine st_start I K c R (j := (zT true 3)) (by decide +kernel) (by decide +kernel) (by decide +kernel) (by decide +kernel) (mem_S c (off30_9 c)) (dev16 c) rfl rfl rfl ?_
  refine st_sent I K c R (j := (zT false 3)) (by decide +kernel) (by decide +kernel) (by decide +kernel) (by decide +kernel) rfl rfl ?_
  exact st_ret I K c R (H _ _)

theorem p28 {Q} (v2 : BitVec 32) (v5 : BitVec 32) (v8 : BitVec 32) (v30 : BitVec 32) (v905 : BitVec 32) (v906 : BitVec 32) (H : ∀ a1 a2 a3, At I K c R s28 ⊢ Q ⟨vL I c (kC false 3), a1, a2, a3⟩) :
    At I K c R s27 ⊢ WP c (k0_part28 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v8 v30 v905 v906) Q := by
  rw [k0_part28_eq_skeleton]; unfold k0_part28_skel
  refine st_recd I K c R (j := (zT false 3)) (by decide +kernel) (by decide +kernel) (by decide +kernel) rfl rfl ?_
  refine st_sent I K c R (j := (zT true 3)) (by decide +kernel) (by decide +kernel) (by decide +kernel) (by decide +kernel) rfl rfl ?_
  refine st_recd I K c R (j := (zT true 3)) (by decide +kernel) (by decide +kernel) (by decide +kernel) rfl rfl ?_
  refine ld_slot I K c R (b := false) (h := 3) rfl (by decide +kernel) fun v929 hv929 => ?_
  have e : k0_pay21 v929 = _ := slotv I c hv929
  exact st_ret I K c R (by rw [e]; exact H _ _ _)

theorem p29 {Q} (v8 : BitVec 32) (v725 : BitVec 32) (v933 : BitVec 32) (v934 : BitVec 32) (v935 : BitVec 1) (H : ∀ a0 a1 a2 a3 a4, At I K c R s29 ⊢ Q ⟨a0, a1, a2, a3, a4⟩) :
    At I K c R s28 ⊢ WP c (k0_part29 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v725 (vL I c (kC false 3)) v933 v934 v935) Q := by
  rw [k0_part29_eq_skeleton]; unfold k0_part29_skel
  refine ld_any I K c R (p := (kO false 1 0)) (mem_O c (off43_0 c)) (by decide +kernel) fun v945 => ?_
  refine st_val I K c R (p := (kO false 1 0)) (mem_O c (off43_0 c)) (by decide +kernel) (pass_val I c false (h := 3) (L := 1) (by decide) (by decide)) ?_
  refine ld_slot I K c R (b := true) (h := 3) rfl (by decide +kernel) fun v946 hv946 => ?_
  refine ld_any I K c R (p := (kO true 1 0)) (mem_O c (off44_0 c)) (by decide +kernel) fun v963 => ?_
  refine st_val I K c R (p := (kO true 1 0)) (mem_O c (off44_0 c)) (by decide +kernel) ((hv946 _).trans (pass_val I c true (h := 3) (L := 1) (by decide) (by decide))) ?_
  exact st_ret I K c R (H _ _ _ _ _)

theorem p30 {Q} (v8 : BitVec 32) (v33 : BitVec 32) (v966 : BitVec 32) (v967 : BitVec 32) (v968 : BitVec 1) (v969 : BitVec 1) (c0_i32_687 : BitVec 32) (H : ∀ a0 a1 a2 a3 a4 a5, At I K c R s29 ⊢ Q ⟨a0, a1, a2, a3, a4, a5⟩) :
    At I K c R s29 ⊢ WP c (k0_part30 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v966 v967 v968 v969 c0_i32_687) Q := by
  rw [k0_part30_eq_skeleton]; unfold k0_part30_skel
  exact st_ret I K c R (H _ _ _ _ _ _)

theorem p31 {Q} (v8 : BitVec 32) (v46 : BitVec 32) (v49 : BitVec 32) (v63 : BitVec 32) (v66 : BitVec 32) (v974 : BitVec 32) (v985 : BitVec 32) (v997 : BitVec 32) (v1001 : BitVec 32) (v1006 : BitVec 1) (v1007 : BitVec 32) (H : At I K c R s31 ⊢ Q ⟨⟩) :
    At I K c R s29 ⊢ WP c (k0_part31 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v974 v985 v997 v1001 v1006 v1007) Q := by
  rw [k0_part31_eq_skeleton]; unfold k0_part31_skel
  refine st_start I K c R (j := (lT true false 1 0)) (by decide +kernel) (by decide +kernel) (by decide +kernel) (by decide +kernel) (mem_O c (off45_0_0 c)) (dev17 c) ((mem_O c (off45_0_0 c)).trans (mem_dst c).symm) rfl rfl ?_
  exact st_ret I K c R H

theorem p32 {Q} (v8 : BitVec 32) (v46 : BitVec 32) (v49 : BitVec 32) (v63 : BitVec 32) (v66 : BitVec 32) (H : ∀ a0 a1 a2, At I K c R s32 ⊢ Q ⟨a0, a1, a2⟩) :
    At I K c R s31 ⊢ WP c (k0_part32 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part32_eq_skeleton]; unfold k0_part32_skel
  refine st_start I K c R (j := (lT false true 1 0)) (by decide +kernel) (by decide +kernel) (by decide +kernel) (by decide +kernel) (mem_O c (off46_0_0 c)) (dev18 c) ((mem_O c (off46_0_0 c)).trans (mem_dst c).symm) rfl rfl ?_
  refine st_start I K c R (j := (lT true true 1 0)) (by decide +kernel) (by decide +kernel) (by decide +kernel) (by decide +kernel) (mem_O c (off47_0_0 c)) (dev19 c) ((mem_O c (off47_0_0 c)).trans (mem_dst c).symm) rfl rfl ?_
  refine st_start I K c R (j := (lT false false 1 0)) (by decide +kernel) (by decide +kernel) (by decide +kernel) (by decide +kernel) (mem_O c (off48_0_0 c)) (dev20 c) ((mem_O c (off48_0_0 c)).trans (mem_dst c).symm) rfl rfl ?_
  exact st_ret I K c R (H _ _ _)

theorem p33 {Q} (v8 : BitVec 32) (v33 : BitVec 32) (v1071 : BitVec 32) (v1076 : BitVec 1) (v1077 : BitVec 32) (H : ∀ a0 a1 a2 a3 a4, At I K c R s32 ⊢ Q ⟨a0, a1, a2, a3, a4⟩) :
    At I K c R s32 ⊢ WP c (k0_part33 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v1071 v1076 v1077) Q := by
  rw [k0_part33_eq_skeleton]; unfold k0_part33_skel
  exact st_ret I K c R (H _ _ _ _ _)

theorem p34 {Q} (v8 : BitVec 32) (v46 : BitVec 32) (v49 : BitVec 32) (v63 : BitVec 32) (v1078 : BitVec 32) (v1089 : BitVec 32) (v1101 : BitVec 32) (v1113 : BitVec 32) (c32_i32_779 : BitVec 32) (H : ∀ a0, At I K c R s34 ⊢ Q a0) :
    At I K c R s32 ⊢ WP c (k0_part34 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v1078 v1089 v1101 v1113 c32_i32_779) Q := by
  rw [k0_part34_eq_skeleton]; unfold k0_part34_skel
  refine st_sent I K c R (j := (lT true false 0 0)) (by decide +kernel) (by decide +kernel) (by decide +kernel) (by decide +kernel) rfl rfl ?_
  refine st_recd I K c R (j := (lT true false 0 0)) (by decide +kernel) (by decide +kernel) (by decide +kernel) rfl rfl ?_
  refine st_sent I K c R (j := (lT false true 0 0)) (by decide +kernel) (by decide +kernel) (by decide +kernel) (by decide +kernel) rfl rfl ?_
  exact st_ret I K c R (H _)

end Cert.Proof

end
-- ==== Proof.Parts3.lean ====
/-
  What each part of the kernel does to the state, third of eight modules.
-/
module

public import proofs.«01_k».proof.Proof.States

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD) (R : sProp (MT nD τ sig Unit (Elt F) ℕ UU ℕ))

theorem p35 {Q} (v8 : BitVec 32) (v46 : BitVec 32) (v49 : BitVec 32) (v63 : BitVec 32) (v66 : BitVec 32) (v1143 : BitVec 32) (H : ∀ a0 a1, At I K c R s35 ⊢ Q ⟨a0, a1⟩) :
    At I K c R s34 ⊢ WP c (k0_part35 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v1143) Q := by
  rw [k0_part35_eq_skeleton]; unfold k0_part35_skel
  refine st_recd I K c R (j := (lT false true 0 0)) (by decide +kernel) (by decide +kernel) (by decide +kernel) rfl rfl ?_
  refine st_sent I K c R (j := (lT true true 0 0)) (by decide +kernel) (by decide +kernel) (by decide +kernel) (by decide +kernel) rfl rfl ?_
  refine st_recd I K c R (j := (lT true true 0 0)) (by decide +kernel) (by decide +kernel) (by decide +kernel) rfl rfl ?_
  refine st_sent I K c R (j := (lT false false 0 0)) (by decide +kernel) (by decide +kernel) (by decide +kernel) (by decide +kernel) rfl rfl ?_
  exact st_ret I K c R (H _ _)

theorem p36 {Q} (v8 : BitVec 32) (v33 : BitVec 32) (v1171 : BitVec 32) (v1172 : BitVec 32) (H : ∀ a0 a1 a2 a3 a4 a5 a6, At I K c R s36 ⊢ Q ⟨a0, a1, a2, a3, a4, a5, a6⟩) :
    At I K c R s35 ⊢ WP c (k0_part36 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v1171 v1172) Q := by
  rw [k0_part36_eq_skeleton]; unfold k0_part36_skel
  refine st_recd I K c R (j := (lT false false 0 0)) (by decide +kernel) (by decide +kernel) (by decide +kernel) rfl rfl ?_
  exact st_ret I K c R (H _ _ _ _ _ _ _)

theorem p37 {Q} (v8 : BitVec 32) (v33 : BitVec 32) (v46 : BitVec 32) (v49 : BitVec 32) (v1190 : BitVec 32) (v1201 : BitVec 32) (v1204 : BitVec 32) (v1205 : BitVec 32) (v1206 : BitVec 1) (v1207 : BitVec 1) (c0_i32_857 : BitVec 32) (H : At I K c R s36 ⊢ Q ⟨⟩) :
    At I K c R s36 ⊢ WP c (k0_part37 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v46 v49 v1190 v1201 v1204 v1205 v1206 v1207 c0_i32_857) Q := by
  rw [k0_part37_eq_skeleton]; unfold k0_part37_skel
  exact st_ret I K c R H

theorem p38 {Q} (v8 : BitVec 32) (v46 : BitVec 32) (v49 : BitVec 32) (v63 : BitVec 32) (v66 : BitVec 32) (H : At I K c R s38 ⊢ Q ⟨⟩) :
    At I K c R s36 ⊢ WP c (k0_part38 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part38_eq_skeleton]; unfold k0_part38_skel
  refine st_start I K c R (j := (lT true false 0 1)) (by decide +kernel) (by decide +kernel) (by decide +kernel) (by decide +kernel) (mem_O c (off39_1 c)) (dev21 c) ((mem_O c (off39_1 c)).trans (mem_dst c).symm) rfl rfl ?_
  refine st_start I K c R (j := (lT false true 0 1)) (by decide +kernel) (by decide +kernel) (by decide +kernel) (by decide +kernel) (mem_O c (off40_1 c)) (dev22 c) ((mem_O c (off40_1 c)).trans (mem_dst c).symm) rfl rfl ?_
  refine st_start I K c R (j := (lT true true 0 1)) (by decide +kernel) (by decide +kernel) (by decide +kernel) (by decide +kernel) (mem_O c (off41_1 c)) (dev23 c) ((mem_O c (off41_1 c)).trans (mem_dst c).symm) rfl rfl ?_
  exact st_ret I K c R H

theorem p39 {Q} (v2 : BitVec 32) (v5 : BitVec 32) (v19 : BitVec 32) (v30 : BitVec 32) (H : At I K c R s39 ⊢ Q ⟨⟩) :
    At I K c R s38 ⊢ WP c (k0_part39 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v19 v30) Q := by
  rw [k0_part39_eq_skeleton]; unfold k0_part39_skel
  refine st_start I K c R (j := (lT false false 0 1)) (by decide +kernel) (by decide +kernel) (by decide +kernel) (by decide +kernel) (mem_O c (off42_1 c)) (dev24 c) ((mem_O c (off42_1 c)).trans (mem_dst c).symm) rfl rfl ?_
  refine st_start I K c R (j := (zT false 4)) (by decide +kernel) (by decide +kernel) (by decide +kernel) (by decide +kernel) rfl (dev25 c) rfl rfl rfl ?_
  exact st_ret I K c R H

theorem p40 {Q} (v2 : BitVec 32) (v5 : BitVec 32) (v19 : BitVec 32) (H : At I K c R s40 ⊢ Q ⟨⟩) :
    At I K c R s39 ⊢ WP c (k0_part40 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v19) Q := by
  rw [k0_part40_eq_skeleton]; unfold k0_part40_skel
  refine st_start I K c R (j := (zT true 4)) (by decide +kernel) (by decide +kernel) (by decide +kernel) (by decide +kernel) rfl (dev26 c) rfl rfl rfl ?_
  refine st_sent I K c R (j := (zT false 4)) (by decide +kernel) (by decide +kernel) (by decide +kernel) (by decide +kernel) rfl rfl ?_
  refine st_recd I K c R (j := (zT false 4)) (by decide +kernel) (by decide +kernel) (by decide +kernel) rfl rfl ?_
  refine st_sent I K c R (j := (zT true 4)) (by decide +kernel) (by decide +kernel) (by decide +kernel) (by decide +kernel) rfl rfl ?_
  exact st_ret I K c R H

theorem p41 {Q} (v2 : BitVec 32) (v5 : BitVec 32) (v8 : BitVec 32) (v30 : BitVec 32) (v725 : BitVec 32) (H : ∀ a1, At I K c R s41 ⊢ Q ⟨vL I c (kC true 4), a1⟩) :
    At I K c R s40 ⊢ WP c (k0_part41 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v8 v30 v725) Q := by
  rw [k0_part41_eq_skeleton]; unfold k0_part41_skel
  refine st_recd I K c R (j := (zT true 4)) (by decide +kernel) (by decide +kernel) (by decide +kernel) rfl rfl ?_
  refine ld_slot I K c R (b := false) (h := 4) rfl (by decide +kernel) fun v1348 hv1348 => ?_
  refine ld_any I K c R (p := (kO false 2 0)) (mem_O c (off43_1 c)) (by decide +kernel) fun v1364 => ?_
  refine st_val I K c R (p := (kO false 2 0)) (mem_O c (off43_1 c)) (by decide +kernel) ((hv1348 _).trans (pass_val I c false (h := 4) (L := 2) (by decide) (by decide))) ?_
  refine ld_slot I K c R (b := true) (h := 4) rfl (by decide +kernel) fun v1365 hv1365 => ?_
  have e : k0_pay24 v1365 = _ := slotv I c hv1365
  exact st_ret I K c R (by rw [e]; exact H _)

theorem p42 {Q} (v8 : BitVec 32) (v725 : BitVec 32) (v1367 : BitVec 32) (H : ∀ a0 a1 a2 a3, At I K c R s42 ⊢ Q ⟨a0, a1, a2, a3⟩) :
    At I K c R s41 ⊢ WP c (k0_part42 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v725 (vL I c (kC true 4)) v1367) Q := by
  rw [k0_part42_eq_skeleton]; unfold k0_part42_skel
  refine ld_any I K c R (p := (kO true 2 0)) (mem_O c (off44_1 c)) (by decide +kernel) fun v1382 => ?_
  refine st_val I K c R (p := (kO true 2 0)) (mem_O c (off44_1 c)) (by decide +kernel) (pass_val I c true (h := 4) (L := 2) (by decide) (by decide)) ?_
  exact st_ret I K c R (H _ _ _ _)

theorem p43 {Q} (v33 : BitVec 32) (v1393 : BitVec 32) (v1397 : BitVec 32) (v1402 : BitVec 1) (v1403 : BitVec 32) (H : ∀ a0, At I K c R s42 ⊢ Q a0) :
    At I K c R s42 ⊢ WP c (k0_part43 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v33 v1393 v1397 v1402 v1403) Q := by
  rw [k0_part43_eq_skeleton]; unfold k0_part43_skel
  exact st_ret I K c R (H _)

theorem p44 {Q} (v8 : BitVec 32) (v46 : BitVec 32) (v49 : BitVec 32) (v63 : BitVec 32) (v66 : BitVec 32) (c16_i32_1033 : BitVec 32) (H : At I K c R s44 ⊢ Q ⟨⟩) :
    At I K c R s42 ⊢ WP c (k0_part44 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 c16_i32_1033) Q := by
  rw [k0_part44_eq_skeleton]; unfold k0_part44_skel
  refine st_start I K c R (j := (lT true false 2 0)) (by decide +kernel) (by decide +kernel) (by decide +kernel) (by decide +kernel) (mem_O c (off45_0_1 c)) (dev27 c) ((mem_O c (off45_0_1 c)).trans (mem_dst c).symm) rfl rfl ?_
  refine st_start I K c R (j := (lT false true 2 0)) (by decide +kernel) (by decide +kernel) (by decide +kernel) (by decide +kernel) (mem_O c (off46_0_1 c)) (dev28 c) ((mem_O c (off46_0_1 c)).trans (mem_dst c).symm) rfl rfl ?_
  refine st_start I K c R (j := (lT true true 2 0)) (by decide +kernel) (by decide +kernel) (by decide +kernel) (by decide +kernel) (mem_O c (off47_0_1 c)) (dev29 c) ((mem_O c (off47_0_1 c)).trans (mem_dst c).symm) rfl rfl ?_
  exact st_ret I K c R H

theorem p45 {Q} (v8 : BitVec 32) (v33 : BitVec 32) (v63 : BitVec 32) (v66 : BitVec 32) (H : ∀ a0 a1 a2 a3, At I K c R s45 ⊢ Q ⟨a0, a1, a2, a3⟩) :
    At I K c R s44 ⊢ WP c (k0_part45 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v63 v66) Q := by
  rw [k0_part45_eq_skeleton]; unfold k0_part45_skel
  refine st_start I K c R (j := (lT false false 2 0)) (by decide +kernel) (by decide +kernel) (by decide +kernel) (by decide +kernel) (mem_O c (off48_0_1 c)) (dev30 c) ((mem_O c (off48_0_1 c)).trans (mem_dst c).symm) rfl rfl ?_
  exact st_ret I K c R (H _ _ _ _)

theorem p46 {Q} (v33 : BitVec 32) (v1497 : BitVec 32) (v1508 : BitVec 32) (v1509 : BitVec 32) (c8_i32_1078 : BitVec 32) (H : At I K c R s45 ⊢ Q ⟨⟩) :
    At I K c R s45 ⊢ WP c (k0_part46 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v33 v1497 v1508 v1509 c8_i32_1078) Q := by
  rw [k0_part46_eq_skeleton]; unfold k0_part46_skel
  exact st_ret I K c R H

theorem p47 {Q} (v8 : BitVec 32) (v46 : BitVec 32) (v49 : BitVec 32) (v63 : BitVec 32) (v66 : BitVec 32) (H : At I K c R s47 ⊢ Q ⟨⟩) :
    At I K c R s45 ⊢ WP c (k0_part47 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part47_eq_skeleton]; unfold k0_part47_skel
  refine st_sent I K c R (j := (lT true false 0 1)) (by decide +kernel) (by decide +kernel) (by decide +kernel) (by decide +kernel) rfl rfl ?_
  refine st_recd I K c R (j := (lT true false 0 1)) (by decide +kernel) (by decide +kernel) (by decide +kernel) rfl rfl ?_
  refine st_sent I K c R (j := (lT false true 0 1)) (by decide +kernel) (by decide +kernel) (by decide +kernel) (by decide +kernel) rfl rfl ?_
  refine st_recd I K c R (j := (lT false true 0 1)) (by decide +kernel) (by decide +kernel) (by decide +kernel) rfl rfl ?_
  exact st_ret I K c R H

theorem p48 {Q} (v8 : BitVec 32) (v46 : BitVec 32) (v49 : BitVec 32) (v63 : BitVec 32) (v66 : BitVec 32) (H : ∀ a0 a1 a2 a3, At I K c R s48 ⊢ Q ⟨a0, a1, a2, a3⟩) :
    At I K c R s47 ⊢ WP c (k0_part48 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part48_eq_skeleton]; unfold k0_part48_skel
  refine st_sent I K c R (j := (lT true true 0 1)) (by decide +kernel) (by decide +kernel) (by decide +kernel) (by decide +kernel) rfl rfl ?_
  refine st_recd I K c R (j := (lT true true 0 1)) (by decide +kernel) (by decide +kernel) (by decide +kernel) rfl rfl ?_
  refine st_sent I K c R (j := (lT false false 0 1)) (by decide +kernel) (by decide +kernel) (by decide +kernel) (by decide +kernel) rfl rfl ?_
  refine st_recd I K c R (j := (lT false false 0 1)) (by decide +kernel) (by decide +kernel) (by decide +kernel) rfl rfl ?_
  exact st_ret I K c R (H _ _ _ _)

theorem p49 {Q} (v8 : BitVec 32) (v33 : BitVec 32) (v1601 : BitVec 32) (v1602 : BitVec 32) (v1603 : BitVec 1) (c0_i32_1156 : BitVec 32) (H : ∀ a0 a1 a2 a3 a4 a5 a6, At I K c R s48 ⊢ Q ⟨a0, a1, a2, a3, a4, a5, a6⟩) :
    At I K c R s48 ⊢ WP c (k0_part49 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v1601 v1602 v1603 c0_i32_1156) Q := by
  rw [k0_part49_eq_skeleton]; unfold k0_part49_skel
  exact st_ret I K c R (H _ _ _ _ _ _ _)

end Cert.Proof

end
-- ==== Proof.Parts4.lean ====
/-
  What each part of the kernel does to the state, fourth of eight modules.
-/
module

public import proofs.«01_k».proof.Proof.States

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD) (R : sProp (MT nD τ sig Unit (Elt F) ℕ UU ℕ))

theorem p50 {Q} (v8 : BitVec 32) (v46 : BitVec 32) (v49 : BitVec 32) (v63 : BitVec 32) (v66 : BitVec 32) (v1609 : BitVec 32) (v1620 : BitVec 32) (v1632 : BitVec 32) (v1635 : BitVec 32) (v1636 : BitVec 32) (v1637 : BitVec 1) (v1640 : BitVec 1) (H : At I K c R s50 ⊢ Q ⟨⟩) :
    At I K c R s48 ⊢ WP c (k0_part50 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v1609 v1620 v1632 v1635 v1636 v1637 v1640) Q := by
  rw [k0_part50_eq_skeleton]; unfold k0_part50_skel
  refine st_start I K c R (j := (lT true false 0 2)) (by decide +kernel) (by decide +kernel) (by decide +kernel) (by decide +kernel) (mem_O c (off39_2 c)) (dev31 c) ((mem_O c (off39_2 c)).trans (mem_dst c).symm) rfl rfl ?_
  exact st_ret I K c R H

theorem p51 {Q} (v8 : BitVec 32) (v46 : BitVec 32) (v49 : BitVec 32) (v63 : BitVec 32) (v66 : BitVec 32) (H : ∀ a0 a1 a2 a3, At I K c R s51 ⊢ Q ⟨a0, a1, a2, a3⟩) :
    At I K c R s50 ⊢ WP c (k0_part51 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part51_eq_skeleton]; unfold k0_part51_skel
  refine st_start I K c R (j := (lT false true 0 2)) (by decide +kernel) (by decide +kernel) (by decide +kernel) (by decide +kernel) (mem_O c (off40_2 c)) (dev32 c) ((mem_O c (off40_2 c)).trans (mem_dst c).symm) rfl rfl ?_
  refine st_start I K c R (j := (lT true true 0 2)) (by decide +kernel) (by decide +kernel) (by decide +kernel) (by decide +kernel) (mem_O c (off41_2 c)) (dev33 c) ((mem_O c (off41_2 c)).trans (mem_dst c).symm) rfl rfl ?_
  refine st_start I K c R (j := (lT false false 0 2)) (by decide +kernel) (by decide +kernel) (by decide +kernel) (by decide +kernel) (mem_O c (off42_2 c)) (dev34 c) ((mem_O c (off42_2 c)).trans (mem_dst c).symm) rfl rfl ?_
  exact st_ret I K c R (H _ _ _ _)

theorem p52 {Q} (v8 : BitVec 32) (v33 : BitVec 32) (v1705 : BitVec 32) (v1706 : BitVec 32) (v1707 : BitVec 1) (v1710 : BitVec 1) (H : ∀ a0 a1 a2 a3 a4, At I K c R s51 ⊢ Q ⟨a0, a1, a2, a3, a4⟩) :
    At I K c R s51 ⊢ WP c (k0_part52 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v1705 v1706 v1707 v1710) Q := by
  rw [k0_part52_eq_skeleton]; unfold k0_part52_skel
  exact st_ret I K c R (H _ _ _ _ _)

theorem p53 {Q} (v8 : BitVec 32) (v46 : BitVec 32) (v49 : BitVec 32) (v63 : BitVec 32) (v1713 : BitVec 32) (v1724 : BitVec 32) (v1736 : BitVec 32) (v1747 : BitVec 32) (c256_i32_1248 : BitVec 32) (H : ∀ a0, At I K c R s53 ⊢ Q a0) :
    At I K c R s51 ⊢ WP c (k0_part53 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v1713 v1724 v1736 v1747 c256_i32_1248) Q := by
  rw [k0_part53_eq_skeleton]; unfold k0_part53_skel
  refine st_sent I K c R (j := (lT true false 1 0)) (by decide +kernel) (by decide +kernel) (by decide +kernel) (by decide +kernel) rfl rfl ?_
  refine st_recd I K c R (j := (lT true false 1 0)) (by decide +kernel) (by decide +kernel) (by decide +kernel) rfl rfl ?_
  refine st_sent I K c R (j := (lT false true 1 0)) (by decide +kernel) (by decide +kernel) (by decide +kernel) (by decide +kernel) rfl rfl ?_
  exact st_ret I K c R (H _)

theorem p54 {Q} (v8 : BitVec 32) (v46 : BitVec 32) (v49 : BitVec 32) (v63 : BitVec 32) (v66 : BitVec 32) (v1777 : BitVec 32) (H : ∀ a0, At I K c R s54 ⊢ Q a0) :
    At I K c R s53 ⊢ WP c (k0_part54 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v1777) Q := by
  rw [k0_part54_eq_skeleton]; unfold k0_part54_skel
  refine st_recd I K c R (j := (lT false true 1 0)) (by decide +kernel) (by decide +kernel) (by decide +kernel) rfl rfl ?_
  refine st_sent I K c R (j := (lT true true 1 0)) (by decide +kernel) (by decide +kernel) (by decide +kernel) (by decide +kernel) rfl rfl ?_
  refine st_recd I K c R (j := (lT true true 1 0)) (by decide +kernel) (by decide +kernel) (by decide +kernel) rfl rfl ?_
  refine st_sent I K c R (j := (lT false false 1 0)) (by decide +kernel) (by decide +kernel) (by decide +kernel) (by decide +kernel) rfl rfl ?_
  exact st_ret I K c R (H _)

theorem p55 {Q} (v8 : BitVec 32) (v33 : BitVec 32) (v66 : BitVec 32) (v1806 : BitVec 32) (H : ∀ a0 a1 a2 a3 a4 a5, At I K c R s55 ⊢ Q ⟨a0, a1, a2, a3, a4, a5⟩) :
    At I K c R s54 ⊢ WP c (k0_part55 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v66 v1806) Q := by
  rw [k0_part55_eq_skeleton]; unfold k0_part55_skel
  refine st_recd I K c R (j := (lT false false 1 0)) (by decide +kernel) (by decide +kernel) (by decide +kernel) rfl rfl ?_
  exact st_ret I K c R (H _ _ _ _ _ _)

theorem p56 {Q} (v8 : BitVec 32) (v33 : BitVec 32) (v46 : BitVec 32) (v49 : BitVec 32) (v1825 : BitVec 32) (v1836 : BitVec 32) (v1839 : BitVec 32) (v1840 : BitVec 32) (v1841 : BitVec 1) (c0_i32_1326 : BitVec 32) (H : At I K c R s55 ⊢ Q ⟨⟩) :
    At I K c R s55 ⊢ WP c (k0_part56 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v46 v49 v1825 v1836 v1839 v1840 v1841 c0_i32_1326) Q := by
  rw [k0_part56_eq_skeleton]; unfold k0_part56_skel
  exact st_ret I K c R H

theorem p57 {Q} (v8 : BitVec 32) (v46 : BitVec 32) (v49 : BitVec 32) (v63 : BitVec 32) (v66 : BitVec 32) (H : At I K c R s57 ⊢ Q ⟨⟩) :
    At I K c R s55 ⊢ WP c (k0_part57 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part57_eq_skeleton]; unfold k0_part57_skel
  refine st_start I K c R (j := (lT true false 1 1)) (by decide +kernel) (by decide +kernel) (by decide +kernel) (by decide +kernel) (mem_O c (off45_1_0 c)) (dev35 c) ((mem_O c (off45_1_0 c)).trans (mem_dst c).symm) rfl rfl ?_
  refine st_start I K c R (j := (lT false true 1 1)) (by decide +kernel) (by decide +kernel) (by decide +kernel) (by decide +kernel) (mem_O c (off46_1_0 c)) (dev36 c) ((mem_O c (off46_1_0 c)).trans (mem_dst c).symm) rfl rfl ?_
  refine st_start I K c R (j := (lT true true 1 1)) (by decide +kernel) (by decide +kernel) (by decide +kernel) (by decide +kernel) (mem_O c (off47_1_0 c)) (dev37 c) ((mem_O c (off47_1_0 c)).trans (mem_dst c).symm) rfl rfl ?_
  exact st_ret I K c R H

theorem p58 {Q} (v2 : BitVec 32) (v5 : BitVec 32) (v19 : BitVec 32) (v30 : BitVec 32) (H : At I K c R s58 ⊢ Q ⟨⟩) :
    At I K c R s57 ⊢ WP c (k0_part58 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v19 v30) Q := by
  rw [k0_part58_eq_skeleton]; unfold k0_part58_skel
  refine st_start I K c R (j := (lT false false 1 1)) (by decide +kernel) (by decide +kernel) (by decide +kernel) (by decide +kernel) (mem_O c (off48_1_0 c)) (dev38 c) ((mem_O c (off48_1_0 c)).trans (mem_dst c).symm) rfl rfl ?_
  refine st_start I K c R (j := (zT false 5)) (by decide +kernel) (by decide +kernel) (by decide +kernel) (by decide +kernel) rfl (dev39 c) rfl rfl rfl ?_
  exact st_ret I K c R H

theorem p59 {Q} (v2 : BitVec 32) (v5 : BitVec 32) (v19 : BitVec 32) (H : At I K c R s59 ⊢ Q ⟨⟩) :
    At I K c R s58 ⊢ WP c (k0_part59 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v19) Q := by
  rw [k0_part59_eq_skeleton]; unfold k0_part59_skel
  refine st_start I K c R (j := (zT true 5)) (by decide +kernel) (by decide +kernel) (by decide +kernel) (by decide +kernel) rfl (dev40 c) rfl rfl rfl ?_
  refine st_sent I K c R (j := (zT false 5)) (by decide +kernel) (by decide +kernel) (by decide +kernel) (by decide +kernel) rfl rfl ?_
  refine st_recd I K c R (j := (zT false 5)) (by decide +kernel) (by decide +kernel) (by decide +kernel) rfl rfl ?_
  refine st_sent I K c R (j := (zT true 5)) (by decide +kernel) (by decide +kernel) (by decide +kernel) (by decide +kernel) rfl rfl ?_
  exact st_ret I K c R H

theorem p60 {Q} (v2 : BitVec 32) (v5 : BitVec 32) (v8 : BitVec 32) (v30 : BitVec 32) (v725 : BitVec 32) (H : At I K c R s60 ⊢ Q (vL I c (kC true 5))) :
    At I K c R s59 ⊢ WP c (k0_part60 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v2 v5 v8 v30 v725) Q := by
  rw [k0_part60_eq_skeleton]; unfold k0_part60_skel
  refine st_recd I K c R (j := (zT true 5)) (by decide +kernel) (by decide +kernel) (by decide +kernel) rfl rfl ?_
  refine ld_slot I K c R (b := false) (h := 5) rfl (by decide +kernel) fun v1983 hv1983 => ?_
  refine ld_any I K c R (p := (kO false 3 0)) (mem_O c (off43_2 c)) (by decide +kernel) fun v1999 => ?_
  refine st_val I K c R (p := (kO false 3 0)) (mem_O c (off43_2 c)) (by decide +kernel) ((hv1983 _).trans (pass_val I c false (h := 5) (L := 3) (by decide) (by decide))) ?_
  refine ld_slot I K c R (b := true) (h := 5) rfl (by decide +kernel) fun v2000 hv2000 => ?_
  have e : k0_pay26 v2000 = _ := slotv I c hv2000
  exact st_ret I K c R (by rw [e]; exact H)

theorem p61 {Q} (v8 : BitVec 32) (v725 : BitVec 32) (H : ∀ a0 a1 a2 a3 a4, At I K c R s61 ⊢ Q ⟨a0, a1, a2, a3, a4⟩) :
    At I K c R s60 ⊢ WP c (k0_part61 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v725 (vL I c (kC true 5))) Q := by
  rw [k0_part61_eq_skeleton]; unfold k0_part61_skel
  refine ld_any I K c R (p := (kO true 3 0)) (mem_O c (off44_2 c)) (by decide +kernel) fun v2017 => ?_
  refine st_val I K c R (p := (kO true 3 0)) (mem_O c (off44_2 c)) (by decide +kernel) (pass_val I c true (h := 5) (L := 3) (by decide) (by decide)) ?_
  exact st_ret I K c R (H _ _ _ _ _)

theorem p62 {Q} (v33 : BitVec 32) (v2028 : BitVec 32) (v2031 : BitVec 32) (v2032 : BitVec 32) (v2033 : BitVec 1) (v2036 : BitVec 1) (H : At I K c R s61 ⊢ Q ⟨⟩) :
    At I K c R s61 ⊢ WP c (k0_part62 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v33 v2028 v2031 v2032 v2033 v2036) Q := by
  rw [k0_part62_eq_skeleton]; unfold k0_part62_skel
  exact st_ret I K c R H

theorem p63 {Q} (v8 : BitVec 32) (v46 : BitVec 32) (v49 : BitVec 32) (v63 : BitVec 32) (v66 : BitVec 32) (H : At I K c R s63 ⊢ Q ⟨⟩) :
    At I K c R s61 ⊢ WP c (k0_part63 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part63_eq_skeleton]; unfold k0_part63_skel
  refine st_start I K c R (j := (lT true false 3 0)) (by decide +kernel) (by decide +kernel) (by decide +kernel) (by decide +kernel) (mem_O c (off45_0_2 c)) (dev41 c) ((mem_O c (off45_0_2 c)).trans (mem_dst c).symm) rfl rfl ?_
  refine st_start I K c R (j := (lT false true 3 0)) (by decide +kernel) (by decide +kernel) (by decide +kernel) (by decide +kernel) (mem_O c (off46_0_2 c)) (dev42 c) ((mem_O c (off46_0_2 c)).trans (mem_dst c).symm) rfl rfl ?_
  exact st_ret I K c R H

theorem p64 {Q} (v8 : BitVec 32) (v63 : BitVec 32) (v66 : BitVec 32) (H : ∀ a0 a1 a2, At I K c R s64 ⊢ Q ⟨a0, a1, a2⟩) :
    At I K c R s63 ⊢ WP c (k0_part64 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v63 v66) Q := by
  rw [k0_part64_eq_skeleton]; unfold k0_part64_skel
  refine st_start I K c R (j := (lT true true 3 0)) (by decide +kernel) (by decide +kernel) (by decide +kernel) (by decide +kernel) (mem_O c (off47_0_2 c)) (dev43 c) ((mem_O c (off47_0_2 c)).trans (mem_dst c).symm) rfl rfl ?_
  refine st_start I K c R (j := (lT false false 3 0)) (by decide +kernel) (by decide +kernel) (by decide +kernel) (by decide +kernel) (mem_O c (off48_0_2 c)) (dev44 c) ((mem_O c (off48_0_2 c)).trans (mem_dst c).symm) rfl rfl ?_
  exact st_ret I K c R (H _ _ _)

theorem p65 {Q} (v33 : BitVec 32) (v2132 : BitVec 32) (v2143 : BitVec 32) (c2_i32_1545 : BitVec 32) (H : At I K c R s64 ⊢ Q ⟨⟩) :
    At I K c R s64 ⊢ WP c (k0_part65 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v33 v2132 v2143 c2_i32_1545) Q := by
  rw [k0_part65_eq_skeleton]; unfold k0_part65_skel
  exact st_ret I K c R H

end Cert.Proof

end
-- ==== Proof.Parts5.lean ====
/-
  What each part of the kernel does to the state, fifth of eight modules.
-/
module

public import proofs.«01_k».proof.Proof.States

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD) (R : sProp (MT nD τ sig Unit (Elt F) ℕ UU ℕ))

theorem p66 {Q} (v8 : BitVec 32) (v46 : BitVec 32) (v49 : BitVec 32) (v63 : BitVec 32) (v66 : BitVec 32) (H : At I K c R s66 ⊢ Q ⟨⟩) :
    At I K c R s64 ⊢ WP c (k0_part66 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part66_eq_skeleton]; unfold k0_part66_skel
  refine st_sent I K c R (j := (lT true false 0 2)) (by decide +kernel) (by decide +kernel) (by decide +kernel) (by decide +kernel) rfl rfl ?_
  refine st_recd I K c R (j := (lT true false 0 2)) (by decide +kernel) (by decide +kernel) (by decide +kernel) rfl rfl ?_
  refine st_sent I K c R (j := (lT false true 0 2)) (by decide +kernel) (by decide +kernel) (by decide +kernel) (by decide +kernel) rfl rfl ?_
  refine st_recd I K c R (j := (lT false true 0 2)) (by decide +kernel) (by decide +kernel) (by decide +kernel) rfl rfl ?_
  exact st_ret I K c R H

theorem p67 {Q} (v8 : BitVec 32) (v46 : BitVec 32) (v49 : BitVec 32) (v63 : BitVec 32) (v66 : BitVec 32) (H : ∀ a0 a1 a2, At I K c R s67 ⊢ Q ⟨a0, a1, a2⟩) :
    At I K c R s66 ⊢ WP c (k0_part67 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part67_eq_skeleton]; unfold k0_part67_skel
  refine st_sent I K c R (j := (lT true true 0 2)) (by decide +kernel) (by decide +kernel) (by decide +kernel) (by decide +kernel) rfl rfl ?_
  refine st_recd I K c R (j := (lT true true 0 2)) (by decide +kernel) (by decide +kernel) (by decide +kernel) rfl rfl ?_
  refine st_sent I K c R (j := (lT false false 0 2)) (by decide +kernel) (by decide +kernel) (by decide +kernel) (by decide +kernel) rfl rfl ?_
  refine st_recd I K c R (j := (lT false false 0 2)) (by decide +kernel) (by decide +kernel) (by decide +kernel) rfl rfl ?_
  exact st_ret I K c R (H _ _ _)

theorem p68 {Q} (v8 : BitVec 32) (v33 : BitVec 32) (v2236 : BitVec 32) (v2237 : BitVec 32) (c0_i32_1623 : BitVec 32) (H : ∀ a0 a1 a2 a3 a4 a5 a6 a7, At I K c R s67 ⊢ Q ⟨a0, a1, a2, a3, a4, a5, a6, a7⟩) :
    At I K c R s67 ⊢ WP c (k0_part68 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v2236 v2237 c0_i32_1623) Q := by
  rw [k0_part68_eq_skeleton]; unfold k0_part68_skel
  exact st_ret I K c R (H _ _ _ _ _ _ _ _)

theorem p69 {Q} (v8 : BitVec 32) (v46 : BitVec 32) (v49 : BitVec 32) (v63 : BitVec 32) (v66 : BitVec 32) (v2244 : BitVec 32) (v2255 : BitVec 32) (v2267 : BitVec 32) (v2270 : BitVec 32) (v2271 : BitVec 32) (v2272 : BitVec 1) (v2273 : BitVec 1) (c0_i32_1647 : BitVec 32) (H : ∀ a0 a1, At I K c R s69 ⊢ Q ⟨a0, a1⟩) :
    At I K c R s67 ⊢ WP c (k0_part69 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v2244 v2255 v2267 v2270 v2271 v2272 v2273 c0_i32_1647) Q := by
  rw [k0_part69_eq_skeleton]; unfold k0_part69_skel
  refine st_start I K c R (j := (lT true false 0 3)) (by decide +kernel) (by decide +kernel) (by decide +kernel) (by decide +kernel) (mem_O c (off39_3 c)) (dev45 c) ((mem_O c (off39_3 c)).trans (mem_dst c).symm) rfl rfl ?_
  refine st_start I K c R (j := (lT false true 0 3)) (by decide +kernel) (by decide +kernel) (by decide +kernel) (by decide +kernel) (mem_O c (off40_3 c)) (dev46 c) ((mem_O c (off40_3 c)).trans (mem_dst c).symm) rfl rfl ?_
  exact st_ret I K c R (H _ _)

theorem p70 {Q} (v8 : BitVec 32) (v33 : BitVec 32) (v2309 : BitVec 32) (c4_i32_1669 : BitVec 32) (H : ∀ a0 a1 a2 a3 a4, At I K c R s69 ⊢ Q ⟨a0, a1, a2, a3, a4⟩) :
    At I K c R s69 ⊢ WP c (k0_part70 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v2309 c4_i32_1669) Q := by
  rw [k0_part70_eq_skeleton]; unfold k0_part70_skel
  exact st_ret I K c R (H _ _ _ _ _)

theorem p71 {Q} (v8 : BitVec 32) (v46 : BitVec 32) (v49 : BitVec 32) (v2319 : BitVec 32) (v2330 : BitVec 32) (v2342 : BitVec 32) (v2343 : BitVec 32) (v2345 : BitVec 32) (H : At I K c R s71 ⊢ Q ⟨⟩) :
    At I K c R s69 ⊢ WP c (k0_part71 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v2319 v2330 v2342 v2343 v2345) Q := by
  rw [k0_part71_eq_skeleton]; unfold k0_part71_skel
  refine st_sent I K c R (j := (lT true false 1 1)) (by decide +kernel) (by decide +kernel) (by decide +kernel) (by decide +kernel) rfl rfl ?_
  refine st_recd I K c R (j := (lT true false 1 1)) (by decide +kernel) (by decide +kernel) (by decide +kernel) rfl rfl ?_
  exact st_ret I K c R H

theorem p72 {Q} (v8 : BitVec 32) (v46 : BitVec 32) (v49 : BitVec 32) (v63 : BitVec 32) (v66 : BitVec 32) (H : At I K c R s72 ⊢ Q ⟨⟩) :
    At I K c R s71 ⊢ WP c (k0_part72 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part72_eq_skeleton]; unfold k0_part72_skel
  refine st_sent I K c R (j := (lT false true 1 1)) (by decide +kernel) (by decide +kernel) (by decide +kernel) (by decide +kernel) rfl rfl ?_
  refine st_recd I K c R (j := (lT false true 1 1)) (by decide +kernel) (by decide +kernel) (by decide +kernel) rfl rfl ?_
  refine st_sent I K c R (j := (lT true true 1 1)) (by decide +kernel) (by decide +kernel) (by decide +kernel) (by decide +kernel) rfl rfl ?_
  refine st_recd I K c R (j := (lT true true 1 1)) (by decide +kernel) (by decide +kernel) (by decide +kernel) rfl rfl ?_
  exact st_ret I K c R H

theorem p73 {Q} (v8 : BitVec 32) (v63 : BitVec 32) (v66 : BitVec 32) (H : ∀ a0 a1 a2 a3, At I K c R s73 ⊢ Q ⟨a0, a1, a2, a3⟩) :
    At I K c R s72 ⊢ WP c (k0_part73 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v63 v66) Q := by
  rw [k0_part73_eq_skeleton]; unfold k0_part73_skel
  refine st_sent I K c R (j := (lT false false 1 1)) (by decide +kernel) (by decide +kernel) (by decide +kernel) (by decide +kernel) rfl rfl ?_
  refine st_recd I K c R (j := (lT false false 1 1)) (by decide +kernel) (by decide +kernel) (by decide +kernel) rfl rfl ?_
  exact st_ret I K c R (H _ _ _ _)

theorem p74 {Q} (v33 : BitVec 32) (v2431 : BitVec 32) (v2435 : BitVec 32) (v2440 : BitVec 1) (v2441 : BitVec 32) (H : ∀ a0, At I K c R s73 ⊢ Q a0) :
    At I K c R s73 ⊢ WP c (k0_part74 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v33 v2431 v2435 v2440 v2441) Q := by
  rw [k0_part74_eq_skeleton]; unfold k0_part74_skel
  exact st_ret I K c R (H _)

theorem p75 {Q} (v8 : BitVec 32) (v46 : BitVec 32) (v49 : BitVec 32) (v63 : BitVec 32) (v66 : BitVec 32) (c16_i32_1793 : BitVec 32) (H : At I K c R s75 ⊢ Q ⟨⟩) :
    At I K c R s73 ⊢ WP c (k0_part75 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 c16_i32_1793) Q := by
  rw [k0_part75_eq_skeleton]; unfold k0_part75_skel
  refine st_start I K c R (j := (lT true false 1 2)) (by decide +kernel) (by decide +kernel) (by decide +kernel) (by decide +kernel) (mem_O c (off45_2_0 c)) (dev47 c) ((mem_O c (off45_2_0 c)).trans (mem_dst c).symm) rfl rfl ?_
  refine st_start I K c R (j := (lT false true 1 2)) (by decide +kernel) (by decide +kernel) (by decide +kernel) (by decide +kernel) (mem_O c (off46_2_0 c)) (dev48 c) ((mem_O c (off46_2_0 c)).trans (mem_dst c).symm) rfl rfl ?_
  refine st_start I K c R (j := (lT true true 1 2)) (by decide +kernel) (by decide +kernel) (by decide +kernel) (by decide +kernel) (mem_O c (off47_2_0 c)) (dev49 c) ((mem_O c (off47_2_0 c)).trans (mem_dst c).symm) rfl rfl ?_
  exact st_ret I K c R H

theorem p76 {Q} (v8 : BitVec 32) (v33 : BitVec 32) (v63 : BitVec 32) (v66 : BitVec 32) (H : ∀ a0 a1 a2 a3, At I K c R s76 ⊢ Q ⟨a0, a1, a2, a3⟩) :
    At I K c R s75 ⊢ WP c (k0_part76 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v63 v66) Q := by
  rw [k0_part76_eq_skeleton]; unfold k0_part76_skel
  refine st_start I K c R (j := (lT false false 1 2)) (by decide +kernel) (by decide +kernel) (by decide +kernel) (by decide +kernel) (mem_O c (off48_2_0 c)) (dev50 c) ((mem_O c (off48_2_0 c)).trans (mem_dst c).symm) rfl rfl ?_
  exact st_ret I K c R (H _ _ _ _)

theorem p77 {Q} (v33 : BitVec 32) (v2535 : BitVec 32) (v2546 : BitVec 32) (v2547 : BitVec 32) (c8_i32_1838 : BitVec 32) (H : At I K c R s76 ⊢ Q ⟨⟩) :
    At I K c R s76 ⊢ WP c (k0_part77 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v33 v2535 v2546 v2547 c8_i32_1838) Q := by
  rw [k0_part77_eq_skeleton]; unfold k0_part77_skel
  exact st_ret I K c R H

theorem p78 {Q} (v8 : BitVec 32) (v46 : BitVec 32) (v49 : BitVec 32) (v63 : BitVec 32) (v66 : BitVec 32) (H : At I K c R s78 ⊢ Q ⟨⟩) :
    At I K c R s76 ⊢ WP c (k0_part78 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part78_eq_skeleton]; unfold k0_part78_skel
  refine st_sent I K c R (j := (lT true false 2 0)) (by decide +kernel) (by decide +kernel) (by decide +kernel) (by decide +kernel) rfl rfl ?_
  refine st_recd I K c R (j := (lT true false 2 0)) (by decide +kernel) (by decide +kernel) (by decide +kernel) rfl rfl ?_
  refine st_sent I K c R (j := (lT false true 2 0)) (by decide +kernel) (by decide +kernel) (by decide +kernel) (by decide +kernel) rfl rfl ?_
  refine st_recd I K c R (j := (lT false true 2 0)) (by decide +kernel) (by decide +kernel) (by decide +kernel) rfl rfl ?_
  exact st_ret I K c R H

theorem p79 {Q} (v8 : BitVec 32) (v46 : BitVec 32) (v49 : BitVec 32) (v63 : BitVec 32) (v66 : BitVec 32) (H : ∀ a0 a1 a2 a3, At I K c R s79 ⊢ Q ⟨a0, a1, a2, a3⟩) :
    At I K c R s78 ⊢ WP c (k0_part79 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part79_eq_skeleton]; unfold k0_part79_skel
  refine st_sent I K c R (j := (lT true true 2 0)) (by decide +kernel) (by decide +kernel) (by decide +kernel) (by decide +kernel) rfl rfl ?_
  refine st_recd I K c R (j := (lT true true 2 0)) (by decide +kernel) (by decide +kernel) (by decide +kernel) rfl rfl ?_
  refine st_sent I K c R (j := (lT false false 2 0)) (by decide +kernel) (by decide +kernel) (by decide +kernel) (by decide +kernel) rfl rfl ?_
  refine st_recd I K c R (j := (lT false false 2 0)) (by decide +kernel) (by decide +kernel) (by decide +kernel) rfl rfl ?_
  exact st_ret I K c R (H _ _ _ _)

theorem p80 {Q} (v8 : BitVec 32) (v33 : BitVec 32) (v2639 : BitVec 32) (v2640 : BitVec 32) (v2641 : BitVec 1) (c0_i32_1916 : BitVec 32) (H : ∀ a0 a1 a2 a3 a4 a5 a6, At I K c R s79 ⊢ Q ⟨a0, a1, a2, a3, a4, a5, a6⟩) :
    At I K c R s79 ⊢ WP c (k0_part80 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v2639 v2640 v2641 c0_i32_1916) Q := by
  rw [k0_part80_eq_skeleton]; unfold k0_part80_skel
  exact st_ret I K c R (H _ _ _ _ _ _ _)

theorem p81 {Q} (v8 : BitVec 32) (v46 : BitVec 32) (v49 : BitVec 32) (v63 : BitVec 32) (v66 : BitVec 32) (v2647 : BitVec 32) (v2658 : BitVec 32) (v2670 : BitVec 32) (v2673 : BitVec 32) (v2674 : BitVec 32) (v2675 : BitVec 1) (v2678 : BitVec 1) (H : At I K c R s81 ⊢ Q ⟨⟩) :
    At I K c R s79 ⊢ WP c (k0_part81 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v2647 v2658 v2670 v2673 v2674 v2675 v2678) Q := by
  rw [k0_part81_eq_skeleton]; unfold k0_part81_skel
  refine st_start I K c R (j := (lT true false 2 1)) (by decide +kernel) (by decide +kernel) (by decide +kernel) (by decide +kernel) (mem_O c (off45_1_1 c)) (dev51 c) ((mem_O c (off45_1_1 c)).trans (mem_dst c).symm) rfl rfl ?_
  exact st_ret I K c R H

end Cert.Proof

end
-- ==== Proof.Parts6.lean ====
/-
  What each part of the kernel does to the state, sixth of eight modules.
-/
module

public import proofs.«01_k».proof.Proof.States

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD) (R : sProp (MT nD τ sig Unit (Elt F) ℕ UU ℕ))

theorem p82 {Q} (v8 : BitVec 32) (v46 : BitVec 32) (v49 : BitVec 32) (v63 : BitVec 32) (v66 : BitVec 32) (H : ∀ a0 a1 a2 a3, At I K c R s82 ⊢ Q ⟨a0, a1, a2, a3⟩) :
    At I K c R s81 ⊢ WP c (k0_part82 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part82_eq_skeleton]; unfold k0_part82_skel
  refine st_start I K c R (j := (lT false true 2 1)) (by decide +kernel) (by decide +kernel) (by decide +kernel) (by decide +kernel) (mem_O c (off46_1_1 c)) (dev52 c) ((mem_O c (off46_1_1 c)).trans (mem_dst c).symm) rfl rfl ?_
  refine st_start I K c R (j := (lT true true 2 1)) (by decide +kernel) (by decide +kernel) (by decide +kernel) (by decide +kernel) (mem_O c (off47_1_1 c)) (dev53 c) ((mem_O c (off47_1_1 c)).trans (mem_dst c).symm) rfl rfl ?_
  refine st_start I K c R (j := (lT false false 2 1)) (by decide +kernel) (by decide +kernel) (by decide +kernel) (by decide +kernel) (mem_O c (off48_1_1 c)) (dev54 c) ((mem_O c (off48_1_1 c)).trans (mem_dst c).symm) rfl rfl ?_
  exact st_ret I K c R (H _ _ _ _)

theorem p83 {Q} (v8 : BitVec 32) (v33 : BitVec 32) (v2743 : BitVec 32) (v2744 : BitVec 32) (v2745 : BitVec 1) (v2748 : BitVec 1) (H : ∀ a0 a1 a2 a3 a4, At I K c R s82 ⊢ Q ⟨a0, a1, a2, a3, a4⟩) :
    At I K c R s82 ⊢ WP c (k0_part83 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v2743 v2744 v2745 v2748) Q := by
  rw [k0_part83_eq_skeleton]; unfold k0_part83_skel
  exact st_ret I K c R (H _ _ _ _ _)

theorem p84 {Q} (v8 : BitVec 32) (v46 : BitVec 32) (v49 : BitVec 32) (v63 : BitVec 32) (v2751 : BitVec 32) (v2762 : BitVec 32) (v2774 : BitVec 32) (v2785 : BitVec 32) (c256_i32_2007 : BitVec 32) (H : ∀ a0, At I K c R s84 ⊢ Q a0) :
    At I K c R s82 ⊢ WP c (k0_part84 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v2751 v2762 v2774 v2785 c256_i32_2007) Q := by
  rw [k0_part84_eq_skeleton]; unfold k0_part84_skel
  refine st_sent I K c R (j := (lT true false 1 2)) (by decide +kernel) (by decide +kernel) (by decide +kernel) (by decide +kernel) rfl rfl ?_
  refine st_recd I K c R (j := (lT true false 1 2)) (by decide +kernel) (by decide +kernel) (by decide +kernel) rfl rfl ?_
  refine st_sent I K c R (j := (lT false true 1 2)) (by decide +kernel) (by decide +kernel) (by decide +kernel) (by decide +kernel) rfl rfl ?_
  exact st_ret I K c R (H _)

theorem p85 {Q} (v8 : BitVec 32) (v46 : BitVec 32) (v49 : BitVec 32) (v63 : BitVec 32) (v66 : BitVec 32) (v2815 : BitVec 32) (H : ∀ a0, At I K c R s85 ⊢ Q a0) :
    At I K c R s84 ⊢ WP c (k0_part85 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v2815) Q := by
  rw [k0_part85_eq_skeleton]; unfold k0_part85_skel
  refine st_recd I K c R (j := (lT false true 1 2)) (by decide +kernel) (by decide +kernel) (by decide +kernel) rfl rfl ?_
  refine st_sent I K c R (j := (lT true true 1 2)) (by decide +kernel) (by decide +kernel) (by decide +kernel) (by decide +kernel) rfl rfl ?_
  refine st_recd I K c R (j := (lT true true 1 2)) (by decide +kernel) (by decide +kernel) (by decide +kernel) rfl rfl ?_
  refine st_sent I K c R (j := (lT false false 1 2)) (by decide +kernel) (by decide +kernel) (by decide +kernel) (by decide +kernel) rfl rfl ?_
  exact st_ret I K c R (H _)

theorem p86 {Q} (v8 : BitVec 32) (v33 : BitVec 32) (v66 : BitVec 32) (v2844 : BitVec 32) (H : ∀ a0 a1 a2 a3 a4 a5, At I K c R s86 ⊢ Q ⟨a0, a1, a2, a3, a4, a5⟩) :
    At I K c R s85 ⊢ WP c (k0_part86 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v66 v2844) Q := by
  rw [k0_part86_eq_skeleton]; unfold k0_part86_skel
  refine st_recd I K c R (j := (lT false false 1 2)) (by decide +kernel) (by decide +kernel) (by decide +kernel) rfl rfl ?_
  exact st_ret I K c R (H _ _ _ _ _ _)

theorem p87 {Q} (v8 : BitVec 32) (v33 : BitVec 32) (v46 : BitVec 32) (v49 : BitVec 32) (v2863 : BitVec 32) (v2874 : BitVec 32) (v2877 : BitVec 32) (v2878 : BitVec 32) (v2879 : BitVec 1) (c0_i32_2085 : BitVec 32) (H : At I K c R s87 ⊢ Q ⟨⟩) :
    At I K c R s86 ⊢ WP c (k0_part87 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v46 v49 v2863 v2874 v2877 v2878 v2879 c0_i32_2085) Q := by
  rw [k0_part87_eq_skeleton]; unfold k0_part87_skel
  refine st_start I K c R (j := (lT true false 1 3)) (by decide +kernel) (by decide +kernel) (by decide +kernel) (by decide +kernel) (mem_O c (off45_3_0 c)) (dev55 c) ((mem_O c (off45_3_0 c)).trans (mem_dst c).symm) rfl rfl ?_
  exact st_ret I K c R H

theorem p88 {Q} (v8 : BitVec 32) (v33 : BitVec 32) (v63 : BitVec 32) (v66 : BitVec 32) (H : ∀ a0 a1 a2 a3 a4, At I K c R s88 ⊢ Q ⟨a0, a1, a2, a3, a4⟩) :
    At I K c R s87 ⊢ WP c (k0_part88 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v63 v66) Q := by
  rw [k0_part88_eq_skeleton]; unfold k0_part88_skel
  refine st_start I K c R (j := (lT false true 1 3)) (by decide +kernel) (by decide +kernel) (by decide +kernel) (by decide +kernel) (mem_O c (off46_3_0 c)) (dev56 c) ((mem_O c (off46_3_0 c)).trans (mem_dst c).symm) rfl rfl ?_
  exact st_ret I K c R (H _ _ _ _ _)

theorem p89 {Q} (v33 : BitVec 32) (v2938 : BitVec 32) (v2949 : BitVec 32) (v2950 : BitVec 32) (c8_i32_2130 : BitVec 32) (v2951 : BitVec 1) (H : At I K c R s88 ⊢ Q ⟨⟩) :
    At I K c R s88 ⊢ WP c (k0_part89 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v33 v2938 v2949 v2950 c8_i32_2130 v2951) Q := by
  rw [k0_part89_eq_skeleton]; unfold k0_part89_skel
  exact st_ret I K c R H

theorem p90 {Q} (v8 : BitVec 32) (v46 : BitVec 32) (v49 : BitVec 32) (v63 : BitVec 32) (v66 : BitVec 32) (H : At I K c R s90 ⊢ Q ⟨⟩) :
    At I K c R s88 ⊢ WP c (k0_part90 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part90_eq_skeleton]; unfold k0_part90_skel
  refine st_sent I K c R (j := (lT true false 2 1)) (by decide +kernel) (by decide +kernel) (by decide +kernel) (by decide +kernel) rfl rfl ?_
  refine st_recd I K c R (j := (lT true false 2 1)) (by decide +kernel) (by decide +kernel) (by decide +kernel) rfl rfl ?_
  refine st_sent I K c R (j := (lT false true 2 1)) (by decide +kernel) (by decide +kernel) (by decide +kernel) (by decide +kernel) rfl rfl ?_
  refine st_recd I K c R (j := (lT false true 2 1)) (by decide +kernel) (by decide +kernel) (by decide +kernel) rfl rfl ?_
  refine st_sent I K c R (j := (lT true true 2 1)) (by decide +kernel) (by decide +kernel) (by decide +kernel) (by decide +kernel) rfl rfl ?_
  exact st_ret I K c R H

theorem p91 {Q} (v8 : BitVec 32) (v46 : BitVec 32) (v49 : BitVec 32) (v63 : BitVec 32) (v66 : BitVec 32) (H : ∀ a0 a1 a2 a3 a4, At I K c R s91 ⊢ Q ⟨a0, a1, a2, a3, a4⟩) :
    At I K c R s90 ⊢ WP c (k0_part91 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part91_eq_skeleton]; unfold k0_part91_skel
  refine st_recd I K c R (j := (lT true true 2 1)) (by decide +kernel) (by decide +kernel) (by decide +kernel) rfl rfl ?_
  refine st_sent I K c R (j := (lT false false 2 1)) (by decide +kernel) (by decide +kernel) (by decide +kernel) (by decide +kernel) rfl rfl ?_
  refine st_recd I K c R (j := (lT false false 2 1)) (by decide +kernel) (by decide +kernel) (by decide +kernel) rfl rfl ?_
  exact st_ret I K c R (H _ _ _ _ _)

theorem p92 {Q} (v8 : BitVec 32) (v33 : BitVec 32) (v3042 : BitVec 32) (v3043 : BitVec 32) (v3044 : BitVec 1) (v3045 : BitVec 1) (c0_i32_2209 : BitVec 32) (H : ∀ a0 a1 a2 a3 a4 a5, At I K c R s91 ⊢ Q ⟨a0, a1, a2, a3, a4, a5⟩) :
    At I K c R s91 ⊢ WP c (k0_part92 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v3042 v3043 v3044 v3045 c0_i32_2209) Q := by
  rw [k0_part92_eq_skeleton]; unfold k0_part92_skel
  exact st_ret I K c R (H _ _ _ _ _ _)

theorem p93 {Q} (v8 : BitVec 32) (v46 : BitVec 32) (v49 : BitVec 32) (v63 : BitVec 32) (v66 : BitVec 32) (v3050 : BitVec 32) (v3061 : BitVec 32) (v3073 : BitVec 32) (v3077 : BitVec 32) (v3082 : BitVec 1) (v3083 : BitVec 32) (H : At I K c R s93 ⊢ Q ⟨⟩) :
    At I K c R s91 ⊢ WP c (k0_part93 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v3050 v3061 v3073 v3077 v3082 v3083) Q := by
  rw [k0_part93_eq_skeleton]; unfold k0_part93_skel
  refine st_start I K c R (j := (lT true false 2 2)) (by decide +kernel) (by decide +kernel) (by decide +kernel) (by decide +kernel) (mem_O c (off45_2_1 c)) (dev57 c) ((mem_O c (off45_2_1 c)).trans (mem_dst c).symm) rfl rfl ?_
  exact st_ret I K c R H

theorem p94 {Q} (v8 : BitVec 32) (v46 : BitVec 32) (v49 : BitVec 32) (v63 : BitVec 32) (v66 : BitVec 32) (H : ∀ a0 a1 a2, At I K c R s94 ⊢ Q ⟨a0, a1, a2⟩) :
    At I K c R s93 ⊢ WP c (k0_part94 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part94_eq_skeleton]; unfold k0_part94_skel
  refine st_start I K c R (j := (lT false true 2 2)) (by decide +kernel) (by decide +kernel) (by decide +kernel) (by decide +kernel) (mem_O c (off46_2_1 c)) (dev58 c) ((mem_O c (off46_2_1 c)).trans (mem_dst c).symm) rfl rfl ?_
  refine st_start I K c R (j := (lT true true 2 2)) (by decide +kernel) (by decide +kernel) (by decide +kernel) (by decide +kernel) (mem_O c (off47_2_1 c)) (dev59 c) ((mem_O c (off47_2_1 c)).trans (mem_dst c).symm) rfl rfl ?_
  refine st_start I K c R (j := (lT false false 2 2)) (by decide +kernel) (by decide +kernel) (by decide +kernel) (by decide +kernel) (mem_O c (off48_2_1 c)) (dev60 c) ((mem_O c (off48_2_1 c)).trans (mem_dst c).symm) rfl rfl ?_
  exact st_ret I K c R (H _ _ _)

theorem p95 {Q} (v8 : BitVec 32) (v33 : BitVec 32) (v3147 : BitVec 32) (v3152 : BitVec 1) (v3153 : BitVec 32) (H : ∀ a0 a1 a2 a3 a4, At I K c R s94 ⊢ Q ⟨a0, a1, a2, a3, a4⟩) :
    At I K c R s94 ⊢ WP c (k0_part95 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v3147 v3152 v3153) Q := by
  rw [k0_part95_eq_skeleton]; unfold k0_part95_skel
  exact st_ret I K c R (H _ _ _ _ _)

theorem p96 {Q} (v8 : BitVec 32) (v46 : BitVec 32) (v49 : BitVec 32) (v63 : BitVec 32) (v3154 : BitVec 32) (v3165 : BitVec 32) (v3177 : BitVec 32) (v3189 : BitVec 32) (c32_i32_2300 : BitVec 32) (H : ∀ a0, At I K c R s96 ⊢ Q a0) :
    At I K c R s94 ⊢ WP c (k0_part96 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v3154 v3165 v3177 v3189 c32_i32_2300) Q := by
  rw [k0_part96_eq_skeleton]; unfold k0_part96_skel
  refine st_sent I K c R (j := (lT true false 3 0)) (by decide +kernel) (by decide +kernel) (by decide +kernel) (by decide +kernel) rfl rfl ?_
  refine st_recd I K c R (j := (lT true false 3 0)) (by decide +kernel) (by decide +kernel) (by decide +kernel) rfl rfl ?_
  refine st_sent I K c R (j := (lT false true 3 0)) (by decide +kernel) (by decide +kernel) (by decide +kernel) (by decide +kernel) rfl rfl ?_
  exact st_ret I K c R (H _)

theorem p97 {Q} (v8 : BitVec 32) (v46 : BitVec 32) (v49 : BitVec 32) (v63 : BitVec 32) (v66 : BitVec 32) (v3219 : BitVec 32) (H : ∀ a0 a1, At I K c R s97 ⊢ Q ⟨a0, a1⟩) :
    At I K c R s96 ⊢ WP c (k0_part97 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v3219) Q := by
  rw [k0_part97_eq_skeleton]; unfold k0_part97_skel
  refine st_recd I K c R (j := (lT false true 3 0)) (by decide +kernel) (by decide +kernel) (by decide +kernel) rfl rfl ?_
  refine st_sent I K c R (j := (lT true true 3 0)) (by decide +kernel) (by decide +kernel) (by decide +kernel) (by decide +kernel) rfl rfl ?_
  refine st_recd I K c R (j := (lT true true 3 0)) (by decide +kernel) (by decide +kernel) (by decide +kernel) rfl rfl ?_
  refine st_sent I K c R (j := (lT false false 3 0)) (by decide +kernel) (by decide +kernel) (by decide +kernel) (by decide +kernel) rfl rfl ?_
  exact st_ret I K c R (H _ _)

end Cert.Proof

end
-- ==== Proof.Parts7.lean ====
/-
  What each part of the kernel does to the state, seventh of eight modules.
-/
module

public import proofs.«01_k».proof.Proof.States

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD) (R : sProp (MT nD τ sig Unit (Elt F) ℕ UU ℕ))

theorem p98 {Q} (v8 : BitVec 32) (v33 : BitVec 32) (v3247 : BitVec 32) (v3248 : BitVec 32) (H : ∀ a0 a1 a2 a3 a4 a5 a6, At I K c R s98 ⊢ Q ⟨a0, a1, a2, a3, a4, a5, a6⟩) :
    At I K c R s97 ⊢ WP c (k0_part98 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v3247 v3248) Q := by
  rw [k0_part98_eq_skeleton]; unfold k0_part98_skel
  refine st_recd I K c R (j := (lT false false 3 0)) (by decide +kernel) (by decide +kernel) (by decide +kernel) rfl rfl ?_
  exact st_ret I K c R (H _ _ _ _ _ _ _)

theorem p99 {Q} (v8 : BitVec 32) (v33 : BitVec 32) (v46 : BitVec 32) (v49 : BitVec 32) (v3266 : BitVec 32) (v3277 : BitVec 32) (v3280 : BitVec 32) (v3281 : BitVec 32) (v3282 : BitVec 1) (v3283 : BitVec 1) (c0_i32_2378 : BitVec 32) (H : At I K c R s98 ⊢ Q ⟨⟩) :
    At I K c R s98 ⊢ WP c (k0_part99 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v46 v49 v3266 v3277 v3280 v3281 v3282 v3283 c0_i32_2378) Q := by
  rw [k0_part99_eq_skeleton]; unfold k0_part99_skel
  exact st_ret I K c R H

theorem p100 {Q} (v8 : BitVec 32) (v46 : BitVec 32) (v49 : BitVec 32) (v63 : BitVec 32) (v66 : BitVec 32) (H : At I K c R s100 ⊢ Q ⟨⟩) :
    At I K c R s98 ⊢ WP c (k0_part100 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part100_eq_skeleton]; unfold k0_part100_skel
  refine st_start I K c R (j := (lT true false 3 1)) (by decide +kernel) (by decide +kernel) (by decide +kernel) (by decide +kernel) (mem_O c (off45_1_2 c)) (dev61 c) ((mem_O c (off45_1_2 c)).trans (mem_dst c).symm) rfl rfl ?_
  refine st_start I K c R (j := (lT false true 3 1)) (by decide +kernel) (by decide +kernel) (by decide +kernel) (by decide +kernel) (mem_O c (off46_1_2 c)) (dev62 c) ((mem_O c (off46_1_2 c)).trans (mem_dst c).symm) rfl rfl ?_
  refine st_start I K c R (j := (lT true true 3 1)) (by decide +kernel) (by decide +kernel) (by decide +kernel) (by decide +kernel) (mem_O c (off47_1_2 c)) (dev63 c) ((mem_O c (off47_1_2 c)).trans (mem_dst c).symm) rfl rfl ?_
  exact st_ret I K c R H

theorem p101 {Q} (v8 : BitVec 32) (v33 : BitVec 32) (H : ∀ a0 a1 a2 a3 a4, At I K c R s101 ⊢ Q ⟨a0, a1, a2, a3, a4⟩) :
    At I K c R s100 ⊢ WP c (k0_part101 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33) Q := by
  rw [k0_part101_eq_skeleton]; unfold k0_part101_skel
  refine st_start I K c R (j := (lT false false 3 1)) (by decide +kernel) (by decide +kernel) (by decide +kernel) (by decide +kernel) (mem_O c (off48_1_2 c)) (dev64 c) ((mem_O c (off48_1_2 c)).trans (mem_dst c).symm) rfl rfl ?_
  exact st_ret I K c R (H _ _ _ _ _)

theorem p102 {Q} (v8 : BitVec 32) (v33 : BitVec 32) (v46 : BitVec 32) (v49 : BitVec 32) (v3370 : BitVec 32) (v3381 : BitVec 32) (v3385 : BitVec 32) (v3390 : BitVec 1) (v3391 : BitVec 32) (H : ∀ a0 a1, At I K c R s102 ⊢ Q ⟨a0, a1⟩) :
    At I K c R s101 ⊢ WP c (k0_part102 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v46 v49 v3370 v3381 v3385 v3390 v3391) Q := by
  rw [k0_part102_eq_skeleton]; unfold k0_part102_skel
  refine st_sent I K c R (j := (lT true false 2 2)) (by decide +kernel) (by decide +kernel) (by decide +kernel) (by decide +kernel) rfl rfl ?_
  exact st_ret I K c R (H _ _)

theorem p103 {Q} (v8 : BitVec 32) (v46 : BitVec 32) (v49 : BitVec 32) (v63 : BitVec 32) (v66 : BitVec 32) (v3423 : BitVec 32) (v3424 : BitVec 32) (H : At I K c R s103 ⊢ Q ⟨⟩) :
    At I K c R s102 ⊢ WP c (k0_part103 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v3423 v3424) Q := by
  rw [k0_part103_eq_skeleton]; unfold k0_part103_skel
  refine st_recd I K c R (j := (lT true false 2 2)) (by decide +kernel) (by decide +kernel) (by decide +kernel) rfl rfl ?_
  refine st_sent I K c R (j := (lT false true 2 2)) (by decide +kernel) (by decide +kernel) (by decide +kernel) (by decide +kernel) rfl rfl ?_
  refine st_recd I K c R (j := (lT false true 2 2)) (by decide +kernel) (by decide +kernel) (by decide +kernel) rfl rfl ?_
  refine st_sent I K c R (j := (lT true true 2 2)) (by decide +kernel) (by decide +kernel) (by decide +kernel) (by decide +kernel) rfl rfl ?_
  exact st_ret I K c R H

theorem p104 {Q} (v8 : BitVec 32) (v63 : BitVec 32) (v66 : BitVec 32) (H : ∀ a0 a1 a2, At I K c R s104 ⊢ Q ⟨a0, a1, a2⟩) :
    At I K c R s103 ⊢ WP c (k0_part104 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v63 v66) Q := by
  rw [k0_part104_eq_skeleton]; unfold k0_part104_skel
  refine st_recd I K c R (j := (lT true true 2 2)) (by decide +kernel) (by decide +kernel) (by decide +kernel) rfl rfl ?_
  refine st_sent I K c R (j := (lT false false 2 2)) (by decide +kernel) (by decide +kernel) (by decide +kernel) (by decide +kernel) rfl rfl ?_
  refine st_recd I K c R (j := (lT false false 2 2)) (by decide +kernel) (by decide +kernel) (by decide +kernel) rfl rfl ?_
  exact st_ret I K c R (H _ _ _)

theorem p105 {Q} (v33 : BitVec 32) (v3482 : BitVec 32) (v3483 : BitVec 32) (v3485 : BitVec 32) (H : At I K c R s104 ⊢ Q ⟨⟩) :
    At I K c R s104 ⊢ WP c (k0_part105 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v33 v3482 v3483 v3485) Q := by
  rw [k0_part105_eq_skeleton]; unfold k0_part105_skel
  exact st_ret I K c R H

theorem p106 {Q} (v8 : BitVec 32) (v46 : BitVec 32) (v49 : BitVec 32) (v63 : BitVec 32) (v66 : BitVec 32) (H : ∀ a0 a1, At I K c R s106 ⊢ Q ⟨a0, a1⟩) :
    At I K c R s104 ⊢ WP c (k0_part106 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part106_eq_skeleton]; unfold k0_part106_skel
  refine st_start I K c R (j := (lT true false 2 3)) (by decide +kernel) (by decide +kernel) (by decide +kernel) (by decide +kernel) (mem_O c (off45_3_1 c)) (dev65 c) ((mem_O c (off45_3_1 c)).trans (mem_dst c).symm) rfl rfl ?_
  refine st_start I K c R (j := (lT false true 2 3)) (by decide +kernel) (by decide +kernel) (by decide +kernel) (by decide +kernel) (mem_O c (off46_3_1 c)) (dev66 c) ((mem_O c (off46_3_1 c)).trans (mem_dst c).symm) rfl rfl ?_
  exact st_ret I K c R (H _ _)

theorem p107 {Q} (v8 : BitVec 32) (v33 : BitVec 32) (v3557 : BitVec 32) (c2_i32_2568 : BitVec 32) (H : ∀ a0 a1 a2, At I K c R s106 ⊢ Q ⟨a0, a1, a2⟩) :
    At I K c R s106 ⊢ WP c (k0_part107 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v3557 c2_i32_2568) Q := by
  rw [k0_part107_eq_skeleton]; unfold k0_part107_skel
  exact st_ret I K c R (H _ _ _)

theorem p108 {Q} (v8 : BitVec 32) (v46 : BitVec 32) (v49 : BitVec 32) (v63 : BitVec 32) (v66 : BitVec 32) (v3557 : BitVec 32) (v3568 : BitVec 32) (v3580 : BitVec 32) (v3592 : BitVec 32) (H : ∀ a0 a1, At I K c R s108 ⊢ Q ⟨a0, a1⟩) :
    At I K c R s106 ⊢ WP c (k0_part108 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v3557 v3568 v3580 v3592) Q := by
  rw [k0_part108_eq_skeleton]; unfold k0_part108_skel
  refine st_sent I K c R (j := (lT true false 3 1)) (by decide +kernel) (by decide +kernel) (by decide +kernel) (by decide +kernel) rfl rfl ?_
  refine st_recd I K c R (j := (lT true false 3 1)) (by decide +kernel) (by decide +kernel) (by decide +kernel) rfl rfl ?_
  refine st_sent I K c R (j := (lT false true 3 1)) (by decide +kernel) (by decide +kernel) (by decide +kernel) (by decide +kernel) rfl rfl ?_
  exact st_ret I K c R (H _ _)

theorem p109 {Q} (v8 : BitVec 32) (v46 : BitVec 32) (v49 : BitVec 32) (v63 : BitVec 32) (v66 : BitVec 32) (v3622 : BitVec 32) (v3623 : BitVec 32) (H : ∀ a0 a1, At I K c R s109 ⊢ Q ⟨a0, a1⟩) :
    At I K c R s108 ⊢ WP c (k0_part109 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v3622 v3623) Q := by
  rw [k0_part109_eq_skeleton]; unfold k0_part109_skel
  refine st_recd I K c R (j := (lT false true 3 1)) (by decide +kernel) (by decide +kernel) (by decide +kernel) rfl rfl ?_
  refine st_sent I K c R (j := (lT true true 3 1)) (by decide +kernel) (by decide +kernel) (by decide +kernel) (by decide +kernel) rfl rfl ?_
  refine st_recd I K c R (j := (lT true true 3 1)) (by decide +kernel) (by decide +kernel) (by decide +kernel) rfl rfl ?_
  refine st_sent I K c R (j := (lT false false 3 1)) (by decide +kernel) (by decide +kernel) (by decide +kernel) (by decide +kernel) rfl rfl ?_
  exact st_ret I K c R (H _ _)

theorem p110 {Q} (v8 : BitVec 32) (v33 : BitVec 32) (v3652 : BitVec 32) (c1_i32_2646 : BitVec 32) (H : ∀ a0 a1 a2 a3 a4 a5, At I K c R s110 ⊢ Q ⟨a0, a1, a2, a3, a4, a5⟩) :
    At I K c R s109 ⊢ WP c (k0_part110 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v3652 c1_i32_2646) Q := by
  rw [k0_part110_eq_skeleton]; unfold k0_part110_skel
  refine st_recd I K c R (j := (lT false false 3 1)) (by decide +kernel) (by decide +kernel) (by decide +kernel) rfl rfl ?_
  exact st_ret I K c R (H _ _ _ _ _ _)

theorem p111 {Q} (v8 : BitVec 32) (v33 : BitVec 32) (v46 : BitVec 32) (v49 : BitVec 32) (v3669 : BitVec 32) (v3680 : BitVec 32) (v3683 : BitVec 32) (v3684 : BitVec 32) (v3685 : BitVec 1) (v3688 : BitVec 1) (H : At I K c R s110 ⊢ Q ⟨⟩) :
    At I K c R s110 ⊢ WP c (k0_part111 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v46 v49 v3669 v3680 v3683 v3684 v3685 v3688) Q := by
  rw [k0_part111_eq_skeleton]; unfold k0_part111_skel
  exact st_ret I K c R H

theorem p112 {Q} (v8 : BitVec 32) (v46 : BitVec 32) (v49 : BitVec 32) (v63 : BitVec 32) (v66 : BitVec 32) (H : At I K c R s112 ⊢ Q ⟨⟩) :
    At I K c R s110 ⊢ WP c (k0_part112 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part112_eq_skeleton]; unfold k0_part112_skel
  refine st_start I K c R (j := (lT true false 3 2)) (by decide +kernel) (by decide +kernel) (by decide +kernel) (by decide +kernel) (mem_O c (off45_2_2 c)) (dev67 c) ((mem_O c (off45_2_2 c)).trans (mem_dst c).symm) rfl rfl ?_
  refine st_start I K c R (j := (lT false true 3 2)) (by decide +kernel) (by decide +kernel) (by decide +kernel) (by decide +kernel) (mem_O c (off46_2_2 c)) (dev68 c) ((mem_O c (off46_2_2 c)).trans (mem_dst c).symm) rfl rfl ?_
  refine st_start I K c R (j := (lT true true 3 2)) (by decide +kernel) (by decide +kernel) (by decide +kernel) (by decide +kernel) (mem_O c (off47_2_2 c)) (dev69 c) ((mem_O c (off47_2_2 c)).trans (mem_dst c).symm) rfl rfl ?_
  exact st_ret I K c R H

end Cert.Proof

end
-- ==== Proof.Parts8.lean ====
/-
  What each part of the kernel does to the state, eighth of eight modules.
-/
module

public import proofs.«01_k».proof.Proof.States

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD) (R : sProp (MT nD τ sig Unit (Elt F) ℕ UU ℕ))

theorem p113 {Q} (v8 : BitVec 32) (v33 : BitVec 32) (H : ∀ a0 a1 a2 a3, At I K c R s113 ⊢ Q ⟨a0, a1, a2, a3⟩) :
    At I K c R s112 ⊢ WP c (k0_part113 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33) Q := by
  rw [k0_part113_eq_skeleton]; unfold k0_part113_skel
  refine st_start I K c R (j := (lT false false 3 2)) (by decide +kernel) (by decide +kernel) (by decide +kernel) (by decide +kernel) (mem_O c (off48_2_2 c)) (dev70 c) ((mem_O c (off48_2_2 c)).trans (mem_dst c).symm) rfl rfl ?_
  exact st_ret I K c R (H _ _ _ _)

theorem p114 {Q} (v8 : BitVec 32) (v33 : BitVec 32) (v46 : BitVec 32) (v49 : BitVec 32) (v3773 : BitVec 32) (v3784 : BitVec 32) (v3795 : BitVec 32) (c256_i32_2737 : BitVec 32) (H : At I K c R s114 ⊢ Q ⟨⟩) :
    At I K c R s113 ⊢ WP c (k0_part114 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v46 v49 v3773 v3784 v3795 c256_i32_2737) Q := by
  rw [k0_part114_eq_skeleton]; unfold k0_part114_skel
  refine st_sent I K c R (j := (lT true false 3 2)) (by decide +kernel) (by decide +kernel) (by decide +kernel) (by decide +kernel) rfl rfl ?_
  exact st_ret I K c R H

theorem p115 {Q} (v8 : BitVec 32) (v46 : BitVec 32) (v49 : BitVec 32) (v63 : BitVec 32) (v66 : BitVec 32) (H : At I K c R s115 ⊢ Q ⟨⟩) :
    At I K c R s114 ⊢ WP c (k0_part115 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66) Q := by
  rw [k0_part115_eq_skeleton]; unfold k0_part115_skel
  refine st_recd I K c R (j := (lT true false 3 2)) (by decide +kernel) (by decide +kernel) (by decide +kernel) rfl rfl ?_
  refine st_sent I K c R (j := (lT false true 3 2)) (by decide +kernel) (by decide +kernel) (by decide +kernel) (by decide +kernel) rfl rfl ?_
  refine st_recd I K c R (j := (lT false true 3 2)) (by decide +kernel) (by decide +kernel) (by decide +kernel) rfl rfl ?_
  refine st_sent I K c R (j := (lT true true 3 2)) (by decide +kernel) (by decide +kernel) (by decide +kernel) (by decide +kernel) rfl rfl ?_
  exact st_ret I K c R H

theorem p116 {Q} (v8 : BitVec 32) (v63 : BitVec 32) (v66 : BitVec 32) (H : ∀ a0 a1 a2 a3, At I K c R s116 ⊢ Q ⟨a0, a1, a2, a3⟩) :
    At I K c R s115 ⊢ WP c (k0_part116 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v63 v66) Q := by
  rw [k0_part116_eq_skeleton]; unfold k0_part116_skel
  refine st_recd I K c R (j := (lT true true 3 2)) (by decide +kernel) (by decide +kernel) (by decide +kernel) rfl rfl ?_
  refine st_sent I K c R (j := (lT false false 3 2)) (by decide +kernel) (by decide +kernel) (by decide +kernel) (by decide +kernel) rfl rfl ?_
  refine st_recd I K c R (j := (lT false false 3 2)) (by decide +kernel) (by decide +kernel) (by decide +kernel) rfl rfl ?_
  exact st_ret I K c R (H _ _ _ _)

theorem p117 {Q} (v33 : BitVec 32) (v3885 : BitVec 32) (v3888 : BitVec 32) (v3889 : BitVec 32) (c0_i32_2815 : BitVec 32) (H : ∀ a0, At I K c R s116 ⊢ Q a0) :
    At I K c R s116 ⊢ WP c (k0_part117 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v33 v3885 v3888 v3889 c0_i32_2815) Q := by
  rw [k0_part117_eq_skeleton]; unfold k0_part117_skel
  exact st_ret I K c R (H _)

theorem p118 {Q} (v8 : BitVec 32) (v46 : BitVec 32) (v49 : BitVec 32) (v63 : BitVec 32) (v66 : BitVec 32) (c16_i32_2838 : BitVec 32) (H : ∀ a0 a1 a2, At I K c R s118 ⊢ Q ⟨a0, a1, a2⟩) :
    At I K c R s116 ⊢ WP c (k0_part118 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 c16_i32_2838) Q := by
  rw [k0_part118_eq_skeleton]; unfold k0_part118_skel
  refine st_start I K c R (j := (lT true false 3 3)) (by decide +kernel) (by decide +kernel) (by decide +kernel) (by decide +kernel) (mem_O c (off45_3_2 c)) (dev71 c) ((mem_O c (off45_3_2 c)).trans (mem_dst c).symm) rfl rfl ?_
  refine st_start I K c R (j := (lT false true 3 3)) (by decide +kernel) (by decide +kernel) (by decide +kernel) (by decide +kernel) (mem_O c (off46_3_2 c)) (dev72 c) ((mem_O c (off46_3_2 c)).trans (mem_dst c).symm) rfl rfl ?_
  exact st_ret I K c R (H _ _ _)

theorem p119 {Q} (v33 : BitVec 32) (v3960 : BitVec 32) (v3961 : BitVec 32) (c4_i32_2860 : BitVec 32) (H : ∀ a0 a1, At I K c R s118 ⊢ Q ⟨a0, a1⟩) :
    At I K c R s118 ⊢ WP c (k0_part119 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v33 v3960 v3961 c4_i32_2860) Q := by
  rw [k0_part119_eq_skeleton]; unfold k0_part119_skel
  exact st_ret I K c R (H _ _)

theorem p120 {Q} (v8 : BitVec 32) (v46 : BitVec 32) (v49 : BitVec 32) (v63 : BitVec 32) (v66 : BitVec 32) (v3971 : BitVec 32) (v3998 : BitVec 32) (H : At I K c R s120 ⊢ Q ⟨⟩) :
    At I K c R s118 ⊢ WP c (k0_part120 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v3971 v3998) Q := by
  rw [k0_part120_eq_skeleton]; unfold k0_part120_skel
  refine st_sent I K c R (j := (lT true false 0 3)) (by decide +kernel) (by decide +kernel) (by decide +kernel) (by decide +kernel) rfl rfl ?_
  refine st_recd I K c R (j := (lT true false 0 3)) (by decide +kernel) (by decide +kernel) (by decide +kernel) rfl rfl ?_
  refine st_sent I K c R (j := (lT false true 0 3)) (by decide +kernel) (by decide +kernel) (by decide +kernel) (by decide +kernel) rfl rfl ?_
  exact st_ret I K c R H

theorem p121 {Q} (v8 : BitVec 32) (v33 : BitVec 32) (H : ∀ a0 a1 a2 a3 a4, At I K c R s121 ⊢ Q ⟨a0, a1, a2, a3, a4⟩) :
    At I K c R s120 ⊢ WP c (k0_part121 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33) Q := by
  rw [k0_part121_eq_skeleton]; unfold k0_part121_skel
  refine st_recd I K c R (j := (lT false true 0 3)) (by decide +kernel) (by decide +kernel) (by decide +kernel) rfl rfl ?_
  exact st_ret I K c R (H _ _ _ _ _)

theorem p122 {Q} (v8 : BitVec 32) (v46 : BitVec 32) (v49 : BitVec 32) (v4039 : BitVec 32) (v4050 : BitVec 32) (v4062 : BitVec 32) (v4063 : BitVec 32) (c8_i32_2934 : BitVec 32) (H : At I K c R s122 ⊢ Q ⟨⟩) :
    At I K c R s121 ⊢ WP c (k0_part122 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v4039 v4050 v4062 v4063 c8_i32_2934) Q := by
  rw [k0_part122_eq_skeleton]; unfold k0_part122_skel
  refine st_sent I K c R (j := (lT true false 1 3)) (by decide +kernel) (by decide +kernel) (by decide +kernel) (by decide +kernel) rfl rfl ?_
  refine st_recd I K c R (j := (lT true false 1 3)) (by decide +kernel) (by decide +kernel) (by decide +kernel) rfl rfl ?_
  exact st_ret I K c R H

theorem p123 {Q} (v8 : BitVec 32) (v63 : BitVec 32) (v66 : BitVec 32) (H : ∀ a0 a1 a2, At I K c R s123 ⊢ Q ⟨a0, a1, a2⟩) :
    At I K c R s122 ⊢ WP c (k0_part123 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v63 v66) Q := by
  rw [k0_part123_eq_skeleton]; unfold k0_part123_skel
  refine st_sent I K c R (j := (lT false true 1 3)) (by decide +kernel) (by decide +kernel) (by decide +kernel) (by decide +kernel) rfl rfl ?_
  refine st_recd I K c R (j := (lT false true 1 3)) (by decide +kernel) (by decide +kernel) (by decide +kernel) rfl rfl ?_
  exact st_ret I K c R (H _ _ _)

theorem p124 {Q} (v33 : BitVec 32) (v4118 : BitVec 32) (v4129 : BitVec 32) (c3_i32_2984 : BitVec 32) (H : ∀ a0, At I K c R s124 ⊢ Q a0) :
    At I K c R s123 ⊢ WP c (k0_part124 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v33 v4118 v4129 c3_i32_2984) Q := by
  rw [k0_part124_eq_skeleton]; unfold k0_part124_skel
  refine st_sent I K c R (j := (lT true false 2 3)) (by decide +kernel) (by decide +kernel) (by decide +kernel) (by decide +kernel) rfl rfl ?_
  exact st_ret I K c R (H _)

theorem p125 {Q} (v8 : BitVec 32) (v46 : BitVec 32) (v49 : BitVec 32) (v63 : BitVec 32) (v66 : BitVec 32) (c16_i32_3010 : BitVec 32) (H : ∀ a0 a1 a2 a3, At I K c R s125 ⊢ Q ⟨a0, a1, a2, a3⟩) :
    At I K c R s124 ⊢ WP c (k0_part125 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 c16_i32_3010) Q := by
  rw [k0_part125_eq_skeleton]; unfold k0_part125_skel
  refine st_recd I K c R (j := (lT true false 2 3)) (by decide +kernel) (by decide +kernel) (by decide +kernel) rfl rfl ?_
  refine st_sent I K c R (j := (lT false true 2 3)) (by decide +kernel) (by decide +kernel) (by decide +kernel) (by decide +kernel) rfl rfl ?_
  refine st_recd I K c R (j := (lT false true 2 3)) (by decide +kernel) (by decide +kernel) (by decide +kernel) rfl rfl ?_
  exact st_ret I K c R (H _ _ _ _)

theorem p126 {Q} (v8 : BitVec 32) (v33 : BitVec 32) (v4189 : BitVec 32) (v4190 : BitVec 32) (v4191 : BitVec 1) (v4194 : BitVec 1) (H : ∀ a0 a1 a2 a3 a4, At I K c R s125 ⊢ Q ⟨a0, a1, a2, a3, a4⟩) :
    At I K c R s125 ⊢ WP c (k0_part126 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v8 v33 v4189 v4190 v4191 v4194) Q := by
  rw [k0_part126_eq_skeleton]; unfold k0_part126_skel
  exact st_ret I K c R (H _ _ _ _ _)

theorem p127 {Q} (v8 : BitVec 32) (v46 : BitVec 32) (v49 : BitVec 32) (v63 : BitVec 32) (v66 : BitVec 32) (v4197 : BitVec 32) (v4208 : BitVec 32) (v4220 : BitVec 32) (v4231 : BitVec 32) (c256_i32_3058 : BitVec 32) (H : At I K c R s127 ⊢ Q ⟨⟩) :
    At I K c R s125 ⊢ WP c (k0_part127 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v46 v49 v63 v66 v4197 v4208 v4220 v4231 c256_i32_3058) Q := by
  rw [k0_part127_eq_skeleton]; unfold k0_part127_skel
  refine st_sent I K c R (j := (lT true false 3 3)) (by decide +kernel) (by decide +kernel) (by decide +kernel) (by decide +kernel) rfl rfl ?_
  refine st_recd I K c R (j := (lT true false 3 3)) (by decide +kernel) (by decide +kernel) (by decide +kernel) rfl rfl ?_
  refine st_sent I K c R (j := (lT false true 3 3)) (by decide +kernel) (by decide +kernel) (by decide +kernel) (by decide +kernel) rfl rfl ?_
  exact st_ret I K c R H

end Cert.Proof

end
-- ==== Proof.Body.lean ====
/-
  The kernel from start to end: its parts one after the other.
-/
module

public import proofs.«01_k».proof.Proof.Parts0
public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7
public import proofs.«01_k».proof.Proof.Parts8

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD) (R : sProp (MT nD τ sig Unit (Elt F) ℕ UU ℕ))

theorem run128 {Q} (hI : I.Ok) (H : ∀ a0 a1 a2 a3 a4 a5 a6, At I K c (R9 I c R) s60 ⊢ Q ⟨c, a0, a1, a2, a3, a4, a5, a6, vL I c (kC true 5)⟩) :
    Pre I K c R g0 0 ⊢ WP c (k0_part128 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17) Q := by
  rw [k0_part128_eq_skeleton]; unfold k0_part128_skel
  refine bnd (p1 I K c R (fun _ _ _ _ _ _ _ _ => ?_))
  refine bnd (p2 I K c R _ _ _ _ (fun _ _ _ _ _ _ _ => ?_))
  refine bnd (p3 I K c R hI _ _ _ _ (fun _ _ _ _ => ?_))
  refine bnd (p4 I K c R _ _ _ _ _ (fun _ _ _ _ _ _ => ?_))
  refine bnd (p5 I K c R hI _ _ _ _ _ (fun _ _ _ => ?_))
  refine bnd (p6 I K c R hI _ _ _ _ _ _ _ _ _ _ (fun _ _ => ?_))
  refine bnd (p7 I K c R _ _ _ _ _ _ (fun _ => ?_))
  refine bnd (p8 I K c (R7 I c R) _ _ ?_)
  refine bnd (p9 I K c R _ _ _ _ _ ?_)
  refine bnd (p10 I K c (R9 I c R) _ _ _ _ ?_)
  refine bnd (p11 I K c (R9 I c R) _ _ _ ?_)
  refine bnd (p12 I K c (R9 I c R) _ _ _ _ ?_)
  refine bnd (p13 I K c (R9 I c R) _ (fun _ => ?_))
  refine bnd (p14 I K c (R9 I c R) _ _ (fun _ _ => ?_))
  refine bnd (p15 I K c (R9 I c R) _ _ _ _ _ _ ?_)
  refine bnd (p16 I K c (R9 I c R) _ _ _ _ (fun _ => ?_))
  refine bnd (p17 I K c (R9 I c R) _ _ (fun _ => ?_))
  refine bnd (p18 I K c (R9 I c R) _ _ _ (fun _ => ?_))
  refine bnd (p19 I K c (R9 I c R) _ _ _ _ _ (fun _ _ => ?_))
  refine bnd (p20 I K c (R9 I c R) _ _ _ _ _ _ _ (fun _ _ _ => ?_))
  refine bnd (p21 I K c (R9 I c R) _ _ _ _ (fun _ => ?_))
  refine bnd (p22 I K c (R9 I c R) _ _ _ (fun _ _ => ?_))
  refine bnd (p23 I K c (R9 I c R) _ _ _ _ (fun _ _ _ _ _ _ => ?_))
  refine bnd (p24 I K c (R9 I c R) _ _ _ _ _ _ _ _ _ _ ?_)
  refine bnd (p25 I K c (R9 I c R) _ _ _ _ _ ?_)
  refine bnd (p26 I K c (R9 I c R) _ _ _ _ ?_)
  refine bnd (p27 I K c (R9 I c R) _ _ _ _ (fun _ _ => ?_))
  refine bnd (p28 I K c (R9 I c R) _ _ _ _ _ _ (fun _ _ _ => ?_))
  refine bnd (p29 I K c (R9 I c R) _ _ _ _ _ (fun _ _ _ _ _ => ?_))
  refine bnd (p30 I K c (R9 I c R) _ _ _ _ _ _ _ (fun _ _ _ _ _ _ => ?_))
  refine bnd (p31 I K c (R9 I c R) _ _ _ _ _ _ _ _ _ _ _ ?_)
  refine bnd (p32 I K c (R9 I c R) _ _ _ _ _ (fun _ _ _ => ?_))
  refine bnd (p33 I K c (R9 I c R) _ _ _ _ _ (fun _ _ _ _ _ => ?_))
  refine bnd (p34 I K c (R9 I c R) _ _ _ _ _ _ _ _ _ (fun _ => ?_))
  refine bnd (p35 I K c (R9 I c R) _ _ _ _ _ _ (fun _ _ => ?_))
  refine bnd (p36 I K c (R9 I c R) _ _ _ _ (fun _ _ _ _ _ _ _ => ?_))
  refine bnd (p37 I K c (R9 I c R) _ _ _ _ _ _ _ _ _ _ _ ?_)
  refine bnd (p38 I K c (R9 I c R) _ _ _ _ _ ?_)
  refine bnd (p39 I K c (R9 I c R) _ _ _ _ ?_)
  refine bnd (p40 I K c (R9 I c R) _ _ _ ?_)
  refine bnd (p41 I K c (R9 I c R) _ _ _ _ _ (fun _ => ?_))
  refine bnd (p42 I K c (R9 I c R) _ _ _ (fun _ _ _ _ => ?_))
  refine bnd (p43 I K c (R9 I c R) _ _ _ _ _ (fun _ => ?_))
  refine bnd (p44 I K c (R9 I c R) _ _ _ _ _ _ ?_)
  refine bnd (p45 I K c (R9 I c R) _ _ _ _ (fun _ _ _ _ => ?_))
  refine bnd (p46 I K c (R9 I c R) _ _ _ _ _ ?_)
  refine bnd (p47 I K c (R9 I c R) _ _ _ _ _ ?_)
  refine bnd (p48 I K c (R9 I c R) _ _ _ _ _ (fun _ _ _ _ => ?_))
  refine bnd (p49 I K c (R9 I c R) _ _ _ _ _ _ (fun _ _ _ _ _ _ _ => ?_))
  refine bnd (p50 I K c (R9 I c R) _ _ _ _ _ _ _ _ _ _ _ _ ?_)
  refine bnd (p51 I K c (R9 I c R) _ _ _ _ _ (fun _ _ _ _ => ?_))
  refine bnd (p52 I K c (R9 I c R) _ _ _ _ _ _ (fun _ _ _ _ _ => ?_))
  refine bnd (p53 I K c (R9 I c R) _ _ _ _ _ _ _ _ _ (fun _ => ?_))
  refine bnd (p54 I K c (R9 I c R) _ _ _ _ _ _ (fun _ => ?_))
  refine bnd (p55 I K c (R9 I c R) _ _ _ _ (fun _ _ _ _ _ _ => ?_))
  refine bnd (p56 I K c (R9 I c R) _ _ _ _ _ _ _ _ _ _ ?_)
  refine bnd (p57 I K c (R9 I c R) _ _ _ _ _ ?_)
  refine bnd (p58 I K c (R9 I c R) _ _ _ _ ?_)
  refine bnd (p59 I K c (R9 I c R) _ _ _ ?_)
  refine bnd (p60 I K c (R9 I c R) _ _ _ _ _ ?_)
  exact st_ret' c (H _ _ _ _ _ _ _)

theorem run129 {Q} (v8 v33 v46 v49 v63 v66 v725 : BitVec 32) (H : At I K c (R9 I c R) s120 ⊢ Q ⟨⟩) :
    At I K c (R9 I c R) s60 ⊢ WP c (k0_part129 A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 c v8 v33 v46 v49 v63 v66 v725 (vL I c (kC true 5))) Q := by
  rw [k0_part129_eq_skeleton]; unfold k0_part129_skel
  refine bnd (p61 I K c (R9 I c R) _ _ (fun _ _ _ _ _ => ?_))
  refine bnd (p62 I K c (R9 I c R) _ _ _ _ _ _ ?_)
  refine bnd (p63 I K c (R9 I c R) _ _ _ _ _ ?_)
  refine bnd (p64 I K c (R9 I c R) _ _ _ (fun _ _ _ => ?_))
  refine bnd (p65 I K c (R9 I c R) _ _ _ _ ?_)
  refine bnd (p66 I K c (R9 I c R) _ _ _ _ _ ?_)
  refine bnd (p67 I K c (R9 I c R) _ _ _ _ _ (fun _ _ _ => ?_))
  refine bnd (p68 I K c (R9 I c R) _ _ _ _ _ (fun _ _ _ _ _ _ _ _ => ?_))
  refine bnd (p69 I K c (R9 I c R) _ _ _ _ _ _ _ _ _ _ _ _ _ (fun _ _ => ?_))
  refine bnd (p70 I K c (R9 I c R) _ _ _ _ (fun _ _ _ _ _ => ?_))
  refine bnd (p71 I K c (R9 I c R) _ _ _ _ _ _ _ _ ?_)
  refine bnd (p72 I K c (R9 I c R) _ _ _ _ _ ?_)
  refine bnd (p73 I K c (R9 I c R) _ _ _ (fun _ _ _ _ => ?_))
  refine bnd (p74 I K c (R9 I c R) _ _ _ _ _ (fun _ => ?_))
  refine bnd (p75 I K c (R9 I c R) _ _ _ _ _ _ ?_)
  refine bnd (p76 I K c (R9 I c R) _ _ _ _ (fun _ _ _ _ => ?_))
  refine bnd (p77 I K c (R9 I c R) _ _ _ _ _ ?_)
  refine bnd (p78 I K c (R9 I c R) _ _ _ _ _ ?_)
  refine bnd (p79 I K c (R9 I c R) _ _ _ _ _ (fun _ _ _ _ => ?_))
  refine bnd (p80 I K c (R9 I c R) _ _ _ _ _ _ (fun _ _ _ _ _ _ _ => ?_))
  refine bnd (p81 I K c (R9 I c R) _ _ _ _ _ _ _ _ _ _ _ _ ?_)
  refine bnd (p82 I K c (R9 I c R) _ _ _ _ _ (fun _ _ _ _ => ?_))
  refine bnd (p83 I K c (R9 I c R) _ _ _ _ _ _ (fun _ _ _ _ _ => ?_))
  refine bnd (p84 I K c (R9 I c R) _ _ _ _ _ _ _ _ _ (fun _ => ?_))
  refine bnd (p85 I K c (R9 I c R) _ _ _ _ _ _ (fun _ => ?_))
  refine bnd (p86 I K c (R9 I c R) _ _ _ _ (fun _ _ _ _ _ _ => ?_))
  refine bnd (p87 I K c (R9 I c R) _ _ _ _ _ _ _ _ _ _ ?_)
  refine bnd (p88 I K c (R9 I c R) _ _ _ _ (fun _ _ _ _ _ => ?_))
  refine bnd (p89 I K c (R9 I c R) _ _ _ _ _ _ ?_)
  refine bnd (p90 I K c (R9 I c R) _ _ _ _ _ ?_)
  refine bnd (p91 I K c (R9 I c R) _ _ _ _ _ (fun _ _ _ _ _ => ?_))
  refine bnd (p92 I K c (R9 I c R) _ _ _ _ _ _ _ (fun _ _ _ _ _ _ => ?_))
  refine bnd (p93 I K c (R9 I c R) _ _ _ _ _ _ _ _ _ _ _ ?_)
  refine bnd (p94 I K c (R9 I c R) _ _ _ _ _ (fun _ _ _ => ?_))
  refine bnd (p95 I K c (R9 I c R) _ _ _ _ _ (fun _ _ _ _ _ => ?_))
  refine bnd (p96 I K c (R9 I c R) _ _ _ _ _ _ _ _ _ (fun _ => ?_))
  refine bnd (p97 I K c (R9 I c R) _ _ _ _ _ _ (fun _ _ => ?_))
  refine bnd (p98 I K c (R9 I c R) _ _ _ _ (fun _ _ _ _ _ _ _ => ?_))
  refine bnd (p99 I K c (R9 I c R) _ _ _ _ _ _ _ _ _ _ _ ?_)
  refine bnd (p100 I K c (R9 I c R) _ _ _ _ _ ?_)
  refine bnd (p101 I K c (R9 I c R) _ _ (fun _ _ _ _ _ => ?_))
  refine bnd (p102 I K c (R9 I c R) _ _ _ _ _ _ _ _ _ (fun _ _ => ?_))
  refine bnd (p103 I K c (R9 I c R) _ _ _ _ _ _ _ ?_)
  refine bnd (p104 I K c (R9 I c R) _ _ _ (fun _ _ _ => ?_))
  refine bnd (p105 I K c (R9 I c R) _ _ _ _ ?_)
  refine bnd (p106 I K c (R9 I c R) _ _ _ _ _ (fun _ _ => ?_))
  refine bnd (p107 I K c (R9 I c R) _ _ _ _ (fun _ _ _ => ?_))
  refine bnd (p108 I K c (R9 I c R) _ _ _ _ _ _ _ _ _ (fun _ _ => ?_))
  refine bnd (p109 I K c (R9 I c R) _ _ _ _ _ _ _ (fun _ _ => ?_))
  refine bnd (p110 I K c (R9 I c R) _ _ _ _ (fun _ _ _ _ _ _ => ?_))
  refine bnd (p111 I K c (R9 I c R) _ _ _ _ _ _ _ _ _ _ ?_)
  refine bnd (p112 I K c (R9 I c R) _ _ _ _ _ ?_)
  refine bnd (p113 I K c (R9 I c R) _ _ (fun _ _ _ _ => ?_))
  refine bnd (p114 I K c (R9 I c R) _ _ _ _ _ _ _ _ ?_)
  refine bnd (p115 I K c (R9 I c R) _ _ _ _ _ ?_)
  refine bnd (p116 I K c (R9 I c R) _ _ _ (fun _ _ _ _ => ?_))
  refine bnd (p117 I K c (R9 I c R) _ _ _ _ _ (fun _ => ?_))
  refine bnd (p118 I K c (R9 I c R) _ _ _ _ _ _ (fun _ _ _ => ?_))
  refine bnd (p119 I K c (R9 I c R) _ _ _ _ (fun _ _ => ?_))
  refine bnd (p120 I K c (R9 I c R) _ _ _ _ _ _ _ ?_)
  exact st_ret' c H

/-- The last state. -/
def sEnd : St := s127.recd (lT false true 3 3)

set_option maxRecDepth 100000 in
theorem run {Q : PUnit → sProp 𝕄} (hI : I.Ok) (H : At I K c (R9 I c R) sEnd ⊢ Q ⟨⟩) :
    Pre I K c R g0 0 ⊢ WP c (cc0_body A0 (hstage0_0 0) A1 (hstage0_1 0) A2 (Memref.isWhole_whole _) A3 (hstage0_2 0) A4 (Memref.isWhole_whole _) A5 (Memref.isWhole_whole _) A6 (Memref.isWhole_whole _) A7 (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17) Q := by
  rw [cc0_body_eq_skeleton]; unfold cc0_body_skel
  refine bnd (run128 I K c R hI (fun _ _ _ _ _ _ _ => ?_))
  dsimp only
  refine bnd ?_
  rename_i v8 v33 v46 v49 v63 v66 v725
  first | (refine run129 I K c R v8 v33 v46 v49 v63 v66 v725 ?_)
  refine bnd (p121 I K c (R9 I c R) _ _ (fun _ _ _ _ _ => ?_))
  refine bnd (p122 I K c (R9 I c R) _ _ _ _ _ _ _ _ ?_)
  refine bnd (p123 I K c (R9 I c R) _ _ _ (fun _ _ _ => ?_))
  refine bnd (p124 I K c (R9 I c R) _ _ _ _ (fun _ => ?_))
  refine bnd (p125 I K c (R9 I c R) _ _ _ _ _ _ (fun _ _ _ _ => ?_))
  refine bnd (p126 I K c (R9 I c R) _ _ _ _ _ _ (fun _ _ _ _ _ => ?_))
  refine bnd (p127 I K c (R9 I c R) _ _ _ _ _ _ _ _ _ _ ?_)
  refine st_recd I K c (R9 I c R) (j := lT false true 3 3) (by decide +kernel) (by decide +kernel) (by decide +kernel) rfl rfl ?_
  exact st_ret' c H

end Cert.Proof

end
-- ==== Proof.Open.lean ====
/-
  What a device is given at the kernel's start, dealt out as the body's first line finds it: the buffers cut into pieces,
  the landing pieces handed to the neighbours that write them, the semaphores by what they count.
-/
module

public import proofs.«01_k».proof.Proof.Pieces
public import proofs.«01_k».proof.Proof.Body
public import Idealize.ShloMosaic.Lib.Rounds.Family

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The semaphores by what they count -/

/-- The kernel's own semaphores: the gathers' two, the transfers' reading, the transfers' landing. -/
def sx : Bool ⊕ (Tr ⊕ Tr) → Fin 154
  | .inl g => if g then 1 else 0
  | .inr (.inl j) => ⟨sendN j - 3, by have := sendN_lt j; omega⟩
  | .inr (.inr j) => ⟨recvN j - 3, by have := recvN_lt j; omega⟩
theorem osem_gat (g : Bool) : osem (sx (.inl g)) = .dma (gSem g) := by cases g <;> rfl
theorem osem_snd (j : Tr) : osem (sx (.inr (.inl j))) = .dma (sendS j) := by
  have h : 3 ≤ sendN j := sendS_ge j
  show SemLoc.dma _ = SemLoc.dma _
  congr 1; apply Fin.ext; show 3 + (sendN j - 3) = sendN j; omega
theorem osem_rcv (j : Tr) : osem (sx (.inr (.inr j))) = .dma (recvS j) := by
  have h : 3 ≤ recvN j := recvS_ge j
  show SemLoc.dma _ = SemLoc.dma _
  congr 1; apply Fin.ext; show 3 + (recvN j - 3) = recvN j; omega
def sxK : Bool ⊕ (Tr ⊕ Tr) → Kd
  | .inl g => .gat g
  | .inr (.inl j) => .snd j
  | .inr (.inr j) => .rcv j
theorem kind_sx (x : Bool ⊕ (Tr ⊕ Tr)) : kindOf (osem (sx x)) = sxK x := by
  rcases x with g | j | j
  · rw [osem_gat, kindOf_gat]; rfl
  · rw [osem_snd, kindOf_send]; rfl
  · rw [osem_rcv, kindOf_recv]; rfl
theorem sx_bij : Function.Bijective sx := by
  refine (Fintype.bijective_iff_injective_and_card sx).mpr ⟨fun x y h => ?_, by decide +kernel⟩
  have h' : sxK x = sxK y := by rw [← kind_sx, ← kind_sx, h]
  rcases x with g | j | j <;> rcases y with g' | j' | j' <;> simp only [sxK, Kd.gat.injEq, Kd.snd.injEq, Kd.rcv.injEq, reduceCtorEq] at h' <;> rw [h']

theorem sem_split (Φ : SemLoc sig → sProp 𝕄) : (bigSep Finset.univ fun k : Fin 154 => Φ (osem k))
    = iprop((bigSep Finset.univ fun g : Bool => Φ (.dma (gSem g))) ∗ (bigSep Finset.univ fun j : Tr => Φ (.dma (sendS j)))
        ∗ bigSep Finset.univ fun j : Tr => Φ (.dma (recvS j))) := by
  rw [BI.bigSep_univ_equiv (Equiv.ofBijective sx sx_bij) (fun k => Φ (osem k)), BI.bigSep_univ_sum, BI.bigSep_univ_sum]
  show iprop((bigSep Finset.univ fun g : Bool => Φ (osem (sx (.inl g)))) ∗ (bigSep Finset.univ fun j : Tr => Φ (osem (sx (.inr (.inl j)))))
        ∗ bigSep Finset.univ fun j : Tr => Φ (osem (sx (.inr (.inr j))))) = _
  simp only [osem_gat, osem_snd, osem_rcv]

/-- The hops that no transfer makes. -/
def rst : Finset Tr := Finset.univ.filter fun j => j ∉ trs
theorem tr_split (Φ : Tr → sProp 𝕄) : bigSep Finset.univ Φ = iprop(bigSep trs Φ ∗ bigSep rst Φ) := by
  have e : (Finset.univ.filter fun j : Tr => j ∈ trs) = trs := by ext j; simp
  rw [BI.bigSep_filter_split Finset.univ (fun j : Tr => j ∈ trs), e]; rfl
theorem bool_split (Φ : Bool → sProp 𝕄) : bigSep Finset.univ Φ = iprop(Φ false ∗ Φ true) := by
  rw [bigSep_univ_at Φ false, show (Finset.univ : Finset Bool).erase false = {true} from by decide, bigSep_singleton]

/-! ## The landing pieces -/

/-- A piece that a neighbour writes. -/
def isDst : Ck → Bool
  | .inl _ => false
  | .inr (.inl _) => true
  | .inr (.inr (_, _, d)) => d != 0
theorem dst_image : trs.image dstK = Finset.univ.filter fun k => isDst k = true := by decide +kernel
theorem dst_inj : Set.InjOn dstK trs := Finset.card_image_iff.mp (by rw [dst_image]; decide +kernel)
theorem dst_pieces (P : Ck → sProp 𝕄) : (bigSep trs fun j => P (dstK j)) = bigSep (Finset.univ.filter fun k => isDst k = true) P := by
  rw [← dst_image, BI.bigSep_image_of_injOn dst_inj]

variable (I : Inp F) (K : GSem nD τ sig → ℕ) (c : Dev nD)

theorem ck_split (Φ : Ck → sProp 𝕄) : bigSep Finset.univ Φ
    = iprop(((bigSep Finset.univ fun p : Bool × Fin 4 => Φ (kG p.1 p.2)) ∗ (bigSep Finset.univ fun p : Bool × Fin 4 => Φ (kS p.1 p.2)))
      ∗ (((bigSep Finset.univ fun h : Fin 6 => Φ (kC false h)) ∗ (bigSep Finset.univ fun h : Fin 6 => Φ (kC true h)))
        ∗ bigSep Finset.univ fun p : Bool × Fin 4 × Fin 8 => Φ (kO p.1 p.2.1 p.2.2))) := by
  rw [BI.bigSep_univ_sum, BI.bigSep_univ_sum, BI.bigSep_univ_sum, BI.bigSep_univ_prod (α := Bool) (β := Fin 6), bool_split]
  rfl

theorem start_pieces : iprop((bigSep Finset.univ fun p : Bool × Fin 4 => anyK c (kS p.1 p.2)) ∗ (bigSep Finset.univ fun h : Fin 6 => anyK c (kC false h))
      ∗ (bigSep Finset.univ fun h : Fin 6 => anyK c (kC true h)) ∗ (bigSep Finset.univ fun p : Bool × Fin 4 × Fin 8 => anyK c (kO p.1 p.2.1 p.2.2)))
    ⊢ (iprop((bigSep Finset.univ fun k => chRes I c k (stB.ch k)) ∗ bigSep trs fun j => anyK c (dstK j)) : sProp 𝕄) := by
  have e : (iprop((bigSep Finset.univ fun k => chRes I c k (stB.ch k)) ∗ bigSep trs fun j => anyK c (dstK j)) : sProp 𝕄)
      = bigSep Finset.univ fun k => iprop(chRes I c k (stB.ch k) ∗ if isDst k = true then anyK c k else iprop(emp)) := by
    rw [bigSep_sep', dst_pieces (fun k => anyK c k), BI.bigSep_filter]
    rfl
  have hp : ∀ k : Ck, (match k with | .inl (.inl _) => iprop(emp) | k => anyK c k : sProp 𝕄)
      ⊢ iprop(chRes I c k (stB.ch k) ∗ if isDst k = true then anyK c k else iprop(emp)) := by
    intro k
    rcases k with (p | p) | (p | ⟨b, L, d⟩)
    · show iprop(emp) ⊢ iprop(iprop(emp) ∗ iprop(emp))
      iintro H; isplitl [H]
      · iexact H
      · iempintro
    · show anyK c _ ⊢ iprop(anyK c _ ∗ iprop(emp))
      iintro H; isplitl [H]
      · iexact H
      · iempintro
    · show anyK c _ ⊢ iprop(iprop(emp) ∗ anyK c _)
      iintro H; isplitl []
      · iempintro
      · iexact H
    · by_cases hd : d = 0
      · subst hd
        show anyK c _ ⊢ iprop(anyK c _ ∗ iprop(emp))
        iintro H; isplitl [H]
        · iexact H
        · iempintro
      · have h1 : stB.ch (.inr (.inr (b, L, d))) = .none := if_neg hd
        have h2 : isDst (.inr (.inr (b, L, d))) = true := by show (d != 0) = true; simpa using hd
        rw [h1, if_pos h2]
        show anyK c _ ⊢ iprop(iprop(emp) ∗ anyK c _)
        iintro H; isplitl []
        · iempintro
        · iexact H
  have hA : iprop((bigSep Finset.univ fun p : Bool × Fin 4 => anyK c (kS p.1 p.2)) ∗ (bigSep Finset.univ fun h : Fin 6 => anyK c (kC false h))
      ∗ (bigSep Finset.univ fun h : Fin 6 => anyK c (kC true h)) ∗ (bigSep Finset.univ fun p : Bool × Fin 4 × Fin 8 => anyK c (kO p.1 p.2.1 p.2.2)))
      ⊢ bigSep Finset.univ fun k : Ck => (match k with | .inl (.inl _) => iprop(emp) | k => anyK c k : sProp 𝕄) := by
    rw [ck_split]
    iintro ⟨HS, H0, H1, HO⟩
    isplitl [HS]
    · isplitl []
      · have he : (iprop(emp) : sProp 𝕄) ⊢ bigSep Finset.univ fun _ : Bool × Fin 4 => iprop(emp) := Entails.of_eq (BI.bigSep_emp_const _).symm
        iapply he; iempintro
      · iexact HS
    isplitl [H0 H1]
    · isplitl [H0]
      · iexact H0
      · iexact H1
    · iexact HO
  rw [e]
  exact BI.Entails.trans hA (bigSep_mono fun k _ => hp k)

/-- The landing pieces as the neighbours' units on the barrier hand them over. -/
theorem bar_pay : (bigSep trs fun j => iprop(anyK c (dstK j) ∗ reached ER (recvC c j) 0)) ⊢ (bigSep (sgs 0) fun i => barPay (rbn c i) i : sProp 𝕄) := by
  have e0 : sgs 0 = Finset.range 4 := by decide
  rw [e0]
  conv_lhs => rw [trs_bar]
  rw [bigSep_biUnion_eq _ _ _ (fun j _ j' _ hne => Finset.disjoint_filter.mpr fun x _ h h' => hne (h.symm.trans h'))]
  refine Entails.of_eq (bigSep_congr fun i hi => ?_)
  unfold barPay
  refine bigSep_congr fun j hj => ?_
  have hc : dstD (rbn c i) j = c := by
    rw [dstD_eq, (Finset.mem_filter.mp hj).2]; exact nbr_rbn c i (Finset.mem_range.mp hi)
  unfold landing
  rw [hc]; rfl

/-! ## The gathers -/

theorem table_split (f : S16384x1024.Idx → Elt F .f32) :
    (A2.view.loc c.tc ↦[Finset.univ]{fullShare} f : sProp 𝕄) = bigSep Finset.univ fun i : Rw => (A2.view.loc c.tc ↦[Finset.univ]{shE i} f) := by
  have h : (A2.view.loc c.tc ↦[Finset.univ]{fullShare} f : sProp 𝕄) = bigSep Finset.univ fun i : Fin (2 ^ 8) => (A2.view.loc c.tc ↦[Finset.univ]{ShareLeaves.leaf 8 fullShare i} f) :=
    ShareLeaves.pointsTo_leaves (ℓ := A2.view.loc c.tc) Finset.univ f 8 fullShare
  have h' : (bigSep Finset.univ fun i : Fin (2 ^ 8) => (A2.view.loc c.tc ↦[Finset.univ]{ShareLeaves.leaf 8 fullShare i} f) : sProp 𝕄)
      = bigSep Finset.univ fun i : Rw => (A2.view.loc c.tc ↦[Finset.univ]{ShareLeaves.leaf 8 fullShare (Equiv.ofBijective rwX rwX_bij i)} f) :=
    BI.bigSep_univ_equiv (Equiv.ofBijective rwX rwX_bij) _
  exact h.trans h'

theorem gat_start : iprop((iprop(reached ER (gatC c false) 0 ∗ reached ER (gatC c true) 0)) ∗ ((bigSep Finset.univ fun i : Rw => iprop(∃ X, (A4.view.loc c.tc ↦[(gRow (rwN c i) (rwN_le c i)).view.set]{fullShare} X)))
      ∗ (bigSep Finset.univ fun i : Rw => (A2.view.loc c.tc ↦[Finset.univ]{shE i} I.emb c)) ∗ bigSep Finset.univ fun i : Rw => dutyTok ER (gatC c (rwS i)) 0 (rwD i)))
    ⊢ (Gat I c g0 : sProp 𝕄) := by
  have e : (Gat I c g0 : sProp 𝕄) = bigSep Finset.univ fun i : Rw => rowBefore I c i := by
    unfold Gat
    rw [BI.bigSep_univ_prod, BI.bigSep_univ_prod]
    refine bigSep_congr fun b _ => ?_
    rw [BI.bigSep_univ_prod]
    rfl
  have e2 : iprop((bigSep Finset.univ fun i : Rw => iprop(∃ X, (A4.view.loc c.tc ↦[(gRow (rwN c i) (rwN_le c i)).view.set]{fullShare} X)))
      ∗ (bigSep Finset.univ fun i : Rw => (A2.view.loc c.tc ↦[Finset.univ]{shE i} I.emb c)) ∗ bigSep Finset.univ fun i : Rw => dutyTok ER (gatC c (rwS i)) 0 (rwD i))
      = (bigSep Finset.univ fun i : Rw => iprop((∃ X, (A4.view.loc c.tc ↦[(gRow (rwN c i) (rwN_le c i)).view.set]{fullShare} X))
        ∗ (A2.view.loc c.tc ↦[Finset.univ]{shE i} I.emb c) ∗ dutyTok ER (gatC c (rwS i)) 0 (rwD i)) : sProp 𝕄) := by
    rw [bigSep_sep', bigSep_sep']
  rw [e, e2]
  refine bigSep_with_persistent fun i _ => ?_
  unfold rowBefore
  iintro ⟨⟨#H0, #H1⟩, HX, HT, HD⟩
  isplitl [HX]
  · iexact HX
  isplitl [HT]
  · iexact HT
  isplitl [HD]
  · iexact HD
  cases rwS i
  · iexact H0
  · iexact H1

/-! ## The whole -/

/-- What a device owes at the kernel's start. -/
def O0 (c : Dev nD) : CellTallies nD τ sig Unit := Owe c 0 + ∑ i ∈ sgs 0, tallyAt (barC (rbn c i)) () 1

/-- A device's positions, tokens and credits at the kernel's start. -/
def Lin (c : Dev nD) : sProp 𝕄 :=
  iprop(atPos ER (barC c) 0 ∅ 0 ∗ cred (tallyAt (barC c) () 4)
    ∗ (bigSep (sgs 0) fun i => iprop(dutyTok ER (barC (rbn c i)) 0 i ∗ reached ER (barC (rbn c i)) 0))
    ∗ (bigSep Finset.univ fun k : Fin 154 => iprop(atPos ER (c.tc, osem k) 0 ∅ 0 ∗ reached ER (c.tc, osem k) 0))
    ∗ (bigSep trs fun j => cred (tallyAt (recvC c j) () N32))
    ∗ (bigSep trs fun j => iprop(dutyTok ER (sendC c j) 0 0 ∗ dutyTok ER (recvC (dstD c j) j) 0 0))
    ∗ bigSep Finset.univ fun i : Rw => dutyTok ER (gatC c (rwS i)) 0 (rwD i))

/-- What lies still throughout. -/
def Rst (c : Dev nD) (P : sProp 𝕄) : sProp 𝕄 :=
  iprop((bigSep rst fun j => atPos ER (sendC c j) 0 ∅ 0) ∗ (bigSep rst fun j => atPos ER (recvC c j) 0 ∅ 0) ∗ P)

theorem open_sems : (bigSep Finset.univ fun k : Fin 154 => iprop(atPos ER (c.tc, osem k) 0 ∅ 0 ∗ reached ER (c.tc, osem k) 0))
    ⊢ (iprop(((atPos ER (gatC c false) 0 ∅ 0 ∗ reached ER (gatC c false) 0) ∗ (atPos ER (gatC c true) 0 ∅ 0 ∗ reached ER (gatC c true) 0))
      ∗ (((bigSep trs fun j => atPos ER (sendC c j) 0 ∅ 0) ∗ (bigSep trs fun j => reached ER (sendC c j) 0)) ∗ (bigSep rst fun j => atPos ER (sendC c j) 0 ∅ 0))
      ∗ (((bigSep trs fun j => atPos ER (recvC c j) 0 ∅ 0) ∗ (bigSep trs fun j => reached ER (recvC c j) 0)) ∗ (bigSep rst fun j => atPos ER (recvC c j) 0 ∅ 0))) : sProp 𝕄) := by
  rw [sem_split (fun s => iprop(atPos ER (c.tc, s) 0 ∅ 0 ∗ reached ER (c.tc, s) 0)), bool_split, tr_split, tr_split, bigSep_sep', bigSep_sep', bigSep_sep', bigSep_sep']
  iintro ⟨⟨HG0, HG1⟩, ⟨HS, HS', -⟩, HR, HR', -⟩
  isplitl [HG0 HG1]
  · isplitl [HG0]
    · iexact HG0
    · iexact HG1
  isplitl [HS HS']
  · isplitl [HS]
    · iexact HS
    · iexact HS'
  isplitl [HR]
  · iexact HR
  · iexact HR'

theorem open_tr : iprop((bigSep trs fun j => iprop(dutyTok ER (sendC c j) 0 0 ∗ dutyTok ER (recvC (dstD c j) j) 0 0))
      ∗ (bigSep trs fun j => atPos ER (sendC c j) 0 ∅ 0) ∗ (bigSep trs fun j => reached ER (sendC c j) 0)) ⊢ (bigSep trs (trPre c) : sProp 𝕄) := by
  rw [← bigSep_sep', ← bigSep_sep']
  refine bigSep_mono fun j _ => ?_
  have h : iprop((dutyTok ER (sendC c j) 0 0 ∗ dutyTok ER (recvC (dstD c j) j) 0 0) ∗ atPos ER (sendC c j) 0 ∅ 0 ∗ reached ER (sendC c j) 0) ⊢ (trPre c j : sProp 𝕄) := by
    unfold trPre
    iintro ⟨⟨H1, H2⟩, H3, H4⟩
    isplitl [H1]
    · iexact H1
    isplitl [H2]
    · iexact H2
    isplitl [H4]
    · iexact H4
    · iexact H3
  exact h

theorem open_rx : iprop((bigSep trs fun j => cred (tallyAt (recvC c j) () N32)) ∗ (bigSep trs fun j => atPos ER (recvC c j) 0 ∅ 0)) ⊢ (bigSep trs (rxRes c 0) : sProp 𝕄) := by
  rw [← bigSep_sep']
  refine Entails.of_eq (bigSep_congr fun j _ => ?_)
  unfold rxRes
  rw [if_pos (Nat.zero_le _)]

theorem open_sig : iprop((∃ W, owes (c.tc : Thread nD τ) (O0 c) W) ∗ (bigSep (sgs 0) fun i => iprop(dutyTok ER (barC (rbn c i)) 0 i ∗ reached ER (barC (rbn c i)) 0))
      ∗ bigSep (sgs 0) fun i => barPay (rbn c i) i) ⊢ (Sig c 0 : sProp 𝕄) := by
  rw [← bigSep_sep']
  unfold Sig O0
  iintro ⟨HO, H⟩
  isplitl [HO]
  · iexact HO
  have h : ∀ i ∈ sgs 0, iprop((dutyTok ER (barC (rbn c i)) 0 i ∗ reached ER (barC (rbn c i)) 0) ∗ barPay (rbn c i) i)
      ⊢ (iprop(dutyTok ER (barC (rbn c i)) 0 i ∗ reached ER (barC (rbn c i)) 0 ∗ barPay (rbn c i) i) : sProp 𝕄) := fun i _ => Idealize.SL.BI.sep_assoc
  have hm : (bigSep (sgs 0) fun i => iprop((dutyTok ER (barC (rbn c i)) 0 i ∗ reached ER (barC (rbn c i)) 0) ∗ barPay (rbn c i) i))
      ⊢ (bigSep (sgs 0) fun i => iprop(dutyTok ER (barC (rbn c i)) 0 i ∗ reached ER (barC (rbn c i)) 0 ∗ barPay (rbn c i) i) : sProp 𝕄) := bigSep_mono h
  iapply hm
  iexact H

theorem open_pre (P : sProp 𝕄) (X : S2048x1024.Idx → Elt F .f32) :
    iprop(Ctx I K ∗ owns c.tc A0 fullShare (I.ids c) ∗ owns c.tc A1 fullShare (I.mask c) ∗ owns c.tc A3 fullShare X
      ∗ (∃ f, c.tc.loc cc0_scratch0 ↦{fullShare} f) ∗ (∃ f, c.tc.loc cc0_scratch1 ↦{fullShare} f) ∗ (∃ f, c.tc.loc cc0_scratch2 ↦{fullShare} f) ∗ (∃ f, c.tc.loc cc0_scratch3 ↦{fullShare} f)
      ∗ (A2.view.loc c.tc ↦[Finset.univ]{fullShare} I.emb c) ∗ (∃ W, owes (c.tc : Thread nD τ) (O0 c) W) ∗ Lin c ∗ P)
    ⊢ Pre I K c (Rst c P) g0 0 := by
  unfold Lin
  iintro ⟨#HC, HA0, HA1, HA3, H4, H5, H6, H7, HT, HO, ⟨HBp, HBc, HBd, Hsem, Hcr, Htok, HGd⟩, HP⟩
  ihave Hsem := (open_sems c) $$ Hsem
  icases Hsem with ⟨⟨⟨Hg0, #Hg0r⟩, Hg1, #Hg1r⟩, ⟨⟨Hs, Hsr⟩, Hs'⟩, ⟨Hr, Hrr⟩, Hr'⟩
  ihave H4 := (split4 c) $$ H4
  ihave H5 := (split5 c) $$ H5
  ihave H6 := (split6 c) $$ H6
  ihave H7 := (split7 c) $$ H7
  ihave H3 := (split3 c X) $$ HA3
  ihave HT := (Entails.of_eq (table_split c (I.emb c))) $$ HT
  ihave Hpc := (start_pieces I c) $$ [H5 H6 H7 H3]
  · isplitl [H5]
    · iexact H5
    isplitl [H6]
    · iexact H6
    isplitl [H7]
    · iexact H7
    · iexact H3
  icases Hpc with ⟨Hch, Hdst⟩
  ihave Hdst := (Entails.of_eq (bigSep_sep' trs (fun j => anyK c (dstK j)) (fun j => (reached ER (recvC c j) 0 : sProp 𝕄))).symm) $$ [Hdst Hrr]
  · isplitl [Hdst]
    · iexact Hdst
    · iexact Hrr
  ihave Hbp := (bar_pay c) $$ Hdst
  unfold Pre
  isplitr
  · iexact HC
  isplitl [HA0]
  · iexact HA0
  isplitl [H4 HT HGd]
  · iapply (gat_start I c)
    isplitr
    · isplitr
      · iexact Hg0r
      · iexact Hg1r
    isplitl [H4]
    · iexact H4
    isplitl [HT]
    · iexact HT
    · iexact HGd
  isplitl [HO HBd Hbp]
  · iapply (open_sig c)
    isplitl [HO]
    · iexact HO
    isplitl [HBd]
    · iexact HBd
    · iexact Hbp
  isplitr [Hs' Hr' HP]
  · unfold Start
    isplitl [HBp HBc]
    · isplitl [HBc]
      · iexact HBc
      · iexact HBp
    isplitl [Htok Hs Hsr]
    · iapply (open_tr c)
      isplitl [Htok]
      · iexact Htok
      isplitl [Hs]
      · iexact Hs
      · iexact Hsr
    isplitl [Hcr Hr]
    · iapply (open_rx c)
      isplitl [Hcr]
      · iexact Hcr
      · iexact Hr
    isplitl [Hch]
    · iexact Hch
    isplitl [HA1]
    · iexact HA1
    isplitl [Hg0]
    · iexact Hg0
    · iexact Hg1
  · unfold Rst
    isplitl [Hs']
    · iexact Hs'
    isplitl [Hr']
    · iexact Hr'
    · iexact HP

end Cert.Proof

end
-- ==== Proof.Close.lean ====
/-
  What a device holds after the kernel's last line, put together again: the buffers from their pieces, the table from its
  shares, and every semaphore closed with its counter at zero.
-/
module

public import proofs.«01_k».proof.Proof.Open

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (I : Inp F) (K : GSem nD τ sig → ℕ) (c : Dev nD)

/-- In the end all transfers are started and waited for and every piece is there. -/
theorem end_n : sEnd.n = 68 := by decide +kernel
theorem end_m : sEnd.m = 136 := by decide +kernel
theorem end_ch : ∀ k, sEnd.ch k = .val := by decide +kernel

theorem end_tr : bigSep trs (trRes c sEnd.n sEnd.m) = (bigSep trs fun j => atPos ER (sendC c j) 1 ∅ 0 : sProp 𝕄) := by
  refine bigSep_congr fun j hj => ?_
  have h1 := ord_lt hj; have h2 := wrd_lt hj
  unfold trRes
  rw [end_n, end_m, if_neg (by omega), if_neg (by omega)]
theorem end_rx : bigSep trs (rxRes c sEnd.m) = (bigSep trs fun j => atPos ER (recvC c j) 1 ∅ 0 : sProp 𝕄) := by
  refine bigSep_congr fun j hj => ?_
  have h2 := wrd_lt hj
  unfold rxRes
  rw [end_m, if_neg (by omega)]
theorem end_pc : (bigSep Finset.univ fun k => chRes I c k (sEnd.ch k)) = (bigSep Finset.univ fun k => owns c.tc (mem c k) fullShare (vL I c k) : sProp 𝕄) := by
  refine bigSep_congr fun k _ => ?_
  rw [end_ch]; rfl

/-- How many rounds a semaphore has gone through in the end. -/
def rndK : Kd → ℕ
  | .snd j => if j ∈ trs then 1 else 0
  | .rcv j => if j ∈ trs then 1 else 0
  | _ => 1
theorem rnd_none (g : GSem nD τ sig) : ∀ r, rndK (kindOf g.2) ≤ r → (rd I).duties g r = ∅ := by
  intro r hr
  by_cases h : 1 ≤ r
  · exact duties_later I g r h
  · refine duties_none I g ?_ r (Nat.zero_le _)
    have h0 : rndK (kindOf g.2) = 0 := by omega
    revert h0
    rcases kindOf g.2 with _ | _ | j | j | _ <;> unfold rndK dutiesOf <;> intro h0
    · exact absurd h0 Nat.one_ne_zero
    · exact absurd h0 Nat.one_ne_zero
    · by_cases hj : j ∈ trs
      · simp only [if_pos hj] at h0; exact absurd h0 (by decide)
      · exact if_neg hj
    · by_cases hj : j ∈ trs
      · simp only [if_pos hj] at h0; exact absurd h0 (by decide)
      · exact if_neg hj
    · rfl

theorem close_sems : iprop(Ctx I K ∗ (atPos ER (gatC c true) 1 ∅ 0 ∗ atPos ER (gatC c false) 1 ∅ 0)
      ∗ ((bigSep trs fun j => atPos ER (sendC c j) 1 ∅ 0) ∗ (bigSep rst fun j => atPos ER (sendC c j) 0 ∅ 0))
      ∗ ((bigSep trs fun j => atPos ER (recvC c j) 1 ∅ 0) ∗ (bigSep rst fun j => atPos ER (recvC c j) 0 ∅ 0)))
    ⊢ (iprop(|={Set.univ}=> bigSep Finset.univ fun k : Fin 154 => semVal (c.tc, osem k) 0) : sProp 𝕄) := by
  have e : iprop((atPos ER (gatC c true) 1 ∅ 0 ∗ atPos ER (gatC c false) 1 ∅ 0)
      ∗ ((bigSep trs fun j => atPos ER (sendC c j) 1 ∅ 0) ∗ (bigSep rst fun j => atPos ER (sendC c j) 0 ∅ 0))
      ∗ ((bigSep trs fun j => atPos ER (recvC c j) 1 ∅ 0) ∗ (bigSep rst fun j => atPos ER (recvC c j) 0 ∅ 0)))
      ⊢ (bigSep Finset.univ fun k : Fin 154 => atPos ER (c.tc, osem k) (rndK (kindOf (osem k))) ∅ 0 : sProp 𝕄) := by
    rw [sem_split (fun s => atPos ER (c.tc, s) (rndK (kindOf s)) ∅ 0), bool_split, tr_split, tr_split]
    have hs : (bigSep trs fun j : Tr => atPos ER (c.tc, SemLoc.dma (sendS j)) (rndK (kindOf (.dma (sendS j)))) ∅ 0 : sProp 𝕄) = bigSep trs fun j => atPos ER (sendC c j) 1 ∅ 0 :=
      bigSep_congr fun j hj => by rw [kindOf_send]; unfold rndK; simp only [if_pos hj]
    have hs' : (bigSep rst fun j : Tr => atPos ER (c.tc, SemLoc.dma (sendS j)) (rndK (kindOf (.dma (sendS j)))) ∅ 0 : sProp 𝕄) = bigSep rst fun j => atPos ER (sendC c j) 0 ∅ 0 :=
      bigSep_congr fun j hj => by rw [kindOf_send]; unfold rndK; simp only [if_neg (Finset.mem_filter.mp hj).2]
    have hr : (bigSep trs fun j : Tr => atPos ER (c.tc, SemLoc.dma (recvS j)) (rndK (kindOf (.dma (recvS j)))) ∅ 0 : sProp 𝕄) = bigSep trs fun j => atPos ER (recvC c j) 1 ∅ 0 :=
      bigSep_congr fun j hj => by rw [kindOf_recv]; unfold rndK; simp only [if_pos hj]
    have hr' : (bigSep rst fun j : Tr => atPos ER (c.tc, SemLoc.dma (recvS j)) (rndK (kindOf (.dma (recvS j)))) ∅ 0 : sProp 𝕄) = bigSep rst fun j => atPos ER (recvC c j) 0 ∅ 0 :=
      bigSep_congr fun j hj => by rw [kindOf_recv]; unfold rndK; simp only [if_neg (Finset.mem_filter.mp hj).2]
    rw [hs, hs', hr, hr', kindOf_gat, kindOf_gat]
    iintro ⟨⟨H1, H0⟩, HS, HR⟩
    isplitl [H1 H0]
    · isplitl [H0]
      · iexact H0
      · iexact H1
    isplitl [HS]
    · iexact HS
    · iexact HR
  have hi : ∀ k : Fin 154, iprop(Ctx I K ∗ atPos ER (c.tc, osem k) (rndK (kindOf (osem k))) ∅ 0)
      ⊢ (iprop(cellInv ER (rd I) (K (c.tc, osem k)) (c.tc, osem k) ∗ atPos ER (c.tc, osem k) (rndK (kindOf (osem k))) ∅ 0) : sProp 𝕄) := fun k => by
    iintro ⟨#HC, H⟩
    isplitr
    · iapply (Ctx_inv I K (dma_mem c ⟨3 + k, _⟩ (Nat.le_add_right 3 k.val)))
      iexact HC
    · iexact H
  have h2 : iprop(Ctx I K ∗ bigSep Finset.univ fun k : Fin 154 => atPos ER (c.tc, osem k) (rndK (kindOf (osem k))) ∅ 0)
      ⊢ (bigSep Finset.univ fun k : Fin 154 => iprop(cellInv ER (rd I) (K (c.tc, osem k)) (c.tc, osem k) ∗ atPos ER (c.tc, osem k) (rndK (kindOf (osem k))) ∅ 0) : sProp 𝕄) :=
    bigSep_with_persistent fun k _ => hi k
  have h3 := cells_close (Es := Set.univ) ER (rd I) (Finset.univ : Finset (Fin 154)) (fun k => ((c.tc : Thread nD τ), osem k)) (fun k => K (c.tc, osem k))
    (fun _ _ => Set.mem_univ _) (fun _ _ h => h) (fun k => rndK (kindOf (osem k))) (fun k _ => rnd_none I (c.tc, osem k))
  iintro ⟨#HC, H⟩
  ihave H := e $$ H
  ihave H := h2 $$ [H]
  · isplitr
    · iexact HC
    · iexact H
  iapply h3
  iexact H

theorem close_bar : iprop(Ctx I K ∗ atPos ER (barC c) 1 ∅ 0) ⊢ (iprop(|={Set.univ}=> semVal (barC c) 0) : sProp 𝕄) := by
  have h : iprop(cellInv ER (rd I) (K (barC c)) (barC c) ∗ atPos ER (barC c) 1 ∅ 0) ⊢ (iprop(|={Set.univ}=> semVal (barC c) 0) : sProp 𝕄) :=
    cell_close ER (rd I) (Set.mem_univ _) (fun h => h) (duties_later I (barC c))
  iintro ⟨#HC, H⟩
  iapply h
  isplitr
  · iapply (Ctx_inv I K (bar_mem c)); iexact HC
  · iexact H

/-- The table's shares once all gathers are over. -/
theorem table_join : iprop((bigSep (Finset.univ.filter fun i : Rw => rwS i = true) fun i => (A2.view.loc c.tc ↦[Finset.univ]{shE i} I.emb c))
      ∗ (bigSep (Finset.univ.filter fun i : Rw => rwS i = false) fun i => (A2.view.loc c.tc ↦[Finset.univ]{shE i} I.emb c)))
    ⊢ (A2.view.loc c.tc ↦[Finset.univ]{fullShare} I.emb c : sProp 𝕄) := by
  have hf : (Finset.univ.filter fun i : Rw => ¬rwS i = true) = Finset.univ.filter fun i : Rw => rwS i = false :=
    Finset.filter_congr fun i _ => by simp
  rw [table_split c (I.emb c), BI.bigSep_filter_split Finset.univ (fun i : Rw => rwS i = true), hf]
  exact BI.Entails.refl _

theorem close_pieces : (bigSep Finset.univ fun k => owns c.tc (mem c k) fullShare (vL I c k))
    ⊢ (iprop((∃ f, c.tc.loc cc0_scratch0 ↦{fullShare} f) ∗ (∃ f, c.tc.loc cc0_scratch1 ↦{fullShare} f) ∗ (∃ f, c.tc.loc cc0_scratch2 ↦{fullShare} f)
      ∗ (∃ f, c.tc.loc cc0_scratch3 ↦{fullShare} f) ∗ owns c.tc A3 fullShare (outV I c)) : sProp 𝕄) := by
  have ha : ∀ k, (owns c.tc (mem c k) fullShare (vL I c k) : sProp 𝕄) ⊢ anyK c k := fun k => by
    unfold anyK; iintro H; iexists _; iexact H
  have hb : ∀ b, (bigSep Finset.univ fun h : Fin 6 => owns c.tc (mem c (kC b h)) fullShare (vL I c (kC b h)) : sProp 𝕄) ⊢ bigSep Finset.univ fun h : Fin 6 => anyK c (kC b h) :=
    fun b => bigSep_mono fun h _ => ha _
  rw [ck_split]
  iintro ⟨⟨HG, HS⟩, ⟨H6, H7⟩, HO⟩
  isplitl [HG]
  · iapply (join4 c (fun p => vL I c (kG p.1 p.2))); iexact HG
  isplitl [HS]
  · iapply (join5 c (fun p => vL I c (kS p.1 p.2))); iexact HS
  isplitl [H6]
  · iapply (join6 c); iapply (hb false); iexact H6
  isplitl [H7]
  · iapply (join7 c); iapply (hb true); iexact H7
  · iapply (join3 c I); iexact HO

theorem close_at (P : sProp 𝕄) : At I K c (R9 I c (Rst c P)) sEnd
    ⊢ iprop(|={Set.univ}=> (owns c.tc A0 fullShare (I.ids c) ∗ owns c.tc A1 fullShare (I.mask c) ∗ owns c.tc A3 fullShare (outV I c)
      ∗ (∃ f, c.tc.loc cc0_scratch0 ↦{fullShare} f) ∗ (∃ f, c.tc.loc cc0_scratch1 ↦{fullShare} f) ∗ (∃ f, c.tc.loc cc0_scratch2 ↦{fullShare} f) ∗ (∃ f, c.tc.loc cc0_scratch3 ↦{fullShare} f)
      ∗ (A2.view.loc c.tc ↦[Finset.univ]{fullShare} I.emb c) ∗ (∃ W, owes (c.tc : Thread nD τ) 0 W) ∗ semVal (barC c) 0
      ∗ (bigSep Finset.univ fun k : Fin 154 => semVal (c.tc, osem k) 0) ∗ P)) := by
  unfold At
  rw [end_tr, end_rx, end_pc, end_n, Owe_end]
  unfold R9 gOut Rst
  iintro ⟨#HC, HO, Htr, Hrx, Hpc, HA1, ⟨Hg1, HT1⟩, ⟨Hg0, HT0⟩, HA0, HB, Hs', Hr', HP⟩
  ihave Hpc := (close_pieces I c) $$ Hpc
  icases Hpc with ⟨H4, H5, H6, H7, H3⟩
  ihave HT := (table_join I c) $$ [HT1 HT0]
  · isplitl [HT1]
    · iexact HT1
    · iexact HT0
  imod (close_bar I K c) $$ [HB] with HB
  · isplitr
    · iexact HC
    · iexact HB
  imod (close_sems I K c) $$ [Hg1 Hg0 Htr Hrx Hs' Hr'] with Hsem
  · isplitr
    · iexact HC
    isplitl [Hg1 Hg0]
    · isplitl [Hg1]
      · iexact Hg1
      · iexact Hg0
    isplitl [Htr Hs']
    · isplitl [Htr]
      · iexact Htr
      · iexact Hs'
    · isplitl [Hrx]
      · iexact Hrx
      · iexact Hr'
  imodintro
  isplitl [HA0]
  · iexact HA0
  isplitl [HA1]
  · iexact HA1
  isplitl [H3]
  · iexact H3
  isplitl [H4]
  · iexact H4
  isplitl [H5]
  · iexact H5
  isplitl [H6]
  · iexact H6
  isplitl [H7]
  · iexact H7
  isplitl [HT]
  · iexact HT
  isplitl [HO]
  · iexact HO
  isplitl [HB]
  · iexact HB
  isplitl [Hsem]
  · iexact Hsem
  · iexact HP

end Cert.Proof

end
-- ==== Proof.Region.lean ====
/-
  The kernel as a segment of the program: what it is given and what it leaves, and its body's obligation.
-/
module

public import proofs.«01_k».proof.Proof.Close
public import proofs.«01_k».proof.Proof.Gen.KernelIdeal.Regions

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ)

/-! ## What the kernel reads and leaves -/

/-- What the host's stretches hand the kernel. -/
def inp : Inp F where
  ids c := V5 m c main_v29
  mask c := V5 m c main_v31
  emb c := V5 m c main_arg1

/-- A device's buffers after the kernel. -/
def VE (c : Dev nD) : Valuation τ sig (Elt F) := Function.update (V5 m c) main_v32 (outV (inp m) c)

theorem VE_out (c : Dev nD) : VE m c main_v32 = outV (inp m) c := by unfold VE; exact Function.update_self ..
theorem VE_of (c : Dev nD) (r : Ref sig .tc) (h : r ≠ main_v32) : VE m c r = V5 m c r := by
  unfold VE; exact Function.update_of_ne (StableHlo.devRef_ne_of_ne h) ..

/-! ## The proof data -/

/-- The kernel's tokens, before its semaphores' counters are at hand, -/
def LinD (c : Dev nD) : sProp 𝕄 :=
  iprop(atPos ER (barC c) 0 ∅ 0 ∗ cred (tallyAt (barC c) () 4)
    ∗ (bigSep (sgs 0) fun i => iprop(dutyTok ER (barC (rbn c i)) 0 i ∗ reached ER (barC (rbn c i)) 0))
    ∗ (bigSep Finset.univ fun k : Fin 154 => openTok ER (c.tc, osem k))
    ∗ (bigSep trs fun j => cred (tallyAt (recvC c j) () N32))
    ∗ (bigSep trs fun j => iprop(dutyTok ER (sendC c j) 0 0 ∗ dutyTok ER (recvC (dstD c j) j) 0 0))
    ∗ bigSep Finset.univ fun i : Rw => dutyTok ER (gatC c (rwS i)) 0 (rwD i))
/-- with the record of the invariants; -/
def TkD (c : Dev nD) : sProp 𝕄 := iprop(∃ K : GSem nD τ sig → ℕ, (bigSep (barCells ∪ scCells) fun g => cellInv ER (rd (inp m)) (K g) g) ∗ LinD c)
/-- and after. -/
def XkD (c : Dev nD) : sProp 𝕄 := iprop(∃ K, Ctx (inp m) K ∗ Lin c)
/-- What the kernel leaves of the protocol. -/
def YkD (c : Dev nD) : sProp 𝕄 := semVal (barC c) 0

abbrev Hs : Finset (DevRef τ sig) := {Proc.devRef .tc main_arg1}

def Φ0 (c : Dev nD) : sProp 𝕄 :=
  iprop(Pipeline.scopedRest spec0 c ∗ (∃ r, prngReg c r) ∗ StableHlo.held (c.tc : Thread nD τ) Hs (V5 m c) ∗ XkD m c)
def Φ1 (c : Dev nD) : sProp 𝕄 :=
  iprop(Pipeline.scopedRest spec0 c ∗ (∃ r, prngReg c r) ∗ StableHlo.held (c.tc : Thread nD τ) Hs (VE m c) ∗ Pipeline.ownSems0 osem c ∗ YkD c)

def dat (c : Dev nD) : Dat τ (Elt F) Unit ℕ UU ℕ cfg0 c where
  A := fun | 0 => V5 m c main_v29 | 1 => V5 m c main_v31 | 2 => V5 m c main_v32 | ⟨_ + 3, h⟩ => absurd h (Nat.not_lt.2 (Nat.le_add_left _ _))
  after := fun | 0 => fun _ => (inp m).ids c | 1 => fun _ => (inp m).mask c | 2 => fun _ => outV (inp m) c | ⟨_ + 3, h⟩ => absurd h (Nat.not_lt.2 (Nat.le_add_left _ _))
  Φ t := if t.val = 0 then Φ0 m c else Φ1 m c
  q _ := fullShare
  owed t := if t.val = 0 then O0 c else 0

def pdats : (p : Fin 1) → (c : Dev nD) → Dat τ (Elt F) Unit ℕ UU ℕ (cfgs p) c := fun _ => dat m

theorem owesAt_in (c : Dev nD) (t : Fin (cfg0.N + 1)) (O : CellTallies nD τ sig Unit) (h : (dat m c).owed t = O) :
    iprop(∃ W, owes (c.tc : Thread nD τ) O W) ⊢ ((dat m c).owesAt () t : sProp 𝕄) := by
  unfold Dat.owesAt Pipeline.owesWithin Dat.bound; rw [h, show (dat m c).recorded t = Set.univ from rfl]
  iintro ⟨%W, HO⟩; iexists W; isplitr
  · ipureintro; exact fun _ _ => Or.inl trivial
  iexact HO
theorem owesAt_out (c : Dev nD) (t : Fin (cfg0.N + 1)) (O : CellTallies nD τ sig Unit) (h : (dat m c).owed t = O) :
    ((dat m c).owesAt () t : sProp 𝕄) ⊢ iprop(∃ W, owes (c.tc : Thread nD τ) O W) := by
  unfold Dat.owesAt Pipeline.owesWithin; rw [h]
  iintro ⟨%W, -, HO⟩; iexists W; iexact HO

theorem owed_first (c : Dev nD) : (dat m c).owed t0_0.castSucc = O0 c := by
  show (if (t0_0.castSucc : Fin (cfg0.N + 1)).val = 0 then O0 c else 0) = O0 c; exact if_pos rfl
theorem owed_zero (c : Dev nD) : (dat m c).owed 0 = O0 c := by
  show (if ((0 : Fin (cfg0.N + 1)).val = 0) then O0 c else 0) = O0 c; exact if_pos rfl
theorem owed_last (c : Dev nD) : (dat m c).owed (Fin.last _) = 0 := by
  show (if (Fin.last cfg0.N).val = 0 then O0 c else 0) = 0
  rw [Fin.val_last, if_neg (by rw [show cfg0.N = 1 from N_0]; decide)]

/-! ## The windows' blocks -/

theorem before0 (c : Dev nD) (d) : (dat m c).before (0 : Fin 3) t0_0 d = (inp m).ids c := by
  unfold Dat.before; rw [if_pos (fetch0_0 t0_0)]
  funext x
  show V5 m c main_v29 (((cfg0.win 0).blk t0_0).view.emb x) = V5 m c main_v29 x
  congr 1
  funext a; apply Fin.ext; fin_cases a
  show 0 + 1 * (x 0).val = (x 0).val
  omega
theorem before1 (c : Dev nD) (d) : (dat m c).before (1 : Fin 3) t0_0 d = (inp m).mask c := by
  unfold Dat.before; rw [if_pos (fetch0_1 t0_0)]
  funext x
  show V5 m c main_v31 (((cfg0.win 1).blk t0_0).view.emb x) = V5 m c main_v31 x
  congr 1
  funext a; apply Fin.ext; fin_cases a
  · show 0 + 1 * (x 0).val = (x 0).val
    omega
  · show 0 + 1 * (x 1).val = (x 1).val
    omega
theorem blk2_emb (x : S2048x1024.Idx) : ((cfg0.win 2).blk t0_0).view.emb x = x := by
  funext a; apply Fin.ext; fin_cases a
  · show 0 + 1 * (x 0).val = (x 0).val
    omega
  · show 0 + 1 * (x 1).val = (x 1).val
    omega
theorem arrAt2 (c : Dev nD) : (dat m c).arrAt (2 : Fin 3) cfg0.N = outV (inp m) c := by
  rw [show cfg0.N = 0 + 1 from N_0]
  have e : (dat m c).arrAt (2 : Fin 3) (0 + 1)
      = ((cfg0.win 2).blk t0_0).view.write (Elt F) (V5 m c main_v32) (outV (inp m) c) Finset.univ := by
    unfold Dat.arrAt
    rw [dif_pos (show 0 < cfg0.N by rw [show cfg0.N = 1 from N_0]; decide)]
    exact if_pos (flush0_2 t0_0)
  rw [e]
  funext x
  have h := View.write_emb (v := ((cfg0.win 2).blk t0_0).view) (V5 m c main_v32) (outV (inp m) c) Finset.univ x
  rw [blk2_emb, if_pos (Finset.mem_univ _)] at h
  exact h

/-! ## The body -/

theorem Φ_first (c : Dev nD) : (dat m c).Φ t0_0.castSucc = Φ0 m c := by
  show (if (t0_0.castSucc : Fin (cfg0.N + 1)).val = 0 then Φ0 m c else Φ1 m c) = Φ0 m c; exact if_pos rfl
theorem Φ_zero (c : Dev nD) : (dat m c).Φ 0 = Φ0 m c := by
  show (if ((0 : Fin (cfg0.N + 1)).val = 0) then Φ0 m c else Φ1 m c) = Φ0 m c; exact if_pos rfl
theorem Φ_last (c : Dev nD) : (dat m c).Φ (Fin.last _) = Φ1 m c := by
  show (if (Fin.last cfg0.N).val = 0 then Φ0 m c else Φ1 m c) = Φ1 m c
  rw [Fin.val_last, if_neg (by rw [show cfg0.N = 1 from N_0]; decide)]

theorem held_table (c : Dev nD) (V : Valuation τ sig (Elt F)) (f : S16384x1024.Idx → Elt F .f32) (h : V main_arg1 = f) :
    (StableHlo.held (c.tc : Thread nD τ) Hs V : sProp 𝕄) = (A2.view.loc c.tc ↦[Finset.univ]{fullShare} f) := by
  unfold StableHlo.held; rw [bigSep_singleton, h]

/-- What the body starts on and leaves, the semaphores' side of it apart. -/
def bufsAt (c : Dev nD) (X : S2048x1024.Idx → Elt F .f32) : sProp 𝕄 :=
  iprop(owns c.tc A0 fullShare ((inp m).ids c) ∗ owns c.tc A1 fullShare ((inp m).mask c) ∗ owns c.tc A3 fullShare X)

theorem body_run (hI : (inp m).Ok) (c : Dev nD) (X : S2048x1024.Idx → Elt F .f32) {Q : PUnit → sProp 𝕄}
    (hQ : iprop(Φ1 m c ∗ (∃ W, owes (c.tc : Thread nD τ) 0 W) ∗ bufsAt m c (outV (inp m) c)) ⊢ Q ⟨⟩) :
    iprop(Φ0 m c ∗ (∃ W, owes (c.tc : Thread nD τ) (O0 c) W) ∗ bufsAt m c X) ⊢ WP c (bodyAt0 (F := F) t0_0) Q := by
  have hclose (K : GSem nD τ sig → ℕ) : At (inp m) K c (R9 (inp m) c (Rst c iprop(∃ r, prngReg c r))) sEnd
      ⊢ iprop(|={Set.univ}=> Q ⟨⟩) := by
    iintro H
    imod (close_at (inp m) K c iprop(∃ r, prngReg c r)) $$ H with ⟨H0, H1, H3, H4, H5, H6, H7, HT, HO, HB, HS, HP⟩
    imodintro
    iapply hQ
    isplitr [HO H0 H1 H3]
    · unfold Φ1 YkD Pipeline.ownSems0
      rw [scopedRest0_eq, held_table c (VE m c) ((inp m).emb c) (VE_of m c main_arg1 (by decide))]
      isplitl [H4 H5 H6 H7]
      · isplitl [H4]
        · iexact H4
        isplitl [H5]
        · iexact H5
        isplitl [H6]
        · iexact H6
        · iexact H7
      isplitl [HP]
      · iexact HP
      isplitl [HT]
      · iexact HT
      isplitl [HS]
      · iexact HS
      · iexact HB
    isplitl [HO]
    · iexact HO
    unfold bufsAt
    isplitl [H0]
    · iexact H0
    isplitl [H1]
    · iexact H1
    · iexact H3
  unfold Φ0 XkD bufsAt
  rw [scopedRest0_eq, held_table c (V5 m c) ((inp m).emb c) rfl]
  iintro ⟨⟨⟨H4, H5, H6, H7⟩, HP, HT, ⟨%K, #HC, HL⟩⟩, HO, H0, H1, H3⟩
  iapply (wp_fupd _ _)
  iapply (run (Q := fun a => iprop(|={Set.univ}=> Q a)) (inp m) K c (Rst c iprop(∃ r, prngReg c r)) hI (hclose K))
  iapply (open_pre (inp m) K c iprop(∃ r, prngReg c r) X)
  isplitr
  · iexact HC
  isplitl [H0]
  · iexact H0
  isplitl [H1]
  · iexact H1
  isplitl [H3]
  · iexact H3
  isplitl [H4]
  · iexact H4
  isplitl [H5]
  · iexact H5
  isplitl [H6]
  · iexact H6
  isplitl [H7]
  · iexact H7
  isplitl [HT]
  · iexact HT
  isplitl [HO]
  · iexact HO
  isplitl [HL]
  · iexact HL
  · iexact HP

theorem body (hI : (inp m).Ok) (c : Dev nD) : Pipeline.BodyObligation (dat m c) defs₀ 𝒱₀ () Set.univ := fun t => by
  obtain rfl := fin_N0 t
  rw [bigSep_W0, bigSep_W0]
  rw [Φ_first, show (dat m c).Φ t0_0.succ = Φ1 m c from Φ_last m c]
  iintro ⟨HΦ, HO, ⟨%d0, H0⟩, ⟨%d1, H1⟩, ⟨%d2, H2⟩⟩
  rw [before0, before1]
  ihave HO := (owesAt_out m c _ (O0 c) (owed_first m c)) $$ HO
  iapply (body_run m hI c ((dat m c).before (2 : Fin 3) t0_0 d2) (by
    unfold bufsAt
    iintro ⟨HΦ, HO, H0, H1, H2⟩
    isplitl [HΦ]
    · iexact HΦ
    isplitl [HO]
    · iapply (owesAt_in m c t0_0.succ 0 (owed_last m c)); iexact HO
    isplitl [H0]
    · iexact H0
    isplitl [H1]
    · iexact H1
    · iexact H2))
  isplitl [HΦ]
  · iexact HΦ
  isplitl [HO]
  · iexact HO
  unfold bufsAt
  isplitl [H0]
  · iexact H0
  isplitl [H1]
  · iexact H1
  · iexact H2

/-! ## The segment -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_sems : Pipeline.OwnSemFacts spec0 osem := by decide +kernel

theorem O0_pos {c : Dev nD} {g : GSem nD τ sig} {u : Unit} (h : 0 < O0 c g u) : u ∈ L g ∧ 0 < lv g u := by
  unfold O0 at h
  rw [Pi.add_apply, Finsupp.add_apply] at h
  rcases Nat.add_pos_iff_pos_or_pos.mp h with h | h
  · obtain ⟨j, -, -, rfl⟩ := Owe_pos h
    exact ⟨by rw [L_tc]; exact Finset.mem_singleton_self _, by rw [lv_recv]; omega⟩
  · rw [Finset.sum_apply, Finsupp.finset_sum_apply] at h
    obtain ⟨i, -, hp⟩ := Finset.exists_ne_zero_of_sum_ne_zero h.ne'
    rw [tallyAt_apply] at hp
    split at hp
    · next hg => rw [hg.1]; exact ⟨by rw [L_tc]; exact Finset.mem_singleton_self _, Nat.one_pos⟩
    · exact absurd rfl hp

theorem cutD (c : Dev nD) (t : Fin (cfg0.N + 1)) (g : GSem nD τ sig) (u : Unit) (h : 0 < (dat m c).owed t g u) :
    u ∈ L g ∧ 0 < lv g u := by
  have e : (dat m c).owed t = if t.val = 0 then O0 c else 0 := rfl
  rw [e] at h
  split at h
  · exact O0_pos h
  · exact absurd h (Nat.lt_irrefl 0)

theorem dormant (c : Dev nD) (K : GSem nD τ sig → ℕ) :
    iprop((bigSep (barCells ∪ scCells) fun g => cellInv ER (rd (inp m)) (K g) g) ∗ bigSep Finset.univ fun k : Fin 154 => openTok ER (c.tc, osem k))
      ⊢ (bigSep Finset.univ fun k : Fin 154 => iprop(cellInv ER (rd (inp m)) (K (c.tc, osem k)) (c.tc, osem k) ∗ openTok ER (c.tc, osem k)) : sProp 𝕄) := by
  refine bigSep_with_persistent fun k _ => ?_
  have hc : (bigSep (barCells ∪ scCells) fun g => (cellInv ER (rd (inp m)) (K g) g : sProp 𝕄)) ⊢ cellInv ER (rd (inp m)) (K (c.tc, osem k)) (c.tc, osem k) :=
    bigSep_elim (dma_mem c ⟨3 + k, _⟩ (Nat.le_add_right 3 k.val))
  iintro ⟨#HC, H⟩
  isplitr
  · iapply hc; iexact HC
  · iexact H

theorem hopen (c : Dev nD) : iprop(TkD m c ∗ Pipeline.ownSems0 osem c ∗ levAts L lv) ⊢ (|={Set.univ}=> XkD m c : sProp 𝕄) := by
  unfold TkD XkD LinD Pipeline.ownSems0
  iintro ⟨⟨%K, #HI, HB, HBc, HBd, Hop, Hcr, Htk, HG⟩, HS, #HL⟩
  imod (cells_open (Es := Set.univ) ER (rd (inp m)) (Finset.univ : Finset (Fin 154)) (fun k => ((c.tc : Thread nD τ), osem k)) (fun k => K (c.tc, osem k))
    (fun _ _ => Set.mem_univ _)) $$ [Hop HS] with HS
  · isplitl [Hop]
    · iapply (dormant m c K)
      isplitr
      · iexact HI
      · iexact Hop
    · iexact HS
  imodintro
  iexists K
  isplitr
  · unfold Ctx
    isplitr
    · iexact HI
    · iexact HL
  unfold Lin
  isplitl [HB]
  · iexact HB
  isplitl [HBc]
  · iexact HBc
  isplitl [HBd]
  · iexact HBd
  isplitl [HS]
  · iexact HS
  isplitl [Hcr]
  · iexact Hcr
  isplitl [Htk]
  · iexact Htk
  · iexact HG

/-- What the kernel neither is given through a window nor reads. -/
abbrev Sr : Finset (DevRef τ sig) := Pipeline.ucRefs τ sig \ Pipeline.arrRefs (τ := τ) spec0

theorem Hs_sub : Hs ⊆ Sr := by decide +kernel

theorem VE_rest (c : Dev nD) : ∀ b ∈ Sr \ Hs, VE m c b = V5 m c b := fun b hb => by
  unfold VE
  refine Function.update_of_ne ?_ _ _
  rintro rfl
  exact absurd hb (by decide +kernel)

set_option backward.isDefEq.respectTransparency.types false in
/-- The kernel's segment. -/
def reg (hI : (inp m).Ok) : RegionSeg (pcfgs (F := F)) adm (pdats m) () defs₀ 𝒱₀ L lv 0 :=
  RegionSeg.ofTalk (pcfgs (F := F)) adm (pdats m) () defs₀ 𝒱₀ L lv 0 osem own_sems Hs Sr Hs_sub kit rfl
    (fun c => (body m hI c).loose) (fun _ => 0) O0 (fun c => (owed_zero m c).trans (zero_add _).symm) (owed_last m) (fun _ => rfl)
    (fun c w => by
      fin_cases w <;> rfl)
    (V5 m) (VE m) (VE_rest m) (TkD m) YkD (XkD m) YkD (hopen m)
    (fun c => Entails.of_eq (Φ_zero m c).symm) (fun c => Entails.of_eq (Φ_last m c))
    (fun c => by iintro H; imodintro; iexact H)
    (fun _ => 0)
    ⟨fun c w s => by rw [L_tc]; exact Finset.mem_singleton_self _,
      fun c w s => Nat.le_of_eq (by fin_cases w <;> fin_cases s <;> rfl),
      fun c t g i h => cutD m c t g i h⟩
    (fun _ => iprop(emp))
    (fun c w => by fin_cases w <;> rfl)
    (fun c w => by
      fin_cases w
      · exact (Dat.arrAt_in (dat m c) (0 : Fin 3) rfl _).trans (VE_of m c main_v29 (by decide)).symm
      · exact (Dat.arrAt_in (dat m c) (1 : Fin 3) rfl _).trans (VE_of m c main_v31 (by decide)).symm
      · exact (arrAt2 m c).trans (VE_out m c).symm)

end Cert.Proof

end
-- ==== Proof.Deal.lean ====
/-
  The tokens and the credits of the launch, dealt to the devices: each duty's token to the device that pays it, each
  wait's credit to the device that waits.
-/
module

public import proofs.«01_k».proof.Proof.Open

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Tokens -/

/-- The duties of a device's cells. -/
abbrev Tok : Type := Fin 4 ⊕ (Tr ⊕ (Tr ⊕ Rw))
def tokOf (d : Dev nD) : Tok → GSem nD τ sig × ℕ × ℕ
  | .inl i => (barC d, 0, i.val)
  | .inr (.inl j) => (sendC d j, 0, 0)
  | .inr (.inr (.inl j)) => (recvC d j, 0, 0)
  | .inr (.inr (.inr i)) => (gatC d (rwS i), 0, rwD i)
/-- What tells a token from the others. -/
def tokK : Tok → Kd × ℕ
  | .inl i => (.bar, i.val)
  | .inr (.inl j) => (.snd j, 0)
  | .inr (.inr (.inl j)) => (.rcv j, 0)
  | .inr (.inr (.inr i)) => (.gat (rwS i), rwD i)
theorem tok_kind (d : Dev nD) (x : Tok) : (kindOf (tokOf d x).1.2, (tokOf d x).2.2) = tokK x := by
  rcases x with i | j | j | i
  · rfl
  · exact Prod.ext (kindOf_send j) rfl
  · exact Prod.ext (kindOf_recv j) rfl
  · exact Prod.ext (kindOf_gat (rwS i)) rfl
theorem tok_dev (d : Dev nD) (x : Tok) : (tokOf d x).1.1.1 = d := by
  rcases x with i | j | j | i <;> rfl
theorem tokK_inj : Function.Injective tokK := by
  intro x y h
  rcases x with i | j | j | i <;> rcases y with i' | j' | j' | i' <;>
    simp only [tokK, Prod.mk.injEq, Kd.gat.injEq, Kd.snd.injEq, Kd.rcv.injEq, reduceCtorEq, false_and, and_true, true_and] at h
  · rw [Fin.ext h]
  · rw [h]
  · rw [h]
  · rw [← rwOf_rw i, ← rwOf_rw i', h.1, h.2]
def tokEmb : Dev nD × Tok ↪ GSem nD τ sig × ℕ × ℕ :=
  ⟨fun p => tokOf p.1 p.2, fun p q h => by
    have hd : p.1 = q.1 := by
      have := congrArg (fun t : GSem nD τ sig × ℕ × ℕ => t.1.1.1) h
      simpa only [tok_dev] using this
    refine Prod.ext hd (tokK_inj ?_)
    rw [← tok_kind p.1 p.2, ← tok_kind q.1 q.2, show tokOf p.1 p.2 = tokOf q.1 q.2 from h]⟩
def toks : Finset (GSem nD τ sig × ℕ × ℕ) := Finset.univ.map tokEmb

/-- The four units of the barrier by number. -/
theorem four (Φ : ℕ → sProp 𝕄) : (bigSep Finset.univ fun i : Fin 4 => Φ i.val) = bigSep (sgs 0) Φ := by
  have e : sgs 0 = Finset.univ.map (Fin.valEmbedding : Fin 4 ↪ ℕ) := by decide
  rw [e, BI.bigSep_map]; rfl

def barEq (i : Fin 4) : Dev nD ≃ Dev nD := ⟨fun c => rbn c i.val, fun c => nbr c i.val, fun c => nbr_rbn c i.val i.isLt, fun c => rbn_nbr c i.val i.isLt⟩
def trEq (j : Tr) : Dev nD ≃ Dev nD := ⟨fun c => dstD c j, fun c => srcD c j, fun c => src_dst c j, fun c => dst_src c j⟩

theorem around {α : Type} [Fintype α] (e : α → Dev nD ≃ Dev nD) (Φ : Dev nD → α → sProp 𝕄) :
    (bigSep Finset.univ fun d => bigSep Finset.univ fun i => Φ d i) = bigSep Finset.univ fun c => bigSep Finset.univ fun i => Φ (e i c) i := by
  rw [BI.bigSep_univ_comm, BI.bigSep_univ_comm (fun c i => Φ (e i c) i)]
  exact bigSep_congr fun i _ => BI.bigSep_univ_equiv (e i) fun d => Φ d i

/-- The tokens of the duties a device pays. -/
def own (c : Dev nD) : sProp 𝕄 :=
  iprop((bigSep (sgs 0) fun i => dutyTok ER (barC (rbn c i)) 0 i)
    ∗ (bigSep trs fun j => iprop(dutyTok ER (sendC c j) 0 0 ∗ dutyTok ER (recvC (dstD c j) j) 0 0))
    ∗ bigSep Finset.univ fun i : Rw => dutyTok ER (gatC c (rwS i)) 0 (rwD i))

theorem toks_eq : bigSep toks (fun x => (dutyTok ER x.1 x.2.1 x.2.2 : sProp 𝕄))
    = iprop((bigSep Finset.univ fun c : Dev nD => bigSep (sgs 0) fun i => dutyTok ER (barC (rbn c i)) 0 i)
      ∗ (bigSep Finset.univ fun c : Dev nD => bigSep Finset.univ fun j : Tr => dutyTok ER (sendC c j) 0 0)
      ∗ (bigSep Finset.univ fun c : Dev nD => bigSep Finset.univ fun j : Tr => dutyTok ER (recvC (dstD c j) j) 0 0)
      ∗ bigSep Finset.univ fun c : Dev nD => bigSep Finset.univ fun i : Rw => dutyTok ER (gatC c (rwS i)) 0 (rwD i)) := by
  unfold toks
  rw [BI.bigSep_map, BI.bigSep_univ_prod]
  have h (d : Dev nD) : (bigSep Finset.univ fun x : Tok => (dutyTok ER (tokEmb (d, x)).1 (tokEmb (d, x)).2.1 (tokEmb (d, x)).2.2 : sProp 𝕄))
      = iprop((bigSep Finset.univ fun i : Fin 4 => dutyTok ER (barC d) 0 i.val) ∗ (bigSep Finset.univ fun j : Tr => dutyTok ER (sendC d j) 0 0)
        ∗ (bigSep Finset.univ fun j : Tr => dutyTok ER (recvC d j) 0 0) ∗ bigSep Finset.univ fun i : Rw => dutyTok ER (gatC d (rwS i)) 0 (rwD i)) := by
    rw [BI.bigSep_univ_sum, BI.bigSep_univ_sum (α := Tr) (β := Tr ⊕ Rw), BI.bigSep_univ_sum (α := Tr) (β := Rw)]; rfl
  rw [bigSep_congr fun d _ => h d, bigSep_sep', bigSep_sep', bigSep_sep',
    around barEq (fun d i => (dutyTok ER (barC d) 0 i.val : sProp 𝕄)), around trEq (fun d j => (dutyTok ER (recvC d j) 0 0 : sProp 𝕄)),
    ← bigSep_congr (s := (Finset.univ : Finset (Dev nD))) fun c _ => four (fun i => (dutyTok ER (barC (rbn c i)) 0 i : sProp 𝕄))]
  rfl

theorem own_deal : bigSep toks (fun x => (dutyTok ER x.1 x.2.1 x.2.2 : sProp 𝕄)) ⊢ bigSep Finset.univ (own (F := F)) := by
  have hs (c : Dev nD) : (bigSep Finset.univ fun j : Tr => (dutyTok ER (sendC c j) 0 0 : sProp 𝕄)) ⊢ bigSep trs fun j => dutyTok ER (sendC c j) 0 0 :=
    bigSep_subset (Finset.subset_univ _)
  have hr (c : Dev nD) : (bigSep Finset.univ fun j : Tr => (dutyTok ER (recvC (dstD c j) j) 0 0 : sProp 𝕄)) ⊢ bigSep trs fun j => dutyTok ER (recvC (dstD c j) j) 0 0 :=
    bigSep_subset (Finset.subset_univ _)
  have hS : (bigSep Finset.univ fun c : Dev nD => bigSep Finset.univ fun j : Tr => (dutyTok ER (sendC c j) 0 0 : sProp 𝕄))
      ⊢ bigSep Finset.univ fun c : Dev nD => bigSep trs fun j => dutyTok ER (sendC c j) 0 0 := bigSep_mono fun c _ => hs c
  have hR : (bigSep Finset.univ fun c : Dev nD => bigSep Finset.univ fun j : Tr => (dutyTok ER (recvC (dstD c j) j) 0 0 : sProp 𝕄))
      ⊢ bigSep Finset.univ fun c : Dev nD => bigSep trs fun j => dutyTok ER (recvC (dstD c j) j) 0 0 := bigSep_mono fun c _ => hr c
  have he : bigSep Finset.univ (own (F := F))
      = iprop((bigSep Finset.univ fun c : Dev nD => bigSep (sgs 0) fun i => dutyTok ER (barC (rbn c i)) 0 i)
        ∗ ((bigSep Finset.univ fun c : Dev nD => bigSep trs fun j => dutyTok ER (sendC c j) 0 0)
          ∗ (bigSep Finset.univ fun c : Dev nD => bigSep trs fun j => dutyTok ER (recvC (dstD c j) j) 0 0))
        ∗ bigSep Finset.univ fun c : Dev nD => bigSep Finset.univ fun i : Rw => dutyTok ER (gatC c (rwS i)) 0 (rwD i)) := by
    rw [← bigSep_sep', ← bigSep_sep', ← bigSep_sep']
    refine bigSep_congr fun c _ => ?_
    unfold own; rw [bigSep_sep']
  iintro H
  ihave H := (Entails.of_eq (toks_eq (F := F))) $$ H
  icases H with ⟨HB, HS, HR, HG⟩
  iapply (Entails.of_eq he.symm)
  isplitl [HB]
  · iexact HB
  isplitl [HS HR]
  · isplitl [HS]
    · iapply hS; iexact HS
    · iapply hR; iexact HR
  · iexact HG

/-! ## Credits -/

theorem owed_bar (d c : Dev nD) : O0 d (barC c) () = ∑ i ∈ Finset.range 4, if rbn d i = c then 1 else 0 := by
  unfold O0
  rw [Pi.add_apply, Finsupp.add_apply]
  have h0 : Owe d 0 (barC c) () = 0 := by
    by_contra h
    obtain ⟨j, -, -, hg⟩ := Owe_pos (Nat.pos_of_ne_zero h)
    have := congrArg (fun g : GSem nD τ sig => kindOf g.2) hg
    rw [kindOf_recv] at this
    exact Kd.noConfusion this
  rw [h0, Nat.zero_add, Finset.sum_apply, Finsupp.finset_sum_apply, show sgs 0 = Finset.range 4 from by decide]
  refine Finset.sum_congr rfl fun i _ => ?_
  rw [tallyAt_apply]
  by_cases h : rbn d i = c
  · rw [if_pos h, if_pos ⟨by rw [h], rfl⟩]
  · rw [if_neg h, if_neg fun hg => h (congrArg (fun g : GSem nD τ sig => g.1.1) hg.1).symm]

theorem owed_recv (d c : Dev nD) {j : Tr} (hj : j ∈ trs) : O0 d (recvC c j) () = if d = srcD c j then N32 else 0 := by
  unfold O0
  rw [Pi.add_apply, Finsupp.add_apply]
  have h0 : (∑ i ∈ sgs 0, tallyAt (barC (rbn d i)) () 1 : CellTallies nD τ sig Unit) (recvC c j) () = 0 := by
    rw [Finset.sum_apply, Finsupp.finset_sum_apply]
    refine Finset.sum_eq_zero fun i _ => ?_
    rw [tallyAt_apply, if_neg fun hg => ?_]
    have := congrArg (fun g : GSem nD τ sig => kindOf g.2) hg.1
    rw [kindOf_recv] at this
    exact Kd.noConfusion this
  rw [h0, Nat.add_zero]
  unfold Owe
  rw [Finset.sum_apply, Finsupp.finset_sum_apply, Finset.sum_eq_single j]
  · rw [tallyAt_apply]
    by_cases h : d = srcD c j
    · rw [if_pos h, if_pos ⟨by rw [h, dst_src], rfl⟩]
    · rw [if_neg h, if_neg fun hg => h ?_]
      have : c = dstD d j := congrArg (fun g : GSem nD τ sig => g.1.1) hg.1
      rw [this, src_dst]
  · intro j' _ hne
    rw [tallyAt_apply, if_neg fun hg => hne ?_]
    have := congrArg (fun g : GSem nD τ sig => kindOf g.2) hg.1
    rw [kindOf_recv, kindOf_recv] at this
    exact (Kd.rcv.inj this).symm
  · intro h; exact absurd (Finset.mem_filter.mpr ⟨hj, Nat.zero_le _⟩) h

theorem four_units : ∀ c : Dev nD, (∑ d : Dev nD, ∑ i ∈ Finset.range 4, if rbn d i = c then 1 else 0) = 4 := by decide +kernel

theorem launch_bar (c : Dev nD) :
    tallyOn (barC c) (launchCredit (Pipeline.owing O0) 0 (barC c)) = (tallyAt (barC c) () 4 : CellTallies nD τ sig Unit) := by
  unfold tallyAt; refine congrArg _ (Finsupp.ext fun u => ?_); cases u
  rw [Pipeline.launchCredit_owing, Finsupp.single_eq_same, Finset.sum_congr rfl fun d _ => owed_bar d c, four_units]
theorem launch_recv (c : Dev nD) {j : Tr} (hj : j ∈ trs) :
    tallyOn (recvC c j) (launchCredit (Pipeline.owing O0) 0 (recvC c j)) = (tallyAt (recvC c j) () N32 : CellTallies nD τ sig Unit) := by
  unfold tallyAt; refine congrArg _ (Finsupp.ext fun u => ?_); cases u
  rw [Pipeline.launchCredit_owing, Finsupp.single_eq_same, Finset.sum_congr rfl fun d _ => owed_recv d c hj,
    Finset.sum_ite_eq' Finset.univ (srcD c j) fun _ => N32, if_pos (Finset.mem_univ _)]

theorem recv_sm_inj : Set.InjOn (fun j : Tr => (SemLoc.dma (recvS j) : SemLoc sig)) trs := fun j _ j' _ h => by
  have := congrArg kindOf h
  dsimp only at this
  rw [kindOf_recv, kindOf_recv] at this
  exact Kd.rcv.inj this

theorem creds (c : Dev nD) : (Pipeline.launchCred O0 c : sProp 𝕄)
    ⊢ iprop(cred (tallyAt (barC c) () 4) ∗ bigSep trs fun j => cred (tallyAt (recvC c j) () N32)) := by
  have e : (bigSep trs fun j => cred (tallyAt (recvC c j) () N32) : sProp 𝕄)
      = bigSep (trs.image fun j : Tr => (SemLoc.dma (recvS j) : SemLoc sig)) fun sm => cred (tallyOn ((c.tc : Thread nD τ), sm) (launchCredit (Pipeline.owing O0) 0 ((c.tc : Thread nD τ), sm))) := by
    rw [BI.bigSep_image_of_injOn recv_sm_inj]
    exact bigSep_congr fun j hj => by rw [← launch_recv c hj]
  have hsub : (trs.image fun j : Tr => (SemLoc.dma (recvS j) : SemLoc sig)) ⊆ Finset.univ.erase (SemLoc.reg barrier0) := fun s hs => by
    obtain ⟨j, -, rfl⟩ := Finset.mem_image.mp hs
    exact Finset.mem_erase.mpr ⟨(fun h => by cases h), Finset.mem_univ _⟩
  unfold Pipeline.launchCred
  rw [bigSep_univ_at _ (SemLoc.reg barrier0), launch_bar, e]
  exact sep_mono_right (bigSep_subset hsub)

end Cert.Proof

end
-- ==== Proof.Launch.lean ====
/-
  The launch: every cell's invariant made and everything dealt to the devices, and the run of the whole program.
-/
module

public import proofs.«01_k».proof.Proof.Region
public import proofs.«01_k».proof.Proof.Deal

@[expose] public section

noncomputable section

namespace Cert.Proof

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ) (ρ : Dev nD → PrngReg)

theorem cells_disj : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  have : osem ck.2 = .reg barrier0 := congrArg Prod.snd h
  cases this

theorem unpair {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)
theorem pair {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm

/-- The launch element: the pipeline library's at the staging cells, the kernel's own at the others. -/
def u₀ : UU := (initOf (Pipeline.cells (Pipeline.pin (pcfgs (F := F)) adm) cellOf_inj) (Pipeline.launchToks (Pipeline.pin (pcfgs (F := F)) adm) cellOf_inj), launchOf barCells scCells toks)

/-- A resource of the launch as one device's. -/
def atDev (c₀ : Dev nD) (X : sProp 𝕄) (c : Dev nD) : sProp 𝕄 := if c = c₀ then X else iprop(emp)
theorem bigSep_atDev (c₀ : Dev nD) (X : sProp 𝕄) : bigSep Finset.univ (atDev c₀ X) = X := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact BI.equiv_iff.mp sep_emp
def G : Dev nD → sProp 𝕄 := atDev 0 (BI.own (ER (launchOf barCells scCells toks)))

/-- What every device may consult from the launch on. -/
def records (κ : GSem nD τ sig → ℕ) : sProp 𝕄 :=
  iprop((bigSep (barCells ∪ scCells) fun g => cellInv ER (rd (inp m)) (κ g) g) ∗ bigSep barCells fun g => reached ER g 0)
instance records_persistent (κ : GSem nD τ sig → ℕ) : BI.Persistent (records m κ) := by unfold records; infer_instance

/-- What rides beside the buffers up to the kernel. -/
def R (c : Dev nD) : sProp 𝕄 := iprop(TkD m c ∗ (∃ W, owes (c.tc : Thread nD τ) (O0 c) W) ∗ ∃ r, prngReg c r)
def E (_ : Fin 2) (c : Dev nD) : sProp 𝕄 := R m c

/-- A device's part of the launch: positions, rights to open, tokens; -/
def lin (c : Dev nD) : sProp 𝕄 :=
  iprop(atPos ER (barC c) 0 ∅ 0 ∗ (bigSep Finset.univ fun k : Fin 154 => openTok ER (c.tc, osem k)) ∗ own c)
/-- and the rest. -/
def bundle (c : Dev nD) : sProp 𝕄 :=
  iprop(StableHlo.held (c : Thread nD τ) (Pipeline.ucRefs τ sig) (V0 m c) ∗ (cred (tallyAt (barC c) () 4) ∗ bigSep trs fun j => cred (tallyAt (recvC c j) () N32))
    ∗ owes (c : Thread nD τ) (O0 c) ∅ ∗ ∃ r, prngReg c r)

theorem reached_at (c : Dev nD) : (bigSep barCells fun g => (reached ER g 0 : sProp 𝕄)) ⊢ reached ER (barC c) 0 :=
  bigSep_elim (Finset.mem_map_of_mem barEmb (Finset.mem_univ c))

theorem T0_intro (κ : GSem nD τ sig → ℕ) (c : Dev nD) : iprop(records m κ ∗ (lin c ∗ bundle m c))
    ⊢ iprop(StableHlo.held (c : Thread nD τ) (Pipeline.ucRefs τ sig) (V0 m c) ∗ R m c) := by
  have hb : iprop((bigSep barCells fun g => (reached ER g 0 : sProp 𝕄)) ∗ bigSep (sgs 0) fun i => dutyTok ER (barC (rbn c i)) 0 i)
      ⊢ bigSep (sgs 0) fun i => iprop(dutyTok ER (barC (rbn c i)) 0 i ∗ reached ER (barC (rbn c i)) 0) := by
    refine bigSep_with_persistent fun i _ => ?_
    iintro ⟨#HR, H⟩
    isplitl [H]
    · iexact H
    · iapply (reached_at (rbn c i)); iexact HR
  unfold records lin own bundle R TkD LinD
  iintro ⟨⟨#HI, #HR⟩, ⟨HB, Hop, Hbt, Htk, HG⟩, Hh, ⟨HcB, HcR⟩, HO, HP⟩
  isplitl [Hh]
  · iexact Hh
  isplitr [HO HP]
  · iexists κ
    isplitr
    · iexact HI
    isplitl [HB]
    · iexact HB
    isplitl [HcB]
    · iexact HcB
    isplitl [Hbt]
    · iapply hb
      isplitr
      · iexact HR
      · iexact Hbt
    isplitl [Hop]
    · iexact Hop
    isplitl [HcR]
    · iexact HcR
    isplitl [Htk]
    · iexact Htk
    · iexact HG
  isplitl [HO]
  · iexists ∅; iexact HO
  · iexact HP

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barrier0} from by decide +kernel, BI.bigSep_singleton]

theorem init :
    iprop((bigSep Finset.univ fun c : Dev nD => iprop(unscopedBufs c (fun b => m ((c : Thread nD τ).loc b)) ∗ unscopedSems0 c
          ∗ owes (c : Thread nD τ) (O0 c) ∅ ∗ Pipeline.launchCred O0 c ∗ prngReg c (ρ c) ∗ G c)) ∗ levAts L lv)
      ⊢ (|={Set.univ}=> bigSep Finset.univ fun c : Dev nD => iprop(StableHlo.held (c : Thread nD τ) (Pipeline.ucRefs τ sig) (V0 m c) ∗ R m c) : sProp 𝕄) := by
  have hcore (c : Dev nD) : iprop(unscopedBufs c (fun b => m ((c : Thread nD τ).loc b)) ∗ unscopedSems0 c
        ∗ owes (c : Thread nD τ) (O0 c) ∅ ∗ Pipeline.launchCred O0 c ∗ prngReg c (ρ c) ∗ G c)
      ⊢ (iprop(bundle m c ∗ (semVal (barC c) 0 ∗ G c)) : sProp 𝕄) := by
    rw [unscopedSems0_eq]
    unfold bundle
    rw [← Pipeline.unscopedBufs_held (Ix := Unit) (Name := ℕ) (U := UU) (Lvl := ℕ) c (V0 m c)]
    iintro ⟨Hh, Hus, HO, Hcr, Hp, HG⟩
    ihave Hc := (creds (F := F) c) $$ Hcr
    isplitl [Hh Hc HO Hp]
    · isplitl [Hh]
      · iexact Hh
      isplitl [Hc]
      · iexact Hc
      isplitl [HO]
      · iexact HO
      iexists (ρ c); iexact Hp
    isplitl [Hus]
    · iexact Hus
    · iexact HG
  have hv : bigSep Finset.univ (fun c : Dev nD => (semVal (barC c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (BI.bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Fin 154 => openTok ER (c.tc, osem k)) :=
    Entails.of_eq (by rw [BI.bigSep_map, BI.bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O0 c) ∅ ∗ Pipeline.launchCred O0 c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells scCells toks)) from
    Entails.of_eq (bigSep_atDev (F := F) 0 (BI.own (ER (launchOf barCells scCells toks))))) $$ HG
  imod (Rounds.fund_launch ER (rd (inp m)) cells_disj (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(lin c ∗ bundle m c)) fun c _ => T0_intro m κ c)
  isplitr
  · unfold records
    isplitr
    · iexact Hinv
    iexact Hr
  iapply pair
  isplitr [HB]
  · unfold lin
    iapply pair; isplitl [Hat]
    · iapply hat $$ Hat
    iapply pair; isplitl [Hopen]
    · iapply hop $$ Hopen
    iapply (own_deal (F := F)) $$ Htok
  · iexact HB

/-! ## The run -/

theorem held_ends (c : Dev nD) (V : Valuation τ sig (Elt F)) : (StableHlo.held (c.tc : Thread nD τ) (Pipeline.ucRefs τ sig) V : sProp 𝕄)
    = iprop(StableHlo.held (c.tc : Thread nD τ) (Pipeline.arrRefs (τ := τ) spec0) V ∗ StableHlo.held (c.tc : Thread nD τ) Sr V) :=
  StableHlo.held_sub_split (c.tc : Thread nD τ) (Pipeline.arrRefs_sub_ucRefs spec0 (by decide +kernel)) V

theorem reg_pre (hI : (inp m).Ok) (c : Dev nD) : iprop(StableHlo.held (c : Thread nD τ) (Pipeline.ucRefs τ sig) (V5 m c) ∗ R m c) ⊢ (reg m hI).pre c := by
  show _ ⊢ iprop(StableHlo.held (c.tc : Thread nD τ) (Pipeline.arrRefs (τ := τ) spec0) (V5 m c) ∗ (∃ r, prngReg c r)
    ∗ (StableHlo.held (c.tc : Thread nD τ) Sr (V5 m c) ∗ emp) ∗ TkD m c ∗ ∃ Wd, owes (c : Thread nD τ) (0 + O0 c) Wd)
  rw [zero_add, held_ends]
  unfold R
  iintro ⟨⟨Ha, Hr⟩, HT, HO, HP⟩
  isplitl [Ha]
  · iexact Ha
  isplitl [HP]
  · iexact HP
  isplitl [Hr]
  · isplitl [Hr]
    · iexact Hr
    iempintro
  isplitl [HT]
  · iexact HT
  iexact HO

theorem reg_post (hI : (inp m).Ok) (c : Dev nD) : (reg m hI).post c
    ⊢ iprop((StableHlo.held (c : Thread nD τ) (Pipeline.ucRefs τ sig) (VE m c) ∗ semVal (barC c) 0) ∗ ∃ W, owes (c : Thread nD τ) (0 : CellTallies nD τ sig Unit) W) := by
  show iprop(StableHlo.held (c.tc : Thread nD τ) (Pipeline.arrRefs (τ := τ) spec0) (VE m c) ∗ (∃ r, prngReg c r)
    ∗ (StableHlo.held (c.tc : Thread nD τ) Sr (VE m c) ∗ emp) ∗ YkD c ∗ ∃ Wd, owes (c : Thread nD τ) (0 : CellTallies nD τ sig Unit) Wd) ⊢ _
  rw [held_ends]
  unfold YkD
  iintro ⟨Ha, -, ⟨Hr, -⟩, Hb, HO⟩
  isplitr [HO]
  · isplitl [Ha Hr]
    · isplitl [Ha]
      · iexact Ha
      · iexact Hr
    · iexact Hb
  iexact HO

theorem unscoped_eq : ∀ sm : SemLoc sig, sm.isScoped .tc = false → sm = .reg barrier0 := by decide +kernel

theorem VE_arg0 (c : Dev nD) : VE m c main_arg0 = m ((c.tc : Thread nD τ).loc main_arg0) :=
  (VE_of m c main_arg0 (by decide)).trans <| (V5_of m c main_arg0 (by decide)).trans <| (V4_of m c main_arg0 (by decide)).trans <|
    (V3_of m c main_arg0 (by decide)).trans <| (V2_of m c main_arg0 (by decide)).trans <| (V1_of m c main_arg0 (by decide)).trans rfl
theorem VE_arg1 (c : Dev nD) : VE m c main_arg1 = m ((c.tc : Thread nD τ).loc main_arg1) :=
  (VE_of m c main_arg1 (by decide)).trans <| (V5_of m c main_arg1 (by decide)).trans <| (V4_of m c main_arg1 (by decide)).trans <|
    (V3_of m c main_arg1 (by decide)).trans <| (V2_of m c main_arg1 (by decide)).trans <| (V1_of m c main_arg1 (by decide)).trans rfl

theorem uc_mem (r : Ref sig .tc) (h : ¬ (Proc.devRef (τ := τ) .tc r).isScoped) : Proc.devRef .tc r ∈ Pipeline.ucRefs τ sig :=
  Finset.mem_filter.mpr ⟨StableHlo.devRef_mem_tcRefs r, h⟩

set_option backward.isDefEq.respectTransparency.types false in
/-- Every fair run of the program ends, with the arguments as they were, the result the kernel's last values, and every
    counter at 0. -/
theorem run_main (hI : (inp m).Ok) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v32) = outV (inp m) c) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg m hI))
    (fun c Q => by
      rewrite [main_chain c, Seg.run_eq_chain,
        show (segs m 𝒱₀ L lv (E m) () (pdats m) (reg m hI) c).map Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Seg.pipes_host, Seg.pipes_region, Seg.pipes_nil]; decide) O0 L_of_ne G (u₀ (F := F))
    (by
      unfold u₀ G
      iintro Hu
      ihave H := (ownU_pair _ _) $$ Hu
      icases H with ⟨HP, HX⟩
      imodintro
      isplitl [HP]
      · iexact HP
      rw [bigSep_atDev]; iexact HX)
    (T₀ := fun c => iprop(StableHlo.held (c : Thread nD τ) (Pipeline.ucRefs τ sig) (V0 m c) ∗ R m c))
    (Tₙ := fun c => iprop(StableHlo.held (c : Thread nD τ) (Pipeline.ucRefs τ sig) (VE m c) ∗ semVal (barC c) 0))
    (hch := fun c => ⟨.rfl, .rfl, .rfl, .rfl, .rfl, reg_pre m hI c, reg_post m hI c⟩)
    (hinit := init m ρ)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v32) = outV (inp m) c) ∧ s.sem (barC c) = 0)
    (hfin := fun c s' => ?_) (hQ := fun s h hs => ⟨fun c => (h c).1, sem_eq_zero hs fun c sm hsm => by
        obtain rfl := unscoped_eq sm hsm
        exact (h c).2⟩)
  unfold StableHlo.held
  iintro ⟨⟨Hh, Hb0⟩, HSI⟩
  icombine HSI Hb0 gives %hb
  ihave Hr := (pointsTo_read_all (Pipeline.ucRefs τ sig) (fun b => ((c : Thread nD τ).1, b)) (VE m c) s') $$ [Hh HSI]
  · isplitl [Hh] <;> iassumption
  icases Hr with ⟨%h, HSI⟩
  imodintro
  isplitr
  · ipureintro
    exact ⟨⟨(h (Proc.devRef .tc main_arg0) (uc_mem main_arg0 (by decide))).trans (VE_arg0 m c),
      (h (Proc.devRef .tc main_arg1) (uc_mem main_arg1 (by decide))).trans (VE_arg1 m c),
      (h (Proc.devRef .tc main_v32) (uc_mem main_v32 (by decide))).trans (VE_out m c)⟩, by simpa using hb⟩
  · iexact HSI

end Cert.Proof

end
-- ==== Proof.Hosts.lean ====
/-
  What the operations before the kernel compute: the row numbers a device gathers, and its mask.
-/
module

public import proofs.«01_k».proof.Proof.Table
public import proofs.«01_k».proof.Proof.Gen.KernelIdeal.Regions
public import Idealize.ShloMosaic.Lib.DynamicIndex
public import Idealize.ShloMosaic.Lib.Pointwise.Index

@[expose] public section

noncomputable section

namespace Cert.Proof

open Cert.KernelIdeal Cert.KernelIdeal.Gen
open Idealize.ShloMosaic Idealize.ShloMosaic.TcCoe

variable {F : FTy → Type} [FloatOps F]
variable (m : (ℓ : Loc nD τ sig) → Buf (Elt F) ℓ)

/-- The device's coordinates on the three axes, as words. -/
def xW (c : Dev nD) : IVec S_ 32 := Host.remui (Host.divui (constantI S_ 32 (Dev.word c)) (constantI S_ 32 16#32)) (constantI S_ 32 2#32)
def yW (c : Dev nD) : IVec S_ 32 := Host.remui (Host.divui (constantI S_ 32 (Dev.word c)) (constantI S_ 32 4#32)) (constantI S_ 32 4#32)
def zW (c : Dev nD) : IVec S_ 32 := Host.remui (Host.divui (constantI S_ 32 (Dev.word c)) (constantI S_ 32 1#32)) (constantI S_ 32 4#32)
/-- The place on the xy ring, and the first row of the device's 256. -/
def ringW (c : Dev nD) : IVec S_ 32 := select (cmpi .eq (xW c) (constantI S_ 32 0#32)) (yW c) (subi (constantI S_ 32 7#32) (yW c))
def rowW (c : Dev nD) : IVec S_ 32 := muli (ringW c) (constantI S_ 32 256#32)
def startW (c : Dev nD) : IVec S_ 32 := select (cmpi .slt (rowW c) (constantI S_ 32 0#32)) (addi (rowW c) (constantI S_ 32 2048#32)) (rowW c)
/-- The first row of the device's block of the table. -/
def baseW (c : Dev nD) : IVec S_ 32 := muli (zW c) (constantI S_ 32 16384#32)

theorem startW_int : ∀ c : Dev nD, (startW c (Shape.Idx.first h_S_)).toInt = ((256 * ring c : ℕ) : ℤ) := by decide +kernel
theorem baseW_eq : ∀ c : Dev nD, baseW c (Shape.Idx.first h_S_) = BitVec.ofNat 32 (16384 * (c.val % 4)) := by decide +kernel

/-- The device's 256 row numbers, counted from its block's first row, -/
def locW (c : Dev nD) : IVec S256 32 :=
  subi (Host.dynamicSlice S256 (m ((c.tc : Thread nD τ).loc main_arg0) : IVec S2048 32) (fun _ => (startW c (Shape.Idx.first h_S_)).toInt) sliceFits_S2048_S256)
    (broadcastInDim S256 ![] bcast_S_S256 (baseW c))
/-- and which of them the block has. -/
def inW (c : Dev nD) : IVec S256 1 :=
  andi (cmpi .sge (locW m c) (broadcastInDim S256 ![] bcast_S_S256 (constantI S_ 32 0#32)))
    (cmpi .slt (locW m c) (broadcastInDim S256 ![] bcast_S_S256 (constantI S_ 32 16384#32)))

theorem v15_eq (c : Dev nD) : V2 m c main_v15 = ringW c := by
  unfold V2 hostOps0_1; after_results; rfl
theorem v12_eq (c : Dev nD) : V2 m c main_v12 = zW c := by
  unfold V2 hostOps0_1; after_results; rfl
theorem v19_eq (c : Dev nD) : V3 m c main_v19 = startW c := by
  have h := v15_eq m c
  unfold V3 hostOps0_2
  generalize V2 m c = V at h ⊢
  after_results
  rw [h]; rfl
theorem v20_eq (c : Dev nD) : V3 m c main_v20
    = Host.dynamicSlice S256 (V3 m c main_arg0 : IVec S2048 32) (fun _ => ((V3 m c main_v19 : IVec S_ 32) (Shape.Idx.first h_S_)).toInt) sliceFits_S2048_S256 := by
  unfold V3 hostOps0_2
  generalize V2 m c = V
  after_results
  refine congrArg (fun g => Host.dynamicSlice S256 (V (Proc.tc.devRef main_arg0) : IVec S2048 32) g sliceFits_S2048_S256) (funext fun k => ?_)
  refine congrArg (fun g : IVec S_ 32 => (g (Shape.Idx.first h_S_)).toInt) ?_
  obtain rfl : k = (0 : Fin 1) := Subsingleton.elim _ _
  have e : StableHlo.after (hostOps0_2.take 7) V (Proc.tc.devRef main_v19) = select
      (cmpi CmpIPredicate.slt (muli (V (Proc.tc.devRef main_v15) : IVec S_ 32) (constantI S_ 32 256#32)) (constantI S_ 32 0#32))
      (addi (muli (V (Proc.tc.devRef main_v15) : IVec S_ 32) (constantI S_ 32 256#32)) (constantI S_ 32 2048#32))
      (muli (V (Proc.tc.devRef main_v15) : IVec S_ 32) (constantI S_ 32 256#32)) := by
    unfold hostOps0_2
    simp only [List.take_succ_cons, List.take_zero]
    after_results
  exact e
theorem v23_eq (c : Dev nD) : V3 m c main_v23 = locW m c := by
  have h' := v12_eq m c
  have h0 : V3 m c main_arg0 = m ((c.tc : Thread nD τ).loc main_arg0) :=
    (V3_of m c main_arg0 (by decide)).trans <| (V2_of m c main_arg0 (by decide)).trans <| (V1_of m c main_arg0 (by decide)).trans rfl
  have h20 := v20_eq m c
  rw [v19_eq, h0] at h20
  have e : V3 m c main_v23 = subi (V3 m c main_v20 : IVec S256 32) (broadcastInDim S256 ![] bcast_S_S256 (muli (V2 m c main_v12 : IVec S_ 32) (constantI S_ 32 16384#32))) := by
    unfold V3 hostOps0_2
    generalize V2 m c = V
    after_results
  rw [e, h', h20]
  rfl
theorem v28_eq (c : Dev nD) : V3 m c main_v28 = inW m c := by
  have e : V3 m c main_v28 = andi (cmpi .sge (V3 m c main_v23 : IVec S256 32) (broadcastInDim S256 ![] bcast_S_S256 (constantI S_ 32 0#32)))
      (cmpi .slt (V3 m c main_v23 : IVec S256 32) (broadcastInDim S256 ![] bcast_S_S256 (constantI S_ 32 16384#32))) := by
    unfold V3 hostOps0_2
    generalize V2 m c = V
    after_results
  rw [e, v23_eq]; rfl
theorem v29_eq (c : Dev nD) : V5 m c main_v29 = select (inW m c) (locW m c) (broadcastInDim S256 ![] bcast_S_S256 (constantI S_ 32 0#32)) := by
  have h := v28_eq m c
  have h' := v23_eq m c
  have h0 : V3 m c main_c_13 = constantI S_ 32 0#32 := by
    unfold V3 hostOps0_2
    generalize V2 m c = V
    after_results
  rw [V5_of m c main_v29 (by decide)]
  unfold V4 hostOps0_3
  generalize V3 m c = V at h h' h0 ⊢
  after_results
  rw [← h, ← h', ← h0]; rfl
theorem v31_eq (c : Dev nD) : V5 m c main_v31 = uitofp .f32 (broadcastInDim S256x1 ![0] bcast_S256_S256x1_0 (inW m c)) := by
  have h : V4 m c main_v28 = inW m c := (V4_of m c main_v28 (by decide)).trans (v28_eq m c)
  unfold V5 hostOps0_4
  generalize V4 m c = V at h ⊢
  after_results
  rw [h]

/-! ## At an index -/

theorem ring_le : ∀ c : Dev nD, ring c < 8 := by decide +kernel

/-- A device's copy of the row numbers. -/
abbrev idsOf (c : Dev nD) : IVec S2048 32 := m ((c.tc : Thread nD τ).loc main_arg0)

theorem locW_at (c : Dev nD) (i : Fin 256) : locW m c (ix1 i)
    = idsOf m c (ix1 (n0 := 2048) ⟨256 * ring c + i.val, by have := ring_le c; omega⟩) - (BitVec.ofNat 32 (16384 * (c.val % 4)) : BitVec 32) := by
  have e : Host.dynamicSlice S256 (idsOf m c) (fun _ => (startW c (Shape.Idx.first h_S_)).toInt) sliceFits_S2048_S256
      = extractStridedSlice S256 (fun _ => 256 * ring c) (idsOf m c) ⟨rfl, fun a => by
        have := ring_le c; fin_cases a; show 256 * ring c + 256 ≤ 2048; omega⟩ :=
    Host.dynamicSlice_eq_extractStridedSlice S256 _ _ (fun _ => 256 * ring c) _ _ fun a => startW_int c
  have e' : broadcastInDim S256 ![] bcast_S_S256 (baseW c) (ix1 i) = BitVec.ofNat 32 (16384 * (c.val % 4)) := baseW_eq c
  show Host.dynamicSlice S256 (idsOf m c) (fun _ => (startW c (Shape.Idx.first h_S_)).toInt) sliceFits_S2048_S256 (ix1 i)
    - broadcastInDim S256 ![] bcast_S_S256 (baseW c) (ix1 i) = _
  rw [e, e']
  refine congrArg (· - BitVec.ofNat 32 (16384 * (c.val % 4))) (congrArg (idsOf m c) ?_)
  funext a; fin_cases a; rfl

/-- A word counted from 0 to 16384, signed, is a number below 16384. -/
theorem within (l : BitVec 32) : IntOp.andi (IntOp.cmpi .sge l 0#32) (IntOp.cmpi .slt l 16384#32) = BitVec.ofBool (decide (l.toNat < 16384)) := by
  have h1 : IntOp.cmpi .sge l 0#32 = BitVec.ofBool (decide (0 ≤ l.toInt)) := by
    show BitVec.ofBool ((0#32).sle l) = _
    unfold BitVec.sle; rfl
  have h2 : IntOp.cmpi .slt l 16384#32 = BitVec.ofBool (decide (l.toInt < 16384)) := by
    show BitVec.ofBool (l.slt 16384#32) = _
    unfold BitVec.slt; rfl
  rw [h1, h2]
  have hl := l.isLt
  have ht : l.toInt = if 2 * l.toNat < 2 ^ 32 then (l.toNat : ℤ) else (l.toNat : ℤ) - (2 ^ 32 : ℕ) := BitVec.toInt_eq_toNat_cond l
  by_cases h : l.toNat < 16384
  · rw [if_pos (by omega)] at ht
    rw [decide_eq_true (show 0 ≤ l.toInt by omega), decide_eq_true (show l.toInt < 16384 by omega), decide_eq_true h]; rfl
  · by_cases h' : 2 * l.toNat < 2 ^ 32
    · rw [if_pos h'] at ht
      rw [decide_eq_false (show ¬ l.toInt < 16384 by omega), decide_eq_false h]
      cases decide (0 ≤ l.toInt) <;> rfl
    · rw [if_neg h'] at ht
      rw [decide_eq_false (show ¬ 0 ≤ l.toInt by omega), decide_eq_false h]
      cases decide (l.toInt < 16384) <;> rfl

theorem inW_at (c : Dev nD) (i : S256.Idx) : inW m c i = BitVec.ofBool (decide ((locW m c i).toNat < 16384)) := within _

/-- The row numbers the kernel gathers by: those the block has, and 0 for the others; -/
theorem v29_at (c : Dev nD) (i : S256.Idx) : (V5 m c main_v29 : IVec S256 32) i = if (locW m c i).toNat < 16384 then locW m c i else 0#32 := by
  have e : (V5 m c main_v29 : IVec S256 32) i = Scalar.select (inW m c i) (locW m c i) 0#32 := by rw [v29_eq]; rfl
  rw [e, inW_at]
  by_cases h : (locW m c i).toNat < 16384
  · rw [decide_eq_true h, if_pos h]; rfl
  · rw [decide_eq_false h, if_neg h]; rfl
theorem v29_lt (c : Dev nD) (i : S256.Idx) : ((V5 m c main_v29 : IVec S256 32) i).toNat < 16384 := by
  rw [v29_at]; split
  · assumption
  · decide
/-- and the mask. -/
theorem v31_at (c : Dev nD) (i : Fin 256) (j : Fin 1) : (V5 m c main_v31 : FVec F S256x1 .f32) (ix2 i j)
    = FloatOps.uitofp .f32 (BitVec.ofBool (decide ((locW m c (ix1 i)).toNat < 16384))) := by
  rw [v31_eq, ← inW_at]
  refine congrArg (fun q => FloatOps.uitofp (F := F) .f32 (inW m c q)) ?_
  funext a; fin_cases a; rfl

/-- A number below 65536 counted from a block's first row: below 16384 in its own block only, and there its place in
    the block. -/
theorem loc_nat (w : BitVec 32) (z : ℕ) (hw : w.toNat < 65536) (hz : z < 4) :
    ((w - BitVec.ofNat 32 (16384 * z)).toNat < 16384 ↔ w.toNat / 16384 = z)
      ∧ (w.toNat / 16384 = z → (w - BitVec.ofNat 32 (16384 * z)).toNat = w.toNat % 16384) := by
  rw [BitVec.toNat_sub, BitVec.toNat_ofNat]
  constructor
  · constructor <;> intro h <;> omega
  · intro h; omega

end Cert.Proof

end
-- ==== Proof.Sum.lean ====
/-
  The sums round the z ring over the extended reals: of the four devices' rows one is the table's and three are zero.
-/
module

public import proofs.«01_k».proof.Proof.Common
public import Idealize.ShloMosaic.Lib.Pointwise.Tactic
public import Idealize.ShloMosaic.PureOps.Ideal
public import Idealize.ShloMosaic.Lib.Pipeline.Value

@[expose] public section

noncomputable section

namespace Cert.Proof

open Cert.KernelIdeal Cert.KernelIdeal.Gen
open Idealize.ShloMosaic Idealize.ShloMosaic.TcCoe

/-- How many steps round the z ring, in a half's direction, place `z` is behind a device. -/
def dist (c : Dev nD) (b : Bool) (z : ℕ) : ℕ := if b then (z + 4 - c.val % 4) % 4 else (c.val % 4 + 4 - z) % 4

theorem prv_four : ∀ (b : Bool) (c : Dev nD), (prv b c).val / 4 = c.val / 4 := by decide +kernel
theorem prv_mod : ∀ (b : Bool) (c : Dev nD), (prv b c).val % 4 = (if b then c.val + 1 else c.val + 3) % 4 := by decide +kernel
theorem blk_step (c : Dev nD) (b : Bool) (n : ℕ) : blk c b (n + 1) = blk (prv b c) b n := by
  have := prv_mod b c
  unfold blk
  cases b
  · rw [if_neg (by decide), if_neg (by decide)]; rw [if_neg (by decide)] at this; omega
  · rw [if_pos rfl, if_pos rfl]; rw [if_pos rfl] at this; omega
theorem rowG_step (c : Dev nD) (b : Bool) (n : ℕ) : rowG c b (n + 1) = rowG (prv b c) b n := by
  unfold rowG; rw [blk_step]
theorem rG_step (c : Dev nD) (b : Bool) (n : ℕ) (j : S32x1024.Idx) : (rG c b (n + 1)).emb j = (rG (prv b c) b n).emb j := by
  funext a
  refine Fin.ext ?_
  fin_cases a
  · show rowG c b (n + 1) + 1 * (j 0).val = rowG (prv b c) b n + 1 * (j 0).val
    rw [rowG_step]
  · rfl
theorem dist_zero {c : Dev nD} {b : Bool} {z : ℕ} (hz : z < 4) : dist c b z = 0 ↔ z = c.val % 4 := by
  unfold dist; split <;> omega
theorem dist_prv {c : Dev nD} {b : Bool} {z : ℕ} (hz : z < 4) : dist (prv b c) b z = (dist c b z + 3) % 4 := by
  have := prv_mod b c
  unfold dist
  cases b
  · rw [if_neg (by decide), if_neg (by decide)]; rw [if_neg (by decide)] at this; omega
  · rw [if_pos rfl, if_pos rfl]; rw [if_pos rfl] at this; omega

/-- A device's own rows: the gathered ones where the mask is not zero. -/
theorem vP_ideal (I : Inp Ideal) (c : Dev nD) (b : Bool) (n : ℕ) (j : S32x1024.Idx) :
    (vP I c b n j : EReal) = if (I.mask c (ix2 (n0 := 256) (n1 := 1) ((rG c b n).emb j 0) 0) : EReal) ≠ 0 then (gath I c ((rG c b n).emb j) : EReal) else 0 := by
  have e : (vP I c b n j : EReal) = Scalar.select (Ideal.cmp .one (I.mask c (ix2 (n0 := 256) (n1 := 1) ((rG c b n).emb j 0) 0) : EReal) (Ideal.ofBits .f32 0#32))
      (gath I c ((rG c b n).emb j) : EReal) (Ideal.ofBits .f32 0#32) := by
    have h : vP I c b n = shapeCast S32x1024 (select (broadcastTo S32x1024 (shapeCast S32x1 (cmpf .one (shapeCast S32x1 (vM I c b n) shapeCasts_S32x1_S32x1)
        (broadcast S32x1 (Scalar.ofBits .f32 0x00000000#32 : Ideal .f32) : FVec Ideal S32x1 .f32)) shapeCasts_S32x1_S32x1) broadcasts_S32x1_S32x1024) (vG I c b n)
        (broadcast S32x1024 (Scalar.ofBits .f32 0x00000000#32 : Ideal .f32) : FVec Ideal S32x1024 .f32)) shapeCasts_S32x1024_S32x1024 := rfl
    rw [h, shapeCast_self, shapeCast_self, shapeCast_self]
    refine congrArg (fun q => Scalar.select (Ideal.cmp .one (q : EReal) (Ideal.ofBits .f32 0#32)) (gath I c ((rG c b n).emb j) : EReal) (Ideal.ofBits .f32 0#32)) ?_
    refine congrArg (I.mask c) ?_
    funext a; fin_cases a <;> rfl
  rw [e, show Ideal.ofBits .f32 0#32 = 0 from Ideal.ofBits_zero .f32]
  show (if BitVec.ofBool (decide ((I.mask c (ix2 (n0 := 256) (n1 := 1) ((rG c b n).emb j 0) 0) : EReal) ≠ 0)) = 1 then _ else _) = _
  by_cases h : (I.mask c (ix2 (n0 := 256) (n1 := 1) ((rG c b n).emb j 0) 0) : EReal) ≠ 0
  · rw [if_pos h, decide_eq_true h]; rfl
  · rw [if_neg h, decide_eq_false h]; rfl

/-- After `n` of the first steps round the ring: the table's row where its block's device has been passed. -/
theorem vS_ideal (I : Inp Ideal) (g : ℕ) (T : S256x1024.Idx → EReal) (z : S256x1024.Idx → ℕ) (hz : ∀ x, z x < 4)
    (hP : ∀ c : Dev nD, c.val / 4 = g → ∀ b n j, (vP I c b n j : EReal) = if z ((rG c b n).emb j) = c.val % 4 then T ((rG c b n).emb j) else 0)
    (b : Bool) (j : S32x1024.Idx) : ∀ n : ℕ, n < 4 → ∀ c : Dev nD, c.val / 4 = g →
      (vS I c b n j : EReal) = if dist c b (z ((rG c b n).emb j)) ≤ n then T ((rG c b n).emb j) else 0
  | 0, _, c, hc => by
    rw [vS_zero, hP c hc]
    have := dist_zero (c := c) (b := b) (hz ((rG c b 0).emb j))
    by_cases h : z ((rG c b 0).emb j) = c.val % 4
    · rw [if_pos h, if_pos (by omega)]
    · rw [if_neg h, if_neg (by omega)]
  | n + 1, hn, c, hc => by
    have ih := vS_ideal I g T z hz hP b j n (by omega) (prv b c) ((prv_four b c).trans hc)
    rw [vS_add I c b (by omega)]
    show (vP I c b (n + 1) j : EReal) + (vS I (prv b c) b n j : EReal) = _
    rw [hP c hc, ih, ← rG_step, dist_prv (hz _)]
    have h0 := dist_zero (c := c) (b := b) (hz ((rG c b (n + 1)).emb j))
    have hd : dist c b (z ((rG c b (n + 1)).emb j)) < 4 := by unfold dist; split <;> omega
    by_cases h : z ((rG c b (n + 1)).emb j) = c.val % 4
    · rw [if_pos h, if_neg (by rw [h0.mpr h]; omega), add_zero, if_pos (by omega)]
    · have hne : dist c b (z ((rG c b (n + 1)).emb j)) ≠ 0 := fun e => h (h0.mp e)
      rw [if_neg h, zero_add]
      by_cases h' : dist c b (z ((rG c b (n + 1)).emb j)) ≤ n + 1
      · rw [if_pos (by omega), if_pos h']
      · rw [if_neg (by omega), if_neg h']

/-- After the third step and on: the table's row. -/
theorem vS_last (I : Inp Ideal) (g : ℕ) (T : S256x1024.Idx → EReal) (z : S256x1024.Idx → ℕ) (hz : ∀ x, z x < 4)
    (hP : ∀ c : Dev nD, c.val / 4 = g → ∀ b n j, (vP I c b n j : EReal) = if z ((rG c b n).emb j) = c.val % 4 then T ((rG c b n).emb j) else 0)
    (b : Bool) (j : S32x1024.Idx) : ∀ (k : ℕ) (c : Dev nD), c.val / 4 = g → (vS I c b (3 + k) j : EReal) = T ((rG c b (3 + k)).emb j)
  | 0, c, hc => by
    rw [vS_ideal I g T z hz hP b j 3 (by omega) c hc, if_pos]
    unfold dist; split <;> omega
  | k + 1, c, hc => by
    rw [show 3 + (k + 1) = 3 + k + 1 from rfl, vS_pass I c b (by omega), vS_last I g T z hz hP b j k (prv b c) ((prv_four b c).trans hc), ← rG_step]

end Cert.Proof

end
-- ==== Proof.Value.lean ====
/-
  What the kernel leaves in its result, over the extended reals: the rows of the table that the row numbers name.
-/
module

public import proofs.«01_k».proof.Proof.Launch
public import proofs.«01_k».proof.Proof.Hosts
public import proofs.«01_k».proof.Proof.Sum
public import Idealize.ShloMosaic.Lib.Layout

@[expose] public section

noncomputable section

namespace Cert.Proof

open Cert.KernelIdeal Cert.KernelIdeal.Gen
open Idealize.ShloMosaic Idealize.ShloMosaic.TcCoe

variable {F : FTy → Type} [FloatOps F]

/-- The row numbers the kernel reads lie in the block, whatever the arguments are. -/
theorem inp_ok (m : (ℓ : Loc nD τ sig) → Buf (Elt F) ℓ) : (inp m).Ok := fun c i => v29_lt m c i

/-- The devices of one z ring have one place on the xy ring. -/
theorem ring_four {c c' : Dev nD} (h : c.val / 4 = c'.val / 4) : ring c = ring c' := by
  have := c.isLt; have := c'.isLt
  unfold ring
  by_cases h1 : c.val < 16 <;> by_cases h2 : c'.val < 16 <;> simp only [h1, h2, if_true, if_false] <;> omega
theorem ring_turn : ∀ (c : Dev nD) (d : Fin 8), ring (turn c d.val) = (ring c + d.val) % 8 := by decide +kernel
theorem turn_mod (c : Dev nD) (d : ℕ) : (turn c d).val % 4 = c.val % 4 := by
  show ((if (ring c + d) % 8 < 4 then 4 * ((ring c + d) % 8) else 16 + 4 * (7 - (ring c + d) % 8)) + c.val % 4) % 4 = _
  split <;> omega
theorem rowG_turn (c : Dev nD) (d : ℕ) (b : Bool) (n : ℕ) : rowG (turn c d) b n = rowG c b n := by
  have h := turn_mod c d
  have e : blk (turn c d) b n = blk c b n := by unfold blk; split <;> omega
  unfold rowG; rw [e]

/-- The table is four blocks of rows, cut along the mesh's third axis. -/
theorem cut_pos : ∀ b : Fin 2, ∀ i ∈ (![[2], []] : Fin 2 → List ℕ) b, 0 < ([2, 4, 4] : List ℕ).getD i 0 := by decide
theorem tab_tiles : Layout.TilesN ⟨2, ![16384, 1024]⟩ ⟨2, ![65536, 1024]⟩ (fun b : Fin 2 => Layout.cutSize [2, 4, 4] ((![[2], []] : Fin 2 → List ℕ) b)) := by decide

/-- The table's rows by number. -/
abbrev Tab := FVec Ideal ⟨2, ![65536, 1024]⟩ .f32

section
variable (E : Tab) (ids : IVec S2048 32) (hr : ∀ i, (ids i).toNat < 65536)

/-- The row number at row `x` of the 256 at place `r` of the xy ring, -/
def idAt (r : ℕ) (x : S256x1024.Idx) : ℕ := (ids (ix1 (n0 := 2048) ⟨(256 * r + (x 0).val) % 2048, Nat.mod_lt _ (by decide)⟩)).toNat
include hr in
theorem idAt_lt (r : ℕ) (x : S256x1024.Idx) : idAt ids r x < 65536 := hr _
/-- and the table's entry there. -/
def tabAt (r : ℕ) (x : S256x1024.Idx) : EReal := E (ix2 (n0 := 65536) (n1 := 1024) ⟨idAt ids r x, idAt_lt ids hr r x⟩ (x 1))

variable (m : (ℓ : Loc nD τ sig) → Buf (Elt Ideal) ℓ) (hids : ∀ c, idsOf m c = ids)
  (hE : ∀ c : Dev nD, m ((c.tc : Thread nD τ).loc main_arg1) = Layout.blockN ⟨2, ![16384, 1024]⟩ ⟨2, ![65536, 1024]⟩ (Layout.meshBlock [2, 4, 4] ![[2], []] c cut_pos) E tab_tiles)

include hr hids in
/-- The row number counted from the device's block. -/
theorem locW_id (c : Dev nD) (x : S256x1024.Idx) :
    ((locW m c (ix1 (n0 := 256) (x 0))).toNat < 16384 ↔ idAt ids (ring c) x / 16384 = c.val % 4)
    ∧ (idAt ids (ring c) x / 16384 = c.val % 4 → (locW m c (ix1 (n0 := 256) (x 0))).toNat = idAt ids (ring c) x % 16384) := by
  have hx : (x 0).val < 256 := (x 0).isLt
  have hc := ring_le c
  have h := locW_at m c (x 0)
  rw [hids c] at h
  have e : (ids (ix1 (n0 := 2048) ⟨256 * ring c + (x 0).val, by omega⟩)).toNat = idAt ids (ring c) x := by
    unfold idAt
    exact congrArg (fun q : Fin 2048 => (ids (ix1 q)).toNat) (Fin.ext (Nat.mod_eq_of_lt (by omega)).symm)
  have hl := loc_nat (ids (ix1 (n0 := 2048) ⟨256 * ring c + (x 0).val, by omega⟩)) (c.val % 4) (hr _) (by omega)
  rw [e] at hl
  rw [h]
  exact hl

theorem mesh_z : ∀ c : Dev nD, Layout.meshLin [2, 4, 4] c.val [2] = c.val % 4 := by decide +kernel

/-- A place of the device's block is a place of the table. -/
theorem block_at (c : Dev nD) (i : Fin 16384) (j : Fin 1024) :
    Layout.blockN ⟨2, ![16384, 1024]⟩ ⟨2, ![65536, 1024]⟩ (Layout.meshBlock [2, 4, 4] ![[2], []] c cut_pos) E tab_tiles (ix2 i j)
      = E (ix2 (n0 := 65536) (n1 := 1024) ⟨16384 * (c.val % 4) + i.val, by omega⟩ j) := by
  rw [Layout.blockN_apply]
  refine congrArg E (funext fun a => Fin.ext ?_)
  rw [Layout.TilesN.idx_val, Layout.meshBlock_val]
  match a with
  | ⟨0, _⟩ =>
    show Layout.meshLin [2, 4, 4] c.val [2] * 16384 + i.val = 16384 * (c.val % 4) + i.val
    rw [mesh_z]; omega
  | ⟨1, _⟩ =>
    show 0 * 1024 + j.val = j.val
    omega

/-- The mask's value is not zero exactly where it is set. -/
theorem mask_ne (p : Prop) [Decidable p] : ((FloatOps.uitofp .f32 (BitVec.ofBool (decide p)) : Ideal .f32) : EReal) ≠ 0 ↔ p := by
  show (((BitVec.ofBool (decide p)).toNat : ℝ) : EReal) ≠ 0 ↔ p
  by_cases h : p
  · simp [h]
  · simp [h]

include hids hE in
/-- A device's own rows: the table's where its block has them, zeros elsewhere. -/
theorem vP_tab (c : Dev nD) (b : Bool) (n : ℕ) (j : S32x1024.Idx) :
    (vP (inp m) c b n j : EReal) = if idAt ids (ring c) ((rG c b n).emb j) / 16384 = c.val % 4 then tabAt E ids hr (ring c) ((rG c b n).emb j) else 0 := by
  rw [vP_ideal]
  generalize (rG c b n).emb j = x
  obtain ⟨h1, h2⟩ := locW_id ids hr m hids c x
  have hm : ((inp m).mask c (ix2 (n0 := 256) (n1 := 1) (x 0) 0) : EReal) ≠ 0 ↔ idAt ids (ring c) x / 16384 = c.val % 4 := by
    rw [← h1]
    exact (iff_of_eq (congrArg (fun q : Ideal .f32 => (q : EReal) ≠ 0) (v31_at m c (x 0) 0))).trans (mask_ne _)
  by_cases h : idAt ids (ring c) x / 16384 = c.val % 4
  · rw [if_pos (hm.mpr h), if_pos h]
    have hv : ((inp m).ids c (ix1 (n0 := 256) (x 0))).toNat = idAt ids (ring c) x % 16384 := by
      rw [← h2 h]
      refine congrArg BitVec.toNat ((v29_at m c (ix1 (n0 := 256) (x 0))).trans (if_pos (h1.mpr h)))
    have he : (inp m).emb c = Layout.blockN ⟨2, ![16384, 1024]⟩ ⟨2, ![65536, 1024]⟩ (Layout.meshBlock [2, 4, 4] ![[2], []] c cut_pos) E tab_tiles :=
      (VE_arg1 m c).trans (hE c)
    unfold gath tabAt
    rw [he]
    refine (block_at E c _ (x 1)).trans (congrArg (fun q : Fin 65536 => E (ix2 q (x 1))) (Fin.ext ?_))
    show 16384 * (c.val % 4) + ((inp m).ids c (ix1 (n0 := 256) (x 0))).toNat % 16384 = idAt ids (ring c) x
    rw [hv]; omega
  · rw [if_neg (fun q => h (hm.mp q)), if_neg h]

include hids hE in
/-- The kernel's result on every device: row `i` is the table's row `ids i`. -/
theorem outV_tab (c : Dev nD) (x : S2048x1024.Idx) :
    (outV (inp m) c x : EReal) = E (ix2 (n0 := 65536) (n1 := 1024) ⟨(ids (ix1 (n0 := 2048) (x 0))).toNat, hr _⟩ (x 1)) := by
  obtain ⟨t, ht⟩ := rO_cov c x
  obtain ⟨j, rfl⟩ : ∃ j, (rO c t.1 t.2.1 t.2.2).emb j = x := by
    have h : ∀ a : Fin 2, (![rowO c t.1 t.2.1 t.2.2, 0] : Fin 2 → ℕ) a ≤ (x a).val ∧ (x a).val < (![rowO c t.1 t.2.1 t.2.2, 0] : Fin 2 → ℕ) a + S32x1024.size a :=
      Rect.mem_set_unit.mp ht
    have h' : ∀ a : Fin 2, (x a).val - (![rowO c t.1 t.2.1 t.2.2, 0] : Fin 2 → ℕ) a < S32x1024.size a := fun a => by have := h a; omega
    refine ⟨fun a => ⟨(x a).val - (![rowO c t.1 t.2.1 t.2.2, 0] : Fin 2 → ℕ) a, h' a⟩, funext fun a => Fin.ext ?_⟩
    show (![rowO c t.1 t.2.1 t.2.2, 0] : Fin 2 → ℕ) a + 1 * ((x a).val - (![rowO c t.1 t.2.1 t.2.2, 0] : Fin 2 → ℕ) a) = (x a).val
    have := (h a).1
    omega
  rw [outV_emb]
  have h := vS_last (inp m) ((turn c t.2.2.val).val / 4) (tabAt E ids hr (ring (turn c t.2.2.val))) (fun x => idAt ids (ring (turn c t.2.2.val)) x / 16384)
    (fun x => by have := idAt_lt ids hr (ring (turn c t.2.2.val)) x; show _ / 16384 < 4; omega)
    (fun c' hc' b n j => by
      have e := vP_tab E ids hr m hids hE c' b n j
      rw [ring_four hc'] at e
      exact e) t.1 j t.2.1.val (turn c t.2.2.val) rfl
  refine Eq.trans h ?_
  unfold tabAt
  have e0 : idAt ids (ring (turn c t.2.2.val)) ((rG (turn c t.2.2.val) t.1 (3 + t.2.1.val)).emb j) = (ids (ix1 (n0 := 2048) ((rO c t.1 t.2.1 t.2.2).emb j 0))).toNat := by
    unfold idAt
    refine congrArg (fun q : Fin 2048 => (ids (ix1 q)).toNat) (Fin.ext ?_)
    show (256 * ring (turn c t.2.2.val) + (rowG (turn c t.2.2.val) t.1 (3 + t.2.1.val) + 1 * (j 0).val)) % 2048 = rowO c t.1 t.2.1 t.2.2 + 1 * (j 0).val
    have hj : (j 0).val < 32 := (j 0).isLt
    have := rowO_le c t.1 t.2.1.val t.2.2.val
    rw [ring_turn, rowG_turn]
    unfold rowO at this ⊢
    rw [Nat.mod_eq_of_lt (by omega)]; omega
  refine congrArg₂ (fun (q : Fin 65536) (r : Fin 1024) => E (ix2 q r)) (Fin.ext e0) (Fin.ext rfl)

end

end Cert.Proof

end
-- ==== Proof.lean ====
/-
  The certificate: the frames of the kernel and of the reference, and the kernel's result the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Lib.Routing.Ops
public import Idealize.ShloMosaic.Lib.WordArith
public import Idealize.ShloMosaic.Lib.DynamicIndex

@[expose] public section

noncomputable section

namespace Cert.Proof

open Idealize.ShloMosaic Idealize.ShloMosaic.TcCoe Idealize.SL.Sem

theorem facts_pre : Cert.Pre_ids_name_rows_KernelIdeal.Facts := ⟨by decide⟩
theorem facts_pre_reference : Cert.Pre_ids_name_rows_ReferenceIdeal.Facts := ⟨by decide⟩

set_option maxHeartbeats 8000000 in
set_option smartUnfolding false in
/-- The kernel's text is printed once for each of its two readings: the same function bodies, -/
theorem defs_same {F : FTy → Type} [FloatOps F] : @Cert.Kernel.defs F _ Cert.Kernel.Gen.facts = @Cert.KernelIdeal.defs F _ Cert.KernelIdeal.Gen.facts := rfl
set_option maxHeartbeats 8000000 in
/-- and the same program. -/
theorem main_same {F : FTy → Type} [FloatOps F] : @Cert.Kernel.main F _ Cert.Kernel.Gen.facts = @Cert.KernelIdeal.main F _ Cert.KernelIdeal.Gen.facts := rfl

set_option maxHeartbeats 8000000 in
set_option smartUnfolding false in
/-- The kernel's frame, its floats words. -/
theorem frame_kernel : Cert.quiescent_Kernel (hKernel := Cert.Kernel.Gen.facts) := by
  intro m ρ _
  rw [defs_same, main_same]
  exact (θ_run Cert.KernelIdeal.defs _ _).mono (fun _ h => ⟨fun c => ⟨(h.1 c).1, (h.1 c).2.1⟩, h.2⟩) (run_main (F := Bits) m ρ (inp_ok m))

/-- The kernel's frame, its floats extended reals. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (run_main (F := Ideal) m ρ (inp_ok m))

/-- The reference's frame. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition says that every row number names a row. -/
theorem ids_lt (ids : IVec Cert.KernelIdeal.S2048 32) (E : FVec Ideal Cert.KernelIdeal.S16384x1024 .f32)
    (h : @Cert.Pre_ids_name_rows_KernelIdeal.fn facts_pre Ideal _ ids E = fun _ => 1#1) (i : Cert.KernelIdeal.S2048.Idx) : (ids i).toNat < 65536 := by
  have two : ∀ a b : BitVec 1, a &&& b = 1#1 → a = 1#1 ∧ b = 1#1 := by decide
  have one : ∀ a : Bool, BitVec.ofBool a = 1#1 → a = true := by decide
  have h1 : BitVec.ofBool ((0#32 : BitVec 32).sle (ids i)) &&& BitVec.ofBool ((ids i).slt (BitVec.ofNat 32 65536)) = 1#1 := congrFun h i
  exact WordArith.toNat_lt_of_zero_sle_of_slt_ofNat _ _ (by decide) (one _ (two _ _ h1).1) (one _ (two _ _ h1).2)

/-- A gather of whole rows reads the row its index names. -/
theorem gather_tab (E : Tab) (idx : IVec Cert.ReferenceIdeal.S2048x1 32) (i : Fin 2048) (j : Fin 1024) (b : Fin 65536)
    (hb : idx (ix2 i (0 : Fin 1)) = BitVec.ofNat 32 b.val) :
    Host.gather (@Cert.ReferenceIdeal.gather_S65536x1024_S2048x1_S2048x1024_1_0_n_n_0_1_11024 Cert.ReferenceIdeal.Gen.facts.toFacts₀) E idx (ix2 i j) = E (ix2 b j) :=
  Routing.gather_row _ rfl rfl rfl rfl rfl E idx i j b hb (by norm_num)

/-- The index the reference gathers at: the row number itself, which is not negative. -/
theorem index_tab (ids a : IVec Cert.KernelIdeal.S2048 32) (hr : ∀ i, (ids i).toNat < 65536) (i : Fin 2048) :
    (broadcastInDim Cert.ReferenceIdeal.S2048x1 ![0] Cert.ReferenceIdeal.Gen.bcast_S2048_S2048x1_0
        (select (cmpi .slt ids (broadcastInDim Cert.ReferenceIdeal.S2048 ![] Cert.ReferenceIdeal.Gen.bcast_S_S2048 (constantI Cert.ReferenceIdeal.S_ 32 0#32))) a ids)) (ix2 i (0 : Fin 1))
      = BitVec.ofNat 32 (ids (ix1 (n0 := 2048) i)).toNat := by
  have hi := hr (ix1 (n0 := 2048) i)
  have hint : 0 ≤ (ids (ix1 (n0 := 2048) i)).toInt := by
    rw [BitVec.toInt_eq_toNat_cond, if_pos (by omega)]; omega
  have h0 : broadcastInDim Cert.ReferenceIdeal.S2048 ![] Cert.ReferenceIdeal.Gen.bcast_S_S2048 (constantI Cert.ReferenceIdeal.S_ 32 0#32)
      = constantI Cert.ReferenceIdeal.S2048 32 0#32 := rfl
  have e : ∀ w : IVec Cert.ReferenceIdeal.S2048 32, broadcastInDim Cert.ReferenceIdeal.S2048x1 ![0] Cert.ReferenceIdeal.Gen.bcast_S2048_S2048x1_0 w (ix2 i (0 : Fin 1))
      = w (ix1 (n0 := 2048) i) := fun w => congrArg w (by funext a; match a with | ⟨0, _⟩ => rfl)
  rw [h0, e, select_slt_zero_of_nonneg ids a ids (ix1 (n0 := 2048) i) hint]
  exact BitVec.eq_of_toNat_eq (by rw [BitVec.toNat_ofNat]; exact (Nat.mod_eq_of_lt (by omega)).symm)

/-- The reference's gather: row `i` of its result is the table's row `ids i`. -/
theorem reference_tab (E : Tab) (ids : IVec Cert.KernelIdeal.S2048 32) (hr : ∀ i, (ids i).toNat < 65536) (x : Cert.KernelIdeal.S2048x1024.Idx) :
    Host.gather (@Cert.ReferenceIdeal.gather_S65536x1024_S2048x1_S2048x1024_1_0_n_n_0_1_11024 Cert.ReferenceIdeal.Gen.facts.toFacts₀) E
      (broadcastInDim Cert.ReferenceIdeal.S2048x1 ![0] Cert.ReferenceIdeal.Gen.bcast_S2048_S2048x1_0
        (select (cmpi .slt ids (broadcastInDim Cert.ReferenceIdeal.S2048 ![] Cert.ReferenceIdeal.Gen.bcast_S_S2048 (constantI Cert.ReferenceIdeal.S_ 32 0#32)))
          (addi ids (broadcastInDim Cert.ReferenceIdeal.S2048 ![] Cert.ReferenceIdeal.Gen.bcast_S_S2048 (constantI Cert.ReferenceIdeal.S_ 32 65536#32))) ids)) x
      = E (ix2 (n0 := 65536) (n1 := 1024) ⟨(ids (ix1 (n0 := 2048) (x 0))).toNat, hr _⟩ (x 1)) := by
  have hx := eq_ix2 (n0 := 2048) (n1 := 1024) x
  refine (congrArg _ hx).trans ?_
  exact gather_tab E _ (x 0) (x 1) ⟨(ids (ix1 (n0 := 2048) (x 0))).toNat, hr _⟩ (index_tab ids _ hr (x 0))

/-- The kernel's result on every device is the reference's. -/
theorem same_result : Cert.algebraic_KernelIdeal_ReferenceIdeal_pre_ids_name_rows_KernelIdeal (hKernelIdeal := Cert.KernelIdeal.Gen.facts)
    (hReferenceIdeal := Cert.ReferenceIdeal.Gen.facts) (hPre_ids_name_rows_KernelIdeal := facts_pre) := by
  intro m ρ m' ρ' hpre hagree
  let ids : IVec Cert.KernelIdeal.S2048 32 := m' (((0 : Dev Cert.ReferenceIdeal.nD).tc : Thread Cert.ReferenceIdeal.nD Cert.ReferenceIdeal.τ).loc Cert.ReferenceIdeal.main_arg0)
  let E : Tab := m' (((0 : Dev Cert.ReferenceIdeal.nD).tc : Thread Cert.ReferenceIdeal.nD Cert.ReferenceIdeal.τ).loc Cert.ReferenceIdeal.main_arg1)
  have hids : ∀ c, idsOf m c = ids := fun c => (hagree c).1
  have hr : ∀ i, (ids i).toNat < 65536 := fun i => by
    rw [← hids 0]
    exact ids_lt _ _ (hpre 0) i
  refine ⟨fun x => E (ix2 (n0 := 65536) (n1 := 1024) ⟨(ids (ix1 (n0 := 2048) (x 0))).toNat, hr _⟩ (x 1)), ?_, ?_⟩
  · refine (θ_run Cert.KernelIdeal.defs _ _).mono (fun _ h c => ⟨(h.1 c).2.2.trans ?_, (h.1 c).1, (h.1 c).2.1⟩) (run_main (F := Ideal) m ρ (inp_ok m))
    funext x
    exact outV_tab E ids hr m hids (fun c => (hagree c).2) c x
  · refine (θ_run Cert.ReferenceIdeal.defs _ _).mono (fun _ h => ⟨(h 0).1.trans ?_, (h 0).2⟩) (Cert.ReferenceIdeal.Value.run (F := Ideal) m' ρ')
    funext x
    exact reference_tab E ids hr x

/-- Every claim of the certificate. -/
theorem claim : Cert.Claim :=
  ⟨Cert.Kernel.Gen.facts, Cert.KernelIdeal.Gen.facts, Cert.ReferenceIdeal.Gen.facts, facts_pre, facts_pre_reference,
    frame_kernel, frame_ideal, fun m ρ _ => frame_ideal m ρ trivial, frame_reference, fun m ρ _ => frame_reference m ρ trivial, trivial, same_result⟩

end Cert.Proof

end
